-- ==== Defs.lean ====
def Pre_FoxS (m : (ℓ : Loc Cert.FoxS.nD Cert.FoxS.τ Cert.FoxS.sig) → Buf (Elt Bits) ℓ) : Prop :=
  True

def Pre_FoxSIdeal (m : (ℓ : Loc Cert.FoxSIdeal.nD Cert.FoxSIdeal.τ Cert.FoxSIdeal.sig) → Buf (Elt Ideal) ℓ) : Prop :=
  True

def Pre_FoxSIdeal_finite_scores [hPre_finite_scores : Cert.Pre_finite_scores.Facts] (m : (ℓ : Loc Cert.FoxSIdeal.nD Cert.FoxSIdeal.τ Cert.FoxSIdeal.sig) → Buf (Elt Ideal) ℓ) : Prop :=
  ∀ c : Dev Cert.FoxSIdeal.nD,
    (Cert.Pre_finite_scores.fn (F := Ideal) (m ((c.tc : Thread Cert.FoxSIdeal.nD Cert.FoxSIdeal.τ).loc Cert.FoxSIdeal.main_arg0)) (m ((c.tc : Thread Cert.FoxSIdeal.nD Cert.FoxSIdeal.τ).loc Cert.FoxSIdeal.main_arg1)) (m ((c.tc : Thread Cert.FoxSIdeal.nD Cert.FoxSIdeal.τ).loc Cert.FoxSIdeal.main_arg2)) (m ((c.tc : Thread Cert.FoxSIdeal.nD Cert.FoxSIdeal.τ).loc Cert.FoxSIdeal.main_arg3)) (m ((c.tc : Thread Cert.FoxSIdeal.nD Cert.FoxSIdeal.τ).loc Cert.FoxSIdeal.main_arg4)) (m ((c.tc : Thread Cert.FoxSIdeal.nD Cert.FoxSIdeal.τ).loc Cert.FoxSIdeal.main_arg5))) = (fun _ => 1#1)

def Pre_FoxSRefIdeal (m : (ℓ : Loc Cert.FoxSRefIdeal.nD Cert.FoxSRefIdeal.τ Cert.FoxSRefIdeal.sig) → Buf (Elt Ideal) ℓ) : Prop :=
  True

def Pre_FoxSRefIdeal_finite_scores [hPre_finite_scores : Cert.Pre_finite_scores.Facts] (m : (ℓ : Loc Cert.FoxSRefIdeal.nD Cert.FoxSRefIdeal.τ Cert.FoxSRefIdeal.sig) → Buf (Elt Ideal) ℓ) : Prop :=
  ∀ c : Dev Cert.FoxSRefIdeal.nD,
    (Cert.Pre_finite_scores.fn (F := Ideal) (m ((c.tc : Thread Cert.FoxSRefIdeal.nD Cert.FoxSRefIdeal.τ).loc Cert.FoxSRefIdeal.main_arg0)) (m ((c.tc : Thread Cert.FoxSRefIdeal.nD Cert.FoxSRefIdeal.τ).loc Cert.FoxSRefIdeal.main_arg1)) (m ((c.tc : Thread Cert.FoxSRefIdeal.nD Cert.FoxSRefIdeal.τ).loc Cert.FoxSRefIdeal.main_arg2)) (m ((c.tc : Thread Cert.FoxSRefIdeal.nD Cert.FoxSRefIdeal.τ).loc Cert.FoxSRefIdeal.main_arg3)) (m ((c.tc : Thread Cert.FoxSRefIdeal.nD Cert.FoxSRefIdeal.τ).loc Cert.FoxSRefIdeal.main_arg4)) (m ((c.tc : Thread Cert.FoxSRefIdeal.nD Cert.FoxSRefIdeal.τ).loc Cert.FoxSRefIdeal.main_arg5))) = (fun _ => 1#1)

def Pre_FoxSRef (m : (ℓ : Loc Cert.FoxSRef.nD Cert.FoxSRef.τ Cert.FoxSRef.sig) → Buf (Elt Bits) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_TailRef (m : (ℓ : Loc Cert.TailRef.nD Cert.TailRef.τ Cert.TailRef.sig) → Buf (Elt Bits) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjRef (m : (ℓ : Loc Cert.ProjRef.nD Cert.ProjRef.τ Cert.ProjRef.sig) → Buf (Elt Bits) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_ProjSRef (m : (ℓ : Loc Cert.ProjSRef.nD Cert.ProjSRef.τ Cert.ProjSRef.sig) → Buf (Elt Bits) ℓ) : Prop :=
  True

def Pre_TailS (m : (ℓ : Loc Cert.TailS.nD Cert.TailS.τ Cert.TailS.sig) → Buf (Elt Bits) ℓ) : Prop :=
  True

def Pre_TailSIdeal (m : (ℓ : Loc Cert.TailSIdeal.nD Cert.TailSIdeal.τ Cert.TailSIdeal.sig) → Buf (Elt Ideal) ℓ) : Prop :=
  True

def Pre_TailSRefIdeal (m : (ℓ : Loc Cert.TailSRefIdeal.nD Cert.TailSRefIdeal.τ Cert.TailSRefIdeal.sig) → Buf (Elt Ideal) ℓ) : Prop :=
  True

def Pre_TailSRef (m : (ℓ : Loc Cert.TailSRef.nD Cert.TailSRef.τ Cert.TailSRef.sig) → Buf (Elt Bits) ℓ) : Prop :=
  True

def quiescent_FoxS [hFoxS : Cert.FoxS.Facts] : Prop :=
  ∀ (m : (ℓ : Loc Cert.FoxS.nD Cert.FoxS.τ Cert.FoxS.sig) → Buf (Elt Bits) ℓ) (g : Dev Cert.FoxS.nD → PrngReg), Pre_FoxS m →
    θ_run (Cert.FoxS.defs (F := Bits)) (onTc (τ := Cert.FoxS.τ) (Cert.FoxS.main (F := Bits))) ⟨m, fun _ => 0, g⟩ (fun r => (∀ c : Dev Cert.FoxS.nD,
      r.2.mem ((c.tc : Thread Cert.FoxS.nD Cert.FoxS.τ).loc Cert.FoxS.main_arg0) = m ((c.tc : Thread Cert.FoxS.nD Cert.FoxS.τ).loc Cert.FoxS.main_arg0)
      ∧ r.2.mem ((c.tc : Thread Cert.FoxS.nD Cert.FoxS.τ).loc Cert.FoxS.main_arg1) = m ((c.tc : Thread Cert.FoxS.nD Cert.FoxS.τ).loc Cert.FoxS.main_arg1)
      ∧ r.2.mem ((c.tc : Thread Cert.FoxS.nD Cert.FoxS.τ).loc Cert.FoxS.main_arg2) = m ((c.tc : Thread Cert.FoxS.nD Cert.FoxS.τ).loc Cert.FoxS.main_arg2)
      ∧ r.2.mem ((c.tc : Thread Cert.FoxS.nD Cert.FoxS.τ).loc Cert.FoxS.main_arg3) = m ((c.tc : Thread Cert.FoxS.nD Cert.FoxS.τ).loc Cert.FoxS.main_arg3)
      ∧ r.2.mem ((c.tc : Thread Cert.FoxS.nD Cert.FoxS.τ).loc Cert.FoxS.main_arg4) = m ((c.tc : Thread Cert.FoxS.nD Cert.FoxS.τ).loc Cert.FoxS.main_arg4)
      ∧ r.2.mem ((c.tc : Thread Cert.FoxS.nD Cert.FoxS.τ).loc Cert.FoxS.main_arg5) = m ((c.tc : Thread Cert.FoxS.nD Cert.FoxS.τ).loc Cert.FoxS.main_arg5))
      ∧ r.2.sem = fun _ => 0)

def quiescent_FoxSIdeal [hFoxSIdeal : Cert.FoxSIdeal.Facts] : Prop :=
  ∀ (m : (ℓ : Loc Cert.FoxSIdeal.nD Cert.FoxSIdeal.τ Cert.FoxSIdeal.sig) → Buf (Elt Ideal) ℓ) (g : Dev Cert.FoxSIdeal.nD → PrngReg), Pre_FoxSIdeal m →
    θ_run (Cert.FoxSIdeal.defs (F := Ideal)) (onTc (τ := Cert.FoxSIdeal.τ) (Cert.FoxSIdeal.main (F := Ideal))) ⟨m, fun _ => 0, g⟩ (fun r => (∀ c : Dev Cert.FoxSIdeal.nD,
      r.2.mem ((c.tc : Thread Cert.FoxSIdeal.nD Cert.FoxSIdeal.τ).loc Cert.FoxSIdeal.main_arg0) = m ((c.tc : Thread Cert.FoxSIdeal.nD Cert.FoxSIdeal.τ).loc Cert.FoxSIdeal.main_arg0)
      ∧ r.2.mem ((c.tc : Thread Cert.FoxSIdeal.nD Cert.FoxSIdeal.τ).loc Cert.FoxSIdeal.main_arg1) = m ((c.tc : Thread Cert.FoxSIdeal.nD Cert.FoxSIdeal.τ).loc Cert.FoxSIdeal.main_arg1)
      ∧ r.2.mem ((c.tc : Thread Cert.FoxSIdeal.nD Cert.FoxSIdeal.τ).loc Cert.FoxSIdeal.main_arg2) = m ((c.tc : Thread Cert.FoxSIdeal.nD Cert.FoxSIdeal.τ).loc Cert.FoxSIdeal.main_arg2)
      ∧ r.2.mem ((c.tc : Thread Cert.FoxSIdeal.nD Cert.FoxSIdeal.τ).loc Cert.FoxSIdeal.main_arg3) = m ((c.tc : Thread Cert.FoxSIdeal.nD Cert.FoxSIdeal.τ).loc Cert.FoxSIdeal.main_arg3)
      ∧ r.2.mem ((c.tc : Thread Cert.FoxSIdeal.nD Cert.FoxSIdeal.τ).loc Cert.FoxSIdeal.main_arg4) = m ((c.tc : Thread Cert.FoxSIdeal.nD Cert.FoxSIdeal.τ).loc Cert.FoxSIdeal.main_arg4)
      ∧ r.2.mem ((c.tc : Thread Cert.FoxSIdeal.nD Cert.FoxSIdeal.τ).loc Cert.FoxSIdeal.main_arg5) = m ((c.tc : Thread Cert.FoxSIdeal.nD Cert.FoxSIdeal.τ).loc Cert.FoxSIdeal.main_arg5))
      ∧ r.2.sem = fun _ => 0)

def quiescent_FoxSIdeal_pre_finite_scores [hFoxSIdeal : Cert.FoxSIdeal.Facts] [hPre_finite_scores : Cert.Pre_finite_scores.Facts] : Prop :=
  ∀ (m : (ℓ : Loc Cert.FoxSIdeal.nD Cert.FoxSIdeal.τ Cert.FoxSIdeal.sig) → Buf (Elt Ideal) ℓ) (g : Dev Cert.FoxSIdeal.nD → PrngReg), Pre_FoxSIdeal_finite_scores m →
    θ_run (Cert.FoxSIdeal.defs (F := Ideal)) (onTc (τ := Cert.FoxSIdeal.τ) (Cert.FoxSIdeal.main (F := Ideal))) ⟨m, fun _ => 0, g⟩ (fun r => (∀ c : Dev Cert.FoxSIdeal.nD,
      r.2.mem ((c.tc : Thread Cert.FoxSIdeal.nD Cert.FoxSIdeal.τ).loc Cert.FoxSIdeal.main_arg0) = m ((c.tc : Thread Cert.FoxSIdeal.nD Cert.FoxSIdeal.τ).loc Cert.FoxSIdeal.main_arg0)
      ∧ r.2.mem ((c.tc : Thread Cert.FoxSIdeal.nD Cert.FoxSIdeal.τ).loc Cert.FoxSIdeal.main_arg1) = m ((c.tc : Thread Cert.FoxSIdeal.nD Cert.FoxSIdeal.τ).loc Cert.FoxSIdeal.main_arg1)
      ∧ r.2.mem ((c.tc : Thread Cert.FoxSIdeal.nD Cert.FoxSIdeal.τ).loc Cert.FoxSIdeal.main_arg2) = m ((c.tc : Thread Cert.FoxSIdeal.nD Cert.FoxSIdeal.τ).loc Cert.FoxSIdeal.main_arg2)
      ∧ r.2.mem ((c.tc : Thread Cert.FoxSIdeal.nD Cert.FoxSIdeal.τ).loc Cert.FoxSIdeal.main_arg3) = m ((c.tc : Thread Cert.FoxSIdeal.nD Cert.FoxSIdeal.τ).loc Cert.FoxSIdeal.main_arg3)
      ∧ r.2.mem ((c.tc : Thread Cert.FoxSIdeal.nD Cert.FoxSIdeal.τ).loc Cert.FoxSIdeal.main_arg4) = m ((c.tc : Thread Cert.FoxSIdeal.nD Cert.FoxSIdeal.τ).loc Cert.FoxSIdeal.main_arg4)
      ∧ r.2.mem ((c.tc : Thread Cert.FoxSIdeal.nD Cert.FoxSIdeal.τ).loc Cert.FoxSIdeal.main_arg5) = m ((c.tc : Thread Cert.FoxSIdeal.nD Cert.FoxSIdeal.τ).loc Cert.FoxSIdeal.main_arg5))
      ∧ r.2.sem = fun _ => 0)

def quiescent_FoxSRefIdeal [hFoxSRefIdeal : Cert.FoxSRefIdeal.Facts] : Prop :=
  ∀ (m : (ℓ : Loc Cert.FoxSRefIdeal.nD Cert.FoxSRefIdeal.τ Cert.FoxSRefIdeal.sig) → Buf (Elt Ideal) ℓ) (g : Dev Cert.FoxSRefIdeal.nD → PrngReg), Pre_FoxSRefIdeal m →
    θ_run (Cert.FoxSRefIdeal.defs (F := Ideal)) (onTc (τ := Cert.FoxSRefIdeal.τ) (Cert.FoxSRefIdeal.main (F := Ideal))) ⟨m, fun _ => 0, g⟩ (fun r => (∀ c : Dev Cert.FoxSRefIdeal.nD,
      r.2.mem ((c.tc : Thread Cert.FoxSRefIdeal.nD Cert.FoxSRefIdeal.τ).loc Cert.FoxSRefIdeal.main_arg0) = m ((c.tc : Thread Cert.FoxSRefIdeal.nD Cert.FoxSRefIdeal.τ).loc Cert.FoxSRefIdeal.main_arg0)
      ∧ r.2.mem ((c.tc : Thread Cert.FoxSRefIdeal.nD Cert.FoxSRefIdeal.τ).loc Cert.FoxSRefIdeal.main_arg1) = m ((c.tc : Thread Cert.FoxSRefIdeal.nD Cert.FoxSRefIdeal.τ).loc Cert.FoxSRefIdeal.main_arg1)
      ∧ r.2.mem ((c.tc : Thread Cert.FoxSRefIdeal.nD Cert.FoxSRefIdeal.τ).loc Cert.FoxSRefIdeal.main_arg2) = m ((c.tc : Thread Cert.FoxSRefIdeal.nD Cert.FoxSRefIdeal.τ).loc Cert.FoxSRefIdeal.main_arg2)
      ∧ r.2.mem ((c.tc : Thread Cert.FoxSRefIdeal.nD Cert.FoxSRefIdeal.τ).loc Cert.FoxSRefIdeal.main_arg3) = m ((c.tc : Thread Cert.FoxSRefIdeal.nD Cert.FoxSRefIdeal.τ).loc Cert.FoxSRefIdeal.main_arg3)
      ∧ r.2.mem ((c.tc : Thread Cert.FoxSRefIdeal.nD Cert.FoxSRefIdeal.τ).loc Cert.FoxSRefIdeal.main_arg4) = m ((c.tc : Thread Cert.FoxSRefIdeal.nD Cert.FoxSRefIdeal.τ).loc Cert.FoxSRefIdeal.main_arg4)
      ∧ r.2.mem ((c.tc : Thread Cert.FoxSRefIdeal.nD Cert.FoxSRefIdeal.τ).loc Cert.FoxSRefIdeal.main_arg5) = m ((c.tc : Thread Cert.FoxSRefIdeal.nD Cert.FoxSRefIdeal.τ).loc Cert.FoxSRefIdeal.main_arg5))
      ∧ r.2.sem = fun _ => 0)

def quiescent_FoxSRefIdeal_pre_finite_scores [hFoxSRefIdeal : Cert.FoxSRefIdeal.Facts] [hPre_finite_scores : Cert.Pre_finite_scores.Facts] : Prop :=
  ∀ (m : (ℓ : Loc Cert.FoxSRefIdeal.nD Cert.FoxSRefIdeal.τ Cert.FoxSRefIdeal.sig) → Buf (Elt Ideal) ℓ) (g : Dev Cert.FoxSRefIdeal.nD → PrngReg), Pre_FoxSRefIdeal_finite_scores m →
    θ_run (Cert.FoxSRefIdeal.defs (F := Ideal)) (onTc (τ := Cert.FoxSRefIdeal.τ) (Cert.FoxSRefIdeal.main (F := Ideal))) ⟨m, fun _ => 0, g⟩ (fun r => (∀ c : Dev Cert.FoxSRefIdeal.nD,
      r.2.mem ((c.tc : Thread Cert.FoxSRefIdeal.nD Cert.FoxSRefIdeal.τ).loc Cert.FoxSRefIdeal.main_arg0) = m ((c.tc : Thread Cert.FoxSRefIdeal.nD Cert.FoxSRefIdeal.τ).loc Cert.FoxSRefIdeal.main_arg0)
      ∧ r.2.mem ((c.tc : Thread Cert.FoxSRefIdeal.nD Cert.FoxSRefIdeal.τ).loc Cert.FoxSRefIdeal.main_arg1) = m ((c.tc : Thread Cert.FoxSRefIdeal.nD Cert.FoxSRefIdeal.τ).loc Cert.FoxSRefIdeal.main_arg1)
      ∧ r.2.mem ((c.tc : Thread Cert.FoxSRefIdeal.nD Cert.FoxSRefIdeal.τ).loc Cert.FoxSRefIdeal.main_arg2) = m ((c.tc : Thread Cert.FoxSRefIdeal.nD Cert.FoxSRefIdeal.τ).loc Cert.FoxSRefIdeal.main_arg2)
      ∧ r.2.mem ((c.tc : Thread Cert.FoxSRefIdeal.nD Cert.FoxSRefIdeal.τ).loc Cert.FoxSRefIdeal.main_arg3) = m ((c.tc : Thread Cert.FoxSRefIdeal.nD Cert.FoxSRefIdeal.τ).loc Cert.FoxSRefIdeal.main_arg3)
      ∧ r.2.mem ((c.tc : Thread Cert.FoxSRefIdeal.nD Cert.FoxSRefIdeal.τ).loc Cert.FoxSRefIdeal.main_arg4) = m ((c.tc : Thread Cert.FoxSRefIdeal.nD Cert.FoxSRefIdeal.τ).loc Cert.FoxSRefIdeal.main_arg4)
      ∧ r.2.mem ((c.tc : Thread Cert.FoxSRefIdeal.nD Cert.FoxSRefIdeal.τ).loc Cert.FoxSRefIdeal.main_arg5) = m ((c.tc : Thread Cert.FoxSRefIdeal.nD Cert.FoxSRefIdeal.τ).loc Cert.FoxSRefIdeal.main_arg5))
      ∧ r.2.sem = fun _ => 0)

def quiescent_FoxSRef [hFoxSRef : Cert.FoxSRef.Facts] : Prop :=
  ∀ (m : (ℓ : Loc Cert.FoxSRef.nD Cert.FoxSRef.τ Cert.FoxSRef.sig) → Buf (Elt Bits) ℓ) (g : Dev Cert.FoxSRef.nD → PrngReg), Pre_FoxSRef m →
    θ_run (Cert.FoxSRef.defs (F := Bits)) (onTc (τ := Cert.FoxSRef.τ) (Cert.FoxSRef.main (F := Bits))) ⟨m, fun _ => 0, g⟩ (fun r => (∀ c : Dev Cert.FoxSRef.nD,
      r.2.mem ((c.tc : Thread Cert.FoxSRef.nD Cert.FoxSRef.τ).loc Cert.FoxSRef.main_arg0) = m ((c.tc : Thread Cert.FoxSRef.nD Cert.FoxSRef.τ).loc Cert.FoxSRef.main_arg0)
      ∧ r.2.mem ((c.tc : Thread Cert.FoxSRef.nD Cert.FoxSRef.τ).loc Cert.FoxSRef.main_arg1) = m ((c.tc : Thread Cert.FoxSRef.nD Cert.FoxSRef.τ).loc Cert.FoxSRef.main_arg1)
      ∧ r.2.mem ((c.tc : Thread Cert.FoxSRef.nD Cert.FoxSRef.τ).loc Cert.FoxSRef.main_arg2) = m ((c.tc : Thread Cert.FoxSRef.nD Cert.FoxSRef.τ).loc Cert.FoxSRef.main_arg2)
      ∧ r.2.mem ((c.tc : Thread Cert.FoxSRef.nD Cert.FoxSRef.τ).loc Cert.FoxSRef.main_arg3) = m ((c.tc : Thread Cert.FoxSRef.nD Cert.FoxSRef.τ).loc Cert.FoxSRef.main_arg3)
      ∧ r.2.mem ((c.tc : Thread Cert.FoxSRef.nD Cert.FoxSRef.τ).loc Cert.FoxSRef.main_arg4) = m ((c.tc : Thread Cert.FoxSRef.nD Cert.FoxSRef.τ).loc Cert.FoxSRef.main_arg4)
      ∧ r.2.mem ((c.tc : Thread Cert.FoxSRef.nD Cert.FoxSRef.τ).loc Cert.FoxSRef.main_arg5) = m ((c.tc : Thread Cert.FoxSRef.nD Cert.FoxSRef.τ).loc Cert.FoxSRef.main_arg5))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11))
      ∧ r.2.sem = fun _ => 0)

def quiescent_TailRef [hTailRef : Cert.TailRef.Facts] : Prop :=
  ∀ (m : (ℓ : Loc Cert.TailRef.nD Cert.TailRef.τ Cert.TailRef.sig) → Buf (Elt Bits) ℓ) (g : Dev Cert.TailRef.nD → PrngReg), Pre_TailRef m →
    θ_run (Cert.TailRef.defs (F := Bits)) (onTc (τ := Cert.TailRef.τ) (Cert.TailRef.main (F := Bits))) ⟨m, fun _ => 0, g⟩ (fun r => (∀ c : Dev Cert.TailRef.nD,
      r.2.mem ((c.tc : Thread Cert.TailRef.nD Cert.TailRef.τ).loc Cert.TailRef.main_arg0) = m ((c.tc : Thread Cert.TailRef.nD Cert.TailRef.τ).loc Cert.TailRef.main_arg0)
      ∧ r.2.mem ((c.tc : Thread Cert.TailRef.nD Cert.TailRef.τ).loc Cert.TailRef.main_arg1) = m ((c.tc : Thread Cert.TailRef.nD Cert.TailRef.τ).loc Cert.TailRef.main_arg1)
      ∧ r.2.mem ((c.tc : Thread Cert.TailRef.nD Cert.TailRef.τ).loc Cert.TailRef.main_arg2) = m ((c.tc : Thread Cert.TailRef.nD Cert.TailRef.τ).loc Cert.TailRef.main_arg2)
      ∧ r.2.mem ((c.tc : Thread Cert.TailRef.nD Cert.TailRef.τ).loc Cert.TailRef.main_arg3) = m ((c.tc : Thread Cert.TailRef.nD Cert.TailRef.τ).loc Cert.TailRef.main_arg3)
      ∧ r.2.mem ((c.tc : Thread Cert.TailRef.nD Cert.TailRef.τ).loc Cert.TailRef.main_arg4) = m ((c.tc : Thread Cert.TailRef.nD Cert.TailRef.τ).loc Cert.TailRef.main_arg4)
      ∧ r.2.mem ((c.tc : Thread Cert.TailRef.nD Cert.TailRef.τ).loc Cert.TailRef.main_arg5) = m ((c.tc : Thread Cert.TailRef.nD Cert.TailRef.τ).loc Cert.TailRef.main_arg5)
      ∧ r.2.mem ((c.tc : Thread Cert.TailRef.nD Cert.TailRef.τ).loc Cert.TailRef.main_arg6) = m ((c.tc : Thread Cert.TailRef.nD Cert.TailRef.τ).loc Cert.TailRef.main_arg6)
      ∧ r.2.mem ((c.tc : Thread Cert.TailRef.nD Cert.TailRef.τ).loc Cert.TailRef.main_arg7) = m ((c.tc : Thread Cert.TailRef.nD Cert.TailRef.τ).loc Cert.TailRef.main_arg7)
      ∧ r.2.mem ((c.tc : Thread Cert.TailRef.nD Cert.TailRef.τ).loc Cert.TailRef.main_arg8) = m ((c.tc : Thread Cert.TailRef.nD Cert.TailRef.τ).loc Cert.TailRef.main_arg8)
      ∧ r.2.mem ((c.tc : Thread Cert.TailRef.nD Cert.TailRef.τ).loc Cert.TailRef.main_arg9) = m ((c.tc : Thread Cert.TailRef.nD Cert.TailRef.τ).loc Cert.TailRef.main_arg9)
      ∧ r.2.mem ((c.tc : Thread Cert.TailRef.nD Cert.TailRef.τ).loc Cert.TailRef.main_arg10) = m ((c.tc : Thread Cert.TailRef.nD Cert.TailRef.τ).loc Cert.TailRef.main_arg10)
      ∧ r.2.mem ((c.tc : Thread Cert.TailRef.nD Cert.TailRef.τ).loc Cert.TailRef.main_arg11) = m ((c.tc : Thread Cert.TailRef.nD Cert.TailRef.τ).loc Cert.TailRef.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_ProjRef [hProjRef : Cert.ProjRef.Facts] : Prop :=
  ∀ (m : (ℓ : Loc Cert.ProjRef.nD Cert.ProjRef.τ Cert.ProjRef.sig) → Buf (Elt Bits) ℓ) (g : Dev Cert.ProjRef.nD → PrngReg), Pre_ProjRef m →
    θ_run (Cert.ProjRef.defs (F := Bits)) (onTc (τ := Cert.ProjRef.τ) (Cert.ProjRef.main (F := Bits))) ⟨m, fun _ => 0, g⟩ (fun r => (∀ c : Dev Cert.ProjRef.nD,
      r.2.mem ((c.tc : Thread Cert.ProjRef.nD Cert.ProjRef.τ).loc Cert.ProjRef.main_arg0) = m ((c.tc : Thread Cert.ProjRef.nD Cert.ProjRef.τ).loc Cert.ProjRef.main_arg0)
      ∧ r.2.mem ((c.tc : Thread Cert.ProjRef.nD Cert.ProjRef.τ).loc Cert.ProjRef.main_arg1) = m ((c.tc : Thread Cert.ProjRef.nD Cert.ProjRef.τ).loc Cert.ProjRef.main_arg1)
      ∧ r.2.mem ((c.tc : Thread Cert.ProjRef.nD Cert.ProjRef.τ).loc Cert.ProjRef.main_arg2) = m ((c.tc : Thread Cert.ProjRef.nD Cert.ProjRef.τ).loc Cert.ProjRef.main_arg2)
      ∧ r.2.mem ((c.tc : Thread Cert.ProjRef.nD Cert.ProjRef.τ).loc Cert.ProjRef.main_arg3) = m ((c.tc : Thread Cert.ProjRef.nD Cert.ProjRef.τ).loc Cert.ProjRef.main_arg3)
      ∧ r.2.mem ((c.tc : Thread Cert.ProjRef.nD Cert.ProjRef.τ).loc Cert.ProjRef.main_arg4) = m ((c.tc : Thread Cert.ProjRef.nD Cert.ProjRef.τ).loc Cert.ProjRef.main_arg4)
      ∧ r.2.mem ((c.tc : Thread Cert.ProjRef.nD Cert.ProjRef.τ).loc Cert.ProjRef.main_arg5) = m ((c.tc : Thread Cert.ProjRef.nD Cert.ProjRef.τ).loc Cert.ProjRef.main_arg5)
      ∧ r.2.mem ((c.tc : Thread Cert.ProjRef.nD Cert.ProjRef.τ).loc Cert.ProjRef.main_arg6) = m ((c.tc : Thread Cert.ProjRef.nD Cert.ProjRef.τ).loc Cert.ProjRef.main_arg6)
      ∧ r.2.mem ((c.tc : Thread Cert.ProjRef.nD Cert.ProjRef.τ).loc Cert.ProjRef.main_arg7) = m ((c.tc : Thread Cert.ProjRef.nD Cert.ProjRef.τ).loc Cert.ProjRef.main_arg7))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4)
      ∧ r.2.mem ((c.tc : Thread Cert.ProjS.nD Cert.ProjS.τ).loc Cert.ProjS.main_arg5) = m ((c.tc : Thread Cert.ProjS.nD Cert.ProjS.τ).loc Cert.ProjS.main_arg5)
      ∧ r.2.mem ((c.tc : Thread Cert.ProjS.nD Cert.ProjS.τ).loc Cert.ProjS.main_arg6) = m ((c.tc : Thread Cert.ProjS.nD Cert.ProjS.τ).loc Cert.ProjS.main_arg6)
      ∧ r.2.mem ((c.tc : Thread Cert.ProjS.nD Cert.ProjS.τ).loc Cert.ProjS.main_arg7) = m ((c.tc : Thread Cert.ProjS.nD Cert.ProjS.τ).loc Cert.ProjS.main_arg7))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
      ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
      ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6)
      ∧ r.2.mem ((c.tc : Thread Cert.ProjSIdeal.nD Cert.ProjSIdeal.τ).loc Cert.ProjSIdeal.main_arg7) = m ((c.tc : Thread Cert.ProjSIdeal.nD Cert.ProjSIdeal.τ).loc Cert.ProjSIdeal.main_arg7))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4)
      ∧ r.2.mem ((c.tc : Thread Cert.ProjSRefIdeal.nD Cert.ProjSRefIdeal.τ).loc Cert.ProjSRefIdeal.main_arg5) = m ((c.tc : Thread Cert.ProjSRefIdeal.nD Cert.ProjSRefIdeal.τ).loc Cert.ProjSRefIdeal.main_arg5)
      ∧ r.2.mem ((c.tc : Thread Cert.ProjSRefIdeal.nD Cert.ProjSRefIdeal.τ).loc Cert.ProjSRefIdeal.main_arg6) = m ((c.tc : Thread Cert.ProjSRefIdeal.nD Cert.ProjSRefIdeal.τ).loc Cert.ProjSRefIdeal.main_arg6)
      ∧ r.2.mem ((c.tc : Thread Cert.ProjSRefIdeal.nD Cert.ProjSRefIdeal.τ).loc Cert.ProjSRefIdeal.main_arg7) = m ((c.tc : Thread Cert.ProjSRefIdeal.nD Cert.ProjSRefIdeal.τ).loc Cert.ProjSRefIdeal.main_arg7))
      ∧ r.2.sem = fun _ => 0)

def quiescent_ProjSRef [hProjSRef : Cert.ProjSRef.Facts] : Prop :=
  ∀ (m : (ℓ : Loc Cert.ProjSRef.nD Cert.ProjSRef.τ Cert.ProjSRef.sig) → Buf (Elt Bits) ℓ) (g : Dev Cert.ProjSRef.nD → PrngReg), Pre_ProjSRef m →
    θ_run (Cert.ProjSRef.defs (F := Bits)) (onTc (τ := Cert.ProjSRef.τ) (Cert.ProjSRef.main (F := Bits))) ⟨m, fun _ => 0, g⟩ (fun r => (∀ c : Dev Cert.ProjSRef.nD,
      r.2.mem ((c.tc : Thread Cert.ProjSRef.nD Cert.ProjSRef.τ).loc Cert.ProjSRef.main_arg0) = m ((c.tc : Thread Cert.ProjSRef.nD Cert.ProjSRef.τ).loc Cert.ProjSRef.main_arg0)
      ∧ r.2.mem ((c.tc : Thread Cert.ProjSRef.nD Cert.ProjSRef.τ).loc Cert.ProjSRef.main_arg1) = m ((c.tc : Thread Cert.ProjSRef.nD Cert.ProjSRef.τ).loc Cert.ProjSRef.main_arg1)
      ∧ r.2.mem ((c.tc : Thread Cert.ProjSRef.nD Cert.ProjSRef.τ).loc Cert.ProjSRef.main_arg2) = m ((c.tc : Thread Cert.ProjSRef.nD Cert.ProjSRef.τ).loc Cert.ProjSRef.main_arg2)
      ∧ r.2.mem ((c.tc : Thread Cert.ProjSRef.nD Cert.ProjSRef.τ).loc Cert.ProjSRef.main_arg3) = m ((c.tc : Thread Cert.ProjSRef.nD Cert.ProjSRef.τ).loc Cert.ProjSRef.main_arg3)
      ∧ r.2.mem ((c.tc : Thread Cert.ProjSRef.nD Cert.ProjSRef.τ).loc Cert.ProjSRef.main_arg4) = m ((c.tc : Thread Cert.ProjSRef.nD Cert.ProjSRef.τ).loc Cert.ProjSRef.main_arg4)
      ∧ r.2.mem ((c.tc : Thread Cert.ProjSRef.nD Cert.ProjSRef.τ).loc Cert.ProjSRef.main_arg5) = m ((c.tc : Thread Cert.ProjSRef.nD Cert.ProjSRef.τ).loc Cert.ProjSRef.main_arg5)
      ∧ r.2.mem ((c.tc : Thread Cert.ProjSRef.nD Cert.ProjSRef.τ).loc Cert.ProjSRef.main_arg6) = m ((c.tc : Thread Cert.ProjSRef.nD Cert.ProjSRef.τ).loc Cert.ProjSRef.main_arg6)
      ∧ r.2.mem ((c.tc : Thread Cert.ProjSRef.nD Cert.ProjSRef.τ).loc Cert.ProjSRef.main_arg7) = m ((c.tc : Thread Cert.ProjSRef.nD Cert.ProjSRef.τ).loc Cert.ProjSRef.main_arg7))
      ∧ r.2.sem = fun _ => 0)

def quiescent_TailS [hTailS : Cert.TailS.Facts] : Prop :=
  ∀ (m : (ℓ : Loc Cert.TailS.nD Cert.TailS.τ Cert.TailS.sig) → Buf (Elt Bits) ℓ) (g : Dev Cert.TailS.nD → PrngReg), Pre_TailS m →
    θ_run (Cert.TailS.defs (F := Bits)) (onTc (τ := Cert.TailS.τ) (Cert.TailS.main (F := Bits))) ⟨m, fun _ => 0, g⟩ (fun r => (∀ c : Dev Cert.TailS.nD,
      r.2.mem ((c.tc : Thread Cert.TailS.nD Cert.TailS.τ).loc Cert.TailS.main_arg0) = m ((c.tc : Thread Cert.TailS.nD Cert.TailS.τ).loc Cert.TailS.main_arg0)
      ∧ r.2.mem ((c.tc : Thread Cert.TailS.nD Cert.TailS.τ).loc Cert.TailS.main_arg1) = m ((c.tc : Thread Cert.TailS.nD Cert.TailS.τ).loc Cert.TailS.main_arg1)
      ∧ r.2.mem ((c.tc : Thread Cert.TailS.nD Cert.TailS.τ).loc Cert.TailS.main_arg2) = m ((c.tc : Thread Cert.TailS.nD Cert.TailS.τ).loc Cert.TailS.main_arg2)
      ∧ r.2.mem ((c.tc : Thread Cert.TailS.nD Cert.TailS.τ).loc Cert.TailS.main_arg3) = m ((c.tc : Thread Cert.TailS.nD Cert.TailS.τ).loc Cert.TailS.main_arg3)
      ∧ r.2.mem ((c.tc : Thread Cert.TailS.nD Cert.TailS.τ).loc Cert.TailS.main_arg4) = m ((c.tc : Thread Cert.TailS.nD Cert.TailS.τ).loc Cert.TailS.main_arg4)
      ∧ r.2.mem ((c.tc : Thread Cert.TailS.nD Cert.TailS.τ).loc Cert.TailS.main_arg5) = m ((c.tc : Thread Cert.TailS.nD Cert.TailS.τ).loc Cert.TailS.main_arg5)
      ∧ r.2.mem ((c.tc : Thread Cert.TailS.nD Cert.TailS.τ).loc Cert.TailS.main_arg6) = m ((c.tc : Thread Cert.TailS.nD Cert.TailS.τ).loc Cert.TailS.main_arg6)
      ∧ r.2.mem ((c.tc : Thread Cert.TailS.nD Cert.TailS.τ).loc Cert.TailS.main_arg7) = m ((c.tc : Thread Cert.TailS.nD Cert.TailS.τ).loc Cert.TailS.main_arg7)
      ∧ r.2.mem ((c.tc : Thread Cert.TailS.nD Cert.TailS.τ).loc Cert.TailS.main_arg8) = m ((c.tc : Thread Cert.TailS.nD Cert.TailS.τ).loc Cert.TailS.main_arg8)
      ∧ r.2.mem ((c.tc : Thread Cert.TailS.nD Cert.TailS.τ).loc Cert.TailS.main_arg9) = m ((c.tc : Thread Cert.TailS.nD Cert.TailS.τ).loc Cert.TailS.main_arg9)
      ∧ r.2.mem ((c.tc : Thread Cert.TailS.nD Cert.TailS.τ).loc Cert.TailS.main_arg10) = m ((c.tc : Thread Cert.TailS.nD Cert.TailS.τ).loc Cert.TailS.main_arg10)
      ∧ r.2.mem ((c.tc : Thread Cert.TailS.nD Cert.TailS.τ).loc Cert.TailS.main_arg11) = m ((c.tc : Thread Cert.TailS.nD Cert.TailS.τ).loc Cert.TailS.main_arg11))
      ∧ r.2.sem = fun _ => 0)

def quiescent_TailSIdeal [hTailSIdeal : Cert.TailSIdeal.Facts] : Prop :=
  ∀ (m : (ℓ : Loc Cert.TailSIdeal.nD Cert.TailSIdeal.τ Cert.TailSIdeal.sig) → Buf (Elt Ideal) ℓ) (g : Dev Cert.TailSIdeal.nD → PrngReg), Pre_TailSIdeal m →
    θ_run (Cert.TailSIdeal.defs (F := Ideal)) (onTc (τ := Cert.TailSIdeal.τ) (Cert.TailSIdeal.main (F := Ideal))) ⟨m, fun _ => 0, g⟩ (fun r => (∀ c : Dev Cert.TailSIdeal.nD,
      r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
      ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
      ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
      ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
      ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
      ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
      ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
      ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
      ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8)
      ∧ r.2.mem ((c.tc : Thread Cert.TailSIdeal.nD Cert.TailSIdeal.τ).loc Cert.TailSIdeal.main_arg9) = m ((c.tc : Thread Cert.TailSIdeal.nD Cert.TailSIdeal.τ).loc Cert.TailSIdeal.main_arg9)
      ∧ r.2.mem ((c.tc : Thread Cert.TailSIdeal.nD Cert.TailSIdeal.τ).loc Cert.TailSIdeal.main_arg10) = m ((c.tc : Thread Cert.TailSIdeal.nD Cert.TailSIdeal.τ).loc Cert.TailSIdeal.main_arg10)
      ∧ r.2.mem ((c.tc : Thread Cert.TailSIdeal.nD Cert.TailSIdeal.τ).loc Cert.TailSIdeal.main_arg11) = m ((c.tc : Thread Cert.TailSIdeal.nD Cert.TailSIdeal.τ).loc Cert.TailSIdeal.main_arg11))
      ∧ r.2.sem = fun _ => 0)

def quiescent_TailSRefIdeal [hTailSRefIdeal : Cert.TailSRefIdeal.Facts] : Prop :=
  ∀ (m : (ℓ : Loc Cert.TailSRefIdeal.nD Cert.TailSRefIdeal.τ Cert.TailSRefIdeal.sig) → Buf (Elt Ideal) ℓ) (g : Dev Cert.TailSRefIdeal.nD → PrngReg), Pre_TailSRefIdeal m →
    θ_run (Cert.TailSRefIdeal.defs (F := Ideal)) (onTc (τ := Cert.TailSRefIdeal.τ) (Cert.TailSRefIdeal.main (F := Ideal))) ⟨m, fun _ => 0, g⟩ (fun r => (∀ c : Dev Cert.TailSRefIdeal.nD,
      r.2.mem ((c.tc : Thread Cert.TailSRefIdeal.nD Cert.TailSRefIdeal.τ).loc Cert.TailSRefIdeal.main_arg0) = m ((c.tc : Thread Cert.TailSRefIdeal.nD Cert.TailSRefIdeal.τ).loc Cert.TailSRefIdeal.main_arg0)
      ∧ r.2.mem ((c.tc : Thread Cert.TailSRefIdeal.nD Cert.TailSRefIdeal.τ).loc Cert.TailSRefIdeal.main_arg1) = m ((c.tc : Thread Cert.TailSRefIdeal.nD Cert.TailSRefIdeal.τ).loc Cert.TailSRefIdeal.main_arg1)
      ∧ r.2.mem ((c.tc : Thread Cert.TailSRefIdeal.nD Cert.TailSRefIdeal.τ).loc Cert.TailSRefIdeal.main_arg2) = m ((c.tc : Thread Cert.TailSRefIdeal.nD Cert.TailSRefIdeal.τ).loc Cert.TailSRefIdeal.main_arg2)
      ∧ r.2.mem ((c.tc : Thread Cert.TailSRefIdeal.nD Cert.TailSRefIdeal.τ).loc Cert.TailSRefIdeal.main_arg3) = m ((c.tc : Thread Cert.TailSRefIdeal.nD Cert.TailSRefIdeal.τ).loc Cert.TailSRefIdeal.main_arg3)
      ∧ r.2.mem ((c.tc : Thread Cert.TailSRefIdeal.nD Cert.TailSRefIdeal.τ).loc Cert.TailSRefIdeal.main_arg4) = m ((c.tc : Thread Cert.TailSRefIdeal.nD Cert.TailSRefIdeal.τ).loc Cert.TailSRefIdeal.main_arg4)
      ∧ r.2.mem ((c.tc : Thread Cert.TailSRefIdeal.nD Cert.TailSRefIdeal.τ).loc Cert.TailSRefIdeal.main_arg5) = m ((c.tc : Thread Cert.TailSRefIdeal.nD Cert.TailSRefIdeal.τ).loc Cert.TailSRefIdeal.main_arg5)
      ∧ r.2.mem ((c.tc : Thread Cert.TailSRefIdeal.nD Cert.TailSRefIdeal.τ).loc Cert.TailSRefIdeal.main_arg6) = m ((c.tc : Thread Cert.TailSRefIdeal.nD Cert.TailSRefIdeal.τ).loc Cert.TailSRefIdeal.main_arg6)
      ∧ r.2.mem ((c.tc : Thread Cert.TailSRefIdeal.nD Cert.TailSRefIdeal.τ).loc Cert.TailSRefIdeal.main_arg7) = m ((c.tc : Thread Cert.TailSRefIdeal.nD Cert.TailSRefIdeal.τ).loc Cert.TailSRefIdeal.main_arg7)
      ∧ r.2.mem ((c.tc : Thread Cert.TailSRefIdeal.nD Cert.TailSRefIdeal.τ).loc Cert.TailSRefIdeal.main_arg8) = m ((c.tc : Thread Cert.TailSRefIdeal.nD Cert.TailSRefIdeal.τ).loc Cert.TailSRefIdeal.main_arg8)
      ∧ r.2.mem ((c.tc : Thread Cert.TailSRefIdeal.nD Cert.TailSRefIdeal.τ).loc Cert.TailSRefIdeal.main_arg9) = m ((c.tc : Thread Cert.TailSRefIdeal.nD Cert.TailSRefIdeal.τ).loc Cert.TailSRefIdeal.main_arg9)
      ∧ r.2.mem ((c.tc : Thread Cert.TailSRefIdeal.nD Cert.TailSRefIdeal.τ).loc Cert.TailSRefIdeal.main_arg10) = m ((c.tc : Thread Cert.TailSRefIdeal.nD Cert.TailSRefIdeal.τ).loc Cert.TailSRefIdeal.main_arg10)
      ∧ r.2.mem ((c.tc : Thread Cert.TailSRefIdeal.nD Cert.TailSRefIdeal.τ).loc Cert.TailSRefIdeal.main_arg11) = m ((c.tc : Thread Cert.TailSRefIdeal.nD Cert.TailSRefIdeal.τ).loc Cert.TailSRefIdeal.main_arg11))
      ∧ r.2.sem = fun _ => 0)

def quiescent_TailSRef [hTailSRef : Cert.TailSRef.Facts] : Prop :=
  ∀ (m : (ℓ : Loc Cert.TailSRef.nD Cert.TailSRef.τ Cert.TailSRef.sig) → Buf (Elt Bits) ℓ) (g : Dev Cert.TailSRef.nD → PrngReg), Pre_TailSRef m →
    θ_run (Cert.TailSRef.defs (F := Bits)) (onTc (τ := Cert.TailSRef.τ) (Cert.TailSRef.main (F := Bits))) ⟨m, fun _ => 0, g⟩ (fun r => (∀ c : Dev Cert.TailSRef.nD,
      r.2.mem ((c.tc : Thread Cert.TailSRef.nD Cert.TailSRef.τ).loc Cert.TailSRef.main_arg0) = m ((c.tc : Thread Cert.TailSRef.nD Cert.TailSRef.τ).loc Cert.TailSRef.main_arg0)
      ∧ r.2.mem ((c.tc : Thread Cert.TailSRef.nD Cert.TailSRef.τ).loc Cert.TailSRef.main_arg1) = m ((c.tc : Thread Cert.TailSRef.nD Cert.TailSRef.τ).loc Cert.TailSRef.main_arg1)
      ∧ r.2.mem ((c.tc : Thread Cert.TailSRef.nD Cert.TailSRef.τ).loc Cert.TailSRef.main_arg2) = m ((c.tc : Thread Cert.TailSRef.nD Cert.TailSRef.τ).loc Cert.TailSRef.main_arg2)
      ∧ r.2.mem ((c.tc : Thread Cert.TailSRef.nD Cert.TailSRef.τ).loc Cert.TailSRef.main_arg3) = m ((c.tc : Thread Cert.TailSRef.nD Cert.TailSRef.τ).loc Cert.TailSRef.main_arg3)
      ∧ r.2.mem ((c.tc : Thread Cert.TailSRef.nD Cert.TailSRef.τ).loc Cert.TailSRef.main_arg4) = m ((c.tc : Thread Cert.TailSRef.nD Cert.TailSRef.τ).loc Cert.TailSRef.main_arg4)
      ∧ r.2.mem ((c.tc : Thread Cert.TailSRef.nD Cert.TailSRef.τ).loc Cert.TailSRef.main_arg5) = m ((c.tc : Thread Cert.TailSRef.nD Cert.TailSRef.τ).loc Cert.TailSRef.main_arg5)
      ∧ r.2.mem ((c.tc : Thread Cert.TailSRef.nD Cert.TailSRef.τ).loc Cert.TailSRef.main_arg6) = m ((c.tc : Thread Cert.TailSRef.nD Cert.TailSRef.τ).loc Cert.TailSRef.main_arg6)
      ∧ r.2.mem ((c.tc : Thread Cert.TailSRef.nD Cert.TailSRef.τ).loc Cert.TailSRef.main_arg7) = m ((c.tc : Thread Cert.TailSRef.nD Cert.TailSRef.τ).loc Cert.TailSRef.main_arg7)
      ∧ r.2.mem ((c.tc : Thread Cert.TailSRef.nD Cert.TailSRef.τ).loc Cert.TailSRef.main_arg8) = m ((c.tc : Thread Cert.TailSRef.nD Cert.TailSRef.τ).loc Cert.TailSRef.main_arg8)
      ∧ r.2.mem ((c.tc : Thread Cert.TailSRef.nD Cert.TailSRef.τ).loc Cert.TailSRef.main_arg9) = m ((c.tc : Thread Cert.TailSRef.nD Cert.TailSRef.τ).loc Cert.TailSRef.main_arg9)
      ∧ r.2.mem ((c.tc : Thread Cert.TailSRef.nD Cert.TailSRef.τ).loc Cert.TailSRef.main_arg10) = m ((c.tc : Thread Cert.TailSRef.nD Cert.TailSRef.τ).loc Cert.TailSRef.main_arg10)
      ∧ r.2.mem ((c.tc : Thread Cert.TailSRef.nD Cert.TailSRef.τ).loc Cert.TailSRef.main_arg11) = m ((c.tc : Thread Cert.TailSRef.nD Cert.TailSRef.τ).loc Cert.TailSRef.main_arg11))
      ∧ r.2.sem = fun _ => 0)

def preserves_FoxS_FoxSIdeal : Prop :=
  IdealRules.named_const.Statement Cert.FoxSIdeal.κ "q_scale" .f32 0x3E38AA3B#32 (((1 / 8) * (Real.log 2)⁻¹ : ℝ) : EReal)
  ∧ IdealRules.named_const.Statement Cert.FoxSIdeal.κ "neg_inf" .f32 0xF149F2CA#32 ⊥
  ∧ IdealRules.named_const.Statement Cert.FoxSIdeal.κ "log2e" .f32 0x3FB8AA3B#32 (((Real.log 2)⁻¹ : ℝ) : EReal)

def preserves_FoxSRef_FoxSRefIdeal : Prop :=
  True

def algebraic_FoxSIdeal_FoxSRefIdeal_pre_finite_scores [hFoxSIdeal : Cert.FoxSIdeal.Facts] [hFoxSRefIdeal : Cert.FoxSRefIdeal.Facts] [hPre_finite_scores : Cert.Pre_finite_scores.Facts] : Prop :=
  ∀ (m : (ℓ : Loc Cert.FoxSIdeal.nD Cert.FoxSIdeal.τ Cert.FoxSIdeal.sig) → Buf (Elt Ideal) ℓ) (g : Dev Cert.FoxSIdeal.nD → PrngReg)
    (m' : (ℓ : Loc Cert.FoxSRefIdeal.nD Cert.FoxSRefIdeal.τ Cert.FoxSRefIdeal.sig) → Buf (Elt Ideal) ℓ) (g' : Dev Cert.FoxSRefIdeal.nD → PrngReg), Pre_FoxSIdeal_finite_scores m →
    (∀ c : Dev Cert.FoxSIdeal.nD,
      m' ((c.tc : Thread Cert.FoxSRefIdeal.nD Cert.FoxSRefIdeal.τ).loc Cert.FoxSRefIdeal.main_arg0) = m ((c.tc : Thread Cert.FoxSIdeal.nD Cert.FoxSIdeal.τ).loc Cert.FoxSIdeal.main_arg0)
      ∧ m' ((c.tc : Thread Cert.FoxSRefIdeal.nD Cert.FoxSRefIdeal.τ).loc Cert.FoxSRefIdeal.main_arg1) = m ((c.tc : Thread Cert.FoxSIdeal.nD Cert.FoxSIdeal.τ).loc Cert.FoxSIdeal.main_arg1)
      ∧ m' ((c.tc : Thread Cert.FoxSRefIdeal.nD Cert.FoxSRefIdeal.τ).loc Cert.FoxSRefIdeal.main_arg2) = m ((c.tc : Thread Cert.FoxSIdeal.nD Cert.FoxSIdeal.τ).loc Cert.FoxSIdeal.main_arg2)
      ∧ m' ((c.tc : Thread Cert.FoxSRefIdeal.nD Cert.FoxSRefIdeal.τ).loc Cert.FoxSRefIdeal.main_arg3) = m ((c.tc : Thread Cert.FoxSIdeal.nD Cert.FoxSIdeal.τ).loc Cert.FoxSIdeal.main_arg3)
      ∧ m' ((c.tc : Thread Cert.FoxSRefIdeal.nD Cert.FoxSRefIdeal.τ).loc Cert.FoxSRefIdeal.main_arg4) = m ((c.tc : Thread Cert.FoxSIdeal.nD Cert.FoxSIdeal.τ).loc Cert.FoxSIdeal.main_arg4)
      ∧ m' ((c.tc : Thread Cert.FoxSRefIdeal.nD Cert.FoxSRefIdeal.τ).loc Cert.FoxSRefIdeal.main_arg5) = m ((c.tc : Thread Cert.FoxSIdeal.nD Cert.FoxSIdeal.τ).loc Cert.FoxSIdeal.main_arg5)) →
    ∃ (v0 : (c : Dev Cert.FoxSIdeal.nD) → Buf (Elt Ideal) ((c.tc : Thread Cert.FoxSIdeal.nD Cert.FoxSIdeal.τ).loc Cert.FoxSIdeal.main_v19)),
      θ_run (Cert.FoxSIdeal.defs (F := Ideal)) (onTc (τ := Cert.FoxSIdeal.τ) (Cert.FoxSIdeal.main (F := Ideal))) ⟨m, fun _ => 0, g⟩ (fun r => ∀ c : Dev Cert.FoxSIdeal.nD,
          r.2.mem ((c.tc : Thread Cert.FoxSIdeal.nD Cert.FoxSIdeal.τ).loc Cert.FoxSIdeal.main_v19) = v0 c
          ∧ r.2.mem ((c.tc : Thread Cert.FoxSIdeal.nD Cert.FoxSIdeal.τ).loc Cert.FoxSIdeal.main_arg0) = m ((c.tc : Thread Cert.FoxSIdeal.nD Cert.FoxSIdeal.τ).loc Cert.FoxSIdeal.main_arg0)
          ∧ r.2.mem ((c.tc : Thread Cert.FoxSIdeal.nD Cert.FoxSIdeal.τ).loc Cert.FoxSIdeal.main_arg1) = m ((c.tc : Thread Cert.FoxSIdeal.nD Cert.FoxSIdeal.τ).loc Cert.FoxSIdeal.main_arg1)
          ∧ r.2.mem ((c.tc : Thread Cert.FoxSIdeal.nD Cert.FoxSIdeal.τ).loc Cert.FoxSIdeal.main_arg2) = m ((c.tc : Thread Cert.FoxSIdeal.nD Cert.FoxSIdeal.τ).loc Cert.FoxSIdeal.main_arg2)
          ∧ r.2.mem ((c.tc : Thread Cert.FoxSIdeal.nD Cert.FoxSIdeal.τ).loc Cert.FoxSIdeal.main_arg3) = m ((c.tc : Thread Cert.FoxSIdeal.nD Cert.FoxSIdeal.τ).loc Cert.FoxSIdeal.main_arg3)
          ∧ r.2.mem ((c.tc : Thread Cert.FoxSIdeal.nD Cert.FoxSIdeal.τ).loc Cert.FoxSIdeal.main_arg4) = m ((c.tc : Thread Cert.FoxSIdeal.nD Cert.FoxSIdeal.τ).loc Cert.FoxSIdeal.main_arg4)
          ∧ r.2.mem ((c.tc : Thread Cert.FoxSIdeal.nD Cert.FoxSIdeal.τ).loc Cert.FoxSIdeal.main_arg5) = m ((c.tc : Thread Cert.FoxSIdeal.nD Cert.FoxSIdeal.τ).loc Cert.FoxSIdeal.main_arg5))
      ∧ θ_run (Cert.FoxSRefIdeal.defs (F := Ideal)) (onTc (τ := Cert.FoxSRefIdeal.τ) (Cert.FoxSRefIdeal.main (F := Ideal))) ⟨m', fun _ => 0, g'⟩ (fun r => ∀ c : Dev Cert.FoxSRefIdeal.nD,
          r.2.mem ((c.tc : Thread Cert.FoxSRefIdeal.nD Cert.FoxSRefIdeal.τ).loc Cert.FoxSRefIdeal.main_v39) = v0 c
          ∧ r.2.mem ((c.tc : Thread Cert.FoxSRefIdeal.nD Cert.FoxSRefIdeal.τ).loc Cert.FoxSRefIdeal.main_arg0) = m' ((c.tc : Thread Cert.FoxSRefIdeal.nD Cert.FoxSRefIdeal.τ).loc Cert.FoxSRefIdeal.main_arg0)
          ∧ r.2.mem ((c.tc : Thread Cert.FoxSRefIdeal.nD Cert.FoxSRefIdeal.τ).loc Cert.FoxSRefIdeal.main_arg1) = m' ((c.tc : Thread Cert.FoxSRefIdeal.nD Cert.FoxSRefIdeal.τ).loc Cert.FoxSRefIdeal.main_arg1)
          ∧ r.2.mem ((c.tc : Thread Cert.FoxSRefIdeal.nD Cert.FoxSRefIdeal.τ).loc Cert.FoxSRefIdeal.main_arg2) = m' ((c.tc : Thread Cert.FoxSRefIdeal.nD Cert.FoxSRefIdeal.τ).loc Cert.FoxSRefIdeal.main_arg2)
          ∧ r.2.mem ((c.tc : Thread Cert.FoxSRefIdeal.nD Cert.FoxSRefIdeal.τ).loc Cert.FoxSRefIdeal.main_arg3) = m' ((c.tc : Thread Cert.FoxSRefIdeal.nD Cert.FoxSRefIdeal.τ).loc Cert.FoxSRefIdeal.main_arg3)
          ∧ r.2.mem ((c.tc : Thread Cert.FoxSRefIdeal.nD Cert.FoxSRefIdeal.τ).loc Cert.FoxSRefIdeal.main_arg4) = m' ((c.tc : Thread Cert.FoxSRefIdeal.nD Cert.FoxSRefIdeal.τ).loc Cert.FoxSRefIdeal.main_arg4)
          ∧ r.2.mem ((c.tc : Thread Cert.FoxSRefIdeal.nD Cert.FoxSRefIdeal.τ).loc Cert.FoxSRefIdeal.main_arg5) = m' ((c.tc : Thread Cert.FoxSRefIdeal.nD Cert.FoxSRefIdeal.τ).loc Cert.FoxSRefIdeal.main_arg5))

def preserves_Tail_TailIdeal : Prop :=
  True

def preserves_TailRef_TailRefIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)) →
    ∃ (v0 : (c : Dev Cert.TailIdeal.nD) → Buf (Elt Ideal) ((c.tc : Thread Cert.TailIdeal.nD Cert.TailIdeal.τ).loc Cert.TailIdeal.main_v25)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v25) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v54) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11))

def preserves_Proj_ProjIdeal : Prop :=
  True

def preserves_ProjRef_ProjRefIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v25_2)) (v1 : (c : Dev Cert.ProjIdeal.nD) → Buf (Elt Ideal) ((c.tc : Thread Cert.ProjIdeal.nD Cert.ProjIdeal.τ).loc Cert.ProjIdeal.main_v25_6)) (v2 : (c : Dev Cert.ProjIdeal.nD) → Buf (Elt Ideal) ((c.tc : Thread Cert.ProjIdeal.nD Cert.ProjIdeal.τ).loc Cert.ProjIdeal.main_v25_7)) (v3 : (c : Dev Cert.ProjIdeal.nD) → Buf (Elt Ideal) ((c.tc : Thread Cert.ProjIdeal.nD Cert.ProjIdeal.τ).loc Cert.ProjIdeal.main_v25_8)) (v4 : (c : Dev Cert.ProjIdeal.nD) → Buf (Elt Ideal) ((c.tc : Thread Cert.ProjIdeal.nD Cert.ProjIdeal.τ).loc Cert.ProjIdeal.main_v25_9)) (v5 : (c : Dev Cert.ProjIdeal.nD) → Buf (Elt Ideal) ((c.tc : Thread Cert.ProjIdeal.nD Cert.ProjIdeal.τ).loc Cert.ProjIdeal.main_v25_10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v25_2) = v0 c
          ∧ r.2.mem ((c.tc : Thread Cert.ProjIdeal.nD Cert.ProjIdeal.τ).loc Cert.ProjIdeal.main_v25_6) = v1 c
          ∧ r.2.mem ((c.tc : Thread Cert.ProjIdeal.nD Cert.ProjIdeal.τ).loc Cert.ProjIdeal.main_v25_7) = v2 c
          ∧ r.2.mem ((c.tc : Thread Cert.ProjIdeal.nD Cert.ProjIdeal.τ).loc Cert.ProjIdeal.main_v25_8) = v3 c
          ∧ r.2.mem ((c.tc : Thread Cert.ProjIdeal.nD Cert.ProjIdeal.τ).loc Cert.ProjIdeal.main_v25_9) = v4 c
          ∧ r.2.mem ((c.tc : Thread Cert.ProjIdeal.nD Cert.ProjIdeal.τ).loc Cert.ProjIdeal.main_v25_10) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v61) = v0 c
          ∧ r.2.mem ((c.tc : Thread Cert.ProjRefIdeal.nD Cert.ProjRefIdeal.τ).loc Cert.ProjRefIdeal.main_v63) = v1 c
          ∧ r.2.mem ((c.tc : Thread Cert.ProjRefIdeal.nD Cert.ProjRefIdeal.τ).loc Cert.ProjRefIdeal.main_v65) = v2 c
          ∧ r.2.mem ((c.tc : Thread Cert.ProjRefIdeal.nD Cert.ProjRefIdeal.τ).loc Cert.ProjRefIdeal.main_v66) = v3 c
          ∧ r.2.mem ((c.tc : Thread Cert.ProjRefIdeal.nD Cert.ProjRefIdeal.τ).loc Cert.ProjRefIdeal.main_v67) = v4 c
          ∧ r.2.mem ((c.tc : Thread Cert.ProjRefIdeal.nD Cert.ProjRefIdeal.τ).loc Cert.ProjRefIdeal.main_v59) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_ProjS_ProjSIdeal : Prop :=
  True

def preserves_ProjSRef_ProjSRefIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)
      ∧ m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4)
      ∧ m' ((c.tc : Thread Cert.ProjSRefIdeal.nD Cert.ProjSRefIdeal.τ).loc Cert.ProjSRefIdeal.main_arg5) = m ((c.tc : Thread Cert.ProjSIdeal.nD Cert.ProjSIdeal.τ).loc Cert.ProjSIdeal.main_arg5)
      ∧ m' ((c.tc : Thread Cert.ProjSRefIdeal.nD Cert.ProjSRefIdeal.τ).loc Cert.ProjSRefIdeal.main_arg6) = m ((c.tc : Thread Cert.ProjSIdeal.nD Cert.ProjSIdeal.τ).loc Cert.ProjSIdeal.main_arg6)
      ∧ m' ((c.tc : Thread Cert.ProjSRefIdeal.nD Cert.ProjSRefIdeal.τ).loc Cert.ProjSRefIdeal.main_arg7) = m ((c.tc : Thread Cert.ProjSIdeal.nD Cert.ProjSIdeal.τ).loc Cert.ProjSIdeal.main_arg7)) →
    ∃ (v0 : (c : Dev Cert.ProjSIdeal.nD) → Buf (Elt Ideal) ((c.tc : Thread Cert.ProjSIdeal.nD Cert.ProjSIdeal.τ).loc Cert.ProjSIdeal.main_v26_6)) (v1 : (c : Dev Cert.ProjSIdeal.nD) → Buf (Elt Ideal) ((c.tc : Thread Cert.ProjSIdeal.nD Cert.ProjSIdeal.τ).loc Cert.ProjSIdeal.main_v26_7)) (v2 : (c : Dev Cert.ProjSIdeal.nD) → Buf (Elt Ideal) ((c.tc : Thread Cert.ProjSIdeal.nD Cert.ProjSIdeal.τ).loc Cert.ProjSIdeal.main_v26_8)) (v3 : (c : Dev Cert.ProjSIdeal.nD) → Buf (Elt Ideal) ((c.tc : Thread Cert.ProjSIdeal.nD Cert.ProjSIdeal.τ).loc Cert.ProjSIdeal.main_v26_9)) (v4 : (c : Dev Cert.ProjSIdeal.nD) → Buf (Elt Ideal) ((c.tc : Thread Cert.ProjSIdeal.nD Cert.ProjSIdeal.τ).loc Cert.ProjSIdeal.main_v26_10)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v26_6) = v0 c
          ∧ r.2.mem ((c.tc : Thread Cert.ProjSIdeal.nD Cert.ProjSIdeal.τ).loc Cert.ProjSIdeal.main_v26_7) = v1 c
          ∧ r.2.mem ((c.tc : Thread Cert.ProjSIdeal.nD Cert.ProjSIdeal.τ).loc Cert.ProjSIdeal.main_v26_8) = v2 c
          ∧ r.2.mem ((c.tc : Thread Cert.ProjSIdeal.nD Cert.ProjSIdeal.τ).loc Cert.ProjSIdeal.main_v26_9) = v3 c
          ∧ r.2.mem ((c.tc : Thread Cert.ProjSIdeal.nD Cert.ProjSIdeal.τ).loc Cert.ProjSIdeal.main_v26_10) = v4 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
          ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
          ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6)
          ∧ r.2.mem ((c.tc : Thread Cert.ProjSIdeal.nD Cert.ProjSIdeal.τ).loc Cert.ProjSIdeal.main_arg7) = m ((c.tc : Thread Cert.ProjSIdeal.nD Cert.ProjSIdeal.τ).loc Cert.ProjSIdeal.main_arg7))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v60) = v0 c
          ∧ r.2.mem ((c.tc : Thread Cert.ProjSRefIdeal.nD Cert.ProjSRefIdeal.τ).loc Cert.ProjSRefIdeal.main_v61) = v1 c
          ∧ r.2.mem ((c.tc : Thread Cert.ProjSRefIdeal.nD Cert.ProjSRefIdeal.τ).loc Cert.ProjSRefIdeal.main_v62) = v2 c
          ∧ r.2.mem ((c.tc : Thread Cert.ProjSRefIdeal.nD Cert.ProjSRefIdeal.τ).loc Cert.ProjSRefIdeal.main_v63) = v3 c
          ∧ r.2.mem ((c.tc : Thread Cert.ProjSRefIdeal.nD Cert.ProjSRefIdeal.τ).loc Cert.ProjSRefIdeal.main_v64) = v4 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3)
          ∧ r.2.mem ((c.tc : Thread Cert.ProjSRefIdeal.nD Cert.ProjSRefIdeal.τ).loc Cert.ProjSRefIdeal.main_arg4) = m' ((c.tc : Thread Cert.ProjSRefIdeal.nD Cert.ProjSRefIdeal.τ).loc Cert.ProjSRefIdeal.main_arg4)
          ∧ r.2.mem ((c.tc : Thread Cert.ProjSRefIdeal.nD Cert.ProjSRefIdeal.τ).loc Cert.ProjSRefIdeal.main_arg5) = m' ((c.tc : Thread Cert.ProjSRefIdeal.nD Cert.ProjSRefIdeal.τ).loc Cert.ProjSRefIdeal.main_arg5)
          ∧ r.2.mem ((c.tc : Thread Cert.ProjSRefIdeal.nD Cert.ProjSRefIdeal.τ).loc Cert.ProjSRefIdeal.main_arg6) = m' ((c.tc : Thread Cert.ProjSRefIdeal.nD Cert.ProjSRefIdeal.τ).loc Cert.ProjSRefIdeal.main_arg6)
          ∧ r.2.mem ((c.tc : Thread Cert.ProjSRefIdeal.nD Cert.ProjSRefIdeal.τ).loc Cert.ProjSRefIdeal.main_arg7) = m' ((c.tc : Thread Cert.ProjSRefIdeal.nD Cert.ProjSRefIdeal.τ).loc Cert.ProjSRefIdeal.main_arg7))

def preserves_TailS_TailSIdeal : Prop :=
  True

def preserves_TailSRef_TailSRefIdeal : Prop :=
  True

def algebraic_TailSIdeal_TailSRefIdeal [hTailSIdeal : Cert.TailSIdeal.Facts] [hTailSRefIdeal : Cert.TailSRefIdeal.Facts] : Prop :=
  ∀ (m : (ℓ : Loc Cert.TailSIdeal.nD Cert.TailSIdeal.τ Cert.TailSIdeal.sig) → Buf (Elt Ideal) ℓ) (g : Dev Cert.TailSIdeal.nD → PrngReg)
    (m' : (ℓ : Loc Cert.TailSRefIdeal.nD Cert.TailSRefIdeal.τ Cert.TailSRefIdeal.sig) → Buf (Elt Ideal) ℓ) (g' : Dev Cert.TailSRefIdeal.nD → PrngReg), Pre_TailSIdeal m →
    (∀ c : Dev Cert.TailSIdeal.nD,
      m' ((c.tc : Thread Cert.TailSRefIdeal.nD Cert.TailSRefIdeal.τ).loc Cert.TailSRefIdeal.main_arg0) = m ((c.tc : Thread Cert.TailSIdeal.nD Cert.TailSIdeal.τ).loc Cert.TailSIdeal.main_arg0)
      ∧ m' ((c.tc : Thread Cert.TailSRefIdeal.nD Cert.TailSRefIdeal.τ).loc Cert.TailSRefIdeal.main_arg1) = m ((c.tc : Thread Cert.TailSIdeal.nD Cert.TailSIdeal.τ).loc Cert.TailSIdeal.main_arg1)
      ∧ m' ((c.tc : Thread Cert.TailSRefIdeal.nD Cert.TailSRefIdeal.τ).loc Cert.TailSRefIdeal.main_arg2) = m ((c.tc : Thread Cert.TailSIdeal.nD Cert.TailSIdeal.τ).loc Cert.TailSIdeal.main_arg2)
      ∧ m' ((c.tc : Thread Cert.TailSRefIdeal.nD Cert.TailSRefIdeal.τ).loc Cert.TailSRefIdeal.main_arg3) = m ((c.tc : Thread Cert.TailSIdeal.nD Cert.TailSIdeal.τ).loc Cert.TailSIdeal.main_arg3)
      ∧ m' ((c.tc : Thread Cert.TailSRefIdeal.nD Cert.TailSRefIdeal.τ).loc Cert.TailSRefIdeal.main_arg4) = m ((c.tc : Thread Cert.TailSIdeal.nD Cert.TailSIdeal.τ).loc Cert.TailSIdeal.main_arg4)
      ∧ m' ((c.tc : Thread Cert.TailSRefIdeal.nD Cert.TailSRefIdeal.τ).loc Cert.TailSRefIdeal.main_arg5) = m ((c.tc : Thread Cert.TailSIdeal.nD Cert.TailSIdeal.τ).loc Cert.TailSIdeal.main_arg5)
      ∧ m' ((c.tc : Thread Cert.TailSRefIdeal.nD Cert.TailSRefIdeal.τ).loc Cert.TailSRefIdeal.main_arg6) = m ((c.tc : Thread Cert.TailSIdeal.nD Cert.TailSIdeal.τ).loc Cert.TailSIdeal.main_arg6)
      ∧ m' ((c.tc : Thread Cert.TailSRefIdeal.nD Cert.TailSRefIdeal.τ).loc Cert.TailSRefIdeal.main_arg7) = m ((c.tc : Thread Cert.TailSIdeal.nD Cert.TailSIdeal.τ).loc Cert.TailSIdeal.main_arg7)
      ∧ m' ((c.tc : Thread Cert.TailSRefIdeal.nD Cert.TailSRefIdeal.τ).loc Cert.TailSRefIdeal.main_arg8) = m ((c.tc : Thread Cert.TailSIdeal.nD Cert.TailSIdeal.τ).loc Cert.TailSIdeal.main_arg8)
      ∧ m' ((c.tc : Thread Cert.TailSRefIdeal.nD Cert.TailSRefIdeal.τ).loc Cert.TailSRefIdeal.main_arg9) = m ((c.tc : Thread Cert.TailSIdeal.nD Cert.TailSIdeal.τ).loc Cert.TailSIdeal.main_arg9)
      ∧ m' ((c.tc : Thread Cert.TailSRefIdeal.nD Cert.TailSRefIdeal.τ).loc Cert.TailSRefIdeal.main_arg10) = m ((c.tc : Thread Cert.TailSIdeal.nD Cert.TailSIdeal.τ).loc Cert.TailSIdeal.main_arg10)
      ∧ m' ((c.tc : Thread Cert.TailSRefIdeal.nD Cert.TailSRefIdeal.τ).loc Cert.TailSRefIdeal.main_arg11) = m ((c.tc : Thread Cert.TailSIdeal.nD Cert.TailSIdeal.τ).loc Cert.TailSIdeal.main_arg11)) →
    ∃ (v0 : (c : Dev Cert.TailSIdeal.nD) → Buf (Elt Ideal) ((c.tc : Thread Cert.TailSIdeal.nD Cert.TailSIdeal.τ).loc Cert.TailSIdeal.main_v25)),
      θ_run (Cert.TailSIdeal.defs (F := Ideal)) (onTc (τ := Cert.TailSIdeal.τ) (Cert.TailSIdeal.main (F := Ideal))) ⟨m, fun _ => 0, g⟩ (fun r => ∀ c : Dev Cert.TailSIdeal.nD,
          r.2.mem ((c.tc : Thread Cert.TailSIdeal.nD Cert.TailSIdeal.τ).loc Cert.TailSIdeal.main_v25) = v0 c
          ∧ r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
          ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
          ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
          ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
          ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
          ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
          ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
          ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
          ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8)
          ∧ r.2.mem ((c.tc : Thread Cert.TailSIdeal.nD Cert.TailSIdeal.τ).loc Cert.TailSIdeal.main_arg9) = m ((c.tc : Thread Cert.TailSIdeal.nD Cert.TailSIdeal.τ).loc Cert.TailSIdeal.main_arg9)
          ∧ r.2.mem ((c.tc : Thread Cert.TailSIdeal.nD Cert.TailSIdeal.τ).loc Cert.TailSIdeal.main_arg10) = m ((c.tc : Thread Cert.TailSIdeal.nD Cert.TailSIdeal.τ).loc Cert.TailSIdeal.main_arg10)
          ∧ r.2.mem ((c.tc : Thread Cert.TailSIdeal.nD Cert.TailSIdeal.τ).loc Cert.TailSIdeal.main_arg11) = m ((c.tc : Thread Cert.TailSIdeal.nD Cert.TailSIdeal.τ).loc Cert.TailSIdeal.main_arg11))
      ∧ θ_run (Cert.TailSRefIdeal.defs (F := Ideal)) (onTc (τ := Cert.TailSRefIdeal.τ) (Cert.TailSRefIdeal.main (F := Ideal))) ⟨m', fun _ => 0, g'⟩ (fun r => ∀ c : Dev Cert.TailSRefIdeal.nD,
          r.2.mem ((c.tc : Thread Cert.TailSRefIdeal.nD Cert.TailSRefIdeal.τ).loc Cert.TailSRefIdeal.main_v54) = v0 c
          ∧ r.2.mem ((c.tc : Thread Cert.TailSRefIdeal.nD Cert.TailSRefIdeal.τ).loc Cert.TailSRefIdeal.main_arg0) = m' ((c.tc : Thread Cert.TailSRefIdeal.nD Cert.TailSRefIdeal.τ).loc Cert.TailSRefIdeal.main_arg0)
          ∧ r.2.mem ((c.tc : Thread Cert.TailSRefIdeal.nD Cert.TailSRefIdeal.τ).loc Cert.TailSRefIdeal.main_arg1) = m' ((c.tc : Thread Cert.TailSRefIdeal.nD Cert.TailSRefIdeal.τ).loc Cert.TailSRefIdeal.main_arg1)
          ∧ r.2.mem ((c.tc : Thread Cert.TailSRefIdeal.nD Cert.TailSRefIdeal.τ).loc Cert.TailSRefIdeal.main_arg2) = m' ((c.tc : Thread Cert.TailSRefIdeal.nD Cert.TailSRefIdeal.τ).loc Cert.TailSRefIdeal.main_arg2)
          ∧ r.2.mem ((c.tc : Thread Cert.TailSRefIdeal.nD Cert.TailSRefIdeal.τ).loc Cert.TailSRefIdeal.main_arg3) = m' ((c.tc : Thread Cert.TailSRefIdeal.nD Cert.TailSRefIdeal.τ).loc Cert.TailSRefIdeal.main_arg3)
          ∧ r.2.mem ((c.tc : Thread Cert.TailSRefIdeal.nD Cert.TailSRefIdeal.τ).loc Cert.TailSRefIdeal.main_arg4) = m' ((c.tc : Thread Cert.TailSRefIdeal.nD Cert.TailSRefIdeal.τ).loc Cert.TailSRefIdeal.main_arg4)
          ∧ r.2.mem ((c.tc : Thread Cert.TailSRefIdeal.nD Cert.TailSRefIdeal.τ).loc Cert.TailSRefIdeal.main_arg5) = m' ((c.tc : Thread Cert.TailSRefIdeal.nD Cert.TailSRefIdeal.τ).loc Cert.TailSRefIdeal.main_arg5)
          ∧ r.2.mem ((c.tc : Thread Cert.TailSRefIdeal.nD Cert.TailSRefIdeal.τ).loc Cert.TailSRefIdeal.main_arg6) = m' ((c.tc : Thread Cert.TailSRefIdeal.nD Cert.TailSRefIdeal.τ).loc Cert.TailSRefIdeal.main_arg6)
          ∧ r.2.mem ((c.tc : Thread Cert.TailSRefIdeal.nD Cert.TailSRefIdeal.τ).loc Cert.TailSRefIdeal.main_arg7) = m' ((c.tc : Thread Cert.TailSRefIdeal.nD Cert.TailSRefIdeal.τ).loc Cert.TailSRefIdeal.main_arg7)
          ∧ r.2.mem ((c.tc : Thread Cert.TailSRefIdeal.nD Cert.TailSRefIdeal.τ).loc Cert.TailSRefIdeal.main_arg8) = m' ((c.tc : Thread Cert.TailSRefIdeal.nD Cert.TailSRefIdeal.τ).loc Cert.TailSRefIdeal.main_arg8)
          ∧ r.2.mem ((c.tc : Thread Cert.TailSRefIdeal.nD Cert.TailSRefIdeal.τ).loc Cert.TailSRefIdeal.main_arg9) = m' ((c.tc : Thread Cert.TailSRefIdeal.nD Cert.TailSRefIdeal.τ).loc Cert.TailSRefIdeal.main_arg9)
          ∧ r.2.mem ((c.tc : Thread Cert.TailSRefIdeal.nD Cert.TailSRefIdeal.τ).loc Cert.TailSRefIdeal.main_arg10) = m' ((c.tc : Thread Cert.TailSRefIdeal.nD Cert.TailSRefIdeal.τ).loc Cert.TailSRefIdeal.main_arg10)
          ∧ r.2.mem ((c.tc : Thread Cert.TailSRefIdeal.nD Cert.TailSRefIdeal.τ).loc Cert.TailSRefIdeal.main_arg11) = m' ((c.tc : Thread Cert.TailSRefIdeal.nD Cert.TailSRefIdeal.τ).loc Cert.TailSRefIdeal.main_arg11))

def Claim : Prop :=
  ∃ (hFoxS : Cert.FoxS.Facts) (hFoxSIdeal : Cert.FoxSIdeal.Facts) (hFoxSRefIdeal : Cert.FoxSRefIdeal.Facts) (hFoxSRef : Cert.FoxSRef.Facts) (hTail : Cert.Tail.Facts) (hTailIdeal : Cert.TailIdeal.Facts) (hTailRefIdeal : Cert.TailRefIdeal.Facts) (hTailRef : Cert.TailRef.Facts) (hProj : Cert.Proj.Facts) (hProjIdeal : Cert.ProjIdeal.Facts) (hProjRefIdeal : Cert.ProjRefIdeal.Facts) (hProjRef : Cert.ProjRef.Facts) (hProjS : Cert.ProjS.Facts) (hProjSIdeal : Cert.ProjSIdeal.Facts) (hProjSRefIdeal : Cert.ProjSRefIdeal.Facts) (hProjSRef : Cert.ProjSRef.Facts) (hTailS : Cert.TailS.Facts) (hTailSIdeal : Cert.TailSIdeal.Facts) (hTailSRefIdeal : Cert.TailSRefIdeal.Facts) (hTailSRef : Cert.TailSRef.Facts) (hPre_finite_scores : Cert.Pre_finite_scores.Facts),
    quiescent_FoxS (hFoxS := hFoxS)
    ∧ quiescent_FoxSIdeal (hFoxSIdeal := hFoxSIdeal)
    ∧ quiescent_FoxSIdeal_pre_finite_scores (hFoxSIdeal := hFoxSIdeal) (hPre_finite_scores := hPre_finite_scores)
    ∧ quiescent_FoxSRefIdeal (hFoxSRefIdeal := hFoxSRefIdeal)
    ∧ quiescent_FoxSRefIdeal_pre_finite_scores (hFoxSRefIdeal := hFoxSRefIdeal) (hPre_finite_scores := hPre_finite_scores)
    ∧ quiescent_FoxSRef (hFoxSRef := hFoxSRef)
    ∧ quiescent_Tail (hTail := hTail)
    ∧ quiescent_TailIdeal (hTailIdeal := hTailIdeal)
    ∧ quiescent_TailRefIdeal (hTailRefIdeal := hTailRefIdeal)
    ∧ quiescent_TailRef (hTailRef := hTailRef)
    ∧ quiescent_Proj (hProj := hProj)
    ∧ quiescent_ProjIdeal (hProjIdeal := hProjIdeal)
    ∧ quiescent_ProjRefIdeal (hProjRefIdeal := hProjRefIdeal)
    ∧ quiescent_ProjRef (hProjRef := hProjRef)
    ∧ quiescent_ProjS (hProjS := hProjS)
    ∧ quiescent_ProjSIdeal (hProjSIdeal := hProjSIdeal)
    ∧ quiescent_ProjSRefIdeal (hProjSRefIdeal := hProjSRefIdeal)
    ∧ quiescent_ProjSRef (hProjSRef := hProjSRef)
    ∧ quiescent_TailS (hTailS := hTailS)
    ∧ quiescent_TailSIdeal (hTailSIdeal := hTailSIdeal)
    ∧ quiescent_TailSRefIdeal (hTailSRefIdeal := hTailSRefIdeal)
    ∧ quiescent_TailSRef (hTailSRef := hTailSRef)
    ∧ preserves_FoxS_FoxSIdeal
    ∧ preserves_FoxSRef_FoxSRefIdeal
    ∧ algebraic_FoxSIdeal_FoxSRefIdeal_pre_finite_scores (hFoxSIdeal := hFoxSIdeal) (hFoxSRefIdeal := hFoxSRefIdeal) (hPre_finite_scores := hPre_finite_scores)
    ∧ preserves_Tail_TailIdeal
    ∧ preserves_TailRef_TailRefIdeal
    ∧ algebraic_TailIdeal_TailRefIdeal (hTailIdeal := hTailIdeal) (hTailRefIdeal := hTailRefIdeal)
    ∧ preserves_Proj_ProjIdeal
    ∧ preserves_ProjRef_ProjRefIdeal
    ∧ algebraic_ProjIdeal_ProjRefIdeal (hProjIdeal := hProjIdeal) (hProjRefIdeal := hProjRefIdeal)
    ∧ preserves_ProjS_ProjSIdeal
    ∧ preserves_ProjSRef_ProjSRefIdeal
    ∧ algebraic_ProjSIdeal_ProjSRefIdeal (hProjSIdeal := hProjSIdeal) (hProjSRefIdeal := hProjSRefIdeal)
    ∧ preserves_TailS_TailSIdeal
    ∧ preserves_TailSRef_TailSRefIdeal
    ∧ algebraic_TailSIdeal_TailSRefIdeal (hTailSIdeal := hTailSIdeal) (hTailSRefIdeal := hTailSRefIdeal)
-- ==== Pre_finite_scores.lean ====
abbrev S32x32x8x64 : Shape := ⟨4, ![32, 32, 8, 64]⟩
abbrev S32x8x4128 : Shape := ⟨3, ![32, 8, 4128]⟩
abbrev S1x32x4096x8x64 : Shape := ⟨5, ![1, 32, 4096, 8, 64]⟩
abbrev S_ : Shape := ⟨0, ![]⟩

class Facts : Prop where
  bcast_S_S32x32x8x64 : S_.BroadcastsInDim S32x32x8x64 (![] : Fin 0 → Fin S32x32x8x64.rank)
  reducesTo_S32x32x8x64_S_d0_1_2_3 : S32x32x8x64.ReducesTo [0, 1, 2, 3] S_
  h_S_ : 0 < S_.numel
  bcast_S_S32x8x4128 : S_.BroadcastsInDim S32x8x4128 (![] : Fin 0 → Fin S32x8x4128.rank)
  reducesTo_S32x8x4128_S_d0_1_2 : S32x8x4128.ReducesTo [0, 1, 2] S_
  bcast_S_S1x32x4096x8x64 : S_.BroadcastsInDim S1x32x4096x8x64 (![] : Fin 0 → Fin S1x32x4096x8x64.rank)
  reducesTo_S1x32x4096x8x64_S_d0_1_2_3_4 : S1x32x4096x8x64.ReducesTo [0, 1, 2, 3, 4] S_

variable [Facts]

def fn_part1 {F : FTy → Type} [FloatOps F] (main_v13 : IVec S_ 1) (main_v16 : IVec S1x32x4096x8x64 1) : IVec S_ 1 :=
  let main_c_5 : IVec S_ 1 := constantI S_ 1 1#1
  let main_v17 : IVec S_ 1 := (fun x v => Host.reduce IntOp.andi x v reducesTo_S1x32x4096x8x64_S_d0_1_2_3_4 h_S_) main_v16 main_c_5
  let main_v18 : IVec S_ 1 := andi main_v13 main_v17
  main_v18

def fn {F : FTy → Type} [FloatOps F] (main_arg0 : FVec F S32x32x8x64 .f32) (main_arg1 : FVec F S32x32x8x64 .f32) (main_arg2 : FVec F S32x32x8x64 .f32) (main_arg3 : FVec F S32x8x4128 .f32) (main_arg4 : FVec F S1x32x4096x8x64 .f32) (main_arg5 : FVec F S1x32x4096x8x64 .f32) : IVec S_ 1 :=
  let main_v0 : FVec F S32x32x8x64 .f32 := Host.absf main_arg0
  let main_cst : FVec F S_ .f32 := constant S_ .f32 0x7F800000#32
  let main_v1 : FVec F S32x32x8x64 .f32 := broadcastInDim S32x32x8x64 ![] bcast_S_S32x32x8x64 main_cst
  let main_v2 : IVec S32x32x8x64 1 := cmpf .olt main_v0 main_v1
  let main_c : IVec S_ 1 := constantI S_ 1 1#1
  let main_v3 : IVec S_ 1 := (fun x v => Host.reduce IntOp.andi x v reducesTo_S32x32x8x64_S_d0_1_2_3 h_S_) main_v2 main_c
  let main_v4 : FVec F S32x32x8x64 .f32 := Host.absf main_arg1
  let main_cst_0 : FVec F S_ .f32 := constant S_ .f32 0x7F800000#32
  let main_v5 : FVec F S32x32x8x64 .f32 := broadcastInDim S32x32x8x64 ![] bcast_S_S32x32x8x64 main_cst_0
  let main_v6 : IVec S32x32x8x64 1 := cmpf .olt main_v4 main_v5
  let main_c_1 : IVec S_ 1 := constantI S_ 1 1#1
  let main_v7 : IVec S_ 1 := (fun x v => Host.reduce IntOp.andi x v reducesTo_S32x32x8x64_S_d0_1_2_3 h_S_) main_v6 main_c_1
  let main_v8 : IVec S_ 1 := andi main_v3 main_v7
  let main_v9 : FVec F S32x8x4128 .f32 := Host.absf main_arg3
  let main_cst_2 : FVec F S_ .f32 := constant S_ .f32 0x7F800000#32
  let main_v10 : FVec F S32x8x4128 .f32 := broadcastInDim S32x8x4128 ![] bcast_S_S32x8x4128 main_cst_2
  let main_v11 : IVec S32x8x4128 1 := cmpf .olt main_v9 main_v10
  let main_c_3 : IVec S_ 1 := constantI S_ 1 1#1
  let main_v12 : IVec S_ 1 := (fun x v => Host.reduce IntOp.andi x v reducesTo_S32x8x4128_S_d0_1_2 h_S_) main_v11 main_c_3
  let main_v13 : IVec S_ 1 := andi main_v8 main_v12
  let main_v14 : FVec F S1x32x4096x8x64 .f32 := Host.absf main_arg4
  let main_cst_4 : FVec F S_ .f32 := constant S_ .f32 0x7F800000#32
  let main_v15 : FVec F S1x32x4096x8x64 .f32 := broadcastInDim S1x32x4096x8x64 ![] bcast_S_S1x32x4096x8x64 main_cst_4
  let main_v16 : IVec S1x32x4096x8x64 1 := cmpf .olt main_v14 main_v15
  fn_part1 (F := F) main_v13 main_v16
-- ==== FoxS.lean ====
abbrev S32x32x8x64 : Shape := ⟨4, ![32, 32, 8, 64]⟩
abbrev S32x8x4128 : Shape := ⟨3, ![32, 8, 4128]⟩
abbrev S1x32x4096x8x64 : Shape := ⟨5, ![1, 32, 4096, 8, 64]⟩
abbrev S32x32x512 : Shape := ⟨3, ![32, 32, 512]⟩
abbrev S1024x512 : Shape := ⟨2, ![1024, 512]⟩
abbrev S512x1024 : Shape := ⟨2, ![512, 1024]⟩
abbrev S1x512x1024 : Shape := ⟨3, ![1, 512, 1024]⟩
abbrev S_ : Shape := ⟨0, ![]⟩
abbrev S32x8x4224 : Shape := ⟨3, ![32, 8, 4224]⟩
abbrev S32x8x32 : Shape := ⟨3, ![32, 8, 32]⟩
abbrev S32x256x1 : Shape := ⟨3, ![32, 256, 1]⟩
abbrev S32x4096x8x64 : Shape := ⟨4, ![32, 4096, 8, 64]⟩
abbrev S32x8x64x4096 : Shape := ⟨4, ![32, 8, 64, 4096]⟩
abbrev S32x512x4096 : Shape := ⟨3, ![32, 512, 4096]⟩
abbrev S1x32x1x8x1x32 : Shape := ⟨6, ![1, 32, 1, 8, 1, 32]⟩
abbrev S1x32x1x8x4x32 : Shape := ⟨6, ![1, 32, 1, 8, 4, 32]⟩
abbrev S32x8x128 : Shape := ⟨3, ![32, 8, 128]⟩
abbrev S1x32x512 : Shape := ⟨3, ![1, 32, 512]⟩
abbrev S1x512x4096 : Shape := ⟨3, ![1, 512, 4096]⟩
abbrev S1x512x128 : Shape := ⟨3, ![1, 512, 128]⟩
abbrev S1x8x4096 : Shape := ⟨3, ![1, 8, 4096]⟩
abbrev S1x8x128 : Shape := ⟨3, ![1, 8, 128]⟩
abbrev S1x256x1 : Shape := ⟨3, ![1, 256, 1]⟩
abbrev S256x512 : Shape := ⟨2, ![256, 512]⟩
abbrev S256x1 : Shape := ⟨2, ![256, 1]⟩
abbrev S2x256x512 : Shape := ⟨3, ![2, 256, 512]⟩
abbrev S32x512 : Shape := ⟨2, ![32, 512]⟩
abbrev S1x512 : Shape := ⟨2, ![1, 512]⟩
abbrev S1x512x512 : Shape := ⟨3, ![1, 512, 512]⟩
abbrev S512x512 : Shape := ⟨2, ![512, 512]⟩
abbrev S1x1x512 : Shape := ⟨3, ![1, 1, 512]⟩
abbrev S1x256x512 : Shape := ⟨3, ![1, 256, 512]⟩
abbrev S256 : Shape := ⟨1, ![256]⟩
abbrev S512x128 : Shape := ⟨2, ![512, 128]⟩
abbrev S256x128 : Shape := ⟨2, ![256, 128]⟩
abbrev S1x1x128 : Shape := ⟨3, ![1, 1, 128]⟩
abbrev S1x128 : Shape := ⟨2, ![1, 128]⟩
abbrev S32x128 : Shape := ⟨2, ![32, 128]⟩

abbrev nBuf : Space → Nat
  | .hbm => 28
  | .vmem => 23
  | .smem => 0
  | _ => 0

abbrev bufTy : (tb : Table) → Fin (tcTables nBuf tb) → BufTy
  | .hbm, ⟨0, _⟩ => ⟨S32x32x8x64, .f32⟩
  | .hbm, ⟨1, _⟩ => ⟨S32x32x8x64, .f32⟩
  | .hbm, ⟨2, _⟩ => ⟨S32x32x8x64, .f32⟩
  | .hbm, ⟨3, _⟩ => ⟨S32x8x4128, .f32⟩
  | .hbm, ⟨4, _⟩ => ⟨S1x32x4096x8x64, .f32⟩
  | .hbm, ⟨5, _⟩ => ⟨S1x32x4096x8x64, .f32⟩
  | .hbm, ⟨6, _⟩ => ⟨S32x32x512, .f32⟩
  | .hbm, ⟨7, _⟩ => ⟨S1024x512, .f32⟩
  | .hbm, ⟨8, _⟩ => ⟨S512x1024, .f32⟩
  | .hbm, ⟨9, _⟩ => ⟨S1x512x1024, .f32⟩
  | .hbm, ⟨10, _⟩ => ⟨S1024x512, .f32⟩
  | .hbm, ⟨11, _⟩ => ⟨S512x1024, .f32⟩
  | .hbm, ⟨12, _⟩ => ⟨S1x512x1024, .f32⟩
  | .hbm, ⟨13, _⟩ => ⟨S_, .i32⟩
  | .hbm, ⟨14, _⟩ => ⟨S_, .f32⟩
  | .hbm, ⟨15, _⟩ => ⟨S32x8x4224, .f32⟩
  | .hbm, ⟨16, _⟩ => ⟨S32x8x32, .f32⟩
  | .hbm, ⟨17, _⟩ => ⟨S32x256x1, .f32⟩
  | .hbm, ⟨18, _⟩ => ⟨S32x4096x8x64, .f32⟩
  | .hbm, ⟨19, _⟩ => ⟨S32x8x64x4096, .f32⟩
  | .hbm, ⟨20, _⟩ => ⟨S32x512x4096, .f32⟩
  | .hbm, ⟨21, _⟩ => ⟨S32x4096x8x64, .f32⟩
  | .hbm, ⟨22, _⟩ => ⟨S32x8x64x4096, .f32⟩
  | .hbm, ⟨23, _⟩ => ⟨S32x512x4096, .f32⟩
  | .hbm, ⟨24, _⟩ => ⟨S1x32x1x8x1x32, .f32⟩
  | .hbm, ⟨25, _⟩ => ⟨S1x32x1x8x4x32, .f32⟩
  | .hbm, ⟨26, _⟩ => ⟨S32x8x128, .f32⟩
  | .hbm, ⟨27, _⟩ => ⟨S32x32x512, .bf16⟩
  | .local _ .vmem, ⟨0, _⟩ => ⟨S1x32x512, .f32⟩
  | .local _ .vmem, ⟨1, _⟩ => ⟨S1x32x512, .f32⟩
  | .local _ .vmem, ⟨2, _⟩ => ⟨S1x512x4096, .f32⟩
  | .local _ .vmem, ⟨3, _⟩ => ⟨S1x512x4096, .f32⟩
  | .local _ .vmem, ⟨4, _⟩ => ⟨S1x512x4096, .f32⟩
  | .local _ .vmem, ⟨5, _⟩ => ⟨S1x512x4096, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x8x4096, .f32⟩
  | .local _ .vmem, ⟨11, _⟩ => ⟨S1x8x4096, .f32⟩
  | .local _ .vmem, ⟨12, _⟩ => ⟨S1x8x128, .f32⟩
  | .local _ .vmem, ⟨13, _⟩ => ⟨S1x8x128, .f32⟩
  | .local _ .vmem, ⟨14, _⟩ => ⟨S1x256x1, .f32⟩
  | .local _ .vmem, ⟨15, _⟩ => ⟨S1x256x1, .f32⟩
  | .local _ .vmem, ⟨16, _⟩ => ⟨S1x32x512, .bf16⟩
  | .local _ .vmem, ⟨17, _⟩ => ⟨S1x32x512, .bf16⟩
  | .local _ .vmem, ⟨18, _⟩ => ⟨S256x512, .bf16⟩
  | .local _ .vmem, ⟨19, _⟩ => ⟨S256x1, .f32⟩
  | .local _ .vmem, ⟨20, _⟩ => ⟨S256x1, .f32⟩
  | .local _ .vmem, ⟨21, _⟩ => ⟨S256x512, .f32⟩
  | .local _ .vmem, ⟨22, _⟩ => ⟨S2x256x512, .f32⟩
  | _, _ => ⟨S32x32x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_428 : BitVec 32 := 0#32
  let v645 : BitVec 1 := Scalar.cmpi .eq arg1 c0_i32_428
  let v646 : BitVec 32 := Scalar.extui v645
  let c0_i32_429 : BitVec 32 := 0#32
  let v647 : BitVec 1 := Scalar.cmpi .ne v646 c0_i32_429
  v647

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, c0_i32_5.toNat, v16.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, c0_i32_5.toNat, v16.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x32x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FoxSIdeal.lean ====
variable {F : FTy → Type} [FloatOps F] [Named F]
def κ : String → Option EReal := fun
  | "log2e" => some (((Real.log 2)⁻¹ : ℝ) : EReal)
  | "neg_inf" => some ⊥
  | "q_scale" => some (((1 / 8) * (Real.log 2)⁻¹ : ℝ) : EReal)
  | _ => none
-- ==== FoxSRef.lean ====
abbrev S32x32x8x64 : Shape := ⟨4, ![32, 32, 8, 64]⟩
abbrev S32x8x4128 : Shape := ⟨3, ![32, 8, 4128]⟩
abbrev S1x32x4096x8x64 : Shape := ⟨5, ![1, 32, 4096, 8, 64]⟩
abbrev S32x4096x8x64 : Shape := ⟨4, ![32, 4096, 8, 64]⟩
abbrev S32x4128x8x64 : Shape := ⟨4, ![32, 4128, 8, 64]⟩
abbrev S32x8x32 : Shape := ⟨3, ![32, 8, 32]⟩
abbrev S32x8x32x4128 : Shape := ⟨4, ![32, 8, 32, 4128]⟩
abbrev S_ : Shape := ⟨0, ![]⟩
abbrev S32x8x32x1 : Shape := ⟨4, ![32, 8, 32, 1]⟩
abbrev S32x8x1x4128 : Shape := ⟨4, ![32, 8, 1, 4128]⟩
abbrev S4128 : Shape := ⟨1, ![4128]⟩
abbrev S1x4128 : Shape := ⟨2, ![1, 4128]⟩
abbrev S32 : Shape := ⟨1, ![32]⟩
abbrev S32x1 : Shape := ⟨2, ![32, 1]⟩
abbrev S32x4128 : Shape := ⟨2, ![32, 4128]⟩
abbrev S1x1x32x4128 : Shape := ⟨4, ![1, 1, 32, 4128]⟩
abbrev S32x8x64x32 : Shape := ⟨4, ![32, 8, 64, 32]⟩
abbrev S32x32x512 : Shape := ⟨3, ![32, 32, 512]⟩

abbrev nBuf : Space → Nat
  | .hbm => 55
  | .vmem => 0
  | .smem => 0
  | _ => 0

abbrev bufTy : (tb : Table) → Fin (tcTables nBuf tb) → BufTy
  | .hbm, ⟨0, _⟩ => ⟨S32x32x8x64, .f32⟩
  | .hbm, ⟨1, _⟩ => ⟨S32x32x8x64, .f32⟩
  | .hbm, ⟨2, _⟩ => ⟨S32x32x8x64, .f32⟩
  | .hbm, ⟨3, _⟩ => ⟨S32x8x4128, .f32⟩
  | .hbm, ⟨4, _⟩ => ⟨S1x32x4096x8x64, .f32⟩
  | .hbm, ⟨5, _⟩ => ⟨S1x32x4096x8x64, .f32⟩
  | .hbm, ⟨6, _⟩ => ⟨S32x4096x8x64, .f32⟩
  | .hbm, ⟨7, _⟩ => ⟨S32x4096x8x64, .f32⟩
  | .hbm, ⟨8, _⟩ => ⟨S32x4128x8x64, .f32⟩
  | .hbm, ⟨9, _⟩ => ⟨S32x4128x8x64, .f32⟩
  | .hbm, ⟨10, _⟩ => ⟨S32x8x32, .f32⟩
  | .hbm, ⟨11, _⟩ => ⟨S32x8x32x4128, .f32⟩
  | .hbm, ⟨12, _⟩ => ⟨S_, .f32⟩
  | .hbm, ⟨13, _⟩ => ⟨S32x8x32x4128, .f32⟩
  | .hbm, ⟨14, _⟩ => ⟨S32x8x32x4128, .f32⟩
  | .hbm, ⟨15, _⟩ => ⟨S32x8x32x1, .f32⟩
  | .hbm, ⟨16, _⟩ => ⟨S32x8x1x4128, .f32⟩
  | .hbm, ⟨17, _⟩ => ⟨S32x8x32x4128, .f32⟩
  | .hbm, ⟨18, _⟩ => ⟨S32x8x32x4128, .f32⟩
  | .hbm, ⟨19, _⟩ => ⟨S32x8x32x4128, .f32⟩
  | .hbm, ⟨20, _⟩ => ⟨S32x8x32x4128, .f32⟩
  | .hbm, ⟨21, _⟩ => ⟨S4128, .i32⟩
  | .hbm, ⟨22, _⟩ => ⟨S1x4128, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32x1, .i32⟩
  | .hbm, ⟨28, _⟩ => ⟨S32x4128, .i32⟩
  | .hbm, ⟨29, _⟩ => ⟨S32x4128, .i32⟩
  | .hbm, ⟨30, _⟩ => ⟨S32x4128, .i1⟩
  | .hbm, ⟨31, _⟩ => ⟨S1x1x32x4128, .i1⟩
  | .hbm, ⟨32, _⟩ => ⟨S_, .f32⟩
  | .hbm, ⟨33, _⟩ => ⟨S_, .f32⟩
  | .hbm, ⟨34, _⟩ => ⟨S32x8x32x4128, .i1⟩
  | .hbm, ⟨35, _⟩ => ⟨S32x8x32x4128, .f32⟩
  | .hbm, ⟨36, _⟩ => ⟨S32x8x32x4128, .f32⟩
  | .hbm, ⟨37, _⟩ => ⟨S_, .f32⟩
  | .hbm, ⟨38, _⟩ => ⟨S32x8x32, .f32⟩
  | .hbm, ⟨39, _⟩ => ⟨S_, .f32⟩
  | .hbm, ⟨40, _⟩ => ⟨S32x8x32, .f32⟩
  | .hbm, ⟨41, _⟩ => ⟨S32x8x32, .f32⟩
  | .hbm, ⟨42, _⟩ => ⟨S32x8x32x1, .f32⟩
  | .hbm, ⟨43, _⟩ => ⟨S32x8x32x4128, .f32⟩
  | .hbm, ⟨44, _⟩ => ⟨S32x8x32x4128, .f32⟩
  | .hbm, ⟨45, _⟩ => ⟨S32x8x32x4128, .f32⟩
  | .hbm, ⟨46, _⟩ => ⟨S_, .f32⟩
  | .hbm, ⟨47, _⟩ => ⟨S32x8x32, .f32⟩
  | .hbm, ⟨48, _⟩ => ⟨S32x8x32x1, .f32⟩
  | .hbm, ⟨49, _⟩ => ⟨S32x8x32x4128, .f32⟩
  | .hbm, ⟨50, _⟩ => ⟨S32x8x32x4128, .f32⟩
  | .hbm, ⟨51, _⟩ => ⟨S32x8x64x32, .f32⟩
  | .hbm, ⟨52, _⟩ => ⟨S32x32x8x64, .f32⟩
  | .hbm, ⟨53, _⟩ => ⟨S32x32x512, .f32⟩
  | .hbm, ⟨54, _⟩ => ⟨S32x32x512, .bf16⟩
  | _, _ => ⟨S32x32x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Tail.lean ====
abbrev S32x2048x1024 : Shape := ⟨3, ![32, 2048, 1024]⟩
abbrev S32x2048x512 : Shape := ⟨3, ![32, 2048, 512]⟩
abbrev S1x32x2048x256 : Shape := ⟨4, ![1, 32, 2048, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x512x1024 : Shape := ⟨3, ![1, 512, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S65536x1024 : Shape := ⟨2, ![65536, 1024]⟩
abbrev S65536x512 : Shape := ⟨2, ![65536, 512]⟩
abbrev S32x2048x256 : Shape := ⟨3, ![32, 2048, 256]⟩
abbrev S65536x256 : Shape := ⟨2, ![65536, 256]⟩
abbrev S1024x512 : Shape := ⟨2, ![1024, 512]⟩
abbrev S1024x256 : Shape := ⟨2, ![1024, 256]⟩
abbrev S512x512 : Shape := ⟨2, ![512, 512]⟩
abbrev S512 : Shape := ⟨1, ![512]⟩
abbrev S512x1 : Shape := ⟨2, ![512, 1]⟩
abbrev S512x256 : Shape := ⟨2, ![512, 256]⟩

abbrev nBuf : Space → Nat
  | .hbm => 38
  | .vmem => 19
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x32x2048x256, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1x1024x1024, .f32⟩
  | .hbm, ⟨11, _⟩ => ⟨S1x256x1024, .f32⟩
  | .hbm, ⟨12, _⟩ => ⟨S1x512x1024, .f32⟩
  | .hbm, ⟨13, _⟩ => ⟨S512x1024, .f32⟩
  | .hbm, ⟨14, _⟩ => ⟨S512x1024, .bf16⟩
  | .hbm, ⟨15, _⟩ => ⟨S1x512x1024, .f32⟩
  | .hbm, ⟨16, _⟩ => ⟨S512x1024, .f32⟩
  | .hbm, ⟨17, _⟩ => ⟨S512x1024, .bf16⟩
  | .hbm, ⟨18, _⟩ => ⟨S1024, .f32⟩
  | .hbm, ⟨19, _⟩ => ⟨S1x1024, .f32⟩
  | .hbm, ⟨20, _⟩ => ⟨S1024x2816, .f32⟩
  | .hbm, ⟨21, _⟩ => ⟨S1024x2816, .bf16⟩
  | .hbm, ⟨22, _⟩ => ⟨S1024x2816, .f32⟩
  | .hbm, ⟨23, _⟩ => ⟨S1024x2816, .bf16⟩
  | .hbm, ⟨24, _⟩ => ⟨S2816x1024, .f32⟩
  | .hbm, ⟨25, _⟩ => ⟨S2816x1024, .bf16⟩
  | .hbm, ⟨26, _⟩ => ⟨S1024, .f32⟩
  | .hbm, ⟨27, _⟩ => ⟨S1x1024, .f32⟩
  | .hbm, ⟨28, _⟩ => ⟨S1024x1024, .f32⟩
  | .hbm, ⟨29, _⟩ => ⟨S1024x1024, .bf16⟩
  | .hbm, ⟨30, _⟩ => ⟨S256x1024, .f32⟩
  | .hbm, ⟨31, _⟩ => ⟨S256x1024, .bf16⟩
  | .hbm, ⟨32, _⟩ => ⟨S65536x1024, .f32⟩
  | .hbm, ⟨33, _⟩ => ⟨S65536x512, .bf16⟩
  | .hbm, ⟨34, _⟩ => ⟨S65536x512, .bf16⟩
  | .hbm, ⟨35, _⟩ => ⟨S32x2048x256, .f32⟩
  | .hbm, ⟨36, _⟩ => ⟨S65536x256, .f32⟩
  | .hbm, ⟨37, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .f32⟩
  | .local _ .vmem, ⟨7, _⟩ => ⟨S1024x256, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1x1024, .f32⟩
  | .local _ .vmem, ⟨15, _⟩ => ⟨S1024x1024, .bf16⟩
  | .local _ .vmem, ⟨16, _⟩ => ⟨S256x1024, .bf16⟩
  | .local _ .vmem, ⟨17, _⟩ => ⟨S1024x1024, .f32⟩
  | .local _ .vmem, ⟨18, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== TailIdeal.lean ====
abbrev S32x2048x1024 : Shape := ⟨3, ![32, 2048, 1024]⟩
abbrev S32x2048x512 : Shape := ⟨3, ![32, 2048, 512]⟩
abbrev S1x32x2048x256 : Shape := ⟨4, ![1, 32, 2048, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x512x1024 : Shape := ⟨3, ![1, 512, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S65536x1024 : Shape := ⟨2, ![65536, 1024]⟩
abbrev S65536x512 : Shape := ⟨2, ![65536, 512]⟩
abbrev S32x2048x256 : Shape := ⟨3, ![32, 2048, 256]⟩
abbrev S65536x256 : Shape := ⟨2, ![65536, 256]⟩
abbrev S1024x512 : Shape := ⟨2, ![1024, 512]⟩
abbrev S1024x256 : Shape := ⟨2, ![1024, 256]⟩
abbrev S512x512 : Shape := ⟨2, ![512, 512]⟩
abbrev S512 : Shape := ⟨1, ![512]⟩
abbrev S512x1 : Shape := ⟨2, ![512, 1]⟩
abbrev S512x256 : Shape := ⟨2, ![512, 256]⟩

abbrev nBuf : Space → Nat
  | .hbm => 38
  | .vmem => 19
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x32x2048x256, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1x1024x1024, .f32⟩
  | .hbm, ⟨11, _⟩ => ⟨S1x256x1024, .f32⟩
  | .hbm, ⟨12, _⟩ => ⟨S1x512x1024, .f32⟩
  | .hbm, ⟨13, _⟩ => ⟨S512x1024, .f32⟩
  | .hbm, ⟨14, _⟩ => ⟨S512x1024, .bf16⟩
  | .hbm, ⟨15, _⟩ => ⟨S1x512x1024, .f32⟩
  | .hbm, ⟨16, _⟩ => ⟨S512x1024, .f32⟩
  | .hbm, ⟨17, _⟩ => ⟨S512x1024, .bf16⟩
  | .hbm, ⟨18, _⟩ => ⟨S1024, .f32⟩
  | .hbm, ⟨19, _⟩ => ⟨S1x1024, .f32⟩
  | .hbm, ⟨20, _⟩ => ⟨S1024x2816, .f32⟩
  | .hbm, ⟨21, _⟩ => ⟨S1024x2816, .bf16⟩
  | .hbm, ⟨22, _⟩ => ⟨S1024x2816, .f32⟩
  | .hbm, ⟨23, _⟩ => ⟨S1024x2816, .bf16⟩
  | .hbm, ⟨24, _⟩ => ⟨S2816x1024, .f32⟩
  | .hbm, ⟨25, _⟩ => ⟨S2816x1024, .bf16⟩
  | .hbm, ⟨26, _⟩ => ⟨S1024, .f32⟩
  | .hbm, ⟨27, _⟩ => ⟨S1x1024, .f32⟩
  | .hbm, ⟨28, _⟩ => ⟨S1024x1024, .f32⟩
  | .hbm, ⟨29, _⟩ => ⟨S1024x1024, .bf16⟩
  | .hbm, ⟨30, _⟩ => ⟨S256x1024, .f32⟩
  | .hbm, ⟨31, _⟩ => ⟨S256x1024, .bf16⟩
  | .hbm, ⟨32, _⟩ => ⟨S65536x1024, .f32⟩
  | .hbm, ⟨33, _⟩ => ⟨S65536x512, .bf16⟩
  | .hbm, ⟨34, _⟩ => ⟨S65536x512, .bf16⟩
  | .hbm, ⟨35, _⟩ => ⟨S32x2048x256, .f32⟩
  | .hbm, ⟨36, _⟩ => ⟨S65536x256, .f32⟩
  | .hbm, ⟨37, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .f32⟩
  | .local _ .vmem, ⟨7, _⟩ => ⟨S1024x256, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1x1024, .f32⟩
  | .local _ .vmem, ⟨15, _⟩ => ⟨S1024x1024, .bf16⟩
  | .local _ .vmem, ⟨16, _⟩ => ⟨S256x1024, .bf16⟩
  | .local _ .vmem, ⟨17, _⟩ => ⟨S1024x1024, .f32⟩
  | .local _ .vmem, ⟨18, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== TailRefIdeal.lean ====
abbrev S32x2048x1024 : Shape := ⟨3, ![32, 2048, 1024]⟩
abbrev S32x2048x512 : Shape := ⟨3, ![32, 2048, 512]⟩
abbrev S1x32x2048x256 : Shape := ⟨4, ![1, 32, 2048, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S32x2048x256 : Shape := ⟨3, ![32, 2048, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩
abbrev S65536x1024 : Shape := ⟨2, ![65536, 1024]⟩

abbrev nBuf : Space → Nat
  | .hbm => 83
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x32x2048x256, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1x1024x1024, .f32⟩
  | .hbm, ⟨11, _⟩ => ⟨S1x256x1024, .f32⟩
  | .hbm, ⟨12, _⟩ => ⟨S32x2048x256, .f32⟩
  | .hbm, ⟨13, _⟩ => ⟨S1024x1024, .f32⟩
  | .hbm, ⟨14, _⟩ => ⟨S1024, .f32⟩
  | .hbm, ⟨15, _⟩ => ⟨S1024x2816, .f32⟩
  | .hbm, ⟨16, _⟩ => ⟨S1024x2816, .f32⟩
  | .hbm, ⟨17, _⟩ => ⟨S2816x1024, .f32⟩
  | .hbm, ⟨18, _⟩ => ⟨S1024, .f32⟩
  | .hbm, ⟨19, _⟩ => ⟨S1024x1024, .f32⟩
  | .hbm, ⟨20, _⟩ => ⟨S256x1024, .f32⟩
  | .hbm, ⟨21, _⟩ => ⟨S32x2048x1024, .bf16⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S_, .f32⟩
  | .hbm, ⟨26, _⟩ => ⟨S32x2048, .f32⟩
  | .hbm, ⟨27, _⟩ => ⟨S32x2048x1, .f32⟩
  | .hbm, ⟨28, _⟩ => ⟨S_, .f32⟩
  | .hbm, ⟨29, _⟩ => ⟨S32x2048x1, .f32⟩
  | .hbm, ⟨30, _⟩ => ⟨S32x2048x1, .f32⟩
  | .hbm, ⟨31, _⟩ => ⟨S_, .f32⟩
  | .hbm, ⟨32, _⟩ => ⟨S32x2048x1, .f32⟩
  | .hbm, ⟨33, _⟩ => ⟨S32x2048x1, .f32⟩
  | .hbm, ⟨34, _⟩ => ⟨S32x2048x1, .f32⟩
  | .hbm, ⟨35, _⟩ => ⟨S32x2048x1024, .f32⟩
  | .hbm, ⟨36, _⟩ => ⟨S32x2048x1024, .f32⟩
  | .hbm, ⟨37, _⟩ => ⟨S1x1x1024, .f32⟩
  | .hbm, ⟨38, _⟩ => ⟨S32x2048x1024, .f32⟩
  | .hbm, ⟨39, _⟩ => ⟨S32x2048x1024, .f32⟩
  | .hbm, ⟨40, _⟩ => ⟨S32x2048x2816, .f32⟩
  | .hbm, ⟨41, _⟩ => ⟨S32x2048x2816, .f32⟩
  | .hbm, ⟨42, _⟩ => ⟨S32x2048x2816, .f32⟩
  | .hbm, ⟨43, _⟩ => ⟨S_, .f32⟩
  | .hbm, ⟨44, _⟩ => ⟨S32x2048x2816, .f32⟩
  | .hbm, ⟨45, _⟩ => ⟨S32x2048x2816, .f32⟩
  | .hbm, ⟨46, _⟩ => ⟨S_, .f32⟩
  | .hbm, ⟨47, _⟩ => ⟨S32x2048x2816, .f32⟩
  | .hbm, ⟨48, _⟩ => ⟨S32x2048x2816, .f32⟩
  | .hbm, ⟨49, _⟩ => ⟨S32x2048x2816, .f32⟩
  | .hbm, ⟨50, _⟩ => ⟨S32x2048x2816, .f32⟩
  | .hbm, ⟨51, _⟩ => ⟨S32x2048x2816, .f32⟩
  | .hbm, ⟨52, _⟩ => ⟨S32x2048x1024, .f32⟩
  | .hbm, ⟨53, _⟩ => ⟨S32x2048x1024, .f32⟩
  | .hbm, ⟨54, _⟩ => ⟨S32x2048x1024, .f32⟩
  | .hbm, ⟨55, _⟩ => ⟨S_, .f32⟩
  | .hbm, ⟨56, _⟩ => ⟨S32x2048, .f32⟩
  | .hbm, ⟨57, _⟩ => ⟨S32x2048x1, .f32⟩
  | .hbm, ⟨58, _⟩ => ⟨S_, .f32⟩
  | .hbm, ⟨59, _⟩ => ⟨S32x2048x1, .f32⟩
  | .hbm, ⟨60, _⟩ => ⟨S32x2048x1, .f32⟩
  | .hbm, ⟨61, _⟩ => ⟨S_, .f32⟩
  | .hbm, ⟨62, _⟩ => ⟨S32x2048x1, .f32⟩
  | .hbm, ⟨63, _⟩ => ⟨S32x2048x1, .f32⟩
  | .hbm, ⟨64, _⟩ => ⟨S32x2048x1, .f32⟩
  | .hbm, ⟨65, _⟩ => ⟨S32x2048x1024, .f32⟩
  | .hbm, ⟨66, _⟩ => ⟨S32x2048x1024, .f32⟩
  | .hbm, ⟨67, _⟩ => ⟨S1x1x1024, .f32⟩
  | .hbm, ⟨68, _⟩ => ⟨S32x2048x1024, .f32⟩
  | .hbm, ⟨69, _⟩ => ⟨S32x2048x1024, .f32⟩
  | .hbm, ⟨70, _⟩ => ⟨S32x2048x1024, .f32⟩
  | .hbm, ⟨71, _⟩ => ⟨S32x2048x1024, .f32⟩
  | .hbm, ⟨72, _⟩ => ⟨S32x2048x1024, .f32⟩
  | .hbm, ⟨73, _⟩ => ⟨S_, .f32⟩
  | .hbm, ⟨74, _⟩ => ⟨S32x2048x1024, .f32⟩
  | .hbm, ⟨75, _⟩ => ⟨S32x2048x1024, .f32⟩
  | .hbm, ⟨76, _⟩ => ⟨S_, .f32⟩
  | .hbm, ⟨77, _⟩ => ⟨S32x2048x1024, .f32⟩
  | .hbm, ⟨78, _⟩ => ⟨S32x2048x1024, .f32⟩
  | .hbm, ⟨79, _⟩ => ⟨S32x2048x1024, .f32⟩
  | .hbm, ⟨80, _⟩ => ⟨S32x2048x1024, .f32⟩
  | .hbm, ⟨81, _⟩ => ⟨S32x2048x1024, .f32⟩
  | .hbm, ⟨82, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== TailRef.lean ====
abbrev S32x2048x1024 : Shape := ⟨3, ![32, 2048, 1024]⟩
abbrev S32x2048x512 : Shape := ⟨3, ![32, 2048, 512]⟩
abbrev S1x32x2048x256 : Shape := ⟨4, ![1, 32, 2048, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S32x2048x256 : Shape := ⟨3, ![32, 2048, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩
abbrev S65536x1024 : Shape := ⟨2, ![65536, 1024]⟩

abbrev nBuf : Space → Nat
  | .hbm => 83
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x32x2048x256, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1x1024x1024, .f32⟩
  | .hbm, ⟨11, _⟩ => ⟨S1x256x1024, .f32⟩
  | .hbm, ⟨12, _⟩ => ⟨S32x2048x256, .f32⟩
  | .hbm, ⟨13, _⟩ => ⟨S1024x1024, .f32⟩
  | .hbm, ⟨14, _⟩ => ⟨S1024, .f32⟩
  | .hbm, ⟨15, _⟩ => ⟨S1024x2816, .f32⟩
  | .hbm, ⟨16, _⟩ => ⟨S1024x2816, .f32⟩
  | .hbm, ⟨17, _⟩ => ⟨S2816x1024, .f32⟩
  | .hbm, ⟨18, _⟩ => ⟨S1024, .f32⟩
  | .hbm, ⟨19, _⟩ => ⟨S1024x1024, .f32⟩
  | .hbm, ⟨20, _⟩ => ⟨S256x1024, .f32⟩
  | .hbm, ⟨21, _⟩ => ⟨S32x2048x1024, .bf16⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S_, .f32⟩
  | .hbm, ⟨26, _⟩ => ⟨S32x2048, .f32⟩
  | .hbm, ⟨27, _⟩ => ⟨S32x2048x1, .f32⟩
  | .hbm, ⟨28, _⟩ => ⟨S_, .f32⟩
  | .hbm, ⟨29, _⟩ => ⟨S32x2048x1, .f32⟩
  | .hbm, ⟨30, _⟩ => ⟨S32x2048x1, .f32⟩
  | .hbm, ⟨31, _⟩ => ⟨S_, .f32⟩
  | .hbm, ⟨32, _⟩ => ⟨S32x2048x1, .f32⟩
  | .hbm, ⟨33, _⟩ => ⟨S32x2048x1, .f32⟩
  | .hbm, ⟨34, _⟩ => ⟨S32x2048x1, .f32⟩
  | .hbm, ⟨35, _⟩ => ⟨S32x2048x1024, .f32⟩
  | .hbm, ⟨36, _⟩ => ⟨S32x2048x1024, .f32⟩
  | .hbm, ⟨37, _⟩ => ⟨S1x1x1024, .f32⟩
  | .hbm, ⟨38, _⟩ => ⟨S32x2048x1024, .f32⟩
  | .hbm, ⟨39, _⟩ => ⟨S32x2048x1024, .f32⟩
  | .hbm, ⟨40, _⟩ => ⟨S32x2048x2816, .f32⟩
  | .hbm, ⟨41, _⟩ => ⟨S32x2048x2816, .f32⟩
  | .hbm, ⟨42, _⟩ => ⟨S32x2048x2816, .f32⟩
  | .hbm, ⟨43, _⟩ => ⟨S_, .f32⟩
  | .hbm, ⟨44, _⟩ => ⟨S32x2048x2816, .f32⟩
  | .hbm, ⟨45, _⟩ => ⟨S32x2048x2816, .f32⟩
  | .hbm, ⟨46, _⟩ => ⟨S_, .f32⟩
  | .hbm, ⟨47, _⟩ => ⟨S32x2048x2816, .f32⟩
  | .hbm, ⟨48, _⟩ => ⟨S32x2048x2816, .f32⟩
  | .hbm, ⟨49, _⟩ => ⟨S32x2048x2816, .f32⟩
  | .hbm, ⟨50, _⟩ => ⟨S32x2048x2816, .f32⟩
  | .hbm, ⟨51, _⟩ => ⟨S32x2048x2816, .f32⟩
  | .hbm, ⟨52, _⟩ => ⟨S32x2048x1024, .f32⟩
  | .hbm, ⟨53, _⟩ => ⟨S32x2048x1024, .f32⟩
  | .hbm, ⟨54, _⟩ => ⟨S32x2048x1024, .f32⟩
  | .hbm, ⟨55, _⟩ => ⟨S_, .f32⟩
  | .hbm, ⟨56, _⟩ => ⟨S32x2048, .f32⟩
  | .hbm, ⟨57, _⟩ => ⟨S32x2048x1, .f32⟩
  | .hbm, ⟨58, _⟩ => ⟨S_, .f32⟩
  | .hbm, ⟨59, _⟩ => ⟨S32x2048x1, .f32⟩
  | .hbm, ⟨60, _⟩ => ⟨S32x2048x1, .f32⟩
  | .hbm, ⟨61, _⟩ => ⟨S_, .f32⟩
  | .hbm, ⟨62, _⟩ => ⟨S32x2048x1, .f32⟩
  | .hbm, ⟨63, _⟩ => ⟨S32x2048x1, .f32⟩
  | .hbm, ⟨64, _⟩ => ⟨S32x2048x1, .f32⟩
  | .hbm, ⟨65, _⟩ => ⟨S32x2048x1024, .f32⟩
  | .hbm, ⟨66, _⟩ => ⟨S32x2048x1024, .f32⟩
  | .hbm, ⟨67, _⟩ => ⟨S1x1x1024, .f32⟩
  | .hbm, ⟨68, _⟩ => ⟨S32x2048x1024, .f32⟩
  | .hbm, ⟨69, _⟩ => ⟨S32x2048x1024, .f32⟩
  | .hbm, ⟨70, _⟩ => ⟨S32x2048x1024, .f32⟩
  | .hbm, ⟨71, _⟩ => ⟨S32x2048x1024, .f32⟩
  | .hbm, ⟨72, _⟩ => ⟨S32x2048x1024, .f32⟩
  | .hbm, ⟨73, _⟩ => ⟨S_, .f32⟩
  | .hbm, ⟨74, _⟩ => ⟨S32x2048x1024, .f32⟩
  | .hbm, ⟨75, _⟩ => ⟨S32x2048x1024, .f32⟩
  | .hbm, ⟨76, _⟩ => ⟨S_, .f32⟩
  | .hbm, ⟨77, _⟩ => ⟨S32x2048x1024, .f32⟩
  | .hbm, ⟨78, _⟩ => ⟨S32x2048x1024, .f32⟩
  | .hbm, ⟨79, _⟩ => ⟨S32x2048x1024, .f32⟩
  | .hbm, ⟨80, _⟩ => ⟨S32x2048x1024, .f32⟩
  | .hbm, ⟨81, _⟩ => ⟨S32x2048x1024, .f32⟩
  | .hbm, ⟨82, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== Proj.lean ====
abbrev S32x2048x1024 : Shape := ⟨3, ![32, 2048, 1024]⟩
abbrev S1x1024 : Shape := ⟨2, ![1, 1024]⟩
abbrev S1x1024x3080 : Shape := ⟨3, ![1, 1024, 3080]⟩
abbrev S1x8 : Shape := ⟨2, ![1, 8]⟩
abbrev S1x64 : Shape := ⟨2, ![1, 64]⟩
abbrev S1024x3080 : Shape := ⟨2, ![1024, 3080]⟩
abbrev S3080x1024 : Shape := ⟨2, ![3080, 1024]⟩
abbrev S1024 : Shape := ⟨1, ![1024]⟩
abbrev S8 : Shape := ⟨1, ![8]⟩
abbrev S8x1 : Shape := ⟨2, ![8, 1]⟩
abbrev S8x512 : Shape := ⟨2, ![8, 512]⟩
abbrev S64 : Shape := ⟨1, ![64]⟩
abbrev S64x1 : Shape := ⟨2, ![64, 1]⟩
abbrev S64x512 : Shape := ⟨2, ![64, 512]⟩
abbrev S1x64x512 : Shape := ⟨3, ![1, 64, 512]⟩
abbrev S4x64x512 : Shape := ⟨3, ![4, 64, 512]⟩
abbrev S32x16x512x128 : Shape := ⟨4, ![32, 16, 512, 128]⟩
abbrev S32x2048x512 : Shape := ⟨3, ![32, 2048, 512]⟩
abbrev S32x512x512 : Shape := ⟨3, ![32, 512, 512]⟩
abbrev S32x2048x8 : Shape := ⟨3, ![32, 2048, 8]⟩
abbrev S1x1024x1024 : Shape := ⟨3, ![1, 1024, 1024]⟩
abbrev S1x8x512x128 : Shape := ⟨4, ![1, 8, 512, 128]⟩
abbrev S1x1024x512 : Shape := ⟨3, ![1, 1024, 512]⟩
abbrev S1x512x512 : Shape := ⟨3, ![1, 512, 512]⟩
abbrev S1x1024x8 : Shape := ⟨3, ![1, 1024, 8]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S1x512 : Shape := ⟨2, ![1, 512]⟩
abbrev S512x128 : Shape := ⟨2, ![512, 128]⟩
abbrev S1x1x512x128 : Shape := ⟨4, ![1, 1, 512, 128]⟩
abbrev S520x1024 : Shape := ⟨2, ![520, 1024]⟩
abbrev S520x512 : Shape := ⟨2, ![520, 512]⟩
abbrev S512x8 : Shape := ⟨2, ![512, 8]⟩
abbrev S1x512x8 : Shape := ⟨3, ![1, 512, 8]⟩

abbrev nBuf : Space → Nat
  | .hbm => 44
  | .vmem => 28
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x3080, .f32⟩
  | .hbm, ⟨3, _⟩ => ⟨S1x8, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1024x3080, .f32⟩
  | .hbm, ⟨9, _⟩ => ⟨S3080x1024, .f32⟩
  | .hbm, ⟨10, _⟩ => ⟨S3080x1024, .bf16⟩
  | .hbm, ⟨11, _⟩ => ⟨S1024, .f32⟩
  | .hbm, ⟨12, _⟩ => ⟨S1x1024, .f32⟩
  | .hbm, ⟨13, _⟩ => ⟨S8, .f32⟩
  | .hbm, ⟨14, _⟩ => ⟨S8x1, .f32⟩
  | .hbm, ⟨15, _⟩ => ⟨S8x512, .f32⟩
  | .hbm, ⟨16, _⟩ => ⟨S64, .f32⟩
  | .hbm, ⟨17, _⟩ => ⟨S64x1, .f32⟩
  | .hbm, ⟨18, _⟩ => ⟨S64x512, .f32⟩
  | .hbm, ⟨19, _⟩ => ⟨S64, .f32⟩
  | .hbm, ⟨20, _⟩ => ⟨S64x1, .f32⟩
  | .hbm, ⟨21, _⟩ => ⟨S64x512, .f32⟩
  | .hbm, ⟨22, _⟩ => ⟨S64, .f32⟩
  | .hbm, ⟨23, _⟩ => ⟨S64x1, .f32⟩
  | .hbm, ⟨24, _⟩ => ⟨S64x512, .f32⟩
  | .hbm, ⟨25, _⟩ => ⟨S64, .f32⟩
  | .hbm, ⟨26, _⟩ => ⟨S64x1, .f32⟩
  | .hbm, ⟨27, _⟩ => ⟨S64x512, .f32⟩
  | .hbm, ⟨28, _⟩ => ⟨S1x64x512, .f32⟩
  | .hbm, ⟨29, _⟩ => ⟨S1x64x512, .f32⟩
  | .hbm, ⟨30, _⟩ => ⟨S1x64x512, .f32⟩
  | .hbm, ⟨31, _⟩ => ⟨S1x64x512, .f32⟩
  | .hbm, ⟨32, _⟩ => ⟨S4x64x512, .f32⟩
  | .hbm, ⟨33, _⟩ => ⟨S32x16x512x128, .bf16⟩
  | .hbm, ⟨34, _⟩ => ⟨S32x16x512x128, .bf16⟩
  | .hbm, ⟨35, _⟩ => ⟨S32x2048x512, .bf16⟩
  | .hbm, ⟨36, _⟩ => ⟨S32x2048x512, .bf16⟩
  | .hbm, ⟨37, _⟩ => ⟨S32x16x512x128, .bf16⟩
  | .hbm, ⟨38, _⟩ => ⟨S32x16x512x128, .bf16⟩
  | .hbm, ⟨39, _⟩ => ⟨S32x512x512, .f32⟩
  | .hbm, ⟨40, _⟩ => ⟨S32x512x512, .f32⟩
  | .hbm, ⟨41, _⟩ => ⟨S32x2048x512, .f32⟩
  | .hbm, ⟨42, _⟩ => ⟨S32x2048x512, .f32⟩
  | .hbm, ⟨43, _⟩ => ⟨S32x2048x8, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S3080x1024, .bf16⟩
  | .local _ .vmem, ⟨4, _⟩ => ⟨S8x512, .f32⟩
  | .local _ .vmem, ⟨5, _⟩ => ⟨S4x64x512, .f32⟩
  | .local _ .vmem, ⟨6, _⟩ => ⟨S1x8x512x128, .bf16⟩
  | .local _ .vmem, ⟨7, _⟩ => ⟨S1x8x512x128, .bf16⟩
  | .local _ .vmem, ⟨8, _⟩ => ⟨S1x8x512x128, .bf16⟩
  | .local _ .vmem, ⟨9, _⟩ => ⟨S1x8x512x128, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x8x512x128, .bf16⟩
  | .local _ .vmem, ⟨15, _⟩ => ⟨S1x8x512x128, .bf16⟩
  | .local _ .vmem, ⟨16, _⟩ => ⟨S1x8x512x128, .bf16⟩
  | .local _ .vmem, ⟨17, _⟩ => ⟨S1x8x512x128, .bf16⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x1024x512, .f32⟩
  | .local _ .vmem, ⟨23, _⟩ => ⟨S1x1024x512, .f32⟩
  | .local _ .vmem, ⟨24, _⟩ => ⟨S1x1024x512, .f32⟩
  | .local _ .vmem, ⟨25, _⟩ => ⟨S1x1024x512, .f32⟩
  | .local _ .vmem, ⟨26, _⟩ => ⟨S1x1024x8, .f32⟩
  | .local _ .vmem, ⟨27, _⟩ => ⟨S1x1024x8, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v25_3 : Ref sig .tc := ⟨.hbm, 36, rfl⟩
abbrev main_v25_4 : Ref sig .tc := ⟨.hbm, 37, rfl⟩
abbrev main_v25_5 : Ref sig .tc := ⟨.hbm, 38, rfl⟩
abbrev main_v25_6 : Ref sig .tc := ⟨.hbm, 39, rfl⟩
abbrev main_v25_7 : Ref sig .tc := ⟨.hbm, 40, rfl⟩
abbrev main_v25_8 : Ref sig .tc := ⟨.hbm, 41, rfl⟩
abbrev main_v25_9 : Ref sig .tc := ⟨.hbm, 42, rfl⟩
abbrev main_v25_10 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3080x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ProjRef.lean ====
abbrev S32x2048x1024 : Shape := ⟨3, ![32, 2048, 1024]⟩
abbrev S1x1024 : Shape := ⟨2, ![1, 1024]⟩
abbrev S1x1024x3080 : Shape := ⟨3, ![1, 1024, 3080]⟩
abbrev S1x8 : Shape := ⟨2, ![1, 8]⟩
abbrev S1x64 : Shape := ⟨2, ![1, 64]⟩
abbrev S1024 : Shape := ⟨1, ![1024]⟩
abbrev S1024x3080 : Shape := ⟨2, ![1024, 3080]⟩
abbrev S8 : Shape := ⟨1, ![8]⟩
abbrev S64 : Shape := ⟨1, ![64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3080 : Shape := ⟨3, ![32, 2048, 3080]⟩
abbrev S32x2048x512 : Shape := ⟨3, ![32, 2048, 512]⟩
abbrev S32x2048x8 : Shape := ⟨3, ![32, 2048, 8]⟩
abbrev S32x2048x8x64 : Shape := ⟨4, ![32, 2048, 8, 64]⟩
abbrev S32x2048x8x1 : Shape := ⟨4, ![32, 2048, 8, 1]⟩
abbrev S1x1x1x64 : Shape := ⟨4, ![1, 1, 1, 64]⟩
abbrev S1x1x8 : Shape := ⟨3, ![1, 1, 8]⟩
abbrev S32x512x8x64 : Shape := ⟨4, ![32, 512, 8, 64]⟩
abbrev S32x512x512 : Shape := ⟨3, ![32, 512, 512]⟩

abbrev nBuf : Space → Nat
  | .hbm => 100
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x3080, .f32⟩
  | .hbm, ⟨3, _⟩ => ⟨S1x8, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1024, .f32⟩
  | .hbm, ⟨9, _⟩ => ⟨S1024x3080, .f32⟩
  | .hbm, ⟨10, _⟩ => ⟨S8, .f32⟩
  | .hbm, ⟨11, _⟩ => ⟨S64, .f32⟩
  | .hbm, ⟨12, _⟩ => ⟨S64, .f32⟩
  | .hbm, ⟨13, _⟩ => ⟨S32x2048x1024, .f32⟩
  | .hbm, ⟨14, _⟩ => ⟨S_, .f32⟩
  | .hbm, ⟨15, _⟩ => ⟨S32x2048, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S32x2048x1, .f32⟩
  | .hbm, ⟨24, _⟩ => ⟨S32x2048x1024, .f32⟩
  | .hbm, ⟨25, _⟩ => ⟨S32x2048x1024, .f32⟩
  | .hbm, ⟨26, _⟩ => ⟨S1x1x1024, .f32⟩
  | .hbm, ⟨27, _⟩ => ⟨S32x2048x1024, .f32⟩
  | .hbm, ⟨28, _⟩ => ⟨S32x2048x1024, .f32⟩
  | .hbm, ⟨29, _⟩ => ⟨S32x2048x3080, .f32⟩
  | .hbm, ⟨30, _⟩ => ⟨S32x2048x512, .f32⟩
  | .hbm, ⟨31, _⟩ => ⟨S32x2048x512, .f32⟩
  | .hbm, ⟨32, _⟩ => ⟨S32x2048x512, .f32⟩
  | .hbm, ⟨33, _⟩ => ⟨S32x2048x512, .f32⟩
  | .hbm, ⟨34, _⟩ => ⟨S32x2048x512, .f32⟩
  | .hbm, ⟨35, _⟩ => ⟨S32x2048x512, .f32⟩
  | .hbm, ⟨36, _⟩ => ⟨S32x2048x8, .f32⟩
  | .hbm, ⟨37, _⟩ => ⟨S32x2048x8x64, .f32⟩
  | .hbm, ⟨38, _⟩ => ⟨S32x2048x8x64, .f32⟩
  | .hbm, ⟨39, _⟩ => ⟨S_, .f32⟩
  | .hbm, ⟨40, _⟩ => ⟨S32x2048x8, .f32⟩
  | .hbm, ⟨41, _⟩ => ⟨S32x2048x8x1, .f32⟩
  | .hbm, ⟨42, _⟩ => ⟨S_, .f32⟩
  | .hbm, ⟨43, _⟩ => ⟨S32x2048x8x1, .f32⟩
  | .hbm, ⟨44, _⟩ => ⟨S32x2048x8x1, .f32⟩
  | .hbm, ⟨45, _⟩ => ⟨S_, .f32⟩
  | .hbm, ⟨46, _⟩ => ⟨S32x2048x8x1, .f32⟩
  | .hbm, ⟨47, _⟩ => ⟨S32x2048x8x1, .f32⟩
  | .hbm, ⟨48, _⟩ => ⟨S32x2048x8x1, .f32⟩
  | .hbm, ⟨49, _⟩ => ⟨S32x2048x8x64, .f32⟩
  | .hbm, ⟨50, _⟩ => ⟨S32x2048x8x64, .f32⟩
  | .hbm, ⟨51, _⟩ => ⟨S1x1x1x64, .f32⟩
  | .hbm, ⟨52, _⟩ => ⟨S32x2048x8x64, .f32⟩
  | .hbm, ⟨53, _⟩ => ⟨S32x2048x8x64, .f32⟩
  | .hbm, ⟨54, _⟩ => ⟨S32x2048x8x64, .f32⟩
  | .hbm, ⟨55, _⟩ => ⟨S32x2048x8x64, .f32⟩
  | .hbm, ⟨56, _⟩ => ⟨S32x2048x8x64, .f32⟩
  | .hbm, ⟨57, _⟩ => ⟨S_, .f32⟩
  | .hbm, ⟨58, _⟩ => ⟨S32x2048x8, .f32⟩
  | .hbm, ⟨59, _⟩ => ⟨S32x2048x8x1, .f32⟩
  | .hbm, ⟨60, _⟩ => ⟨S_, .f32⟩
  | .hbm, ⟨61, _⟩ => ⟨S32x2048x8x1, .f32⟩
  | .hbm, ⟨62, _⟩ => ⟨S32x2048x8x1, .f32⟩
  | .hbm, ⟨63, _⟩ => ⟨S_, .f32⟩
  | .hbm, ⟨64, _⟩ => ⟨S32x2048x8x1, .f32⟩
  | .hbm, ⟨65, _⟩ => ⟨S32x2048x8x1, .f32⟩
  | .hbm, ⟨66, _⟩ => ⟨S32x2048x8x1, .f32⟩
  | .hbm, ⟨67, _⟩ => ⟨S32x2048x8x64, .f32⟩
  | .hbm, ⟨68, _⟩ => ⟨S32x2048x8x64, .f32⟩
  | .hbm, ⟨69, _⟩ => ⟨S1x1x1x64, .f32⟩
  | .hbm, ⟨70, _⟩ => ⟨S32x2048x8x64, .f32⟩
  | .hbm, ⟨71, _⟩ => ⟨S32x2048x8x64, .f32⟩
  | .hbm, ⟨72, _⟩ => ⟨S32x2048x8x64, .f32⟩
  | .hbm, ⟨73, _⟩ => ⟨S1x1x8, .f32⟩
  | .hbm, ⟨74, _⟩ => ⟨S32x2048x8, .f32⟩
  | .hbm, ⟨75, _⟩ => ⟨S32x2048x8, .f32⟩
  | .hbm, ⟨76, _⟩ => ⟨S32x2048x8, .f32⟩
  | .hbm, ⟨77, _⟩ => ⟨S_, .f32⟩
  | .hbm, ⟨78, _⟩ => ⟨S32x2048x8, .f32⟩
  | .hbm, ⟨79, _⟩ => ⟨S32x2048x8, .f32⟩
  | .hbm, ⟨80, _⟩ => ⟨S32x2048x8, .f32⟩
  | .hbm, ⟨81, _⟩ => ⟨S32x2048x8, .f32⟩
  | .hbm, ⟨82, _⟩ => ⟨S32x2048x8, .i1⟩
  | .hbm, ⟨83, _⟩ => ⟨S32x2048x8, .f32⟩
  | .hbm, ⟨84, _⟩ => ⟨S32x2048x8, .f32⟩
  | .hbm, ⟨85, _⟩ => ⟨S32x2048x8, .f32⟩
  | .hbm, ⟨86, _⟩ => ⟨S32x2048x8, .f32⟩
  | .hbm, ⟨87, _⟩ => ⟨S32x2048x8, .f32⟩
  | .hbm, ⟨88, _⟩ => ⟨S32x2048x8, .f32⟩
  | .hbm, ⟨89, _⟩ => ⟨S32x2048x8, .f32⟩
  | .hbm, ⟨90, _⟩ => ⟨S32x2048x8, .f32⟩
  | .hbm, ⟨91, _⟩ => ⟨S32x2048x8, .f32⟩
  | .hbm, ⟨92, _⟩ => ⟨S32x2048x512, .f32⟩
  | .hbm, ⟨93, _⟩ => ⟨S32x2048x512, .bf16⟩
  | .hbm, ⟨94, _⟩ => ⟨S32x512x8x64, .f32⟩
  | .hbm, ⟨95, _⟩ => ⟨S32x512x512, .f32⟩
  | .hbm, ⟨96, _⟩ => ⟨S32x512x8x64, .f32⟩
  | .hbm, ⟨97, _⟩ => ⟨S32x512x512, .f32⟩
  | .hbm, ⟨98, _⟩ => ⟨S32x2048x512, .f32⟩
  | .hbm, ⟨99, _⟩ => ⟨S32x2048x512, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_call0_v0 : Ref sig .tc := ⟨.hbm, 76, rfl⟩
abbrev main_call0_call0_cst : Ref sig .tc := ⟨.hbm, 77, rfl⟩
abbrev main_call0_call0_v0 : Ref sig .tc := ⟨.hbm, 78, rfl⟩
abbrev main_call0_call0_v1 : Ref sig .tc := ⟨.hbm, 79, rfl⟩
abbrev main_call0_call0_v2 : Ref sig .tc := ⟨.hbm, 80, rfl⟩
abbrev main_call0_call0_v3 : Ref sig .tc := ⟨.hbm, 81, rfl⟩
abbrev main_call0_call0_v4 : Ref sig .tc := ⟨.hbm, 82, rfl⟩
abbrev main_call0_call0_v5 : Ref sig .tc := ⟨.hbm, 83, rfl⟩
abbrev main_call0_call0_v6 : Ref sig .tc := ⟨.hbm, 84, rfl⟩
abbrev main_call0_call0_v7 : Ref sig .tc := ⟨.hbm, 85, rfl⟩
abbrev main_call0_call0_v8 : Ref sig .tc := ⟨.hbm, 86, rfl⟩
abbrev main_call0_call0_v9 : Ref sig .tc := ⟨.hbm, 87, rfl⟩
abbrev main_call0_call0_v10 : Ref sig .tc := ⟨.hbm, 88, rfl⟩
abbrev main_call0_call0_v11 : Ref sig .tc := ⟨.hbm, 89, rfl⟩
abbrev main_call0_v1 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]
-- ==== ProjS.lean ====
abbrev S32x32x1024 : Shape := ⟨3, ![32, 32, 1024]⟩
abbrev S1x1024 : Shape := ⟨2, ![1, 1024]⟩
abbrev S1x1024x3080 : Shape := ⟨3, ![1, 1024, 3080]⟩
abbrev S1x8 : Shape := ⟨2, ![1, 8]⟩
abbrev S1x64 : Shape := ⟨2, ![1, 64]⟩
abbrev S1024x3080 : Shape := ⟨2, ![1024, 3080]⟩
abbrev S3080x1024 : Shape := ⟨2, ![3080, 1024]⟩
abbrev S1024 : Shape := ⟨1, ![1024]⟩
abbrev S8 : Shape := ⟨1, ![8]⟩
abbrev S8x1 : Shape := ⟨2, ![8, 1]⟩
abbrev S8x512 : Shape := ⟨2, ![8, 512]⟩
abbrev S64 : Shape := ⟨1, ![64]⟩
abbrev S64x1 : Shape := ⟨2, ![64, 1]⟩
abbrev S64x512 : Shape := ⟨2, ![64, 512]⟩
abbrev S1x64x512 : Shape := ⟨3, ![1, 64, 512]⟩
abbrev S4x64x512 : Shape := ⟨3, ![4, 64, 512]⟩
abbrev S1x1024x1024 : Shape := ⟨3, ![1, 1024, 1024]⟩
abbrev S1x8x512x128 : Shape := ⟨4, ![1, 8, 512, 128]⟩
abbrev S1x1024x512 : Shape := ⟨3, ![1, 1024, 512]⟩
abbrev S1x1024x8 : Shape := ⟨3, ![1, 1024, 8]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S1x512 : Shape := ⟨2, ![1, 512]⟩
abbrev S512x128 : Shape := ⟨2, ![512, 128]⟩
abbrev S1x1x512x128 : Shape := ⟨4, ![1, 1, 512, 128]⟩
abbrev S1x512x512 : Shape := ⟨3, ![1, 512, 512]⟩
abbrev S520x1024 : Shape := ⟨2, ![520, 1024]⟩
abbrev S520x512 : Shape := ⟨2, ![520, 512]⟩
abbrev S512x8 : Shape := ⟨2, ![512, 8]⟩
abbrev S1x512x8 : Shape := ⟨3, ![1, 512, 8]⟩

abbrev nBuf : Space → Nat
  | .hbm => 45
  | .vmem => 16
  | .smem => 0
  | _ => 0

abbrev bufTy : (tb : Table) → Fin (tcTables nBuf tb) → BufTy
  | .hbm, ⟨0, _⟩ => ⟨S32x32x1024, .f32⟩
  | .hbm, ⟨1, _⟩ => ⟨S1x1024, .f32⟩
  | .hbm, ⟨2, _⟩ => ⟨S1x1024x3080, .f32⟩
  | .hbm, ⟨3, _⟩ => ⟨S1x8, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1024x3080, .f32⟩
  | .hbm, ⟨9, _⟩ => ⟨S3080x1024, .f32⟩
  | .hbm, ⟨10, _⟩ => ⟨S3080x1024, .bf16⟩
  | .hbm, ⟨11, _⟩ => ⟨S1024, .f32⟩
  | .hbm, ⟨12, _⟩ => ⟨S1x1024, .f32⟩
  | .hbm, ⟨13, _⟩ => ⟨S8, .f32⟩
  | .hbm, ⟨14, _⟩ => ⟨S8x1, .f32⟩
  | .hbm, ⟨15, _⟩ => ⟨S8x512, .f32⟩
  | .hbm, ⟨16, _⟩ => ⟨S64, .f32⟩
  | .hbm, ⟨17, _⟩ => ⟨S64x1, .f32⟩
  | .hbm, ⟨18, _⟩ => ⟨S64x512, .f32⟩
  | .hbm, ⟨19, _⟩ => ⟨S64, .f32⟩
  | .hbm, ⟨20, _⟩ => ⟨S64x1, .f32⟩
  | .hbm, ⟨21, _⟩ => ⟨S64x512, .f32⟩
  | .hbm, ⟨22, _⟩ => ⟨S64, .f32⟩
  | .hbm, ⟨23, _⟩ => ⟨S64x1, .f32⟩
  | .hbm, ⟨24, _⟩ => ⟨S64x512, .f32⟩
  | .hbm, ⟨25, _⟩ => ⟨S64, .f32⟩
  | .hbm, ⟨26, _⟩ => ⟨S64x1, .f32⟩
  | .hbm, ⟨27, _⟩ => ⟨S64x512, .f32⟩
  | .hbm, ⟨28, _⟩ => ⟨S1x64x512, .f32⟩
  | .hbm, ⟨29, _⟩ => ⟨S1x64x512, .f32⟩
  | .hbm, ⟨30, _⟩ => ⟨S1x64x512, .f32⟩
  | .hbm, ⟨31, _⟩ => ⟨S1x64x512, .f32⟩
  | .hbm, ⟨32, _⟩ => ⟨S4x64x512, .f32⟩
  | .hbm, ⟨33, _⟩ => ⟨S1x1024x1024, .f32⟩
  | .hbm, ⟨34, _⟩ => ⟨S1x8x512x128, .bf16⟩
  | .hbm, ⟨35, _⟩ => ⟨S1x8x512x128, .bf16⟩
  | .hbm, ⟨36, _⟩ => ⟨S1x1024x512, .bf16⟩
  | .hbm, ⟨37, _⟩ => ⟨S1x1024x512, .bf16⟩
  | .hbm, ⟨38, _⟩ => ⟨S1x8x512x128, .bf16⟩
  | .hbm, ⟨39, _⟩ => ⟨S1x8x512x128, .bf16⟩
  | .hbm, ⟨40, _⟩ => ⟨S1x1024x512, .f32⟩
  | .hbm, ⟨41, _⟩ => ⟨S1x1024x512, .f32⟩
  | .hbm, ⟨42, _⟩ => ⟨S1x1024x512, .f32⟩
  | .hbm, ⟨43, _⟩ => ⟨S1x1024x512, .f32⟩
  | .hbm, ⟨44, _⟩ => ⟨S1x1024x8, .f32⟩
  | .local _ .vmem, ⟨0, _⟩ => ⟨S1x1024x1024, .f32⟩
  | .local _ .vmem, ⟨1, _⟩ => ⟨S1x1024, .f32⟩
  | .local _ .vmem, ⟨2, _⟩ => ⟨S3080x1024, .bf16⟩
  | .local _ .vmem, ⟨3, _⟩ => ⟨S8x512, .f32⟩
  | .local _ .vmem, ⟨4, _⟩ => ⟨S4x64x512, .f32⟩
  | .local _ .vmem, ⟨5, _⟩ => ⟨S1x8x512x128, .bf16⟩
  | .local _ .vmem, ⟨6, _⟩ => ⟨S1x8x512x128, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x8x512x128, .bf16⟩
  | .local _ .vmem, ⟨10, _⟩ => ⟨S1x8x512x128, .bf16⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x8, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev main_v26_3 : Ref sig .tc := ⟨.hbm, 37, rfl⟩
abbrev main_v26_4 : Ref sig .tc := ⟨.hbm, 38, rfl⟩
abbrev main_v26_5 : Ref sig .tc := ⟨.hbm, 39, rfl⟩
abbrev main_v26_6 : Ref sig .tc := ⟨.hbm, 40, rfl⟩
abbrev main_v26_7 : Ref sig .tc := ⟨.hbm, 41, rfl⟩
abbrev main_v26_8 : Ref sig .tc := ⟨.hbm, 42, rfl⟩
abbrev main_v26_9 : Ref sig .tc := ⟨.hbm, 43, rfl⟩
abbrev main_v26_10 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3080x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x8x512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x8x512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x1024x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x1024x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S1x1024x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x1024x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x1024x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]
-- ==== ProjSRef.lean ====
abbrev S32x32x1024 : Shape := ⟨3, ![32, 32, 1024]⟩
abbrev S1x1024 : Shape := ⟨2, ![1, 1024]⟩
abbrev S1x1024x3080 : Shape := ⟨3, ![1, 1024, 3080]⟩
abbrev S1x8 : Shape := ⟨2, ![1, 8]⟩
abbrev S1x64 : Shape := ⟨2, ![1, 64]⟩
abbrev S1024 : Shape := ⟨1, ![1024]⟩
abbrev S1024x3080 : Shape := ⟨2, ![1024, 3080]⟩
abbrev S8 : Shape := ⟨1, ![8]⟩
abbrev S64 : Shape := ⟨1, ![64]⟩
abbrev S_ : Shape := ⟨0, ![]⟩
abbrev S32x32 : Shape := ⟨2, ![32, 32]⟩
abbrev S32x32x1 : Shape := ⟨3, ![32, 32, 1]⟩
abbrev S1x1x1024 : Shape := ⟨3, ![1, 1, 1024]⟩
abbrev S32x32x3080 : Shape := ⟨3, ![32, 32, 3080]⟩
abbrev S32x32x512 : Shape := ⟨3, ![32, 32, 512]⟩
abbrev S32x32x8 : Shape := ⟨3, ![32, 32, 8]⟩
abbrev S32x32x8x64 : Shape := ⟨4, ![32, 32, 8, 64]⟩
abbrev S32x32x8x1 : Shape := ⟨4, ![32, 32, 8, 1]⟩
abbrev S1x1x1x64 : Shape := ⟨4, ![1, 1, 1, 64]⟩
abbrev S1x1x8 : Shape := ⟨3, ![1, 1, 8]⟩
abbrev S1x1024x512 : Shape := ⟨3, ![1, 1024, 512]⟩
abbrev S1x1024x8 : Shape := ⟨3, ![1, 1024, 8]⟩

abbrev nBuf : Space → Nat
  | .hbm => 97
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S1x1024, .f32⟩
  | .hbm, ⟨2, _⟩ => ⟨S1x1024x3080, .f32⟩
  | .hbm, ⟨3, _⟩ => ⟨S1x8, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1024, .f32⟩
  | .hbm, ⟨9, _⟩ => ⟨S1024x3080, .f32⟩
  | .hbm, ⟨10, _⟩ => ⟨S8, .f32⟩
  | .hbm, ⟨11, _⟩ => ⟨S64, .f32⟩
  | .hbm, ⟨12, _⟩ => ⟨S64, .f32⟩
  | .hbm, ⟨13, _⟩ => ⟨S32x32x1024, .f32⟩
  | .hbm, ⟨14, _⟩ => ⟨S_, .f32⟩
  | .hbm, ⟨15, _⟩ => ⟨S32x32, .f32⟩
  | .hbm, ⟨16, _⟩ => ⟨S32x32x1, .f32⟩
  | .hbm, ⟨17, _⟩ => ⟨S_, .f32⟩
  | .hbm, ⟨18, _⟩ => ⟨S32x32x1, .f32⟩
  | .hbm, ⟨19, _⟩ => ⟨S32x32x1, .f32⟩
  | .hbm, ⟨20, _⟩ => ⟨S_, .f32⟩
  | .hbm, ⟨21, _⟩ => ⟨S32x32x1, .f32⟩
  | .hbm, ⟨22, _⟩ => ⟨S32x32x1, .f32⟩
  | .hbm, ⟨23, _⟩ => ⟨S32x32x1, .f32⟩
  | .hbm, ⟨24, _⟩ => ⟨S32x32x1024, .f32⟩
  | .hbm, ⟨25, _⟩ => ⟨S32x32x1024, .f32⟩
  | .hbm, ⟨26, _⟩ => ⟨S1x1x1024, .f32⟩
  | .hbm, ⟨27, _⟩ => ⟨S32x32x1024, .f32⟩
  | .hbm, ⟨28, _⟩ => ⟨S32x32x1024, .f32⟩
  | .hbm, ⟨29, _⟩ => ⟨S32x32x3080, .f32⟩
  | .hbm, ⟨30, _⟩ => ⟨S32x32x512, .f32⟩
  | .hbm, ⟨31, _⟩ => ⟨S32x32x512, .f32⟩
  | .hbm, ⟨32, _⟩ => ⟨S32x32x512, .f32⟩
  | .hbm, ⟨33, _⟩ => ⟨S32x32x512, .f32⟩
  | .hbm, ⟨34, _⟩ => ⟨S32x32x512, .f32⟩
  | .hbm, ⟨35, _⟩ => ⟨S32x32x512, .f32⟩
  | .hbm, ⟨36, _⟩ => ⟨S32x32x8, .f32⟩
  | .hbm, ⟨37, _⟩ => ⟨S32x32x8x64, .f32⟩
  | .hbm, ⟨38, _⟩ => ⟨S32x32x8x64, .f32⟩
  | .hbm, ⟨39, _⟩ => ⟨S_, .f32⟩
  | .hbm, ⟨40, _⟩ => ⟨S32x32x8, .f32⟩
  | .hbm, ⟨41, _⟩ => ⟨S32x32x8x1, .f32⟩
  | .hbm, ⟨42, _⟩ => ⟨S_, .f32⟩
  | .hbm, ⟨43, _⟩ => ⟨S32x32x8x1, .f32⟩
  | .hbm, ⟨44, _⟩ => ⟨S32x32x8x1, .f32⟩
  | .hbm, ⟨45, _⟩ => ⟨S_, .f32⟩
  | .hbm, ⟨46, _⟩ => ⟨S32x32x8x1, .f32⟩
  | .hbm, ⟨47, _⟩ => ⟨S32x32x8x1, .f32⟩
  | .hbm, ⟨48, _⟩ => ⟨S32x32x8x1, .f32⟩
  | .hbm, ⟨49, _⟩ => ⟨S32x32x8x64, .f32⟩
  | .hbm, ⟨50, _⟩ => ⟨S32x32x8x64, .f32⟩
  | .hbm, ⟨51, _⟩ => ⟨S1x1x1x64, .f32⟩
  | .hbm, ⟨52, _⟩ => ⟨S32x32x8x64, .f32⟩
  | .hbm, ⟨53, _⟩ => ⟨S32x32x8x64, .f32⟩
  | .hbm, ⟨54, _⟩ => ⟨S32x32x8x64, .f32⟩
  | .hbm, ⟨55, _⟩ => ⟨S32x32x8x64, .f32⟩
  | .hbm, ⟨56, _⟩ => ⟨S32x32x8x64, .f32⟩
  | .hbm, ⟨57, _⟩ => ⟨S_, .f32⟩
  | .hbm, ⟨58, _⟩ => ⟨S32x32x8, .f32⟩
  | .hbm, ⟨59, _⟩ => ⟨S32x32x8x1, .f32⟩
  | .hbm, ⟨60, _⟩ => ⟨S_, .f32⟩
  | .hbm, ⟨61, _⟩ => ⟨S32x32x8x1, .f32⟩
  | .hbm, ⟨62, _⟩ => ⟨S32x32x8x1, .f32⟩
  | .hbm, ⟨63, _⟩ => ⟨S_, .f32⟩
  | .hbm, ⟨64, _⟩ => ⟨S32x32x8x1, .f32⟩
  | .hbm, ⟨65, _⟩ => ⟨S32x32x8x1, .f32⟩
  | .hbm, ⟨66, _⟩ => ⟨S32x32x8x1, .f32⟩
  | .hbm, ⟨67, _⟩ => ⟨S32x32x8x64, .f32⟩
  | .hbm, ⟨68, _⟩ => ⟨S32x32x8x64, .f32⟩
  | .hbm, ⟨69, _⟩ => ⟨S1x1x1x64, .f32⟩
  | .hbm, ⟨70, _⟩ => ⟨S32x32x8x64, .f32⟩
  | .hbm, ⟨71, _⟩ => ⟨S32x32x8x64, .f32⟩
  | .hbm, ⟨72, _⟩ => ⟨S32x32x8x64, .f32⟩
  | .hbm, ⟨73, _⟩ => ⟨S1x1x8, .f32⟩
  | .hbm, ⟨74, _⟩ => ⟨S32x32x8, .f32⟩
  | .hbm, ⟨75, _⟩ => ⟨S32x32x8, .f32⟩
  | .hbm, ⟨76, _⟩ => ⟨S32x32x8, .f32⟩
  | .hbm, ⟨77, _⟩ => ⟨S_, .f32⟩
  | .hbm, ⟨78, _⟩ => ⟨S32x32x8, .f32⟩
  | .hbm, ⟨79, _⟩ => ⟨S32x32x8, .f32⟩
  | .hbm, ⟨80, _⟩ => ⟨S32x32x8, .f32⟩
  | .hbm, ⟨81, _⟩ => ⟨S32x32x8, .f32⟩
  | .hbm, ⟨82, _⟩ => ⟨S32x32x8, .i1⟩
  | .hbm, ⟨83, _⟩ => ⟨S32x32x8, .f32⟩
  | .hbm, ⟨84, _⟩ => ⟨S32x32x8, .f32⟩
  | .hbm, ⟨85, _⟩ => ⟨S32x32x8, .f32⟩
  | .hbm, ⟨86, _⟩ => ⟨S32x32x8, .f32⟩
  | .hbm, ⟨87, _⟩ => ⟨S32x32x8, .f32⟩
  | .hbm, ⟨88, _⟩ => ⟨S32x32x8, .f32⟩
  | .hbm, ⟨89, _⟩ => ⟨S32x32x8, .f32⟩
  | .hbm, ⟨90, _⟩ => ⟨S32x32x8, .f32⟩
  | .hbm, ⟨91, _⟩ => ⟨S32x32x8, .f32⟩
  | .hbm, ⟨92, _⟩ => ⟨S1x1024x512, .f32⟩
  | .hbm, ⟨93, _⟩ => ⟨S1x1024x512, .f32⟩
  | .hbm, ⟨94, _⟩ => ⟨S1x1024x512, .f32⟩
  | .hbm, ⟨95, _⟩ => ⟨S1x1024x512, .f32⟩
  | .hbm, ⟨96, _⟩ => ⟨S1x1024x8, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_call0_v0 : Ref sig .tc := ⟨.hbm, 76, rfl⟩
abbrev main_call0_call0_cst : Ref sig .tc := ⟨.hbm, 77, rfl⟩
abbrev main_call0_call0_v0 : Ref sig .tc := ⟨.hbm, 78, rfl⟩
abbrev main_call0_call0_v1 : Ref sig .tc := ⟨.hbm, 79, rfl⟩
abbrev main_call0_call0_v2 : Ref sig .tc := ⟨.hbm, 80, rfl⟩
abbrev main_call0_call0_v3 : Ref sig .tc := ⟨.hbm, 81, rfl⟩
abbrev main_call0_call0_v4 : Ref sig .tc := ⟨.hbm, 82, rfl⟩
abbrev main_call0_call0_v5 : Ref sig .tc := ⟨.hbm, 83, rfl⟩
abbrev main_call0_call0_v6 : Ref sig .tc := ⟨.hbm, 84, rfl⟩
abbrev main_call0_call0_v7 : Ref sig .tc := ⟨.hbm, 85, rfl⟩
abbrev main_call0_call0_v8 : Ref sig .tc := ⟨.hbm, 86, rfl⟩
abbrev main_call0_call0_v9 : Ref sig .tc := ⟨.hbm, 87, rfl⟩
abbrev main_call0_call0_v10 : Ref sig .tc := ⟨.hbm, 88, rfl⟩
abbrev main_call0_call0_v11 : Ref sig .tc := ⟨.hbm, 89, rfl⟩
abbrev main_call0_v1 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== TailS.lean ====
abbrev S32x32x1024 : Shape := ⟨3, ![32, 32, 1024]⟩
abbrev S32x32x512 : Shape := ⟨3, ![32, 32, 512]⟩
abbrev S1x32x32x256 : Shape := ⟨4, ![1, 32, 32, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x512x1024 : Shape := ⟨3, ![1, 512, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S1024x512 : Shape := ⟨2, ![1024, 512]⟩
abbrev S32x32x256 : Shape := ⟨3, ![32, 32, 256]⟩
abbrev S1024x256 : Shape := ⟨2, ![1024, 256]⟩
abbrev S512x512 : Shape := ⟨2, ![512, 512]⟩
abbrev S512 : Shape := ⟨1, ![512]⟩
abbrev S512x1 : Shape := ⟨2, ![512, 1]⟩
abbrev S512x256 : Shape := ⟨2, ![512, 256]⟩

abbrev nBuf : Space → Nat
  | .hbm => 38
  | .vmem => 14
  | .smem => 0
  | _ => 0

abbrev bufTy : (tb : Table) → Fin (tcTables nBuf tb) → BufTy
  | .hbm, ⟨0, _⟩ => ⟨S32x32x1024, .f32⟩
  | .hbm, ⟨1, _⟩ => ⟨S32x32x512, .bf16⟩
  | .hbm, ⟨2, _⟩ => ⟨S32x32x512, .bf16⟩
  | .hbm, ⟨3, _⟩ => ⟨S1x32x32x256, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1x1024x1024, .f32⟩
  | .hbm, ⟨11, _⟩ => ⟨S1x256x1024, .f32⟩
  | .hbm, ⟨12, _⟩ => ⟨S1x512x1024, .f32⟩
  | .hbm, ⟨13, _⟩ => ⟨S512x1024, .f32⟩
  | .hbm, ⟨14, _⟩ => ⟨S512x1024, .bf16⟩
  | .hbm, ⟨15, _⟩ => ⟨S1x512x1024, .f32⟩
  | .hbm, ⟨16, _⟩ => ⟨S512x1024, .f32⟩
  | .hbm, ⟨17, _⟩ => ⟨S512x1024, .bf16⟩
  | .hbm, ⟨18, _⟩ => ⟨S1024, .f32⟩
  | .hbm, ⟨19, _⟩ => ⟨S1x1024, .f32⟩
  | .hbm, ⟨20, _⟩ => ⟨S1024x2816, .f32⟩
  | .hbm, ⟨21, _⟩ => ⟨S1024x2816, .bf16⟩
  | .hbm, ⟨22, _⟩ => ⟨S1024x2816, .f32⟩
  | .hbm, ⟨23, _⟩ => ⟨S1024x2816, .bf16⟩
  | .hbm, ⟨24, _⟩ => ⟨S2816x1024, .f32⟩
  | .hbm, ⟨25, _⟩ => ⟨S2816x1024, .bf16⟩
  | .hbm, ⟨26, _⟩ => ⟨S1024, .f32⟩
  | .hbm, ⟨27, _⟩ => ⟨S1x1024, .f32⟩
  | .hbm, ⟨28, _⟩ => ⟨S1024x1024, .f32⟩
  | .hbm, ⟨29, _⟩ => ⟨S1024x1024, .bf16⟩
  | .hbm, ⟨30, _⟩ => ⟨S256x1024, .f32⟩
  | .hbm, ⟨31, _⟩ => ⟨S256x1024, .bf16⟩
  | .hbm, ⟨32, _⟩ => ⟨S1024x1024, .f32⟩
  | .hbm, ⟨33, _⟩ => ⟨S1024x512, .bf16⟩
  | .hbm, ⟨34, _⟩ => ⟨S1024x512, .bf16⟩
  | .hbm, ⟨35, _⟩ => ⟨S32x32x256, .f32⟩
  | .hbm, ⟨36, _⟩ => ⟨S1024x256, .f32⟩
  | .hbm, ⟨37, _⟩ => ⟨S1024x1024, .f32⟩
  | .local _ .vmem, ⟨0, _⟩ => ⟨S1024x1024, .f32⟩
  | .local _ .vmem, ⟨1, _⟩ => ⟨S1024x512, .bf16⟩
  | .local _ .vmem, ⟨2, _⟩ => ⟨S1024x512, .bf16⟩
  | .local _ .vmem, ⟨3, _⟩ => ⟨S1024x256, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S1024x1024, .bf16⟩
  | .local _ .vmem, ⟨12, _⟩ => ⟨S256x1024, .bf16⟩
  | .local _ .vmem, ⟨13, _⟩ => ⟨S1024x1024, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== TailSRef.lean ====
abbrev S32x32x1024 : Shape := ⟨3, ![32, 32, 1024]⟩
abbrev S32x32x512 : Shape := ⟨3, ![32, 32, 512]⟩
abbrev S1x32x32x256 : Shape := ⟨4, ![1, 32, 32, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S32x32x256 : Shape := ⟨3, ![32, 32, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S32x32 : Shape := ⟨2, ![32, 32]⟩
abbrev S32x32x1 : Shape := ⟨3, ![32, 32, 1]⟩
abbrev S1x1x1024 : Shape := ⟨3, ![1, 1, 1024]⟩
abbrev S32x32x2816 : Shape := ⟨3, ![32, 32, 2816]⟩

abbrev nBuf : Space → Nat
  | .hbm => 83
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S32x32x512, .bf16⟩
  | .hbm, ⟨2, _⟩ => ⟨S32x32x512, .bf16⟩
  | .hbm, ⟨3, _⟩ => ⟨S1x32x32x256, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1x1024x1024, .f32⟩
  | .hbm, ⟨11, _⟩ => ⟨S1x256x1024, .f32⟩
  | .hbm, ⟨12, _⟩ => ⟨S32x32x256, .f32⟩
  | .hbm, ⟨13, _⟩ => ⟨S1024x1024, .f32⟩
  | .hbm, ⟨14, _⟩ => ⟨S1024, .f32⟩
  | .hbm, ⟨15, _⟩ => ⟨S1024x2816, .f32⟩
  | .hbm, ⟨16, _⟩ => ⟨S1024x2816, .f32⟩
  | .hbm, ⟨17, _⟩ => ⟨S2816x1024, .f32⟩
  | .hbm, ⟨18, _⟩ => ⟨S1024, .f32⟩
  | .hbm, ⟨19, _⟩ => ⟨S1024x1024, .f32⟩
  | .hbm, ⟨20, _⟩ => ⟨S256x1024, .f32⟩
  | .hbm, ⟨21, _⟩ => ⟨S32x32x1024, .bf16⟩
  | .hbm, ⟨22, _⟩ => ⟨S32x32x1024, .f32⟩
  | .hbm, ⟨23, _⟩ => ⟨S32x32x1024, .f32⟩
  | .hbm, ⟨24, _⟩ => ⟨S32x32x1024, .f32⟩
  | .hbm, ⟨25, _⟩ => ⟨S_, .f32⟩
  | .hbm, ⟨26, _⟩ => ⟨S32x32, .f32⟩
  | .hbm, ⟨27, _⟩ => ⟨S32x32x1, .f32⟩
  | .hbm, ⟨28, _⟩ => ⟨S_, .f32⟩
  | .hbm, ⟨29, _⟩ => ⟨S32x32x1, .f32⟩
  | .hbm, ⟨30, _⟩ => ⟨S32x32x1, .f32⟩
  | .hbm, ⟨31, _⟩ => ⟨S_, .f32⟩
  | .hbm, ⟨32, _⟩ => ⟨S32x32x1, .f32⟩
  | .hbm, ⟨33, _⟩ => ⟨S32x32x1, .f32⟩
  | .hbm, ⟨34, _⟩ => ⟨S32x32x1, .f32⟩
  | .hbm, ⟨35, _⟩ => ⟨S32x32x1024, .f32⟩
  | .hbm, ⟨36, _⟩ => ⟨S32x32x1024, .f32⟩
  | .hbm, ⟨37, _⟩ => ⟨S1x1x1024, .f32⟩
  | .hbm, ⟨38, _⟩ => ⟨S32x32x1024, .f32⟩
  | .hbm, ⟨39, _⟩ => ⟨S32x32x1024, .f32⟩
  | .hbm, ⟨40, _⟩ => ⟨S32x32x2816, .f32⟩
  | .hbm, ⟨41, _⟩ => ⟨S32x32x2816, .f32⟩
  | .hbm, ⟨42, _⟩ => ⟨S32x32x2816, .f32⟩
  | .hbm, ⟨43, _⟩ => ⟨S_, .f32⟩
  | .hbm, ⟨44, _⟩ => ⟨S32x32x2816, .f32⟩
  | .hbm, ⟨45, _⟩ => ⟨S32x32x2816, .f32⟩
  | .hbm, ⟨46, _⟩ => ⟨S_, .f32⟩
  | .hbm, ⟨47, _⟩ => ⟨S32x32x2816, .f32⟩
  | .hbm, ⟨48, _⟩ => ⟨S32x32x2816, .f32⟩
  | .hbm, ⟨49, _⟩ => ⟨S32x32x2816, .f32⟩
  | .hbm, ⟨50, _⟩ => ⟨S32x32x2816, .f32⟩
  | .hbm, ⟨51, _⟩ => ⟨S32x32x2816, .f32⟩
  | .hbm, ⟨52, _⟩ => ⟨S32x32x1024, .f32⟩
  | .hbm, ⟨53, _⟩ => ⟨S32x32x1024, .f32⟩
  | .hbm, ⟨54, _⟩ => ⟨S32x32x1024, .f32⟩
  | .hbm, ⟨55, _⟩ => ⟨S_, .f32⟩
  | .hbm, ⟨56, _⟩ => ⟨S32x32, .f32⟩
  | .hbm, ⟨57, _⟩ => ⟨S32x32x1, .f32⟩
  | .hbm, ⟨58, _⟩ => ⟨S_, .f32⟩
  | .hbm, ⟨59, _⟩ => ⟨S32x32x1, .f32⟩
  | .hbm, ⟨60, _⟩ => ⟨S32x32x1, .f32⟩
  | .hbm, ⟨61, _⟩ => ⟨S_, .f32⟩
  | .hbm, ⟨62, _⟩ => ⟨S32x32x1, .f32⟩
  | .hbm, ⟨63, _⟩ => ⟨S32x32x1, .f32⟩
  | .hbm, ⟨64, _⟩ => ⟨S32x32x1, .f32⟩
  | .hbm, ⟨65, _⟩ => ⟨S32x32x1024, .f32⟩
  | .hbm, ⟨66, _⟩ => ⟨S32x32x1024, .f32⟩
  | .hbm, ⟨67, _⟩ => ⟨S1x1x1024, .f32⟩
  | .hbm, ⟨68, _⟩ => ⟨S32x32x1024, .f32⟩
  | .hbm, ⟨69, _⟩ => ⟨S32x32x1024, .f32⟩
  | .hbm, ⟨70, _⟩ => ⟨S32x32x1024, .f32⟩
  | .hbm, ⟨71, _⟩ => ⟨S32x32x1024, .f32⟩
  | .hbm, ⟨72, _⟩ => ⟨S32x32x1024, .f32⟩
  | .hbm, ⟨73, _⟩ => ⟨S_, .f32⟩
  | .hbm, ⟨74, _⟩ => ⟨S32x32x1024, .f32⟩
  | .hbm, ⟨75, _⟩ => ⟨S32x32x1024, .f32⟩
  | .hbm, ⟨76, _⟩ => ⟨S_, .f32⟩
  | .hbm, ⟨77, _⟩ => ⟨S32x32x1024, .f32⟩
  | .hbm, ⟨78, _⟩ => ⟨S32x32x1024, .f32⟩
  | .hbm, ⟨79, _⟩ => ⟨S32x32x1024, .f32⟩
  | .hbm, ⟨80, _⟩ => ⟨S32x32x1024, .f32⟩
  | .hbm, ⟨81, _⟩ => ⟨S32x32x1024, .f32⟩
  | .hbm, ⟨82, _⟩ => ⟨S1024x1024, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== Proof.Hand.FoxComp.lean ====
/- The forgetting attention of the sample step: what one grid point's body leaves in the output block, as a composition
   of a few functions of its input blocks (the stacked queries, the scores of one block of keys, one step of the running
   softmax, the division and the heads set side by side again), the same for all eight blocks of old keys. -/
module

public import proofs.«01_k».proof.Proof.Gen.FoxSIdeal.Value

@[expose] public section

set_option maxRecDepth 16384

noncomputable section

namespace Cert.FoxSIdeal.Comp

open Cert.FoxSIdeal Cert.FoxSIdeal.Gen Idealize.ShloMosaic Idealize.ShloMosaic.TcCoe Idealize.SL.Sem
open Idealize.ShloMosaic.Pipeline (Dat)

variable {F : FTy → Type} [FloatOps F] [Named F]

/-! ## The functions -/

/-- The queries with the heads stacked: row `32 h + t` holds head `h`'s 64 features of query `t`, the others zero. -/
def qs (x0 : Vec F S1x32x512 .f32) : FVec F S256x512 .bf16 :=
  k0_pay8 (k0_pay3 (View.ld x0 (Rect.unit ![0, 0, 0] S1x32x512.size inb_S1x32x512_S1x32x512_0_0_0))) k0_pay4
    (k0_pay5 (View.ld x0 (Rect.unit ![0, 0, 0] S1x32x512.size inb_S1x32x512_S1x32x512_0_0_0)))
    (k0_pay6 (View.ld x0 (Rect.unit ![0, 0, 0] S1x32x512.size inb_S1x32x512_S1x32x512_0_0_0))) k0_pay7

/-- The queries' own cumulative values, one per row. -/
def cq (x7 : Vec F S1x256x1 .f32) : FVec F S256x1 .f32 :=
  shapeCast S256x1 (View.ld x7 (Rect.unit ![0, 0, 0] S1x256x1.size inb_S1x256x1_S1x256x1_0_0_0)) shapeCasts_S1x256x1_S256x1

theorem inbK (off : ℕ) (h : off + 512 ≤ 4096) : ∀ a, (![0, 0, off] : Fin 3 → ℕ) a + S1x512x512.size a ≤ S1x512x4096.size a
  | ⟨0, _⟩ => le_refl 1
  | ⟨1, _⟩ => le_refl 512
  | ⟨2, _⟩ => h

theorem inbC (hd off : ℕ) (hh : hd + 1 ≤ 8) (h : off + 512 ≤ 4096) : ∀ a, (![0, hd, off] : Fin 3 → ℕ) a + S1x1x512.size a ≤ S1x8x4096.size a
  | ⟨0, _⟩ => le_refl 1
  | ⟨1, _⟩ => hh
  | ⟨2, _⟩ => h

/-- A block of 512 old keys (or values), one key a column. -/
def blk (x : Vec F S1x512x4096 .f32) (off : ℕ) (h : off + 512 ≤ 4096) : FVec F S512x512 .bf16 :=
  truncf .bf16 (shapeCast S512x512 (View.ld x (Rect.unit ![0, 0, off] S1x512x512.size (inbK off h)) : FVec F S1x512x512 .f32) shapeCasts_S1x512x512_S512x512 : FVec F S512x512 .f32) bitsLt_bf16_f32

/-- Head `hd`'s cumulative values at a block of 512 old keys, for each of its 32 rows. -/
def ck (x5 : Vec F S1x8x4096 .f32) (hd off : ℕ) (hh : hd + 1 ≤ 8) (h : off + 512 ≤ 4096) : FVec F S32x512 .f32 :=
  broadcastTo S32x512 (shapeCast S1x512 (shapeCast S1x512 (View.ld x5 (Rect.unit ![0, hd, off] S1x1x512.size (inbC hd off hh h)) : FVec F S1x1x512 .f32)
    shapeCasts_S1x1x512_S1x512) shapeCasts_S1x512_S1x512) broadcasts_S1x512_S32x512

/-- The scores of a block of 512 old keys, in units of `ln 2`. -/
def score (q : FVec F S256x512 .bf16) (x1 : Vec F S1x512x4096 .f32) (x5 : Vec F S1x8x4096 .f32) (r : FVec F S256x1 .f32)
    (off : ℕ) (h : off + 512 ≤ 4096) : FVec F S256x512 .f32 :=
  addf (matmul dot_S256x512_S512x512_S256x512_1_0_0_1_n_n none q (blk x1 off h) (constant S256x512 .f32 0x00000000#32))
    (mulf (subf (broadcastTo S256x512 r broadcasts_S256x1_S256x512)
        (concatenate S256x512 0 [⟨S32x512, ck x5 0 off (by decide) h⟩, ⟨S32x512, ck x5 1 off (by decide) h⟩, ⟨S32x512, ck x5 2 off (by decide) h⟩,
          ⟨S32x512, ck x5 3 off (by decide) h⟩, ⟨S32x512, ck x5 4 off (by decide) h⟩, ⟨S32x512, ck x5 5 off (by decide) h⟩,
          ⟨S32x512, ck x5 6 off (by decide) h⟩, ⟨S32x512, ck x5 7 off (by decide) h⟩]
          concatenates_S32x512_S32x512_S32x512_S32x512_S32x512_S32x512_S32x512_S32x512_S256x512_d0))
      (broadcast S256x512 (Named.named κ "log2e" 0x3FB8AA3B#32)))

def score3 (q : FVec F S256x512 .bf16) (x1 : Vec F S1x512x4096 .f32) (x5 : Vec F S1x8x4096 .f32) (r : FVec F S256x1 .f32)
    (off : ℕ) (h : off + 512 ≤ 4096) : FVec F S1x256x512 .f32 :=
  shapeCast S1x256x512 (score q x1 x5 r off h) shapeCasts_S256x512_S1x256x512

/-- What the running softmax holds for the 256 rows: maximum, sum of weights, weighted sum of values. -/
structure St (F : FTy → Type) where
  m : Vec F S256x1 .f32
  l : Vec F S256x1 .f32
  a : Vec F S256x512 .f32

def stepM (m : Vec F S256x1 .f32) (s : FVec F S256x512 .f32) : FVec F S256x1 .f32 :=
  maximumf m (shapeCast S256x1 (multiReduction .maximumf [1] S256 s 0xFF800000#32 reduces_S256x512_S256 (.inl rfl) rfl) shapeCasts_S256_S256x1)
def stepE (m : Vec F S256x1 .f32) (s : FVec F S256x512 .f32) : FVec F S256x1 .f32 := exp2 (subf m (stepM m s))
def stepP (m : Vec F S256x1 .f32) (s : FVec F S256x512 .f32) : FVec F S256x512 .f32 :=
  exp2 (subf s (broadcastTo S256x512 (stepM m s) broadcasts_S256x1_S256x512))

/-- One step of the running softmax: a block of 512 keys with scores `s` and values `v`. -/
def step (t : St F) (s : FVec F S256x512 .f32) (v : FVec F S512x512 .bf16) : St F where
  m := stepM t.m s
  l := addf (mulf (stepE t.m s) t.l)
    (shapeCast S256x1 (multiReduction .add [1] S256 (stepP t.m s) 0x00000000#32 reduces_S256x512_S256 (.inl rfl) rfl) shapeCasts_S256_S256x1)
  a := addf (mulf (broadcastTo S256x512 (stepE t.m s) broadcasts_S256x1_S256x512) t.a)
    (matmul dot_S256x512_S512x512_S256x512_1_1_0_0_n_n none (truncf .bf16 (stepP t.m s) bitsLt_bf16_f32) v (constant S256x512 .f32 0x00000000#32))

/-- One step on old keys. -/
def stepK (x0 : Vec F S1x32x512 .f32) (x1 x2 : Vec F S1x512x4096 .f32) (x5 : Vec F S1x8x4096 .f32) (x7 : Vec F S1x256x1 .f32)
    (t : St F) (off : ℕ) (h : off + 512 ≤ 4096) : St F :=
  step t (shapeCast S256x512 (score3 (qs x0) x1 x5 (cq x7) off h) shapeCasts_S1x256x512_S256x512) (blk x2 off h)

section
variable (x0 : Vec F S1x32x512 .f32) (x1 x2 : Vec F S1x512x4096 .f32) (x5 : Vec F S1x8x4096 .f32) (x7 : Vec F S1x256x1 .f32)
def st0 : St F where
  m := broadcast S256x1 (Named.named κ "neg_inf" 0xF149F2CA#32)
  l := broadcast S256x1 (Scalar.ofBits .f32 0x00000000#32)
  a := broadcast S256x512 (Scalar.ofBits .f32 0x00000000#32)
def st1 : St F := stepK x0 x1 x2 x5 x7 st0 0 (by decide)
def st2 : St F := stepK x0 x1 x2 x5 x7 (st1 x0 x1 x2 x5 x7) 512 (by decide)
def st3 : St F := stepK x0 x1 x2 x5 x7 (st2 x0 x1 x2 x5 x7) 1024 (by decide)
def st4 : St F := stepK x0 x1 x2 x5 x7 (st3 x0 x1 x2 x5 x7) 1536 (by decide)
def st5 : St F := stepK x0 x1 x2 x5 x7 (st4 x0 x1 x2 x5 x7) 2048 (by decide)
def st6 : St F := stepK x0 x1 x2 x5 x7 (st5 x0 x1 x2 x5 x7) 2560 (by decide)
def st7 : St F := stepK x0 x1 x2 x5 x7 (st6 x0 x1 x2 x5 x7) 3072 (by decide)
def st8 : St F := stepK x0 x1 x2 x5 x7 (st7 x0 x1 x2 x5 x7) 3584 (by decide)
end

theorem inbN (hd : ℕ) (hh : hd + 1 ≤ 8) : ∀ a, (![0, hd, 0] : Fin 3 → ℕ) a + S1x1x128.size a ≤ S1x8x128.size a
  | ⟨0, _⟩ => le_refl 1
  | ⟨1, _⟩ => hh
  | ⟨2, _⟩ => le_refl 128

/-- A block of 128 new keys (or values): those of four sequences, of which one is the row's own. -/
def blkN (x : Vec F S1x512x128 .f32) : FVec F S512x128 .bf16 :=
  truncf .bf16 (shapeCast S512x128 (View.ld x (Rect.unit ![0, 0, 0] S1x512x128.size inb_S1x512x128_S1x512x128_0_0_0)) shapeCasts_S1x512x128_S512x128 : FVec F S512x128 .f32) bitsLt_bf16_f32

def ckN (x6 : Vec F S1x8x128 .f32) (hd : ℕ) (hh : hd + 1 ≤ 8) : FVec F S32x128 .f32 :=
  broadcastTo S32x128 (shapeCast S1x128 (shapeCast S1x128 (View.ld x6 (Rect.unit ![0, hd, 0] S1x1x128.size (inbN hd hh)) : FVec F S1x1x128 .f32)
    shapeCasts_S1x1x128_S1x128) shapeCasts_S1x128_S1x128) broadcasts_S1x128_S32x128

/-- The scores of the new keys before the mask. -/
def scoreN (q : FVec F S256x512 .bf16) (x3 : Vec F S1x512x128 .f32) (x6 : Vec F S1x8x128 .f32) (r : FVec F S256x1 .f32) : FVec F S256x128 .f32 :=
  addf (matmul dot_S256x512_S512x128_S256x128_1_0_0_1_n_n none q (blkN x3) (constant S256x128 .f32 0x00000000#32))
    (mulf (subf (broadcastTo S256x128 r broadcasts_S256x1_S256x128)
        (concatenate S256x128 0 [⟨S32x128, ckN x6 0 (by decide)⟩, ⟨S32x128, ckN x6 1 (by decide)⟩, ⟨S32x128, ckN x6 2 (by decide)⟩,
          ⟨S32x128, ckN x6 3 (by decide)⟩, ⟨S32x128, ckN x6 4 (by decide)⟩, ⟨S32x128, ckN x6 5 (by decide)⟩,
          ⟨S32x128, ckN x6 6 (by decide)⟩, ⟨S32x128, ckN x6 7 (by decide)⟩]
          concatenates_S32x128_S32x128_S32x128_S32x128_S32x128_S32x128_S32x128_S32x128_S256x128_d0))
      (broadcast S256x128 (Named.named κ "log2e" 0x3FB8AA3B#32)))

/-- The masked scores of the new keys: grid point `p`'s own sequence's, up to the query's position. -/
def finScore (p : BitVec 32) (q : FVec F S256x512 .bf16) (x3 : Vec F S1x512x128 .f32) (x6 : Vec F S1x8x128 .f32) (r : FVec F S256x1 .f32) : FVec F S256x128 .f32 :=
  k0_pay23 p (scoreN q x3 x6 r) k0_pay19 (iota .tc S256x128 32 [1] iota_S256x128_d1_w32) k0_pay20 k0_pay21 k0_pay22

def stepMN (m : Vec F S256x1 .f32) (s : FVec F S256x128 .f32) : FVec F S256x1 .f32 :=
  maximumf m (shapeCast S256x1 (multiReduction .maximumf [1] S256 s 0xFF800000#32 reduces_S256x128_S256 (.inl rfl) rfl) shapeCasts_S256_S256x1)
def stepEN (m : Vec F S256x1 .f32) (s : FVec F S256x128 .f32) : FVec F S256x1 .f32 := exp2 (subf m (stepMN m s))
def stepPN (m : Vec F S256x1 .f32) (s : FVec F S256x128 .f32) : FVec F S256x128 .f32 :=
  exp2 (subf s (broadcastTo S256x128 (stepMN m s) broadcasts_S256x1_S256x128))

/-- The step on the new keys. -/
def stepN (t : St F) (s : FVec F S256x128 .f32) (v : FVec F S512x128 .bf16) : St F where
  m := stepMN t.m s
  l := addf (mulf (stepEN t.m s) t.l)
    (shapeCast S256x1 (multiReduction .add [1] S256 (stepPN t.m s) 0x00000000#32 reduces_S256x128_S256 (.inl rfl) rfl) shapeCasts_S256_S256x1)
  a := addf (mulf (broadcastTo S256x512 (stepEN t.m s) broadcasts_S256x1_S256x512) t.a)
    (matmul dot_S256x128_S512x128_S256x512_1_1_0_0_n_n none (truncf .bf16 (stepPN t.m s) bitsLt_bf16_f32) v (constant S256x512 .f32 0x00000000#32))

def st9 (p : BitVec 32) (x0 : Vec F S1x32x512 .f32) (x1 x2 : Vec F S1x512x4096 .f32) (x3 x4 : Vec F S1x512x128 .f32)
    (x5 : Vec F S1x8x4096 .f32) (x6 : Vec F S1x8x128 .f32) (x7 : Vec F S1x256x1 .f32) : St F :=
  stepN (st8 x0 x1 x2 x5 x7) (finScore p (qs x0) x3 x6 (cq x7)) (blkN x4)

/-- The heads set side by side again: feature `64 h + d` of query `t` from row `32 h + t`. -/
def unstack (y : FVec F S256x512 .f32) : FVec F S1x32x512 .bf16 :=
  k0_pay2 y kernelRun0_A.sl.r_46 (k0_pay34 y kernelRun0_A.sl.v801 64#32 k0_pay32 0#32) kernelRun0_A.sl.r_48 (k0_pay36 y)

/-- The block of the output one grid point writes. -/
def out (p : BitVec 32) (x0 : Vec F S1x32x512 .f32) (x1 x2 : Vec F S1x512x4096 .f32) (x3 x4 : Vec F S1x512x128 .f32)
    (x5 : Vec F S1x8x4096 .f32) (x6 : Vec F S1x8x128 .f32) (x7 : Vec F S1x256x1 .f32) : FVec F S1x32x512 .bf16 :=
  unstack (k0_pay31 (st9 p x0 x1 x2 x3 x4 x5 x6 x7).a (st9 p x0 x1 x2 x3 x4 x5 x6 x7).l)

/-! ## The body is their composition -/

section
variable {c : Dev nD} {i : grid0.Coords} {arg2 : Memref sig .tc .vmem S1x32x512 .f32} {harg2 : arg2.IsWhole} {arg3 : Memref sig .tc .vmem S1x512x4096 .f32} {harg3 : arg3.IsWhole} {arg4 : Memref sig .tc .vmem S1x512x4096 .f32} {harg4 : arg4.IsWhole} {arg5 : Memref sig .tc .vmem S1x512x128 .f32} {harg5 : arg5.IsWhole} {arg6 : Memref sig .tc .vmem S1x512x128 .f32} {harg6 : arg6.IsWhole} {arg7 : Memref sig .tc .vmem S1x8x4096 .f32} {harg7 : arg7.IsWhole} {arg8 : Memref sig .tc .vmem S1x8x128 .f32} {harg8 : arg8.IsWhole} {arg9 : Memref sig .tc .vmem S1x256x1 .f32} {harg9 : arg9.IsWhole} {arg10 : Memref sig .tc .vmem S1x32x512 .bf16} {harg10 : arg10.IsWhole} {arg11 : Memref sig .tc .vmem S256x512 .bf16} {harg11 : arg11.IsWhole} {arg12 : Memref sig .tc .vmem S256x1 .f32} {harg12 : arg12.IsWhole} {arg13 : Memref sig .tc .vmem S256x1 .f32} {harg13 : arg13.IsWhole} {arg14 : Memref sig .tc .vmem S256x512 .f32} {harg14 : arg14.IsWhole} {arg15 : Memref sig .tc .vmem S2x256x512 .f32} {harg15 : arg15.IsWhole}
  {x0 : Vec F S1x32x512 .f32} {x1 x2 : Vec F S1x512x4096 .f32} {x3 x4 : Vec F S1x512x128 .f32}
  {x5 : Vec F S1x8x4096 .f32} {x6 : Vec F S1x8x128 .f32} {x7 : Vec F S1x256x1 .f32}

theorem q_v5 : (kernelRun0_A.sl.v5 c arg2 harg2 arg11 x0) = qs x0 := by
  unfold kernelRun0_A.sl.v5 kernelRun0_A.sl.HS0_1
  rw [View.readCov_cons_toLoadRect]
  unfold qs kernelRun0_A.sl.r kernelRun0_A.sl.r_1 kernelRun0_A.sl.r_2
  simp only [View.readAt_eq_ld, Memref.IsWhole.read_unread]

theorem q_v131 : (kernelRun0_A.sl.v131 c arg2 harg2 arg11 x0) = qs x0 := q_v5 (c := c) (arg2 := arg2) (harg2 := harg2) (arg11 := arg11) (x0 := x0)

theorem sc_0 : (kernelRun0_A.sl.v97 c arg2 harg2 arg3 harg3 arg7 harg7 arg9 harg9 arg11 arg15 x0 x1 x5 x7) = score3 (qs x0) x1 x5 (cq x7) 0 (by decide) := by
  unfold kernelRun0_A.sl.v97 kernelRun0_A.sl.HS4_2
  rw [View.readCov_cons_of_disjoint]
  swap
  · exact Rect.unit_disjoint (inb := inb_S2x256x512_S1x256x512_1_0_0) 0 (Or.inr (by decide))
  rw [View.readCov_cons_toLoadRect]

  simp only [k0_pay39, k0_pay40, k0_pay41, k0_pay42, k0_pay43, k0_pay44, k0_pay45, k0_pay46, kernelRun0_A.sl.r_3, kernelRun0_A.sl.r_4, kernelRun0_A.sl.r_5, kernelRun0_A.sl.r_6, kernelRun0_A.sl.r_7, kernelRun0_A.sl.r_8, kernelRun0_A.sl.r_9, shapeCast_self, View.readAt_eq_ld, Memref.IsWhole.read_unread, q_v5, q_v131, score3, score, blk, ck, cq]
  rw [harg7.read_unread x5]
  try rfl

theorem sc_1 : (kernelRun0_A.sl.v177 c arg2 harg2 arg3 harg3 arg7 harg7 arg9 harg9 arg11 arg15 x0 x1 x5 x7) = score3 (qs x0) x1 x5 (cq x7) 512 (by decide) := by
  unfold kernelRun0_A.sl.v177 kernelRun0_A.sl.HS4_3 kernelRun0_A.sl.HS4_2
  rw [View.readCov_cons_of_disjoint]
  swap
  · exact Rect.unit_disjoint (inb := inb_S2x256x512_S1x256x512_0_0_0) 0 (Or.inl (by decide))
  rw [View.readCov_cons_toLoadRect]

  simp only [k0_pay39, k0_pay47, k0_pay48, k0_pay49, k0_pay50, kernelRun0_A.sl.r_3, kernelRun0_A.sl.r_10, kernelRun0_A.sl.r_11, kernelRun0_A.sl.r_12, shapeCast_self, View.readAt_eq_ld, Memref.IsWhole.read_unread, q_v5, q_v131, score3, score, blk, ck, cq]
  rw [harg7.read_unread x5]
  try rfl

theorem sc_2 : (kernelRun0_A.sl.v257 c arg2 harg2 arg3 harg3 arg7 harg7 arg9 harg9 arg11 arg15 x0 x1 x5 x7) = score3 (qs x0) x1 x5 (cq x7) 1024 (by decide) := by
  unfold kernelRun0_A.sl.v257 kernelRun0_A.sl.HS4_4 kernelRun0_A.sl.HS4_3
  rw [View.readCov_cons_of_disjoint]
  swap
  · exact Rect.unit_disjoint (inb := inb_S2x256x512_S1x256x512_1_0_0) 0 (Or.inr (by decide))
  rw [View.readCov_cons_toLoadRect]

  simp only [k0_pay39, k0_pay67, kernelRun0_A.sl.r_3, kernelRun0_A.sl.v135, kernelRun0_A.sl.cst_76, kernelRun0_A.sl.v134, kernelRun0_A.sl.v133, kernelRun0_A.sl.r_14, kernelRun0_A.sl.v139, kernelRun0_A.sl.v138, kernelRun0_A.sl.v137, kernelRun0_A.sl.v143, kernelRun0_A.sl.v142, kernelRun0_A.sl.v141, kernelRun0_A.sl.v147, kernelRun0_A.sl.v146, kernelRun0_A.sl.v145, kernelRun0_A.sl.v151, kernelRun0_A.sl.v150, kernelRun0_A.sl.v149, kernelRun0_A.sl.v155, kernelRun0_A.sl.v154, kernelRun0_A.sl.v153, kernelRun0_A.sl.v159, kernelRun0_A.sl.v158, kernelRun0_A.sl.v157, kernelRun0_A.sl.v163, kernelRun0_A.sl.v162, kernelRun0_A.sl.v161, kernelRun0_A.sl.v167, kernelRun0_A.sl.v166, kernelRun0_A.sl.v165, shapeCast_self, View.readAt_eq_ld, Memref.IsWhole.read_unread, q_v5, q_v131, score3, score, blk, ck, cq]
  rw [harg7.read_unread x5]
  try rfl

theorem sc_3 : (kernelRun0_A.sl.v337 c arg2 harg2 arg3 harg3 arg7 harg7 arg9 harg9 arg11 arg15 x0 x1 x5 x7) = score3 (qs x0) x1 x5 (cq x7) 1536 (by decide) := by
  unfold kernelRun0_A.sl.v337 kernelRun0_A.sl.HS4_5 kernelRun0_A.sl.HS4_4
  rw [View.readCov_cons_of_disjoint]
  swap
  · exact Rect.unit_disjoint (inb := inb_S2x256x512_S1x256x512_0_0_0) 0 (Or.inl (by decide))
  rw [View.readCov_cons_toLoadRect]

  simp only [k0_pay39, k0_pay83, kernelRun0_A.sl.r_3, kernelRun0_A.sl.v215, kernelRun0_A.sl.cst_76, kernelRun0_A.sl.v214, kernelRun0_A.sl.v213, kernelRun0_A.sl.v219, kernelRun0_A.sl.v218, kernelRun0_A.sl.v217, kernelRun0_A.sl.v223, kernelRun0_A.sl.v222, kernelRun0_A.sl.v221, kernelRun0_A.sl.v227, kernelRun0_A.sl.v226, kernelRun0_A.sl.v225, kernelRun0_A.sl.v231, kernelRun0_A.sl.v230, kernelRun0_A.sl.v229, kernelRun0_A.sl.v235, kernelRun0_A.sl.v234, kernelRun0_A.sl.v233, shapeCast_self, View.readAt_eq_ld, Memref.IsWhole.read_unread, q_v5, q_v131, score3, score, blk, ck, cq]
  rw [harg7.read_unread x5]
  try rfl

theorem sc_4 : (kernelRun0_A.sl.v417 c arg2 harg2 arg3 harg3 arg7 harg7 arg9 harg9 arg11 arg15 x0 x1 x5 x7) = score3 (qs x0) x1 x5 (cq x7) 2048 (by decide) := by
  unfold kernelRun0_A.sl.v417 kernelRun0_A.sl.HS4_6 kernelRun0_A.sl.HS4_5
  rw [View.readCov_cons_of_disjoint]
  swap
  · exact Rect.unit_disjoint (inb := inb_S2x256x512_S1x256x512_1_0_0) 0 (Or.inr (by decide))
  rw [View.readCov_cons_toLoadRect]

  simp only [k0_pay39, k0_pay96, kernelRun0_A.sl.r_3, kernelRun0_A.sl.v295, kernelRun0_A.sl.cst_76, kernelRun0_A.sl.v294, kernelRun0_A.sl.v293, kernelRun0_A.sl.v299, kernelRun0_A.sl.v298, kernelRun0_A.sl.v297, kernelRun0_A.sl.v303, kernelRun0_A.sl.v302, kernelRun0_A.sl.v301, kernelRun0_A.sl.r_22, shapeCast_self, View.readAt_eq_ld, Memref.IsWhole.read_unread, q_v5, q_v131, score3, score, blk, ck, cq]
  rw [harg7.read_unread x5]
  try rfl

theorem sc_5 : (kernelRun0_A.sl.v497 c arg2 harg2 arg3 harg3 arg7 harg7 arg9 harg9 arg11 arg15 x0 x1 x5 x7) = score3 (qs x0) x1 x5 (cq x7) 2560 (by decide) := by
  unfold kernelRun0_A.sl.v497 kernelRun0_A.sl.HS4_7 kernelRun0_A.sl.HS4_6
  rw [View.readCov_cons_of_disjoint]
  swap
  · exact Rect.unit_disjoint (inb := inb_S2x256x512_S1x256x512_0_0_0) 0 (Or.inl (by decide))
  rw [View.readCov_cons_toLoadRect]

  simp only [k0_pay107, k0_pay39, kernelRun0_A.sl.v375, kernelRun0_A.sl.cst_76, kernelRun0_A.sl.v374, kernelRun0_A.sl.v373, kernelRun0_A.sl.v410, kernelRun0_A.sl.v408, kernelRun0_A.sl.v407, kernelRun0_A.sl.v406, kernelRun0_A.sl.v405, kernelRun0_A.sl.v403, kernelRun0_A.sl.v402, kernelRun0_A.sl.v401, kernelRun0_A.sl.v399, kernelRun0_A.sl.v398, kernelRun0_A.sl.v397, kernelRun0_A.sl.v395, kernelRun0_A.sl.v394, kernelRun0_A.sl.v393, kernelRun0_A.sl.v391, kernelRun0_A.sl.v390, kernelRun0_A.sl.v389, kernelRun0_A.sl.v387, kernelRun0_A.sl.v386, kernelRun0_A.sl.v385, kernelRun0_A.sl.v383, kernelRun0_A.sl.v382, kernelRun0_A.sl.v381, kernelRun0_A.sl.v379, kernelRun0_A.sl.v378, kernelRun0_A.sl.v377, kernelRun0_A.sl.v409, kernelRun0_A.sl.r_3, shapeCast_self, View.readAt_eq_ld, Memref.IsWhole.read_unread, q_v5, q_v131, score3, score, blk, ck, cq]
  rw [harg7.read_unread x5]
  try rfl

theorem sc_6 : (kernelRun0_A.sl.v577 c arg2 harg2 arg3 harg3 arg7 harg7 arg9 harg9 arg11 arg15 x0 x1 x5 x7) = score3 (qs x0) x1 x5 (cq x7) 3072 (by decide) := by
  unfold kernelRun0_A.sl.v577 kernelRun0_A.sl.HS4_8 kernelRun0_A.sl.HS4_7
  rw [View.readCov_cons_of_disjoint]
  swap
  · exact Rect.unit_disjoint (inb := inb_S2x256x512_S1x256x512_1_0_0) 0 (Or.inr (by decide))
  rw [View.readCov_cons_toLoadRect]

  simp only [k0_pay124, k0_pay39, kernelRun0_A.sl.r_3, kernelRun0_A.sl.v455, kernelRun0_A.sl.cst_76, kernelRun0_A.sl.v454, kernelRun0_A.sl.v453, kernelRun0_A.sl.v459, kernelRun0_A.sl.v458, kernelRun0_A.sl.v457, kernelRun0_A.sl.v463, kernelRun0_A.sl.v462, kernelRun0_A.sl.v461, kernelRun0_A.sl.v467, kernelRun0_A.sl.v466, kernelRun0_A.sl.v465, kernelRun0_A.sl.v471, kernelRun0_A.sl.v470, kernelRun0_A.sl.v469, kernelRun0_A.sl.v475, kernelRun0_A.sl.v474, kernelRun0_A.sl.v473, kernelRun0_A.sl.v477, shapeCast_self, View.readAt_eq_ld, Memref.IsWhole.read_unread, q_v5, q_v131, score3, score, blk, ck, cq]
  rw [harg7.read_unread x5]
  try rfl

theorem sc_7 : (kernelRun0_A.sl.v611 c arg2 harg2 arg3 harg3 arg7 harg7 arg9 harg9 arg11 arg15 x0 x1 x5 x7) = score3 (qs x0) x1 x5 (cq x7) 3584 (by decide) := by
  unfold kernelRun0_A.sl.v611 kernelRun0_A.sl.HS4_8
  rw [View.readCov_cons_toLoadRect]

  simp only [k0_pay138, k0_pay39, kernelRun0_A.sl.r_3, kernelRun0_A.sl.v535, kernelRun0_A.sl.cst_76, kernelRun0_A.sl.v534, kernelRun0_A.sl.v533, kernelRun0_A.sl.v539, kernelRun0_A.sl.v538, kernelRun0_A.sl.v537, kernelRun0_A.sl.v543, kernelRun0_A.sl.v542, kernelRun0_A.sl.v541, kernelRun0_A.sl.v547, kernelRun0_A.sl.v546, kernelRun0_A.sl.v545, shapeCast_self, View.readAt_eq_ld, Memref.IsWhole.read_unread, q_v5, q_v131, score3, score, blk, ck, cq]
  rw [harg7.read_unread x5]
  try rfl

theorem m_0 : (kernelRun0_A.sl.v102 c arg12) = (st0 (F := F)).m := by
  unfold kernelRun0_A.sl.v102 kernelRun0_A.sl.HS1_1
  rw [View.readCov_cons_toLoadRect]
  simp only [k0_pay9, shapeCast_self, View.readAt_eq_ld, Memref.IsWhole.read_unread]
  rfl

theorem l_0 : (kernelRun0_A.sl.v103 c arg13) = (st0 (F := F)).l := by
  unfold kernelRun0_A.sl.v103 kernelRun0_A.sl.HS2_1
  rw [View.readCov_cons_toLoadRect]
  simp only [k0_pay37, shapeCast_self, View.readAt_eq_ld, Memref.IsWhole.read_unread]
  rfl

theorem a_0 : (kernelRun0_A.sl.v104 c arg14) = (st0 (F := F)).a := by
  unfold kernelRun0_A.sl.v104 kernelRun0_A.sl.HS3_1
  rw [View.readCov_cons_toLoadRect]
  simp only [k0_pay38, shapeCast_self, View.readAt_eq_ld, Memref.IsWhole.read_unread]
  rfl

theorem m_1 : (kernelRun0_A.sl.v182 c arg2 harg2 arg3 harg3 arg7 harg7 arg9 harg9 arg11 arg12 arg15 x0 x1 x5 x7) = (st1 x0 x1 x2 x5 x7).m := by
  unfold kernelRun0_A.sl.v182 kernelRun0_A.sl.HS1_2
  rw [View.readCov_cons_toLoadRect]
  simp only [k0_pay51, kernelRun0_A.sl.v124, kernelRun0_A.sl.v107, kernelRun0_A.sl.v106, kernelRun0_A.sl.v105, kernelRun0_A.sl.r_13, shapeCast_self, View.readAt_eq_ld, Memref.IsWhole.read_unread, sc_0, m_0, l_0, a_0]
  rfl

theorem l_1 : (kernelRun0_A.sl.v183 c arg2 harg2 arg3 harg3 arg7 harg7 arg9 harg9 arg11 arg12 arg13 arg15 x0 x1 x5 x7) = (st1 x0 x1 x2 x5 x7).l := by
  unfold kernelRun0_A.sl.v183 kernelRun0_A.sl.HS2_2
  rw [View.readCov_cons_toLoadRect]
  simp only [k0_pay51, kernelRun0_A.sl.v127, kernelRun0_A.sl.v116, kernelRun0_A.sl.v115, kernelRun0_A.sl.v114, kernelRun0_A.sl.v112, kernelRun0_A.sl.v111, kernelRun0_A.sl.v110, kernelRun0_A.sl.v107, kernelRun0_A.sl.v106, kernelRun0_A.sl.v105, kernelRun0_A.sl.r_13, kernelRun0_A.sl.v113, kernelRun0_A.sl.v109, kernelRun0_A.sl.v108, shapeCast_self, View.readAt_eq_ld, Memref.IsWhole.read_unread, sc_0, m_0, l_0, a_0]
  rfl

theorem a_1 : (kernelRun0_A.sl.v184 c arg2 harg2 arg3 harg3 arg4 harg4 arg7 harg7 arg9 harg9 arg11 arg12 arg14 arg15 x0 x1 x2 x5 x7) = (st1 x0 x1 x2 x5 x7).a := by
  unfold kernelRun0_A.sl.v184 kernelRun0_A.sl.HS3_2
  rw [View.readCov_cons_toLoadRect]
  simp only [k0_pay51, kernelRun0_A.sl.v130, kernelRun0_A.sl.v121, kernelRun0_A.sl.v120, kernelRun0_A.sl.cst_76, kernelRun0_A.sl.v101, kernelRun0_A.sl.v100, kernelRun0_A.sl.v119, kernelRun0_A.sl.v112, kernelRun0_A.sl.v111, kernelRun0_A.sl.v110, kernelRun0_A.sl.v107, kernelRun0_A.sl.v106, kernelRun0_A.sl.v105, kernelRun0_A.sl.r_13, kernelRun0_A.sl.v118, kernelRun0_A.sl.v117, kernelRun0_A.sl.v109, kernelRun0_A.sl.v108, shapeCast_self, View.readAt_eq_ld, Memref.IsWhole.read_unread, sc_0, m_0, l_0, a_0]
  rfl

theorem m_2 : (kernelRun0_A.sl.v262 c arg2 harg2 arg3 harg3 arg7 harg7 arg9 harg9 arg11 arg12 arg15 x0 x1 x5 x7) = (st2 x0 x1 x2 x5 x7).m := by
  unfold kernelRun0_A.sl.v262 kernelRun0_A.sl.HS1_3
  rw [View.readCov_cons_toLoadRect]
  simp only [k0_pay68, k0_pay69, k0_pay74, shapeCast_self, View.readAt_eq_ld, Memref.IsWhole.read_unread, sc_1, m_1 (x2 := x2), l_1 (x2 := x2), a_1]
  rfl

theorem l_2 : (kernelRun0_A.sl.v263 c arg2 harg2 arg3 harg3 arg7 harg7 arg9 harg9 arg11 arg12 arg13 arg15 x0 x1 x5 x7) = (st2 x0 x1 x2 x5 x7).l := by
  unfold kernelRun0_A.sl.v263 kernelRun0_A.sl.HS2_3
  rw [View.readCov_cons_toLoadRect]
  simp only [k0_pay68, k0_pay69, k0_pay70, k0_pay71, k0_pay72, kernelRun0_A.sl.v207, kernelRun0_A.sl.r_15, shapeCast_self, View.readAt_eq_ld, Memref.IsWhole.read_unread, sc_1, m_1 (x2 := x2), l_1 (x2 := x2), a_1]
  rfl

theorem a_2 : (kernelRun0_A.sl.v264 c arg2 harg2 arg3 harg3 arg4 harg4 arg7 harg7 arg9 harg9 arg11 arg12 arg14 arg15 x0 x1 x2 x5 x7) = (st2 x0 x1 x2 x5 x7).a := by
  unfold kernelRun0_A.sl.v264 kernelRun0_A.sl.HS3_3
  rw [View.readCov_cons_toLoadRect]
  simp only [k0_pay68, k0_pay69, k0_pay70, k0_pay71, k0_pay73, kernelRun0_A.sl.v210, kernelRun0_A.sl.r_16, shapeCast_self, View.readAt_eq_ld, Memref.IsWhole.read_unread, sc_1, m_1 (x2 := x2), l_1 (x2 := x2), a_1]
  rfl

theorem m_3 : (kernelRun0_A.sl.v342 c arg2 harg2 arg3 harg3 arg7 harg7 arg9 harg9 arg11 arg12 arg15 x0 x1 x5 x7) = (st3 x0 x1 x2 x5 x7).m := by
  unfold kernelRun0_A.sl.v342 kernelRun0_A.sl.HS1_4
  rw [View.readCov_cons_toLoadRect]
  simp only [k0_pay84, k0_pay86, kernelRun0_A.sl.v284, kernelRun0_A.sl.r_19, shapeCast_self, View.readAt_eq_ld, Memref.IsWhole.read_unread, sc_2, m_2 (x2 := x2), l_2 (x2 := x2), a_2]
  rfl

theorem l_3 : (kernelRun0_A.sl.v343 c arg2 harg2 arg3 harg3 arg7 harg7 arg9 harg9 arg11 arg12 arg13 arg15 x0 x1 x5 x7) = (st3 x0 x1 x2 x5 x7).l := by
  unfold kernelRun0_A.sl.v343 kernelRun0_A.sl.HS2_4
  rw [View.readCov_cons_toLoadRect]
  simp only [k0_pay84, k0_pay86, k0_pay87, k0_pay88, kernelRun0_A.sl.v287, kernelRun0_A.sl.v276, kernelRun0_A.sl.v275, kernelRun0_A.sl.v274, kernelRun0_A.sl.v272, kernelRun0_A.sl.v271, kernelRun0_A.sl.r_21, kernelRun0_A.sl.r_17, kernelRun0_A.sl.v273, kernelRun0_A.sl.r_20, shapeCast_self, View.readAt_eq_ld, Memref.IsWhole.read_unread, sc_2, m_2 (x2 := x2), l_2 (x2 := x2), a_2]
  rfl

theorem a_3 : (kernelRun0_A.sl.v344 c arg2 harg2 arg3 harg3 arg4 harg4 arg7 harg7 arg9 harg9 arg11 arg12 arg14 arg15 x0 x1 x2 x5 x7) = (st3 x0 x1 x2 x5 x7).a := by
  unfold kernelRun0_A.sl.v344 kernelRun0_A.sl.HS3_4
  rw [View.readCov_cons_toLoadRect]
  simp only [k0_pay84, k0_pay85, k0_pay86, k0_pay87, k0_pay88, kernelRun0_A.sl.v290, kernelRun0_A.sl.v281, kernelRun0_A.sl.v280, kernelRun0_A.sl.cst_76, kernelRun0_A.sl.r_18, kernelRun0_A.sl.v279, kernelRun0_A.sl.v272, kernelRun0_A.sl.v271, kernelRun0_A.sl.r_21, kernelRun0_A.sl.r_17, kernelRun0_A.sl.v278, kernelRun0_A.sl.v277, kernelRun0_A.sl.r_20, shapeCast_self, View.readAt_eq_ld, Memref.IsWhole.read_unread, sc_2, m_2 (x2 := x2), l_2 (x2 := x2), a_2]
  rfl

theorem m_4 : (kernelRun0_A.sl.v422 c arg2 harg2 arg3 harg3 arg7 harg7 arg9 harg9 arg11 arg12 arg15 x0 x1 x5 x7) = (st4 x0 x1 x2 x5 x7).m := by
  unfold kernelRun0_A.sl.v422 kernelRun0_A.sl.HS1_5
  rw [View.readCov_cons_toLoadRect]
  simp only [k0_pay97, kernelRun0_A.sl.v364, kernelRun0_A.sl.v347, kernelRun0_A.sl.v346, kernelRun0_A.sl.v345, kernelRun0_A.sl.r_23, shapeCast_self, View.readAt_eq_ld, Memref.IsWhole.read_unread, sc_3, m_3 (x2 := x2), l_3 (x2 := x2), a_3]
  rfl

theorem l_4 : (kernelRun0_A.sl.v423 c arg2 harg2 arg3 harg3 arg7 harg7 arg9 harg9 arg11 arg12 arg13 arg15 x0 x1 x5 x7) = (st4 x0 x1 x2 x5 x7).l := by
  unfold kernelRun0_A.sl.v423 kernelRun0_A.sl.HS2_5
  rw [View.readCov_cons_toLoadRect]
  simp only [k0_pay97, kernelRun0_A.sl.v367, kernelRun0_A.sl.v356, kernelRun0_A.sl.v355, kernelRun0_A.sl.v354, kernelRun0_A.sl.v352, kernelRun0_A.sl.v351, kernelRun0_A.sl.v350, kernelRun0_A.sl.v347, kernelRun0_A.sl.v346, kernelRun0_A.sl.v345, kernelRun0_A.sl.r_23, kernelRun0_A.sl.v353, kernelRun0_A.sl.v349, kernelRun0_A.sl.v348, shapeCast_self, View.readAt_eq_ld, Memref.IsWhole.read_unread, sc_3, m_3 (x2 := x2), l_3 (x2 := x2), a_3]
  rfl

theorem a_4 : (kernelRun0_A.sl.v424 c arg2 harg2 arg3 harg3 arg4 harg4 arg7 harg7 arg9 harg9 arg11 arg12 arg14 arg15 x0 x1 x2 x5 x7) = (st4 x0 x1 x2 x5 x7).a := by
  unfold kernelRun0_A.sl.v424 kernelRun0_A.sl.HS3_5
  rw [View.readCov_cons_toLoadRect]
  simp only [k0_pay97, kernelRun0_A.sl.v370, kernelRun0_A.sl.v361, kernelRun0_A.sl.v360, kernelRun0_A.sl.cst_76, kernelRun0_A.sl.v341, kernelRun0_A.sl.v340, kernelRun0_A.sl.v359, kernelRun0_A.sl.v352, kernelRun0_A.sl.v351, kernelRun0_A.sl.v350, kernelRun0_A.sl.v347, kernelRun0_A.sl.v346, kernelRun0_A.sl.v345, kernelRun0_A.sl.r_23, kernelRun0_A.sl.v358, kernelRun0_A.sl.v357, kernelRun0_A.sl.v349, kernelRun0_A.sl.v348, shapeCast_self, View.readAt_eq_ld, Memref.IsWhole.read_unread, sc_3, m_3 (x2 := x2), l_3 (x2 := x2), a_3]
  rfl

theorem m_5 : (kernelRun0_A.sl.v502 c arg2 harg2 arg3 harg3 arg7 harg7 arg9 harg9 arg11 arg12 arg15 x0 x1 x5 x7) = (st5 x0 x1 x2 x5 x7).m := by
  unfold kernelRun0_A.sl.v502 kernelRun0_A.sl.HS1_6
  rw [View.readCov_cons_toLoadRect]
  simp only [k0_pay108, k0_pay109, k0_pay114, shapeCast_self, View.readAt_eq_ld, Memref.IsWhole.read_unread, sc_4, m_4 (x2 := x2), l_4 (x2 := x2), a_4]
  rfl

theorem l_5 : (kernelRun0_A.sl.v503 c arg2 harg2 arg3 harg3 arg7 harg7 arg9 harg9 arg11 arg12 arg13 arg15 x0 x1 x5 x7) = (st5 x0 x1 x2 x5 x7).l := by
  unfold kernelRun0_A.sl.v503 kernelRun0_A.sl.HS2_6
  rw [View.readCov_cons_toLoadRect]
  simp only [k0_pay108, k0_pay109, k0_pay110, k0_pay111, k0_pay112, kernelRun0_A.sl.v447, kernelRun0_A.sl.r_24, shapeCast_self, View.readAt_eq_ld, Memref.IsWhole.read_unread, sc_4, m_4 (x2 := x2), l_4 (x2 := x2), a_4]
  rfl

theorem a_5 : (kernelRun0_A.sl.v504 c arg2 harg2 arg3 harg3 arg4 harg4 arg7 harg7 arg9 harg9 arg11 arg12 arg14 arg15 x0 x1 x2 x5 x7) = (st5 x0 x1 x2 x5 x7).a := by
  unfold kernelRun0_A.sl.v504 kernelRun0_A.sl.HS3_6
  rw [View.readCov_cons_toLoadRect]
  simp only [k0_pay108, k0_pay109, k0_pay110, k0_pay111, k0_pay113, kernelRun0_A.sl.v450, kernelRun0_A.sl.r_25, shapeCast_self, View.readAt_eq_ld, Memref.IsWhole.read_unread, sc_4, m_4 (x2 := x2), l_4 (x2 := x2), a_4]
  rfl

theorem m_6 : (kernelRun0_A.sl.v582 c arg2 harg2 arg3 harg3 arg7 harg7 arg9 harg9 arg11 arg12 arg15 x0 x1 x5 x7) = (st6 x0 x1 x2 x5 x7).m := by
  unfold kernelRun0_A.sl.v582 kernelRun0_A.sl.HS1_7
  rw [View.readCov_cons_toLoadRect]
  simp only [k0_pay125, k0_pay127, kernelRun0_A.sl.v524, kernelRun0_A.sl.r_27, shapeCast_self, View.readAt_eq_ld, Memref.IsWhole.read_unread, sc_5, m_5 (x2 := x2), l_5 (x2 := x2), a_5]
  rfl

theorem l_6 : (kernelRun0_A.sl.v583 c arg2 harg2 arg3 harg3 arg7 harg7 arg9 harg9 arg11 arg12 arg13 arg15 x0 x1 x5 x7) = (st6 x0 x1 x2 x5 x7).l := by
  unfold kernelRun0_A.sl.v583 kernelRun0_A.sl.HS2_7
  rw [View.readCov_cons_toLoadRect]
  simp only [k0_pay125, k0_pay127, k0_pay128, k0_pay129, k0_pay130, kernelRun0_A.sl.v527, kernelRun0_A.sl.v516, kernelRun0_A.sl.v515, kernelRun0_A.sl.v514, kernelRun0_A.sl.r_29, kernelRun0_A.sl.r_30, shapeCast_self, View.readAt_eq_ld, Memref.IsWhole.read_unread, sc_5, m_5 (x2 := x2), l_5 (x2 := x2), a_5]
  rfl

theorem a_6 : (kernelRun0_A.sl.v584 c arg2 harg2 arg3 harg3 arg4 harg4 arg7 harg7 arg9 harg9 arg11 arg12 arg14 arg15 x0 x1 x2 x5 x7) = (st6 x0 x1 x2 x5 x7).a := by
  unfold kernelRun0_A.sl.v584 kernelRun0_A.sl.HS3_7
  rw [View.readCov_cons_toLoadRect]
  simp only [k0_pay125, k0_pay126, k0_pay127, k0_pay128, k0_pay129, kernelRun0_A.sl.v530, kernelRun0_A.sl.v521, kernelRun0_A.sl.v520, kernelRun0_A.sl.cst_76, kernelRun0_A.sl.r_26, kernelRun0_A.sl.v519, kernelRun0_A.sl.r_29, kernelRun0_A.sl.v518, kernelRun0_A.sl.v517, kernelRun0_A.sl.r_28, shapeCast_self, View.readAt_eq_ld, Memref.IsWhole.read_unread, sc_5, m_5 (x2 := x2), l_5 (x2 := x2), a_5]
  rfl

theorem m_7 : (kernelRun0_A.sl.v616 c arg2 harg2 arg3 harg3 arg7 harg7 arg9 harg9 arg11 arg12 arg15 x0 x1 x5 x7) = (st7 x0 x1 x2 x5 x7).m := by
  unfold kernelRun0_A.sl.v616 kernelRun0_A.sl.HS1_8
  rw [View.readCov_cons_toLoadRect]
  simp only [k0_pay139, kernelRun0_A.sl.v604, kernelRun0_A.sl.v587, kernelRun0_A.sl.v586, kernelRun0_A.sl.v585, kernelRun0_A.sl.r_31, shapeCast_self, View.readAt_eq_ld, Memref.IsWhole.read_unread, sc_6, m_6 (x2 := x2), l_6 (x2 := x2), a_6]
  rfl

theorem l_7 : (kernelRun0_A.sl.v617 c arg2 harg2 arg3 harg3 arg7 harg7 arg9 harg9 arg11 arg12 arg13 arg15 x0 x1 x5 x7) = (st7 x0 x1 x2 x5 x7).l := by
  unfold kernelRun0_A.sl.v617 kernelRun0_A.sl.HS2_8
  rw [View.readCov_cons_toLoadRect]
  simp only [k0_pay139, kernelRun0_A.sl.v607, kernelRun0_A.sl.v596, kernelRun0_A.sl.v595, kernelRun0_A.sl.v594, kernelRun0_A.sl.v592, kernelRun0_A.sl.v591, kernelRun0_A.sl.v590, kernelRun0_A.sl.v587, kernelRun0_A.sl.v586, kernelRun0_A.sl.v585, kernelRun0_A.sl.r_31, kernelRun0_A.sl.v593, kernelRun0_A.sl.v589, kernelRun0_A.sl.v588, shapeCast_self, View.readAt_eq_ld, Memref.IsWhole.read_unread, sc_6, m_6 (x2 := x2), l_6 (x2 := x2), a_6]
  rfl

theorem a_7 : (kernelRun0_A.sl.v618 c arg2 harg2 arg3 harg3 arg4 harg4 arg7 harg7 arg9 harg9 arg11 arg12 arg14 arg15 x0 x1 x2 x5 x7) = (st7 x0 x1 x2 x5 x7).a := by
  unfold kernelRun0_A.sl.v618 kernelRun0_A.sl.HS3_8
  rw [View.readCov_cons_toLoadRect]
  simp only [k0_pay139, k0_pay140, kernelRun0_A.sl.v610, kernelRun0_A.sl.v601, kernelRun0_A.sl.v600, kernelRun0_A.sl.cst_76, kernelRun0_A.sl.r_32, kernelRun0_A.sl.v599, kernelRun0_A.sl.v592, kernelRun0_A.sl.v591, kernelRun0_A.sl.v590, kernelRun0_A.sl.v587, kernelRun0_A.sl.v586, kernelRun0_A.sl.v585, kernelRun0_A.sl.r_31, kernelRun0_A.sl.v598, kernelRun0_A.sl.v597, kernelRun0_A.sl.v589, kernelRun0_A.sl.v588, shapeCast_self, View.readAt_eq_ld, Memref.IsWhole.read_unread, sc_6, m_6 (x2 := x2), l_6 (x2 := x2), a_6]
  rfl

theorem m_8 : (kernelRun0_A.sl.v768 c arg2 harg2 arg3 harg3 arg7 harg7 arg9 harg9 arg11 arg12 arg15 x0 x1 x5 x7) = (st8 x0 x1 x2 x5 x7).m := by
  unfold kernelRun0_A.sl.v768 kernelRun0_A.sl.HS1_9
  rw [View.readCov_cons_toLoadRect]
  simp only [k0_pay149, k0_pay153, kernelRun0_A.sl.v612, shapeCast_self, View.readAt_eq_ld, Memref.IsWhole.read_unread, sc_7, m_7 (x2 := x2), l_7 (x2 := x2), a_7]
  rfl

theorem l_8 : (kernelRun0_A.sl.v769 c arg2 harg2 arg3 harg3 arg7 harg7 arg9 harg9 arg11 arg12 arg13 arg15 x0 x1 x5 x7) = (st8 x0 x1 x2 x5 x7).l := by
  unfold kernelRun0_A.sl.v769 kernelRun0_A.sl.HS2_9
  rw [View.readCov_cons_toLoadRect]
  simp only [k0_pay149, k0_pay150, k0_pay151, k0_pay154, kernelRun0_A.sl.v612, shapeCast_self, View.readAt_eq_ld, Memref.IsWhole.read_unread, sc_7, m_7 (x2 := x2), l_7 (x2 := x2), a_7]
  rfl

theorem a_8 : (kernelRun0_A.sl.v770 c arg2 harg2 arg3 harg3 arg4 harg4 arg7 harg7 arg9 harg9 arg11 arg12 arg14 arg15 x0 x1 x2 x5 x7) = (st8 x0 x1 x2 x5 x7).a := by
  unfold kernelRun0_A.sl.v770 kernelRun0_A.sl.HS3_9
  rw [View.readCov_cons_toLoadRect]
  simp only [k0_pay1, k0_pay149, k0_pay150, k0_pay151, k0_pay152, kernelRun0_A.sl.r_33, kernelRun0_A.sl.v615, kernelRun0_A.sl.v614, kernelRun0_A.sl.v612, shapeCast_self, View.readAt_eq_ld, Memref.IsWhole.read_unread, sc_7, m_7 (x2 := x2), l_7 (x2 := x2), a_7]
  rfl

theorem fs_eq : (kernelRun0_A.sl.r_43 c i arg2 harg2 arg5 harg5 arg8 harg8 arg9 harg9 arg11 x0 x3 x6 x7) = finScore (BitVec.ofNat 32 (i 0)) (qs x0) x3 x6 (cq x7) := by
  unfold kernelRun0_A.sl.r_43 kernelRun0_A.sl.r_42 kernelRun0_A.sl.r_41 kernelRun0_A.sl.r_40 kernelRun0_A.sl.r_39 kernelRun0_A.sl.r_38 kernelRun0_A.sl.r_37 kernelRun0_A.sl.r_36 kernelRun0_A.sl.r_35 kernelRun0_A.sl.r_34 kernelRun0_A.sl.r_3 kernelRun0_A.sl.v708
  simp only [View.readAt_eq_ld, Memref.IsWhole.read_unread, q_v5]
  rfl

theorem a_9 : (kernelRun0_A.sl.v797 c i arg2 harg2 arg3 harg3 arg4 harg4 arg5 harg5 arg6 harg6 arg7 harg7 arg8 harg8 arg9 harg9 arg11 arg12 arg14 arg15 x0 x1 x2 x3 x4 x5 x6 x7) = (st9 (BitVec.ofNat 32 (i 0)) x0 x1 x2 x3 x4 x5 x6 x7).a := by
  unfold kernelRun0_A.sl.v797 kernelRun0_A.sl.HS3_10
  rw [View.readCov_cons_toLoadRect]
  simp only [k0_pay29, k0_pay30, k0_pay27, k0_pay26, k0_pay25, k0_pay24, kernelRun0_A.sl.r_44, shapeCast_self, View.readAt_eq_ld, Memref.IsWhole.read_unread, fs_eq, m_8 (x2 := x2), l_8 (x2 := x2), a_8]
  rfl

theorem l_9 : (kernelRun0_A.sl.v798 c i arg2 harg2 arg3 harg3 arg5 harg5 arg7 harg7 arg8 harg8 arg9 harg9 arg11 arg12 arg13 arg15 x0 x1 x3 x5 x6 x7) = (st9 (BitVec.ofNat 32 (i 0)) x0 x1 x2 x3 x4 x5 x6 x7).l := by
  unfold kernelRun0_A.sl.v798 kernelRun0_A.sl.HS2_10
  rw [View.readCov_cons_toLoadRect]
  simp only [k0_pay29, k0_pay30, k0_pay27, k0_pay26, k0_pay25, k0_pay24, kernelRun0_A.sl.r_44, shapeCast_self, View.readAt_eq_ld, Memref.IsWhole.read_unread, fs_eq, m_8 (x2 := x2), l_8 (x2 := x2), a_8]
  rfl

theorem r42_eq : (kernelRun0_A.sl.r_45 c i arg2 harg2 arg3 harg3 arg4 harg4 arg5 harg5 arg6 harg6 arg7 harg7 arg8 harg8 arg9 harg9 arg11 arg12 arg13 arg14 arg15 x0 x1 x2 x3 x4 x5 x6 x7) = k0_pay31 (st9 (BitVec.ofNat 32 (i 0)) x0 x1 x2 x3 x4 x5 x6 x7).a (st9 (BitVec.ofNat 32 (i 0)) x0 x1 x2 x3 x4 x5 x6 x7).l := by
  unfold kernelRun0_A.sl.r_45
  rw [a_9, l_9 (x2 := x2) (x4 := x4)]

end

/-- What grid point `t` leaves in the output's buffer. -/
theorem outsAt0_eq (m : (ℓ : Loc nD τ sig) → Buf (Elt F) ℓ) (c : Dev nD) (t : Fin cfg0.N) :
    outsAt0 m c t = out (BitVec.ofNat 32 (grid0.coords t 0)) (iblk m c 0 t) (iblk m c 1 t) (iblk m c 2 t) (iblk m c 3 t) (iblk m c 4 t)
      (X0_5 m c t) (iblk m c 6 t) (iblk m c 7 t) := by
  unfold outsAt0 out0_A_8
  rw [View.read_writes_junk_eq_canon]
  unfold kernelRun0_A
  dsimp only
  rw [View.canon_cons_unit_zero (by decide)]
  unfold kernelRun0_A.sl.r_47 kernelRun0_A.sl.r_49
  rw [r42_eq]
  rfl

end Cert.FoxSIdeal.Comp

end
-- ==== Proof.Hand.Softmax.lean ====
/- Softmax over the extended reals: the running form that an attention kernel keeps (a maximum, a sum of
   weights, a weighted sum of values, in base two) and the textbook form (in base e) compute the same average. -/
module

public import Idealize.ShloMosaic.PureOps.Ideal

@[expose] public section

noncomputable section

namespace Cert.Attn

open Idealize.ShloMosaic

/-- A nonnegative real factor goes into a finite sum. -/
theorem mul_sum_coe {ι : Type} (s : Finset ι) (f : ι → EReal) {a : EReal} (h0 : 0 ≤ a) (h1 : a ≠ ⊤) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 h1, ih]

theorem exp2_nonneg (x : EReal) : 0 ≤ Ideal.exp2 x := by
  induction x with
  | bot => simp
  | top => simp
  | coe r =>
    rw [Ideal.exp2_coe]
    exact_mod_cast (Real.rpow_pos_of_pos (by norm_num : (0 : ℝ) < 2) r).le

theorem exp2_ne_top {x : EReal} (h : x ≠ ⊤) : Ideal.exp2 x ≠ ⊤ := by
  induction x with
  | bot => simp
  | top => exact absurd rfl h
  | coe r => rw [Ideal.exp2_coe]; exact EReal.coe_ne_top _

theorem exp2_add (a b : ℝ) : Ideal.exp2 (a : EReal) * Ideal.exp2 (b : EReal) = Ideal.exp2 ((a + b : ℝ) : EReal) := by
  rw [Ideal.exp2_coe, Ideal.exp2_coe, Ideal.exp2_coe, ← EReal.coe_mul]
  exact congrArg _ (Real.rpow_add (by norm_num : (0 : ℝ) < 2) a b).symm

/-- The running maximum may be replaced by a larger one: the weights shrink by one factor. -/
theorem rescale {s m m' : EReal} (hs : s ≤ m) (hm : m ≤ m') (hm' : m' ≠ ⊤) :
    Ideal.exp2 (m - m') * Ideal.exp2 (s - m) = Ideal.exp2 (s - m') := by
  induction m' with
  | top => exact absurd rfl hm'
  | bot =>
    obtain rfl : m = ⊥ := le_bot_iff.mp hm
    obtain rfl : s = ⊥ := le_bot_iff.mp hs
    simp
  | coe c =>
    induction m with
    | top => exact absurd hm (by simp)
    | bot =>
      obtain rfl : s = ⊥ := le_bot_iff.mp hs
      simp
    | coe b =>
      induction s with
      | top => exact absurd hs (by simp)
      | bot => simp
      | coe a =>
        rw [← EReal.coe_sub, ← EReal.coe_sub, ← EReal.coe_sub, exp2_add]
        congr 2; ring

/-- The largest of the first `n` scores (`⊥` of none). -/
def runMax (s : ℕ → EReal) (n : ℕ) : EReal := (Finset.range n).sup s

/-- The sum over the first `n` keys of `2` to the score less `m`, times a value. -/
def runSum (s v : ℕ → EReal) (m : EReal) (n : ℕ) : EReal := ∑ k ∈ Finset.range n, Ideal.exp2 (s k - m) * v k

theorem le_runMax (s : ℕ → EReal) {n k : ℕ} (h : k < n) : s k ≤ runMax s n :=
  Finset.le_sup (f := s) (Finset.mem_range.mpr h)

theorem runMax_ne_top {s : ℕ → EReal} (hs : ∀ k, s k ≠ ⊤) (n : ℕ) : runMax s n ≠ ⊤ := by
  have : runMax s n < ⊤ := (Finset.sup_lt_iff (by simp)).mpr fun k _ => lt_top_iff_ne_top.mpr (hs k)
  exact this.ne

/-- A block of `b` further keys: the maximum. -/
theorem runMax_step (s : ℕ → EReal) (n b : ℕ) (m : EReal) (hm : m = runMax s n) :
    max m (Finset.univ.sup fun k : Fin b => s (n + k)) = runMax s (n + b) := by
  subst hm
  apply le_antisymm
  · refine max_le (Finset.sup_mono (Finset.range_mono (by omega))) (Finset.sup_le fun k _ => ?_)
    exact le_runMax s (by omega)
  · refine Finset.sup_le fun k hk => ?_
    rw [Finset.mem_range] at hk
    by_cases h : k < n
    · exact (le_runMax s h).trans (le_max_left _ _)
    · refine le_trans ?_ (le_max_right _ _)
      have := Finset.le_sup (f := fun k : Fin b => s (n + k)) (Finset.mem_univ (⟨k - n, by omega⟩ : Fin b))
      simpa [show n + (k - n) = k by omega] using this

/-- A block of `b` further keys: the weighted sum, the old one scaled to the new maximum. -/
theorem runSum_step {s : ℕ → EReal} (hs : ∀ k, s k ≠ ⊤) (v : ℕ → EReal) (n b : ℕ) :
    Ideal.exp2 (runMax s n - runMax s (n + b)) * runSum s v (runMax s n) n
        + ∑ k : Fin b, Ideal.exp2 (s (n + k) - runMax s (n + b)) * v (n + k)
      = runSum s v (runMax s (n + b)) (n + b) := by
  have hle : runMax s n ≤ runMax s (n + b) := Finset.sup_mono (Finset.range_mono (by omega))
  have hfac : Ideal.exp2 (runMax s n - runMax s (n + b)) ≠ ⊤ := by
    apply exp2_ne_top
    intro h
    have h1 := runMax_ne_top hs (n + b)
    have h2 := runMax_ne_top hs n
    generalize runMax s (n + b) = y at *
    generalize runMax s n = x at *
    induction x with
    | top => exact h2 rfl
    | bot => simp at h
    | coe a =>
      induction y with
      | top => exact h1 rfl
      | bot => exact absurd hle (by simp)
      | coe c => rw [← EReal.coe_sub] at h; exact EReal.coe_ne_top _ h
  unfold runSum
  rw [mul_sum_coe _ _ (exp2_nonneg _) hfac, Finset.sum_range_add, Finset.sum_range (n := b)]
  congr 1
  refine Finset.sum_congr rfl fun k hk => ?_
  rw [← mul_assoc, rescale (le_runMax s (Finset.mem_range.mp hk)) hle (runMax_ne_top hs _)]

/-- `1 / ln 2`, the factor between the two bases. -/
def log2e : ℝ := (Real.log 2)⁻¹

theorem log2e_pos : 0 < log2e := inv_pos.mpr (Real.log_pos (by norm_num))

theorem exp2_log2e (r : ℝ) : Ideal.exp2 ((log2e * r : ℝ) : EReal) = Ideal.exp (r : EReal) := by
  rw [Ideal.exp2_coe, Ideal.exp_coe]
  congr 1
  show (2 : ℝ) ^ (log2e * r) = Real.exp r
  rw [Real.rpow_def_of_pos (by norm_num), log2e, ← mul_assoc, mul_inv_cancel₀ (Real.log_pos (by norm_num)).ne', one_mul]

/-- The weight in base two of scores times `1 / ln 2` is the weight in base e. -/
theorem exp2_sub_log2e {s m : EReal} (hs : s ≠ ⊤) (hm : m ≠ ⊤) (hb : m ≠ ⊥) :
    Ideal.exp2 ((log2e : EReal) * s - (log2e : EReal) * m) = Ideal.exp (s - m) := by
  induction m with
  | top => exact absurd rfl hm
  | bot => exact absurd rfl hb
  | coe b =>
    induction s with
    | top => exact absurd rfl hs
    | bot =>
      rw [EReal.coe_mul_bot_of_pos log2e_pos]
      simp
    | coe a =>
      rw [← EReal.coe_mul, ← EReal.coe_mul, ← EReal.coe_sub, ← mul_sub, exp2_log2e, EReal.coe_sub]

/-- Softmax in the two forms. `n` keys of the kernel, with scores `s` in units of `ln 2`; `J` keys of the
    reference, each the kernel's key `e j`; the kernel's other keys have score `⊥`. The kernel divides the
    weighted sum of the values by the sum of the weights, the reference weighs each value by its share. -/
theorem softmax_eq {J : Type} [Fintype J] (e : J → ℕ) (he : Function.Injective e) (n : ℕ) (hen : ∀ j, e j < n)
    (s v : ℕ → EReal) (s' v' : J → EReal) (hs' : ∀ j, s' j ≠ ⊤) (j₀ : J) (hj₀ : s' j₀ ≠ ⊥)
    (hse : ∀ j, s (e j) = (log2e : EReal) * s' j) (hve : ∀ j, v (e j) = v' j)
    (hoff : ∀ k, k < n → (∀ j, e j ≠ k) → s k = ⊥) :
    Ideal.div (runSum s v (runMax s n) n) (runSum s (fun _ => 1) (runMax s n) n)
      = ∑ j, Ideal.div (Ideal.exp (s' j - Finset.univ.sup s')) (∑ i, Ideal.exp (s' i - Finset.univ.sup s')) * v' j := by
  classical
  set M' := Finset.univ.sup s' with hM'
  have hMtop : M' ≠ ⊤ := ((Finset.sup_lt_iff (by simp)).mpr fun j _ => lt_top_iff_ne_top.mpr (hs' j)).ne
  have hMbot : M' ≠ ⊥ := fun h => hj₀ (le_bot_iff.mp (h ▸ Finset.le_sup (f := s') (Finset.mem_univ j₀)))
  have hmono : Monotone fun x : EReal => (log2e : EReal) * x := fun x y h =>
    mul_le_mul_of_nonneg_left h (by exact_mod_cast log2e_pos.le)
  have hM : runMax s n = (log2e : EReal) * M' := by
    apply le_antisymm
    · refine Finset.sup_le fun k hk => ?_
      by_cases h : ∃ j, e j = k
      · obtain ⟨j, rfl⟩ := h
        rw [hse]; exact hmono (Finset.le_sup (f := s') (Finset.mem_univ j))
      · rw [hoff k (Finset.mem_range.mp hk) (by push Not at h; exact h)]; exact bot_le
    · obtain ⟨j, -, hj⟩ := Finset.exists_mem_eq_sup Finset.univ ⟨j₀, Finset.mem_univ _⟩ s'
      rw [hM', hj, ← hse]
      exact le_runMax s (hen j)
  have hw : ∀ j, Ideal.exp2 (s (e j) - runMax s n) = Ideal.exp (s' j - M') := fun j => by
    rw [hM, hse, exp2_sub_log2e (hs' j) hMtop hMbot]
  have hsum : ∀ (f : ℕ → EReal) (f' : J → EReal), (∀ j, f (e j) = f' j) →
      runSum s f (runMax s n) n = ∑ j, Ideal.exp (s' j - M') * f' j := by
    intro f f' hf
    unfold runSum
    rw [← Finset.sum_subset (s₁ := Finset.univ.image e) (fun k hk => by
        obtain ⟨j, -, rfl⟩ := Finset.mem_image.mp hk; exact Finset.mem_range.mpr (hen j))]
    · rw [Finset.sum_image fun a _ b _ h => he h]
      exact Finset.sum_congr rfl fun j _ => by rw [hw, hf]
    · intro k hk hn
      rw [hoff k (Finset.mem_range.mp hk) fun j hj => hn (Finset.mem_image.mpr ⟨j, Finset.mem_univ j, hj⟩)]
      simp
  have hexp : ∀ j, ∃ r : ℝ, 0 ≤ r ∧ Ideal.exp (s' j - M') = (r : EReal) ∧ (s' j ≠ ⊥ → 0 < r) := by
    intro j
    have h := hs' j
    generalize s' j = x at *
    generalize M' = y at *
    induction y with
    | top => exact absurd rfl hMtop
    | bot => exact absurd rfl hMbot
    | coe b =>
      induction x with
      | top => exact absurd rfl h
      | bot => exact ⟨0, le_rfl, by simp, fun h => absurd rfl h⟩
      | coe a => exact ⟨Real.exp (a - b), (Real.exp_pos _).le, by rw [← EReal.coe_sub, Ideal.exp_coe], fun _ => Real.exp_pos _⟩
  choose r hr0 hr hrpos using hexp
  have hL : ∑ j, Ideal.exp (s' j - M') = ((∑ j, r j : ℝ) : EReal) := by
    simp only [hr]
    exact (map_sum (⟨⟨Real.toEReal, EReal.coe_zero⟩, EReal.coe_add⟩ : ℝ →+ EReal) r Finset.univ).symm
  have hLpos : 0 < ∑ j, r j :=
    Finset.sum_pos' (fun j _ => hr0 j) ⟨j₀, Finset.mem_univ _, hrpos j₀ hj₀⟩
  rw [hsum v v' hve, hsum (fun _ => 1) (fun _ => 1) (fun _ => rfl)]
  simp only [mul_one, hL, Ideal.div_coe hLpos.ne']
  rw [mul_comm, mul_sum_coe _ _ (by exact_mod_cast (one_div_pos.mpr hLpos).le) (EReal.coe_ne_top _)]
  refine Finset.sum_congr rfl fun j _ => ?_
  rw [mul_left_comm, mul_assoc]

end Cert.Attn
-- ==== Proof.Hand.FoxRead.lean ====
/- The forgetting attention of the sample step over the extended reals: each function of the body's composition read at
   one index. -/
module

public import proofs.«01_k».proof.Proof.Hand.FoxComp
public import proofs.«01_k».proof.Proof.Hand.Softmax
public import Idealize.ShloMosaic.Lib.Pointwise

@[expose] public section

set_option maxRecDepth 16384

noncomputable section

namespace Cert.FoxSIdeal.Comp

open Cert.FoxSIdeal Cert.FoxSIdeal.Gen Idealize.ShloMosaic Idealize.ShloMosaic.TcCoe Idealize.SL.Sem
open Idealize.ShloMosaic.Pipeline (Dat)

theorem blk_apply (x : Vec Ideal S1x512x4096 .f32) (off : ℕ) (h : off + 512 ≤ 4096) (e k : Fin 512) :
    blk x off h (ix2 e k) = x (ix3 (0 : Fin 1) e (⟨off + k, by omega⟩ : Fin 4096)) := by
  have h1 : ∀ y : FVec Ideal S1x512x512 .f32, (truncf .bf16 (shapeCast S512x512 y shapeCasts_S1x512x512_S512x512 : FVec Ideal S512x512 .f32) bitsLt_bf16_f32) (ix2 e k)
      = y (ix3 (0 : Fin 1) e k) := fun y => by pointwise
  refine (h1 _).trans ?_
  refine congrArg x ?_
  funext a
  match a with
  | ⟨0, _⟩ => rfl
  | ⟨1, _⟩ => exact Fin.ext (by show 0 + 1 * e.val = _; simp)
  | ⟨2, _⟩ => exact Fin.ext (by show off + 1 * k.val = _; simp)

theorem blkN_apply (x : Vec Ideal S1x512x128 .f32) (e : Fin 512) (k : Fin 128) :
    blkN x (ix2 e k) = x (ix3 (0 : Fin 1) e k) := by
  have h1 : ∀ y : FVec Ideal S1x512x128 .f32, (truncf .bf16 (shapeCast S512x128 y shapeCasts_S1x512x128_S512x128 : FVec Ideal S512x128 .f32) bitsLt_bf16_f32) (ix2 e k)
      = y (ix3 (0 : Fin 1) e k) := fun y => by pointwise
  refine (h1 _).trans ?_
  refine congrArg x ?_
  funext a
  match a with
  | ⟨0, _⟩ => rfl
  | ⟨1, _⟩ => exact Fin.ext (by show 0 + 1 * e.val = _; simp)
  | ⟨2, _⟩ => exact Fin.ext (by show 0 + 1 * k.val = _; simp)

theorem cq_apply (x : Vec Ideal S1x256x1 .f32) (i : Fin 256) : cq x (ix2 i (0 : Fin 1)) = x (ix3 (0 : Fin 1) i (0 : Fin 1)) := by
  have h1 : ∀ y : FVec Ideal S1x256x1 .f32, (shapeCast S256x1 y shapeCasts_S1x256x1_S256x1 : FVec Ideal S256x1 .f32) (ix2 i (0 : Fin 1))
      = y (ix3 (0 : Fin 1) i (0 : Fin 1)) := fun y => by pointwise
  refine (h1 _).trans ?_
  refine congrArg x ?_
  funext a
  match a with
  | ⟨0, _⟩ => rfl
  | ⟨1, _⟩ => exact Fin.ext (by show 0 + 1 * i.val = _; simp)
  | ⟨2, _⟩ => rfl

theorem ck_apply (x : Vec Ideal S1x8x4096 .f32) (hd off : ℕ) (hh : hd + 1 ≤ 8) (h : off + 512 ≤ 4096) (t : Fin 32) (k : Fin 512) :
    ck x hd off hh h (ix2 t k) = x (ix3 (0 : Fin 1) (⟨hd, hh⟩ : Fin 8) (⟨off + k, by omega⟩ : Fin 4096)) := by
  pointwise [ck, View.ld_unit]

theorem ckN_apply (x : Vec Ideal S1x8x128 .f32) (hd : ℕ) (hh : hd + 1 ≤ 8) (t : Fin 32) (k : Fin 128) :
    ckN x hd hh (ix2 t k) = x (ix3 (0 : Fin 1) (⟨hd, hh⟩ : Fin 8) k) := by
  pointwise [ckN, View.ld_unit]

/-- Eight blocks of 32 rows, each constant down its rows. -/
theorem cat8 (f : Fin 8 → EReal) (h : Fin 8) (t : Fin 32) (i : Fin 256) (hi : (i : ℕ) = 32 * h + t) :
    (if (i : ℕ) < 32 then f 0 else if (i : ℕ) - 32 < 32 then f 1 else if (i : ℕ) - 32 - 32 < 32 then f 2
      else if (i : ℕ) - 32 - 32 - 32 < 32 then f 3 else if (i : ℕ) - 32 - 32 - 32 - 32 < 32 then f 4
      else if (i : ℕ) - 32 - 32 - 32 - 32 - 32 < 32 then f 5 else if (i : ℕ) - 32 - 32 - 32 - 32 - 32 - 32 < 32 then f 6 else f 7) = f h := by
  have ht := t.isLt
  have hh := h.isLt
  split_ifs <;> exact congrArg f (Fin.ext (by first | omega | (simp; omega)))

theorem log2e_val : Named.named (F := Ideal) (φ := .f32) κ "log2e" 0x3FB8AA3B#32 = ((Cert.Attn.log2e : ℝ) : EReal) :=
  IdealRules.named_const.ideal_named_scalar _ _ _ _ rfl
theorem neg_inf_val : Named.named (F := Ideal) (φ := .f32) κ "neg_inf" 0xF149F2CA#32 = (⊥ : EReal) :=
  IdealRules.named_const.ideal_named_scalar _ _ _ _ rfl
theorem q_scale_val : Named.named (F := Ideal) (φ := .f32) κ "q_scale" 0x3E38AA3B#32 = ((1 / 8 * Cert.Attn.log2e : ℝ) : EReal) :=
  IdealRules.named_const.ideal_named_scalar _ _ _ _ rfl

/-- The head of a feature, as the kernel's word. -/
theorem head_word : ∀ e : Fin 512, k0_pay4 (ix2 (0 : Fin 1) e) = BitVec.ofNat 32 (e.val / 64) := by decide +kernel

theorem head_word' : ∀ e : Fin 512, kernelRun0_A.sl.r_46 (ix2 (0 : Fin 1) e) = BitVec.ofNat 32 (e.val / 64) := by decide +kernel

theorem cmp_word (e : Fin 512) (c : Fin 8) :
    IntOp.cmpi .eq (BitVec.ofNat 32 (e.val / 64)) (BitVec.ofNat 32 c.val) = if e.val / 64 = c.val then 1#1 else 0#1 := by
  revert e c; decide +kernel

theorem score_apply (q : FVec Ideal S256x512 .bf16) (x1 : Vec Ideal S1x512x4096 .f32) (x5 : Vec Ideal S1x8x4096 .f32) (r : FVec Ideal S256x1 .f32)
    (off : ℕ) (ho : off + 512 ≤ 4096) (i : Fin 256) (h : Fin 8) (t : Fin 32) (hi : (i : ℕ) = 32 * h + t) (k : Fin 512) :
    score q x1 x5 r off ho (ix2 i k) = ∑ e : Fin 512, q (ix2 i e) * x1 (ix3 (0 : Fin 1) e (⟨off + k, by omega⟩ : Fin 4096))
      + (r (ix2 i (0 : Fin 1)) - x5 (ix3 (0 : Fin 1) h (⟨off + k, by omega⟩ : Fin 4096))) * ((Cert.Attn.log2e : ℝ) : EReal) := by
  pointwise [score, blk_apply, ck_apply, log2e_val]
  rw [← cat8 (fun h => x5 (ix3 (0 : Fin 1) h (⟨off + k, by omega⟩ : Fin 4096))) h t i hi]
  rfl
theorem scoreN_apply (q : FVec Ideal S256x512 .bf16) (x3 : Vec Ideal S1x512x128 .f32) (x6 : Vec Ideal S1x8x128 .f32) (r : FVec Ideal S256x1 .f32)
    (i : Fin 256) (h : Fin 8) (t : Fin 32) (hi : (i : ℕ) = 32 * h + t) (k : Fin 128) :
    scoreN q x3 x6 r (ix2 i k) = ∑ e : Fin 512, q (ix2 i e) * x3 (ix3 (0 : Fin 1) e k)
      + (r (ix2 i (0 : Fin 1)) - x6 (ix3 (0 : Fin 1) h k)) * ((Cert.Attn.log2e : ℝ) : EReal) := by
  pointwise [scoreN, blkN_apply, ckN_apply, log2e_val]
  rw [← cat8 (fun h => x6 (ix3 (0 : Fin 1) h k)) h t i hi]
  rfl

theorem cmp_nat (n c : ℕ) (hn : n < 8) (hc : c < 8) :
    IntOp.cmpi .eq (BitVec.ofNat 32 n) (BitVec.ofNat 32 c) = if n = c then 1#1 else 0#1 := by
  have h : ∀ n c : Fin 8, IntOp.cmpi .eq (BitVec.ofNat 32 n.val) (BitVec.ofNat 32 c.val) = if n.val = c.val then 1#1 else 0#1 := by decide +kernel
  exact h ⟨n, hn⟩ ⟨c, hc⟩

theorem select_ite {α : Type} (p : Prop) [Decidable p] (x y : α) : Scalar.select (if p then 1#1 else 0#1) x y = if p then x else y := by
  split_ifs <;> rfl

theorem lane_word : ∀ e : Fin 512, k0_pay33 kernelRun0_A.sl.v801 64#32 k0_pay32 0#32 (ix2 (0 : Fin 1) e) = BitVec.ofNat 32 (e.val / 64) := by
  decide +kernel

theorem unstack_apply (y : FVec Ideal S256x512 .f32) (t : Fin 32) (e : Fin 512) :
    unstack y (ix3 (0 : Fin 1) t e) = y (ix2 (⟨32 * (e.val / 64) + t, by omega⟩ : Fin 256) e) := by
  have he : e.val / 64 < 8 := by omega
  pointwise [unstack, kernelRun0_A.sl.r_48, k0_pay2, k0_pay34, k0_pay35, k0_pay36, lane_word, head_word']
  rw [cmp_nat _ 1 he (by omega), cmp_nat _ 2 he (by omega), cmp_nat _ 3 he (by omega), cmp_nat _ 4 he (by omega), cmp_nat _ 5 he (by omega), cmp_nat _ 6 he (by omega), cmp_nat _ 7 he (by omega)]
  simp only [select_ite]
  split_ifs <;> exact congrArg (fun i => y (ix2 i e)) (Fin.ext (by simp only []; omega))

theorem sit_bit (p : Prop) [Decidable p] :
    (FloatOps.sitofp (F := Ideal) .f32 (BitVec.setWidth 32 (if p then 1#1 else 0#1)) : EReal) = if p then 1 else 0 := by
  split_ifs
  · show (((BitVec.setWidth 32 1#1).toInt : ℝ) : EReal) = 1
    have : (BitVec.setWidth 32 1#1).toInt = 1 := by decide
    rw [this]; simp
  · show (((BitVec.setWidth 32 0#1).toInt : ℝ) : EReal) = 0
    have : (BitVec.setWidth 32 0#1).toInt = 0 := by decide
    rw [this]; simp

theorem dcat8 (f : Fin 32 → ℕ → EReal) (h : Fin 8) (t : Fin 32) (i : Fin 256) (hi : (i : ℕ) = 32 * h + t) :
    (if p : (i : ℕ) < 32 then f ⟨(i : ℕ), p⟩ 0 else (if p : (i : ℕ) - 32 < 32 then f ⟨(i : ℕ) - 32, p⟩ 1 else (if p : (i : ℕ) - 32 - 32 < 32 then f ⟨(i : ℕ) - 32 - 32, p⟩ 2 else (if p : (i : ℕ) - 32 - 32 - 32 < 32 then f ⟨(i : ℕ) - 32 - 32 - 32, p⟩ 3 else (if p : (i : ℕ) - 32 - 32 - 32 - 32 < 32 then f ⟨(i : ℕ) - 32 - 32 - 32 - 32, p⟩ 4 else (if p : (i : ℕ) - 32 - 32 - 32 - 32 - 32 < 32 then f ⟨(i : ℕ) - 32 - 32 - 32 - 32 - 32, p⟩ 5 else (if p : (i : ℕ) - 32 - 32 - 32 - 32 - 32 - 32 < 32 then f ⟨(i : ℕ) - 32 - 32 - 32 - 32 - 32 - 32, p⟩ 6 else (f ⟨(i : ℕ) - 32 - 32 - 32 - 32 - 32 - 32 - 32, by omega⟩ 7)))))))) = f t h.val := by
  have ht := t.isLt
  have hh := h.isLt
  have key : ∀ (j : Fin 32) (c : ℕ), j = t → c = h.val → f j c = f t h.val := by
    rintro j c rfl rfl; rfl
  split_ifs <;> exact key _ _ (Fin.ext (by simp only []; omega)) (by omega)

theorem qs_apply (x0 : Vec Ideal S1x32x512 .f32) (i : Fin 256) (h : Fin 8) (t : Fin 32) (hi : (i : ℕ) = 32 * h + t) (e : Fin 512) :
    qs x0 (ix2 i e) = (x0 (ix3 (0 : Fin 1) t e) * ((1 / 8 * Cert.Attn.log2e : ℝ) : EReal)) * (if e.val / 64 = h.val then 1 else 0) := by
  pointwise [qs, k0_pay8, k0_pay3, k0_pay5, k0_pay6, k0_pay7, head_word, q_scale_val, View.ld_unit]
  refine (dcat8 (fun j c => x0 (ix3 (0 : Fin 1) j e) * ((1 / 8 * Cert.Attn.log2e : ℝ) : EReal) *
    FloatOps.sitofp (F := Ideal) .f32 (BitVec.setWidth 32 (IntOp.cmpi .eq (BitVec.ofNat 32 (e.val / 64)) (BitVec.ofNat 32 c)))) h t i hi).trans ?_
  rw [cmp_nat _ _ (by omega) h.isLt, sit_bit]

theorem sel_new (A B C D : BitVec 32) (k b i : ℕ) (hk : k < 128) (hb : b < 32) (hi : i < 256) (hA : A = BitVec.ofNat 32 (k / 32)) (hB : B = BitVec.ofNat 32 (b % 4))
    (hC : C = BitVec.ofNat 32 (k % 32)) (hD : D = BitVec.ofNat 32 (i % 32)) (x y : EReal) :
    Scalar.select (IntOp.andi (IntOp.cmpi .eq A B) (IntOp.cmpi .sle C D)) x y = if k / 32 = b % 4 ∧ k % 32 ≤ i % 32 then x else y := by
  subst hA hB hC hD
  rw [cmp_nat _ _ (by omega) (by omega)]
  have h2 : ∀ n c : Fin 32, IntOp.cmpi .sle (BitVec.ofNat 32 n.val) (BitVec.ofNat 32 c.val) = if n.val ≤ c.val then 1#1 else 0#1 := by decide +kernel
  have h3 := h2 ⟨k % 32, by omega⟩ ⟨i % 32, by omega⟩
  simp only [] at h3
  rw [h3]
  by_cases p : k / 32 = b % 4 <;> by_cases q : k % 32 ≤ i % 32 <;> simp only [p, q, if_true, if_false, and_self, and_true, true_and, false_and, and_false] <;> rfl

theorem finScore_apply (b : Fin 32) (q : FVec Ideal S256x512 .bf16) (x3 : Vec Ideal S1x512x128 .f32) (x6 : Vec Ideal S1x8x128 .f32) (r : FVec Ideal S256x1 .f32)
    (i : Fin 256) (k : Fin 128) :
    finScore (BitVec.ofNat 32 b.val) q x3 x6 r (ix2 i k) = if k.val / 32 = b.val % 4 ∧ k.val % 32 ≤ i.val % 32 then scoreN q x3 x6 r (ix2 i k) else ⊥ := by
  pointwise [finScore, k0_pay23, k0_pay19, k0_pay20, k0_pay21, k0_pay22, neg_inf_val]
  refine sel_new _ _ _ _ k b i k.isLt b.isLt i.isLt ?_ ?_ ?_ ?_ _ _
  · clear r x6 x3 q b i
    revert k; decide +kernel
  · clear r x6 x3 q k i
    revert b; decide +kernel
  · clear r x6 x3 q b i
    revert k; decide +kernel
  · clear r x6 x3 q b k
    revert i; decide +kernel

end Cert.FoxSIdeal.Comp
end
-- ==== Proof.Hand.FoxInv.lean ====
/- The forgetting attention of the sample step over the extended reals: the running softmax of one row
   of the block, key block by key block. -/
module

public import proofs.«01_k».proof.Proof.Hand.FoxRead
public import Idealize.ShloMosaic.Lib.Pointwise

@[expose] public section

set_option maxRecDepth 16384

noncomputable section

namespace Cert.FoxSIdeal.Comp

open Cert.FoxSIdeal Cert.FoxSIdeal.Gen Idealize.ShloMosaic Idealize.ShloMosaic.TcCoe Idealize.SL.Sem
open Idealize.ShloMosaic.Pipeline (Dat)

open Cert.Attn

theorem neg_inf_word : Ideal.ofBits .f32 0xFF800000#32 = (⊥ : EReal) := by simp [Ideal.ofBits, Ideal.ieee]

/-- What row `i` holds after the first `n` keys, whose scores are `S` and whose values are `V`. -/
structure Inv (S : ℕ → EReal) (V : Fin 512 → ℕ → EReal) (n : ℕ) (i : Fin 256) (t : St Ideal) : Prop where
  m : t.m (ix2 i (0 : Fin 1)) = runMax S n
  l : t.l (ix2 i (0 : Fin 1)) = runSum S (fun _ => 1) (runMax S n) n
  a : ∀ e : Fin 512, t.a (ix2 i e) = runSum S (V e) (runMax S n) n

theorem Inv.zero (S : ℕ → EReal) (V : Fin 512 → ℕ → EReal) (i : Fin 256) : Inv S V 0 i st0 where
  m := by pointwise [st0, neg_inf_val, runMax]; simp
  l := by pointwise [st0, runSum]; simp
  a e := by pointwise [st0, runSum]; simp

theorem stepM_apply (m : Vec Ideal S256x1 .f32) (s : FVec Ideal S256x512 .f32) (i : Fin 256) :
    stepM m s (ix2 i (0 : Fin 1)) = max (m (ix2 i (0 : Fin 1))) (Finset.univ.sup fun k : Fin 512 => s (ix2 i k)) := by
  pointwise [stepM]
  rw [neg_inf_word]
  rfl

theorem step_l (t : St Ideal) (s : FVec Ideal S256x512 .f32) (v : FVec Ideal S512x512 .bf16) (i : Fin 256) :
    (step t s v).l (ix2 i (0 : Fin 1)) = Ideal.exp2 (t.m (ix2 i (0 : Fin 1)) - stepM t.m s (ix2 i (0 : Fin 1))) * t.l (ix2 i (0 : Fin 1))
      + ∑ k : Fin 512, Ideal.exp2 (s (ix2 i k) - stepM t.m s (ix2 i (0 : Fin 1))) := by
  pointwise [step, stepE, stepP]
  rfl

theorem step_a (t : St Ideal) (s : FVec Ideal S256x512 .f32) (v : FVec Ideal S512x512 .bf16) (i : Fin 256) (e : Fin 512) :
    (step t s v).a (ix2 i e) = Ideal.exp2 (t.m (ix2 i (0 : Fin 1)) - stepM t.m s (ix2 i (0 : Fin 1))) * t.a (ix2 i e)
      + ∑ k : Fin 512, Ideal.exp2 (s (ix2 i k) - stepM t.m s (ix2 i (0 : Fin 1))) * v (ix2 e k) := by
  pointwise [step, stepE, stepP]
  rfl

theorem Inv.step {S : ℕ → EReal} {V : Fin 512 → ℕ → EReal} {n : ℕ} {i : Fin 256} {t : St Ideal} (h : Inv S V n i t) (hS : ∀ k, S k ≠ ⊤)
    (s : FVec Ideal S256x512 .f32) (v : FVec Ideal S512x512 .bf16) (hs : ∀ k : Fin 512, s (ix2 i k) = S (n + k))
    (hv : ∀ (e : Fin 512) (k : Fin 512), v (ix2 e k) = V e (n + k)) : Inv S V (n + 512) i (step t s v) := by
  have hm : stepM t.m s (ix2 i (0 : Fin 1)) = runMax S (n + 512) := by
    rw [stepM_apply, ← runMax_step S n 512 _ h.m]
    simp only [hs]
  refine ⟨hm, ?_, fun e => ?_⟩
  · rw [step_l, hm, h.m, h.l, ← runSum_step hS _ n 512]
    simp only [hs, mul_one]
  · rw [step_a, hm, h.m, h.a e, ← runSum_step hS _ n 512]
    simp only [hs, hv]

theorem stepMN_apply (m : Vec Ideal S256x1 .f32) (s : FVec Ideal S256x128 .f32) (i : Fin 256) :
    stepMN m s (ix2 i (0 : Fin 1)) = max (m (ix2 i (0 : Fin 1))) (Finset.univ.sup fun k : Fin 128 => s (ix2 i k)) := by
  pointwise [stepMN]
  rw [neg_inf_word]
  rfl

theorem stepN_l (t : St Ideal) (s : FVec Ideal S256x128 .f32) (v : FVec Ideal S512x128 .bf16) (i : Fin 256) :
    (stepN t s v).l (ix2 i (0 : Fin 1)) = Ideal.exp2 (t.m (ix2 i (0 : Fin 1)) - stepMN t.m s (ix2 i (0 : Fin 1))) * t.l (ix2 i (0 : Fin 1))
      + ∑ k : Fin 128, Ideal.exp2 (s (ix2 i k) - stepMN t.m s (ix2 i (0 : Fin 1))) := by
  pointwise [stepN, stepEN, stepPN]
  rfl

theorem stepN_a (t : St Ideal) (s : FVec Ideal S256x128 .f32) (v : FVec Ideal S512x128 .bf16) (i : Fin 256) (e : Fin 512) :
    (stepN t s v).a (ix2 i e) = Ideal.exp2 (t.m (ix2 i (0 : Fin 1)) - stepMN t.m s (ix2 i (0 : Fin 1))) * t.a (ix2 i e)
      + ∑ k : Fin 128, Ideal.exp2 (s (ix2 i k) - stepMN t.m s (ix2 i (0 : Fin 1))) * v (ix2 e k) := by
  pointwise [stepN, stepEN, stepPN]
  rfl

theorem Inv.stepN {S : ℕ → EReal} {V : Fin 512 → ℕ → EReal} {n : ℕ} {i : Fin 256} {t : St Ideal} (h : Inv S V n i t) (hS : ∀ k, S k ≠ ⊤)
    (s : FVec Ideal S256x128 .f32) (v : FVec Ideal S512x128 .bf16) (hs : ∀ k : Fin 128, s (ix2 i k) = S (n + k))
    (hv : ∀ (e : Fin 512) (k : Fin 128), v (ix2 e k) = V e (n + k)) : Inv S V (n + 128) i (stepN t s v) := by
  have hm : stepMN t.m s (ix2 i (0 : Fin 1)) = runMax S (n + 128) := by
    rw [stepMN_apply, ← runMax_step S n 128 _ h.m]
    simp only [hs]
  refine ⟨hm, ?_, fun e => ?_⟩
  · rw [stepN_l, hm, h.m, h.l, ← runSum_step hS _ n 128]
    simp only [hs, mul_one]
  · rw [stepN_a, hm, h.m, h.a e, ← runSum_step hS _ n 128]
    simp only [hs, hv]

/-- The sum over the features in which all but one head's are zero is the sum over that head's. -/
theorem sum_head (a y : Fin 512 → EReal) (h : Fin 8) :
    ∑ e : Fin 512, (a e * (if e.val / 64 = h.val then 1 else 0)) * y e
      = ∑ d : Fin 64, a (⟨64 * h + d, by omega⟩ : Fin 512) * y (⟨64 * h + d, by omega⟩ : Fin 512) := by
  have h1 : ∀ e : Fin 512, (a e * (if e.val / 64 = h.val then 1 else 0)) * y e = if e.val / 64 = h.val then a e * y e else 0 := by
    intro e; split_ifs <;> simp
  simp only [h1]
  rw [← Finset.sum_filter]
  refine Finset.sum_nbij' (fun e => (⟨e.val % 64, by omega⟩ : Fin 64)) (fun d => (⟨64 * h + d, by omega⟩ : Fin 512)) ?_ ?_ ?_ ?_ ?_
  · intro e _; simp
  · intro d _; simp only [Finset.mem_filter, Finset.mem_univ, true_and]; omega
  · intro e he; simp at he; apply Fin.ext; simp; omega
  · intro d _; apply Fin.ext; simp
  · intro e he
    simp at he
    have : (⟨64 * h + e.val % 64, by omega⟩ : Fin 512) = e := by apply Fin.ext; simp; omega
    simp only [this]

section
variable (b : Fin 32) (x0 : Vec Ideal S1x32x512 .f32) (x1 x2 : Vec Ideal S1x512x4096 .f32) (x3 x4 : Vec Ideal S1x512x128 .f32)
  (x5 : Vec Ideal S1x8x4096 .f32) (x6 : Vec Ideal S1x8x128 .f32) (x7 : Vec Ideal S1x256x1 .f32) (h : Fin 8) (t : Fin 32)

/-- The score of query `t` of head `h` at an old key. -/
def sOld (k : Fin 4096) : EReal :=
  ∑ d : Fin 64, (x0 (ix3 (0 : Fin 1) t (⟨64 * h + d, by omega⟩ : Fin 512)) * ((1 / 8 * log2e : ℝ) : EReal)) * x1 (ix3 (0 : Fin 1) (⟨64 * h + d, by omega⟩ : Fin 512) k)
    + (x7 (ix3 (0 : Fin 1) (⟨32 * h + t, by omega⟩ : Fin 256) (0 : Fin 1)) - x5 (ix3 (0 : Fin 1) h k)) * ((log2e : ℝ) : EReal)

/-- The score at a new key, before the mask. -/
def sNew (k : Fin 128) : EReal :=
  ∑ d : Fin 64, (x0 (ix3 (0 : Fin 1) t (⟨64 * h + d, by omega⟩ : Fin 512)) * ((1 / 8 * log2e : ℝ) : EReal)) * x3 (ix3 (0 : Fin 1) (⟨64 * h + d, by omega⟩ : Fin 512) k)
    + (x7 (ix3 (0 : Fin 1) (⟨32 * h + t, by omega⟩ : Fin 256) (0 : Fin 1)) - x6 (ix3 (0 : Fin 1) h k)) * ((log2e : ℝ) : EReal)

/-- The scores in the order in which the kernel meets them. -/
def sc (n : ℕ) : EReal :=
  if p : n < 4096 then sOld x0 x1 x5 x7 h t ⟨n, p⟩
  else if p : n < 4224 then (if (n - 4096) / 32 = b.val % 4 ∧ (n - 4096) % 32 ≤ t.val then sNew x0 x3 x6 x7 h t ⟨n - 4096, by omega⟩ else ⊥)
  else ⊥

/-- The values in that order. -/
def va (e : Fin 512) (n : ℕ) : EReal :=
  if p : n < 4096 then x2 (ix3 (0 : Fin 1) e ⟨n, p⟩)
  else if p : n < 4224 then x4 (ix3 (0 : Fin 1) e ⟨n - 4096, by omega⟩) else 0

theorem score_sc (off : ℕ) (ho : off + 512 ≤ 4096) (k : Fin 512) :
    (shapeCast S256x512 (score3 (qs x0) x1 x5 (cq x7) off ho) shapeCasts_S1x256x512_S256x512) (ix2 (⟨32 * h + t, by omega⟩ : Fin 256) k)
      = sc b x0 x1 x3 x5 x6 x7 h t (off + k) := by
  have h1 : (shapeCast S256x512 (score3 (qs x0) x1 x5 (cq x7) off ho) shapeCasts_S1x256x512_S256x512) (ix2 (⟨32 * h + t, by omega⟩ : Fin 256) k)
      = score (qs x0) x1 x5 (cq x7) off ho (ix2 (⟨32 * h + t, by omega⟩ : Fin 256) k) := by
    generalize (⟨32 * h + t, by omega⟩ : Fin 256) = i
    unfold score3
    generalize score (qs x0) x1 x5 (cq x7) off ho = z
    pointwise
  rw [h1, score_apply _ _ _ _ _ _ _ h t rfl, cq_apply]
  simp only [qs_apply x0 (⟨32 * h + t, by omega⟩ : Fin 256) h t rfl]
  rw [sum_head (fun e => x0 (ix3 (0 : Fin 1) t e) * ((1 / 8 * log2e : ℝ) : EReal)) _ h, sc, dif_pos (by omega : off + k.val < 4096)]
  rfl

theorem score_scN (k : Fin 128) :
    finScore (BitVec.ofNat 32 b.val) (qs x0) x3 x6 (cq x7) (ix2 (⟨32 * h + t, by omega⟩ : Fin 256) k)
      = sc b x0 x1 x3 x5 x6 x7 h t (4096 + k) := by
  rw [finScore_apply, scoreN_apply _ _ _ _ _ h t rfl, cq_apply]
  simp only [qs_apply x0 (⟨32 * h + t, by omega⟩ : Fin 256) h t rfl]
  rw [sum_head (fun e => x0 (ix3 (0 : Fin 1) t e) * ((1 / 8 * log2e : ℝ) : EReal)) _ h, sc, dif_neg (by omega : ¬ 4096 + k.val < 4096), dif_pos (by omega : 4096 + k.val < 4224)]
  have e1 : (32 * h.val + t.val) % 32 = t.val := by omega
  have e2 : 4096 + k.val - 4096 = k.val := by omega
  simp only [e1, e2]
  rfl

theorem blk_va (off : ℕ) (ho : off + 512 ≤ 4096) (e k : Fin 512) : blk x2 off ho (ix2 e k) = va x2 x4 e (off + k) := by
  rw [blk_apply, va, dif_pos (by omega : off + k.val < 4096)]

theorem blk_vaN (e : Fin 512) (k : Fin 128) : blkN x4 (ix2 e k) = va x2 x4 e (4096 + k) := by
  rw [blkN_apply, va, dif_neg (by omega : ¬ 4096 + k.val < 4096), dif_pos (by omega : 4096 + k.val < 4224)]
  exact congrArg (fun k => x4 (ix3 (0 : Fin 1) e k)) (Fin.ext (by simp))

theorem Inv.stepK {n : ℕ} {st : St Ideal} (hI : Inv (sc b x0 x1 x3 x5 x6 x7 h t) (va x2 x4) n (⟨32 * h + t, by omega⟩ : Fin 256) st)
    (hS : ∀ k, sc b x0 x1 x3 x5 x6 x7 h t k ≠ ⊤) (ho : n + 512 ≤ 4096) :
    Inv (sc b x0 x1 x3 x5 x6 x7 h t) (va x2 x4) (n + 512) (⟨32 * h + t, by omega⟩ : Fin 256) (Comp.stepK x0 x1 x2 x5 x7 st n ho) :=
  hI.step hS _ _ (fun k => score_sc b x0 x1 x3 x5 x6 x7 h t n ho k) (fun e k => blk_va x2 x4 n ho e k)

theorem Inv.last (hS : ∀ k, sc b x0 x1 x3 x5 x6 x7 h t k ≠ ⊤) :
    Inv (sc b x0 x1 x3 x5 x6 x7 h t) (va x2 x4) 4224 (⟨32 * h + t, by omega⟩ : Fin 256) (st9 (BitVec.ofNat 32 b.val) x0 x1 x2 x3 x4 x5 x6 x7) := by
  have i0 := Inv.zero (sc b x0 x1 x3 x5 x6 x7 h t) (va x2 x4) (⟨32 * h + t, by omega⟩ : Fin 256)
  have i1 := Inv.stepK b x0 x1 x2 x3 x4 x5 x6 x7 h t i0 hS (by decide)
  have i2 := Inv.stepK b x0 x1 x2 x3 x4 x5 x6 x7 h t i1 hS (by decide)
  have i3 := Inv.stepK b x0 x1 x2 x3 x4 x5 x6 x7 h t i2 hS (by decide)
  have i4 := Inv.stepK b x0 x1 x2 x3 x4 x5 x6 x7 h t i3 hS (by decide)
  have i5 := Inv.stepK b x0 x1 x2 x3 x4 x5 x6 x7 h t i4 hS (by decide)
  have i6 := Inv.stepK b x0 x1 x2 x3 x4 x5 x6 x7 h t i5 hS (by decide)
  have i7 := Inv.stepK b x0 x1 x2 x3 x4 x5 x6 x7 h t i6 hS (by decide)
  have i8 := Inv.stepK b x0 x1 x2 x3 x4 x5 x6 x7 h t i7 hS (by decide)
  exact i8.stepN hS _ _ (fun k => score_scN b x0 x1 x3 x5 x6 x7 h t k) (fun e k => blk_vaN x2 x4 e k)

theorem quot_apply (a : Vec Ideal S256x512 .f32) (l : Vec Ideal S256x1 .f32) (i : Fin 256) (e : Fin 512) :
    k0_pay31 a l (ix2 i e) = Ideal.div (a (ix2 i e)) (l (ix2 i (0 : Fin 1))) := by
  pointwise [k0_pay31]

/-- One grid point's output: for each query and each feature the quotient of the two running sums. -/
theorem out_apply (e : Fin 512) (he : e.val / 64 = h.val) (hS : ∀ k, sc b x0 x1 x3 x5 x6 x7 h t k ≠ ⊤) :
    out (BitVec.ofNat 32 b.val) x0 x1 x2 x3 x4 x5 x6 x7 (ix3 (0 : Fin 1) t e)
      = Ideal.div (runSum (sc b x0 x1 x3 x5 x6 x7 h t) (va x2 x4 e) (runMax (sc b x0 x1 x3 x5 x6 x7 h t) 4224) 4224)
          (runSum (sc b x0 x1 x3 x5 x6 x7 h t) (fun _ => 1) (runMax (sc b x0 x1 x3 x5 x6 x7 h t) 4224) 4224) := by
  have hI := Inv.last b x0 x1 x2 x3 x4 x5 x6 x7 h t hS
  have hr : (⟨32 * (e.val / 64) + t, by omega⟩ : Fin 256) = ⟨32 * h + t, by omega⟩ := Fin.ext (by simp only []; omega)
  rw [out, unstack_apply, hr, quot_apply, hI.a, hI.l]

end

end Cert.FoxSIdeal.Comp
end
-- ==== Proof.Hand.FoxHost.lean ====
/- The forgetting attention of the sample step over the extended reals: the blocks that a grid
   point reads, as elements of the arguments. -/
module

public import proofs.«01_k».proof.Proof.Hand.FoxInv
public import proofs.«01_k».proof.Proof.Gen.FoxSIdeal.Value
public import Idealize.ShloMosaic.Lib.Pointwise
public import Idealize.ShloMosaic.Lib.Claim
public import Idealize.ShloMosaic.Lib.StableHlo.ReadAt
public import Idealize.ShloMosaic.Lib.Pipeline.ValueKit

@[expose] public section

set_option maxRecDepth 16384

noncomputable section

namespace Cert.FoxSIdeal.Comp

open Cert.FoxSIdeal Cert.FoxSIdeal.Gen Idealize.ShloMosaic Idealize.ShloMosaic.TcCoe Idealize.SL.Sem
open Idealize.ShloMosaic.Pipeline (Dat)

open Cert.Attn

variable (m : (ℓ : Loc nD τ sig) → Buf (Elt Ideal) ℓ) (c : Dev nD)

theorem N_eq : cfg0.N = 32 := by decide +kernel

theorem idx : ∀ t : Fin grid0.N, (grid0.coords t 0).val = t.val ∧ win0_0.index t = ![t.val, 0, 0] ∧ win0_1.index t = ![t.val, 0, 0] ∧ win0_2.index t = ![t.val, 0, 0]
    ∧ win0_3.index t = ![0, 0, t.val / 4] ∧ win0_4.index t = ![0, 0, t.val / 4] ∧ win0_5.index t = ![t.val, 0, 0]
    ∧ win0_6.index t = ![t.val, 0, 0] ∧ win0_7.index t = ![t.val, 0, 0] ∧ win0_8.index t = ![t.val, 0, 0] := by decide +kernel

theorem v0_at (b q : Fin 32) (h : Fin 8) (d : Fin 64) :
    V m c main_v0 (ix3 b q (⟨64 * h + d, by omega⟩ : Fin 512)) = m (c.tc.loc main_arg0) (ix4 b q h d) := by
  unfold V
  after_reads_at
  blk_ext

theorem v3_at (b j : Fin 32) (h : Fin 8) (d : Fin 64) :
    V m c main_v3 (ix3 (0 : Fin 1) (⟨64 * h + d, by omega⟩ : Fin 512) (⟨32 * b + j, by omega⟩ : Fin 1024)) = m (c.tc.loc main_arg1) (ix4 b j h d) := by
  unfold V
  after_reads_at
  blk_ext

theorem v6_at (b j : Fin 32) (h : Fin 8) (d : Fin 64) :
    V m c main_v6 (ix3 (0 : Fin 1) (⟨64 * h + d, by omega⟩ : Fin 512) (⟨32 * b + j, by omega⟩ : Fin 1024)) = m (c.tc.loc main_arg2) (ix4 b j h d) := by
  unfold V
  after_reads_at
  blk_ext

theorem v12_at (b : Fin 32) (k : Fin 4096) (h : Fin 8) (d : Fin 64) :
    V m c main_v12 (ix3 b (⟨64 * h + d, by omega⟩ : Fin 512) k) = m (c.tc.loc main_arg4) (ix5 (0 : Fin 1) b k h d) := by
  unfold V
  after_reads_at
  blk_ext

theorem v15_at (b : Fin 32) (k : Fin 4096) (h : Fin 8) (d : Fin 64) :
    V m c main_v15 (ix3 b (⟨64 * h + d, by omega⟩ : Fin 512) k) = m (c.tc.loc main_arg5) (ix5 (0 : Fin 1) b k h d) := by
  unfold V
  after_reads_at
  blk_ext

theorem v7_at (b : Fin 32) (h : Fin 8) (k : Fin 4096) :
    V m c main_v7 (ix3 b h (⟨k, by omega⟩ : Fin 4224)) = m (c.tc.loc main_arg3) (ix3 b h (⟨k, by omega⟩ : Fin 4128)) := by
  unfold V
  after_reads_at
  exact dif_pos (by omega)

theorem v9_at (b q : Fin 32) (h : Fin 8) :
    V m c main_v9 (ix3 b (⟨32 * h + q, by omega⟩ : Fin 256) (0 : Fin 1)) = m (c.tc.loc main_arg3) (ix3 b h (⟨4096 + q, by omega⟩ : Fin 4128)) := by
  unfold V
  after_reads_at
  exact dif_pos (by omega)

theorem v18_at (b : Fin 32) (h : Fin 8) (k : Fin 128) :
    V m c main_v18 (ix3 b h k) = m (c.tc.loc main_arg3) (ix3 b h (⟨4096 + k % 32, by omega⟩ : Fin 4128)) := by
  unfold V
  after_reads_at
  exact dif_pos (by omega)

section
variable (t : Fin cfg0.N) (b : Fin 32) (hb : t.val = b.val)
include hb

theorem x0_at (q : Fin 32) (h : Fin 8) (d : Fin 64) :
    iblk m c 0 t (ix3 (0 : Fin 1) q (⟨64 * h + d, by omega⟩ : Fin 512)) = m (c.tc.loc main_arg0) (ix4 b q h d) := by
  refine Eq.trans ?_ (v0_at m c b q h d)
  blk_ext [iblk, idx t]

theorem x1_at (k : Fin 4096) (h : Fin 8) (d : Fin 64) :
    iblk m c 1 t (ix3 (0 : Fin 1) (⟨64 * h + d, by omega⟩ : Fin 512) k) = m (c.tc.loc main_arg4) (ix5 (0 : Fin 1) b k h d) := by
  refine Eq.trans ?_ (v12_at m c b k h d)
  blk_ext [iblk, idx t]

theorem x2_at (k : Fin 4096) (h : Fin 8) (d : Fin 64) :
    iblk m c 2 t (ix3 (0 : Fin 1) (⟨64 * h + d, by omega⟩ : Fin 512) k) = m (c.tc.loc main_arg5) (ix5 (0 : Fin 1) b k h d) := by
  refine Eq.trans ?_ (v15_at m c b k h d)
  blk_ext [iblk, idx t]

theorem x3_at (j : Fin 32) (h : Fin 8) (d : Fin 64) :
    iblk m c 3 t (ix3 (0 : Fin 1) (⟨64 * h + d, by omega⟩ : Fin 512) (⟨32 * (b.val % 4) + j, by omega⟩ : Fin 128)) = m (c.tc.loc main_arg1) (ix4 b j h d) := by
  refine Eq.trans ?_ (v3_at m c b j h d)
  blk_ext [iblk, idx t]

theorem x4_at (j : Fin 32) (h : Fin 8) (d : Fin 64) :
    iblk m c 4 t (ix3 (0 : Fin 1) (⟨64 * h + d, by omega⟩ : Fin 512) (⟨32 * (b.val % 4) + j, by omega⟩ : Fin 128)) = m (c.tc.loc main_arg2) (ix4 b j h d) := by
  refine Eq.trans ?_ (v6_at m c b j h d)
  blk_ext [iblk, idx t]

theorem x5_at (h : Fin 8) (k : Fin 4096) :
    X0_5 m c t (ix3 (0 : Fin 1) h k) = m (c.tc.loc main_arg3) (ix3 b h (⟨k, by omega⟩ : Fin 4128)) := by
  refine Eq.trans ?_ (v7_at m c b h k)
  refine (dif_pos (moved0_5 t _)).trans ?_
  blk_ext [iblk, idx t]

theorem x6_at (h : Fin 8) (k : Fin 128) :
    iblk m c 6 t (ix3 (0 : Fin 1) h k) = m (c.tc.loc main_arg3) (ix3 b h (⟨4096 + k % 32, by omega⟩ : Fin 4128)) := by
  refine Eq.trans ?_ (v18_at m c b h k)
  blk_ext [iblk, idx t]

theorem x7_at (h : Fin 8) (q : Fin 32) :
    iblk m c 7 t (ix3 (0 : Fin 1) (⟨32 * h + q, by omega⟩ : Fin 256) (0 : Fin 1)) = m (c.tc.loc main_arg3) (ix3 b h (⟨4096 + q, by omega⟩ : Fin 4128)) := by
  refine Eq.trans ?_ (v9_at m c b q h)
  blk_ext [iblk, idx t]

/-- The result array at one index, as the grid point that writes it leaves it. -/
theorem arr_at (q : Fin 32) (e : Fin 512) :
    (dats m 0 c).arrAt 8 cfg0.N (ix3 b q e)
      = out (BitVec.ofNat 32 b.val) (iblk m c 0 t) (iblk m c 1 t) (iblk m c 2 t) (iblk m c 3 t) (iblk m c 4 t) (X0_5 m c t) (iblk m c 6 t) (iblk m c 7 t)
          (ix3 (0 : Fin 1) q e) := by
  have hf : ∀ t : Fin cfg0.N, (cfg0.win 8).flush t = true := by decide +kernel
  have h := congrFun (Value.blocks8 m c t (hf t)) (ix3 (0 : Fin 1) q e)
  rw [Value.flushed8, outsAt0_eq, (idx t).1, hb] at h
  refine Eq.trans ?_ (h.trans ?_)
  · blk_ext [idx t]
  · rfl

end

end Cert.FoxSIdeal.Comp
end
-- ==== Proof.Hand.FoxRef.lean ====
/- The reference of the sample step's forgetting attention over the extended reals, read at one index: a softmax over the
   4128 keys, with the old keys first. -/
module

public import proofs.«01_k».proof.Proof.Gen.FoxSRefIdeal.Run
public import proofs.«01_k».proof.Proof.Gen.FoxSRefIdeal.Read
public import Idealize.ShloMosaic.Lib.Pointwise

@[expose] public section

set_option maxRecDepth 16384

noncomputable section

namespace Cert.FoxSRefIdeal.Read

open Cert.FoxSRefIdeal Cert.FoxSRefIdeal.Gen Idealize.ShloMosaic Idealize.ShloMosaic.TcCoe Idealize.SL.Sem

variable (x0 x1 x2 : (⟨S32x32x8x64, .f32⟩ : BufTy).Contents (Elt Ideal)) (x3 : (⟨S32x8x4128, .f32⟩ : BufTy).Contents (Elt Ideal))
  (x4 x5 : (⟨S1x32x4096x8x64, .f32⟩ : BufTy).Contents (Elt Ideal))

theorem neg_inf_word : Ideal.ofBits .f32 0xFF800000#32 = (⊥ : EReal) := by simp [Ideal.ofBits, Ideal.ieee]

theorem v5_at (b q : Fin 32) (h : Fin 8) (j : Fin 4128) : val_main_v5 x0 x1 x4 (ix4 b h q j)
    = ∑ d : Fin 64, x0 (ix4 b q h d) * (if p : j.val < 4096 then x4 (ix5 (0 : Fin 1) b (⟨j, p⟩ : Fin 4096) h d) else x1 (ix4 b (⟨j - 4096, by omega⟩ : Fin 32) h d)) := by
  pointwise [val_main_v5, val_main_v2, val_main_v0]

theorem v12_at (b q : Fin 32) (h : Fin 8) (j : Fin 4128) : val_main_v12 x3 (ix4 b h q j)
    = x3 (ix3 b h (⟨4096 + q, by omega⟩ : Fin 4128)) - x3 (ix3 b h j) := by
  pointwise [val_main_v12, val_main_v10, val_main_v8, val_main_v9, val_main_v11, val_main_v4]

theorem causal_word : ∀ (q : Fin 32) (j : Fin 4128), IntOp.cmpi .sle (BitVec.ofNat 32 j.val) (IntOp.addi 4096#32 (BitVec.ofNat 32 q.val))
    = if j.val ≤ 4096 + q.val then 1#1 else 0#1 := by
  intro q j
  have h1 : IntOp.addi 4096#32 (BitVec.ofNat 32 q.val) = BitVec.ofNat 32 (4096 + q.val) := by
    show 4096#32 + BitVec.ofNat 32 q.val = _
    rw [BitVec.ofNat_add]
  rw [h1]
  have hj : (BitVec.ofNat 32 j.val).toInt = (j.val : ℤ) := by
    rw [BitVec.toInt_eq_toNat_of_lt] <;> simp <;> omega
  have hq : (BitVec.ofNat 32 (4096 + q.val)).toInt = ((4096 + q.val : ℕ) : ℤ) := by
    rw [BitVec.toInt_eq_toNat_of_lt] <;> simp <;> omega
  show BitVec.ofBool (BitVec.sle _ _) = _
  rw [BitVec.sle, hj, hq]
  by_cases p : j.val ≤ 4096 + q.val
  · rw [if_pos p, decide_eq_true (by exact_mod_cast p)]; rfl
  · rw [if_neg p, decide_eq_false (by exact_mod_cast p)]; rfl

theorem v24_at (b q : Fin 32) (h : Fin 8) (j : Fin 4128) : val_main_v24 x0 x1 x3 x4 (ix4 b h q j)
    = if j.val ≤ 4096 + q.val then val_main_v5 x0 x1 x4 (ix4 b h q j) * ((1 / 8 : ℝ) : EReal) + val_main_v12 x3 (ix4 b h q j) else ⊥ := by
  have h8 : Ideal.ofBits .f32 0x3E000000#32 = ((1 / 8 : ℝ) : EReal) := by
    simp [Ideal.ofBits, Ideal.ieee]
    rw [← EReal.coe_mul]; norm_num
  pointwise [val_main_v24, val_main_v7, val_main_v13, val_main_v6, val_main_cst, val_main_call0_v2, val_main_call0_v1, val_main_call0_v0, val_main_v23, val_main_v22, val_main_v21, val_main_v20, val_main_v19, val_main_v18, val_main_v17, val_main_c, val_main_v16, val_main_v15, val_main_v14, val_main_cst_0]
  rw [causal_word, h8]
  have hb : (id (constant (F := Ideal) S_ FTy.f32 0xFF800000#32) ix0 : EReal) = ⊥ := neg_inf_word
  rw [hb]
  split_ifs <;> rfl

theorem fold_sup {n : ℕ} (f : Fin n → EReal) : (Finset.univ : Finset (Fin n)).fold (FloatOps.maximumf (F := Ideal) (φ := .f32)) (⊥ : EReal) f = Finset.univ.sup f := rfl

theorem max_at (y : FVec Ideal S32x8x32x4128 .f32) (z : FVec Ideal S_ .f32) (hz : z (Shape.Idx.first h_S_) = (⊥ : EReal)) (b q : Fin 32) (h : Fin 8) :
    Host.reduce FloatOps.maximumf y z reducesTo_S32x8x32x4128_S32x8x32_d3 h_S_ (ix3 b h q) = (Finset.univ.sup fun j : Fin 4128 => y (ix4 b h q j) : EReal) := by
  have hr : S32x8x32x4128.Reduces [3] S32x8x32 := by decide
  rw [Host.reduce_eq_fold_single (FloatOps.maximumf (F := Ideal) (φ := .f32)) y z reducesTo_S32x8x32x4128_S32x8x32_d3 hr h_S_, hz]
  refine (fold_sup _).trans (congrArg _ (funext fun k => congrArg y ?_))
  funext a
  match a with
  | ⟨0, _⟩ => rfl
  | ⟨1, _⟩ => rfl
  | ⟨2, _⟩ => rfl
  | ⟨3, _⟩ => rfl

theorem v25_at (b q : Fin 32) (h : Fin 8) : val_main_v25 x0 x1 x3 x4 (ix3 b h q)
    = Finset.univ.sup fun j : Fin 4128 => val_main_v24 x0 x1 x3 x4 (ix4 b h q j) :=
  max_at _ _ neg_inf_word b q h

theorem v27_at (b q : Fin 32) (h : Fin 8) : val_main_v27 x0 x1 x3 x4 (ix3 b h q)
    = Finset.univ.sup fun j : Fin 4128 => val_main_v24 x0 x1 x3 x4 (ix4 b h q j) := by
  rw [val_main_v27_apply, v25_at, val_main_v26_apply, val_main_cst_2_apply]
  generalize (Finset.univ.sup fun j : Fin 4128 => val_main_v24 x0 x1 x3 x4 (ix4 b h q j) : EReal) = z
  show max (Ideal.ofBits .f32 0xFF800000#32) z = z
  rw [neg_inf_word, max_bot_left]

theorem v31_at (b q : Fin 32) (h : Fin 8) (j : Fin 4128) : val_main_v31 x0 x1 x3 x4 (ix4 b h q j)
    = Ideal.exp (val_main_v24 x0 x1 x3 x4 (ix4 b h q j) - Finset.univ.sup fun j : Fin 4128 => val_main_v24 x0 x1 x3 x4 (ix4 b h q j)) := by
  rw [← v27_at]
  unfold val_main_v31 val_main_v30 val_main_v29 val_main_v28
  generalize val_main_v27 x0 x1 x3 x4 = z
  generalize val_main_v24 x0 x1 x3 x4 = y
  pointwise

theorem v35_at (b q : Fin 32) (h : Fin 8) (j : Fin 4128) : val_main_v35 x0 x1 x3 x4 (ix4 b h q j)
    = Ideal.div (val_main_v31 x0 x1 x3 x4 (ix4 b h q j)) (∑ i : Fin 4128, val_main_v31 x0 x1 x3 x4 (ix4 b h q i)) := by
  unfold val_main_v35 val_main_v34 val_main_v33 val_main_v32
  generalize val_main_v31 x0 x1 x3 x4 = z
  pointwise [val_main_cst_3]

/-- The values with the old keys' first. -/
def vAll (b : Fin 32) (h : Fin 8) (d : Fin 64) (j : Fin 4128) : EReal :=
  if p : j.val < 4096 then x5 (ix5 (0 : Fin 1) b (⟨j, p⟩ : Fin 4096) h d) else x2 (ix4 b (⟨j - 4096, by omega⟩ : Fin 32) h d)

theorem v39_sum (b q : Fin 32) (h : Fin 8) (d : Fin 64) : val_main_v39 x0 x1 x2 x3 x4 x5 (ix3 b q (⟨64 * h + d, by omega⟩ : Fin 512))
    = ∑ j : Fin 4128, val_main_v35 x0 x1 x3 x4 (ix4 b h q j) * vAll x2 x5 b h d j := by
  pointwise [val_main_v39, val_main_v38, val_main_v37, val_main_v36, val_main_v3, val_main_v1]
  have hs := Fin.sum_univ_add (a := 4096) (b := 32) (fun j : Fin 4128 => val_main_v35 x0 x1 x3 x4 (ix4 b h q j) * vAll x2 x5 b h d j)
  refine Eq.trans ?_ hs.symm
  congr 1
  · refine Finset.sum_congr rfl fun k _ => ?_
    rw [mul_comm, vAll, dif_pos (by simp)]
    rfl
  · refine Finset.sum_congr rfl fun k _ => ?_
    rw [mul_comm, vAll, dif_neg (by simp)]
    refine congrArg₂ _ rfl (congrArg (fun k => x2 (ix4 b k h d)) (Fin.ext (by simp)))

/-- The reference at one index. -/
theorem ref_at (b q : Fin 32) (h : Fin 8) (d : Fin 64) : val_main_v39 x0 x1 x2 x3 x4 x5 (ix3 b q (⟨64 * h + d, by omega⟩ : Fin 512))
    = ∑ j : Fin 4128, Ideal.div
        (Ideal.exp (val_main_v24 x0 x1 x3 x4 (ix4 b h q j) - Finset.univ.sup fun j : Fin 4128 => val_main_v24 x0 x1 x3 x4 (ix4 b h q j)))
        (∑ i : Fin 4128, Ideal.exp (val_main_v24 x0 x1 x3 x4 (ix4 b h q i) - Finset.univ.sup fun j : Fin 4128 => val_main_v24 x0 x1 x3 x4 (ix4 b h q j)))
        * vAll x2 x5 b h d j := by
  rw [v39_sum]
  simp only [v35_at, v31_at]

end Cert.FoxSRefIdeal.Read
end
-- ==== Proof.Hand.FoxEq.lean ====
/- The sample step's forgetting attention: kernel and reference compute one function over the extended reals where the
   queries, the keys and the cumulative log forget values are finite. -/
module

public import proofs.«01_k».proof.Proof.Hand.FoxHost
public import proofs.«01_k».proof.Proof.Hand.FoxRef
public import proofs.«01_k».proof.Pre_finite_scores
public import Idealize.ShloMosaic.Lib.ReduceAll

@[expose] public section

set_option maxRecDepth 16384

noncomputable section

namespace Cert.FoxSIdeal.Comp

open Cert.FoxSIdeal Cert.FoxSIdeal.Gen Idealize.ShloMosaic Idealize.ShloMosaic.TcCoe Idealize.SL.Sem
open Cert.Attn

theorem sum_coe {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A score of real operands: the scale and the change of base come out of it, and it is real. -/
theorem score_real (q k : Fin 64 → EReal) (a c : EReal) (hq : ∀ d, ∃ r : ℝ, q d = r) (hk : ∀ d, ∃ r : ℝ, k d = r)
    (ha : ∃ r : ℝ, a = r) (hc : ∃ r : ℝ, c = r) :
    (∃ r : ℝ, (∑ d, q d * k d) * ((1 / 8 : ℝ) : EReal) + (a - c) = r) ∧
    ∑ d, (q d * ((1 / 8 * log2e : ℝ) : EReal)) * k d + (a - c) * ((log2e : ℝ) : EReal)
      = (log2e : EReal) * ((∑ d, q d * k d) * ((1 / 8 : ℝ) : EReal) + (a - c)) := by
  choose q' hq' using hq
  choose k' hk' using hk
  obtain ⟨a', rfl⟩ := ha
  obtain ⟨c', rfl⟩ := hc
  simp only [hq', hk', ← EReal.coe_mul, ← EReal.coe_sub, sum_coe, ← EReal.coe_add]
  refine ⟨⟨_, rfl⟩, congrArg _ ?_⟩
  rw [mul_add, Finset.sum_mul, Finset.mul_sum, mul_comm (log2e) (a' - c')]
  congr 1
  refine Finset.sum_congr rfl fun d _ => by ring

theorem core_eq (A0 A1 A2 : S32x32x8x64.Idx → EReal) (A3 : S32x8x4128.Idx → EReal) (A4 A5 : S1x32x4096x8x64.Idx → EReal)
    (f0 : ∀ i, ∃ r : ℝ, A0 i = (r : EReal)) (f1 : ∀ i, ∃ r : ℝ, A1 i = (r : EReal)) (f3 : ∀ i, ∃ r : ℝ, A3 i = (r : EReal)) (f4 : ∀ i, ∃ r : ℝ, A4 i = (r : EReal))
    (b : Fin 32) (x0 : Vec Ideal S1x32x512 .f32) (x1 x2 : Vec Ideal S1x512x4096 .f32) (x3 x4 : Vec Ideal S1x512x128 .f32)
    (x5 : Vec Ideal S1x8x4096 .f32) (x6 : Vec Ideal S1x8x128 .f32) (x7 : Vec Ideal S1x256x1 .f32)
    (hx0 : ∀ (q : Fin 32) (h : Fin 8) (d : Fin 64), x0 (ix3 (0 : Fin 1) q (⟨64 * h + d, by omega⟩ : Fin 512)) = A0 (ix4 b q h d))
    (hx1 : ∀ (k : Fin 4096) (h : Fin 8) (d : Fin 64), x1 (ix3 (0 : Fin 1) (⟨64 * h + d, by omega⟩ : Fin 512) k) = A4 (ix5 (0 : Fin 1) b k h d))
    (hx2 : ∀ (k : Fin 4096) (h : Fin 8) (d : Fin 64), x2 (ix3 (0 : Fin 1) (⟨64 * h + d, by omega⟩ : Fin 512) k) = A5 (ix5 (0 : Fin 1) b k h d))
    (hx3 : ∀ (j : Fin 32) (h : Fin 8) (d : Fin 64), x3 (ix3 (0 : Fin 1) (⟨64 * h + d, by omega⟩ : Fin 512) (⟨32 * (b.val % 4) + j, by omega⟩ : Fin 128)) = A1 (ix4 b j h d))
    (hx4 : ∀ (j : Fin 32) (h : Fin 8) (d : Fin 64), x4 (ix3 (0 : Fin 1) (⟨64 * h + d, by omega⟩ : Fin 512) (⟨32 * (b.val % 4) + j, by omega⟩ : Fin 128)) = A2 (ix4 b j h d))
    (hx5 : ∀ (h : Fin 8) (k : Fin 4096), x5 (ix3 (0 : Fin 1) h k) = A3 (ix3 b h (⟨k, by omega⟩ : Fin 4128)))
    (hx6 : ∀ (h : Fin 8) (k : Fin 128), x6 (ix3 (0 : Fin 1) h k) = A3 (ix3 b h (⟨4096 + k % 32, by omega⟩ : Fin 4128)))
    (hx7 : ∀ (h : Fin 8) (q : Fin 32), x7 (ix3 (0 : Fin 1) (⟨32 * h + q, by omega⟩ : Fin 256) (0 : Fin 1)) = A3 (ix3 b h (⟨4096 + q, by omega⟩ : Fin 4128)))
    (q : Fin 32) (h : Fin 8) (d : Fin 64) :
    out (BitVec.ofNat 32 b.val) x0 x1 x2 x3 x4 x5 x6 x7 (ix3 (0 : Fin 1) q (⟨64 * h + d, by omega⟩ : Fin 512))
      = Cert.FoxSRefIdeal.Read.val_main_v39 (F := Ideal) A0 A1 A2 A3 A4 A5 (ix3 b q (⟨64 * h + d, by omega⟩ : Fin 512)) := by
  have hlt : (log2e : EReal) * ⊥ = ⊥ := EReal.coe_mul_bot_of_pos log2e_pos
  -- the scores, key by key
  have sold : ∀ k : Fin 4096, sc b x0 x1 x3 x5 x6 x7 h q k.val
      = (log2e : EReal) * ((∑ d : Fin 64, A0 (ix4 b q h d) * A4 (ix5 (0 : Fin 1) b k h d) : EReal) * ((1 / 8 : ℝ) : EReal)
          + (A3 (ix3 b h (⟨4096 + q, by omega⟩ : Fin 4128)) - A3 (ix3 b h (⟨k, by omega⟩ : Fin 4128)))) := by
    intro k
    rw [sc, dif_pos k.isLt, sOld]
    simp only [hx0, hx1, hx5, hx7]
    exact (score_real _ _ _ _ (fun d => f0 _) (fun d => f4 _) (f3 _) (f3 _)).2
  have snew : ∀ k : Fin 32, sc b x0 x1 x3 x5 x6 x7 h q (4096 + (32 * (b.val % 4) + k.val))
      = if k.val ≤ q.val then (log2e : EReal) * ((∑ d : Fin 64, A0 (ix4 b q h d) * A1 (ix4 b k h d) : EReal) * ((1 / 8 : ℝ) : EReal)
          + (A3 (ix3 b h (⟨4096 + q, by omega⟩ : Fin 4128)) - A3 (ix3 b h (⟨4096 + k, by omega⟩ : Fin 4128)))) else ⊥ := by
    intro k
    have e1 : (4096 + (32 * (b.val % 4) + k.val) - 4096) / 32 = b.val % 4 := by omega
    have e2 : (4096 + (32 * (b.val % 4) + k.val) - 4096) % 32 = k.val := by omega
    have e3 : (⟨4096 + (32 * (b.val % 4) + k.val) - 4096, by omega⟩ : Fin 128) = ⟨32 * (b.val % 4) + k.val, by omega⟩ := Fin.ext (by simp)
    have e4 : (32 * (b.val % 4) + k.val) % 32 = k.val := by omega
    rw [sc, dif_neg (by omega), dif_pos (by omega), e3, e1, e2, sNew]
    simp only [hx0, hx3, hx6, hx7, true_and, e4]
    split_ifs
    · exact (score_real _ _ _ _ (fun d => f0 _) (fun d => f1 _) (f3 _) (f3 _)).2
    · rfl
  have soff : ∀ k : ℕ, 4096 ≤ k → k < 4224 → (k - 4096) / 32 ≠ b.val % 4 →
      sc b x0 x1 x3 x5 x6 x7 h q k = ⊥ := by
    intro k h1 h2 h3
    rw [sc, dif_neg (by omega), dif_pos h2, if_neg (fun hh => h3 hh.1)]
  have hreal : ∀ r : ℝ, (log2e : EReal) * (r : EReal) ≠ ⊤ := fun r => by rw [← EReal.coe_mul]; exact EReal.coe_ne_top _
  have hS : ∀ k, sc b x0 x1 x3 x5 x6 x7 h q k ≠ ⊤ := by
    intro k
    by_cases h1 : k < 4096
    · rw [sold ⟨k, h1⟩]
      obtain ⟨r, hr⟩ := (score_real (fun d => A0 (ix4 b q h d)) (fun d => A4 (ix5 (0 : Fin 1) b ⟨k, h1⟩ h d)) _ _ (fun d => f0 _) (fun d => f4 _)
        (f3 (ix3 b h (⟨4096 + q, by omega⟩ : Fin 4128))) (f3 (ix3 b h (⟨k, by omega⟩ : Fin 4128)))).1
      rw [hr]; exact hreal r
    · by_cases h2 : k < 4224
      · by_cases h3 : (k - 4096) / 32 = b.val % 4
        · obtain ⟨k', rfl⟩ : ∃ k' : Fin 32, k = 4096 + (32 * (b.val % 4) + k'.val) := ⟨⟨(k - 4096) % 32, by omega⟩, by simp only []; omega⟩
          rw [snew k']
          split_ifs
          · obtain ⟨r, hr⟩ := (score_real (fun d => A0 (ix4 b q h d)) (fun d => A1 (ix4 b k' h d)) _ _ (fun d => f0 _) (fun d => f1 _)
              (f3 (ix3 b h (⟨4096 + q, by omega⟩ : Fin 4128))) (f3 (ix3 b h (⟨4096 + k', by omega⟩ : Fin 4128)))).1
            rw [hr]; exact hreal r
          · exact bot_ne_top
        · rw [soff k (by omega) h2 h3]; exact bot_ne_top
      · rw [sc, dif_neg h1, dif_neg h2]; exact bot_ne_top
  rw [out_apply b _ _ _ _ _ _ _ _ h q (⟨64 * h + d, by omega⟩ : Fin 512) (by simp only []; omega) hS, Cert.FoxSRefIdeal.Read.ref_at]
  -- the reference's score at a key
  have ref : ∀ j : Fin 4128, Cert.FoxSRefIdeal.Read.val_main_v24 (F := Ideal) A0 A1 A3 A4 (ix4 b h q j)
      = if j.val ≤ 4096 + q.val then (∑ d : Fin 64, A0 (ix4 b q h d) * (if p : j.val < 4096 then A4 (ix5 (0 : Fin 1) b (⟨j, p⟩ : Fin 4096) h d)
          else A1 (ix4 b (⟨j - 4096, by omega⟩ : Fin 32) h d)) : EReal) * ((1 / 8 : ℝ) : EReal)
          + (A3 (ix3 b h (⟨4096 + q, by omega⟩ : Fin 4128)) - A3 (ix3 b h j)) else ⊥ := by
    intro j
    rw [Cert.FoxSRefIdeal.Read.v24_at, Cert.FoxSRefIdeal.Read.v5_at, Cert.FoxSRefIdeal.Read.v12_at]
  have refreal : ∀ j : Fin 4128, ∃ r : ℝ, (∑ d : Fin 64, A0 (ix4 b q h d) * (if p : j.val < 4096 then A4 (ix5 (0 : Fin 1) b (⟨j, p⟩ : Fin 4096) h d)
          else A1 (ix4 b (⟨j - 4096, by omega⟩ : Fin 32) h d)) : EReal) * ((1 / 8 : ℝ) : EReal)
          + (A3 (ix3 b h (⟨4096 + q, by omega⟩ : Fin 4128)) - A3 (ix3 b h j)) = r := by
    intro j
    refine (score_real _ _ _ _ (fun d => f0 _) (fun d => ?_) (f3 _) (f3 _)).1
    split_ifs
    · exact f4 _
    · exact f1 _
  refine softmax_eq (fun j : Fin 4128 => if j.val < 4096 then j.val else 4096 + (32 * (b.val % 4) + (j.val - 4096))) ?_ 4224 ?_ _ _ _ _ ?_ (⟨0, by omega⟩ : Fin 4128) ?_ ?_ ?_ ?_
  · intro i j hij
    simp only [] at hij
    apply Fin.ext
    split_ifs at hij <;> omega
  · intro j; split_ifs <;> omega
  · intro j
    rw [ref]
    by_cases hj : j.val ≤ 4096 + q.val
    · rw [if_pos hj]
      obtain ⟨r, hr⟩ := refreal j
      rw [hr]; exact EReal.coe_ne_top r
    · rw [if_neg hj]; exact bot_ne_top
  · rw [ref, if_pos (by simp)]
    obtain ⟨r, hr⟩ := refreal (⟨0, by omega⟩ : Fin 4128)
    rw [hr]; exact EReal.coe_ne_bot r
  · intro j
    rw [ref]
    by_cases hj : j.val < 4096
    · simp only [if_pos hj, dif_pos hj]
      rw [if_pos (by omega)]
      exact sold ⟨j, hj⟩
    · simp only [if_neg hj, dif_neg hj]
      rw [snew ⟨j.val - 4096, by omega⟩]
      by_cases hq : j.val - 4096 ≤ q.val
      · rw [if_pos hq, if_pos (by omega)]
        have : (⟨4096 + (j.val - 4096), by omega⟩ : Fin 4128) = j := Fin.ext (by simp only []; omega)
        simp only [this]
      · rw [if_neg hq, if_neg (by omega), hlt]
  · intro j
    rw [Cert.FoxSRefIdeal.Read.vAll]
    by_cases hj : j.val < 4096
    · simp only [if_pos hj, dif_pos hj]
      rw [va, dif_pos hj]
      exact hx2 ⟨j, hj⟩ h d
    · simp only [if_neg hj, dif_neg hj]
      rw [va, dif_neg (by omega), dif_pos (by omega)]
      have e3 : (⟨4096 + (32 * (b.val % 4) + (j.val - 4096)) - 4096, by omega⟩ : Fin 128) = ⟨32 * (b.val % 4) + (⟨j.val - 4096, by omega⟩ : Fin 32).val, by omega⟩ := Fin.ext (by simp)
      rw [e3]
      exact hx4 ⟨j.val - 4096, by omega⟩ h d
  · intro k hk hne
    by_cases h1 : k < 4096
    · exact absurd (by simp only [h1, if_true]) (hne ⟨k, by omega⟩)
    · refine soff k (by omega) hk fun h3 => hne ⟨4096 + (k - 4096) % 32, by omega⟩ ?_
      have hv : (⟨4096 + (k - 4096) % 32, by omega⟩ : Fin 4128).val = 4096 + (k - 4096) % 32 := rfl
      simp only [hv]
      rw [if_neg (by omega)]; omega

/-- What a finiteness bit of the precondition says. -/
theorem real_of_bit (x : Ideal .f32) (h : FloatOps.cmpf .olt (FloatOps.absf x) (Scalar.ofBits (F := Ideal) .f32 0x7F800000#32) = 1#1) : ∃ r : ℝ, x = (r : EReal) := by
  have hinf : (Scalar.ofBits (F := Ideal) .f32 0x7F800000#32 : EReal) = ⊤ := by
    show Ideal.ofBits .f32 0x7F800000#32 = ⊤
    simp [Ideal.ofBits, Ideal.ieee]
  rw [hinf] at h
  have h' : max (x : EReal) (-x) < ⊤ := by
    by_contra hn
    have : FloatOps.cmpf (F := Ideal) .olt (FloatOps.absf x) (⊤ : EReal) = 0#1 := by
      show BitVec.ofBool (decide (max (x : EReal) (-x) < ⊤)) = 0#1
      rw [decide_eq_false hn]; rfl
    rw [this] at h
    exact absurd h (by decide)
  obtain ⟨h1, h2⟩ := max_lt_iff.1 h'
  induction x using EReal.rec with
  | bot => simp at h2
  | coe r => exact ⟨r, rfl⟩
  | top => simp at h1

/-- Under the precondition the queries, the keys and the cumulative log forget values are real. -/
theorem real_of_pre [Cert.Pre_finite_scores.Facts] (A0 A1 A2 : FVec Ideal S32x32x8x64 .f32) (A3 : FVec Ideal S32x8x4128 .f32) (A4 A5 : FVec Ideal S1x32x4096x8x64 .f32)
    (h : Cert.Pre_finite_scores.fn (F := Ideal) A0 A1 A2 A3 A4 A5 = fun _ => 1#1) :
    (∀ i, ∃ r : ℝ, A0 i = (r : EReal)) ∧ (∀ i, ∃ r : ℝ, A1 i = (r : EReal)) ∧ (∀ i, ∃ r : ℝ, A3 i = (r : EReal)) ∧ (∀ i, ∃ r : ℝ, A4 i = (r : EReal)) := by
  have e := congrFun h (fun k => k.elim0)
  dsimp only [Cert.Pre_finite_scores.fn, Cert.Pre_finite_scores.fn_part1] at e
  obtain ⟨e, e4⟩ := IntOp.andi_eq_one.1 e
  obtain ⟨e, e3⟩ := IntOp.andi_eq_one.1 e
  obtain ⟨e0, e1⟩ := IntOp.andi_eq_one.1 e
  haveI : Subsingleton Cert.Pre_finite_scores.S_.Idx := ⟨fun a b => funext fun k => k.elim0⟩
  exact ⟨fun i => real_of_bit _ (Host.reduce_andi_all _ _ _ _ _ e0 i), fun i => real_of_bit _ (Host.reduce_andi_all _ _ _ _ _ e1 i),
    fun i => real_of_bit _ (Host.reduce_andi_all _ _ _ _ _ e3 i), fun i => real_of_bit _ (Host.reduce_andi_all _ _ _ _ _ e4 i)⟩

variable (m : (ℓ : Loc nD τ sig) → Buf (Elt Ideal) ℓ) (c : Dev nD)

theorem kernel_eq (f0 : ∀ i, ∃ r : ℝ, m (c.tc.loc main_arg0) i = (r : EReal)) (f1 : ∀ i, ∃ r : ℝ, m (c.tc.loc main_arg1) i = (r : EReal))
    (f3 : ∀ i, ∃ r : ℝ, m (c.tc.loc main_arg3) i = (r : EReal)) (f4 : ∀ i, ∃ r : ℝ, m (c.tc.loc main_arg4) i = (r : EReal)) :
    (dats m 0 c).arrAt 8 cfg0.N
      = Cert.FoxSRefIdeal.Read.val_main_v39 (F := Ideal) (m (c.tc.loc main_arg0)) (m (c.tc.loc main_arg1)) (m (c.tc.loc main_arg2)) (m (c.tc.loc main_arg3))
          (m (c.tc.loc main_arg4)) (m (c.tc.loc main_arg5)) := by
  have key : ∀ (b q : Fin 32) (h : Fin 8) (d : Fin 64), (dats m 0 c).arrAt 8 cfg0.N (ix3 b q (⟨64 * h + d, by omega⟩ : Fin 512))
      = Cert.FoxSRefIdeal.Read.val_main_v39 (F := Ideal) (m (c.tc.loc main_arg0)) (m (c.tc.loc main_arg1)) (m (c.tc.loc main_arg2)) (m (c.tc.loc main_arg3))
          (m (c.tc.loc main_arg4)) (m (c.tc.loc main_arg5)) (ix3 b q (⟨64 * h + d, by omega⟩ : Fin 512)) := by
    intro b q h d
    have hb : (⟨b.val, by rw [N_eq]; exact b.isLt⟩ : Fin cfg0.N).val = b.val := rfl
    rw [arr_at m c _ b hb q]
    exact core_eq _ _ _ _ _ _ f0 f1 f3 f4 b _ _ _ _ _ _ _ _ (x0_at m c _ b hb) (x1_at m c _ b hb) (x2_at m c _ b hb) (x3_at m c _ b hb)
      (x4_at m c _ b hb) (x5_at m c _ b hb) (x6_at m c _ b hb) (x7_at m c _ b hb) q h d
  funext y
  obtain ⟨b, q, e, rfl⟩ : ∃ (b q : Fin 32) (e : Fin 512), y = ix3 b q e := ⟨y 0, y 1, y 2, by funext k; fin_cases k <;> rfl⟩
  have he : e = (⟨64 * (⟨e.val / 64, by omega⟩ : Fin 8).val + (⟨e.val % 64, by omega⟩ : Fin 64).val, by simp only []; omega⟩ : Fin 512) := Fin.ext (by simp only []; omega)
  rw [he]
  exact key b q _ _

end Cert.FoxSIdeal.Comp
end
-- ==== Proof.Hand.TailComp.lean ====
/- The layer's tail: what one grid point's body leaves in its output block, as a composition of a few functions of its
   input blocks (the first residual sum, the normalised rows, one block of 256 features of the feed-forward step, the
   gate and the gated projection), the same for the two halves of the block. -/
module

public import proofs.«01_k».proof.Proof.Gen.TailIdeal.Value

@[expose] public section

set_option maxRecDepth 16384

noncomputable section

namespace Cert.TailIdeal.Comp

open Cert.TailIdeal Cert.TailIdeal.Gen Idealize.ShloMosaic Idealize.ShloMosaic.TcCoe Idealize.SL.Sem

variable {F : FTy → Type} [FloatOps F]

/-- One block of 256 features of the feed-forward step. -/
def part (h : FVec F S512x1024 .bf16) (wg wu : Vec F S1024x256 .bf16) (wd : Vec F S256x1024 .bf16) : FVec F S512x1024 .f32 :=
  have g : FVec F S512x256 .f32 := matmul dot_S512x1024_S1024x256_S512x256_1_0_0_1_n_n none h
    (shapeCast S1024x256 wg shapeCasts_S1024x256_S1024x256 : FVec F S1024x256 .bf16) (constant S512x256 .f32 0x00000000#32)
  have u : FVec F S512x256 .f32 := matmul dot_S512x1024_S1024x256_S512x256_1_0_0_1_n_n none h
    (shapeCast S1024x256 wu shapeCasts_S1024x256_S1024x256 : FVec F S1024x256 .bf16) (constant S512x256 .f32 0x00000000#32)
  matmul dot_S512x256_S256x1024_S512x1024_1_0_0_1_n_n none
    (truncf .bf16 (mulf (mulf g (logistic g)) u) bitsLt_bf16_f32 : FVec F S512x256 .bf16)
    (shapeCast S256x1024 wd shapeCasts_S256x1024_S256x1024 : FVec F S256x1024 .bf16) (constant S512x1024 .f32 0x00000000#32)

/-- The first residual sum. -/
def res (x : Vec F S512x1024 .f32) (oa : Vec F S512x512 .bf16) (woa : Vec F S512x1024 .bf16) (ob : Vec F S512x512 .bf16)
    (wob : Vec F S512x1024 .bf16) : FVec F S512x1024 .f32 := k0_pay3 x oa woa ob wob

/-- The rows normalised. -/
def nrm (x : FVec F S512x1024 .f32) (w : Vec F S1x1024 .f32) : FVec F S512x1024 .bf16 := k0_pay8 x w

theorem inbG (off : ℕ) (h : off + 256 ≤ 2816) : ∀ a, (![0, off] : Fin 2 → ℕ) a + S1024x256.size a ≤ S1024x2816.size a
  | ⟨0, _⟩ => le_refl 1024
  | ⟨1, _⟩ => h

theorem inbD (off : ℕ) (h : off + 256 ≤ 2816) : ∀ a, (![off, 0] : Fin 2 → ℕ) a + S256x1024.size a ≤ S2816x1024.size a
  | ⟨0, _⟩ => h
  | ⟨1, _⟩ => le_refl 1024

/-- The block of 256 features at an offset, from the whole weights. -/
def partAt (h : FVec F S512x1024 .bf16) (wg wu : Vec F S1024x2816 .bf16) (wd : Vec F S2816x1024 .bf16) (off : ℕ)
    (ho : off + 256 ≤ 2816) : FVec F S512x1024 .f32 :=
  part h (View.ld wg (Rect.unit ![0, off] S1024x256.size (inbG off ho))) (View.ld wu (Rect.unit ![0, off] S1024x256.size (inbG off ho)))
    (View.ld wd (Rect.unit ![off, 0] S256x1024.size (inbD off ho)))

/-- The feed-forward step, its eleven blocks added up in order. -/
def ffn (h : FVec F S512x1024 .bf16) (wg wu : Vec F S1024x2816 .bf16) (wd : Vec F S2816x1024 .bf16) : FVec F S512x1024 .f32 :=
  addf (addf (addf (addf (addf (addf (addf (addf (addf (addf
    (partAt h wg wu wd 0 (by decide))
    (partAt h wg wu wd 256 (by decide)))
    (partAt h wg wu wd 512 (by decide)))
    (partAt h wg wu wd 768 (by decide)))
    (partAt h wg wu wd 1024 (by decide)))
    (partAt h wg wu wd 1280 (by decide)))
    (partAt h wg wu wd 1536 (by decide)))
    (partAt h wg wu wd 1792 (by decide)))
    (partAt h wg wu wd 2048 (by decide)))
    (partAt h wg wu wd 2304 (by decide)))
    (partAt h wg wu wd 2560 (by decide))

/-- The second residual sum. -/
def mid (x : FVec F S512x1024 .f32) (w : Vec F S1x1024 .f32) (wg wu : Vec F S1024x2816 .bf16) (wd : Vec F S2816x1024 .bf16) :
    FVec F S512x1024 .f32 := addf x (ffn (nrm x w) wg wu wd)

/-- The gate of the last step. -/
def gate (x : FVec F S512x1024 .f32) (w : Vec F S1x1024 .f32) (wp : Vec F S1024x1024 .bf16) : FVec F S512x1024 .f32 := k0_pay37 x w wp

/-- The last residual sum. -/
def fin (x : FVec F S512x1024 .f32) (w : Vec F S1x1024 .f32) (wp : Vec F S1024x1024 .bf16) (p : Vec F S512x256 .f32)
    (wpp : Vec F S256x1024 .bf16) : FVec F S512x1024 .f32 := k0_pay2 x (gate x w wp) p wpp

/-- A half of the output block. -/
def half (x : Vec F S512x1024 .f32) (oa ob : Vec F S512x512 .bf16) (p : Vec F S512x256 .f32) (woa wob : Vec F S512x1024 .bf16)
    (wf : Vec F S1x1024 .f32) (wg wu : Vec F S1024x2816 .bf16) (wd : Vec F S2816x1024 .bf16) (wn : Vec F S1x1024 .f32)
    (wp : Vec F S1024x1024 .bf16) (wpp : Vec F S256x1024 .bf16) : FVec F S512x1024 .f32 :=
  fin (mid (res x oa woa ob wob) wf wg wu wd) wn wp p wpp

section
variable (x0 : Vec F S1024x1024 .f32) (x1 x2 : Vec F S1024x512 .bf16) (x3 : Vec F S1024x256 .f32) (x4 x5 : Vec F S512x1024 .bf16)
  (x6 : Vec F S1x1024 .f32) (x7 x8 : Vec F S1024x2816 .bf16) (x9 : Vec F S2816x1024 .bf16) (x10 : Vec F S1x1024 .f32)
  (x11 : Vec F S1024x1024 .bf16) (x12 : Vec F S256x1024 .bf16)

theorem v364_eq : k0_pay46 x0 x1 x2 x3 x4 x5 x6 x7 x8 x9 x10 x11 x12
    = mid (res (View.ld x0 r0_0) (View.ld x1 r0_1) (View.ld x4 r0_2) (View.ld x2 r0_1) (View.ld x5 r0_2)) (View.ld x6 r0_5) x7 x8 x9 := rfl

theorem v365_eq : k0_pay47 x0 x1 x2 x3 x4 x5 x6 x7 x8 x9 x10 x11 x12
    = mid (res (View.ld x0 r0_3) (View.ld x1 r0_4) (View.ld x4 r0_2) (View.ld x2 r0_4) (View.ld x5 r0_2)) (View.ld x6 r0_5) x7 x8 x9 := rfl

theorem out_eq : out0_13 x0 x1 x2 x3 x4 x5 x6 x7 x8 x9 x10 x11 x12
    = View.canon [⟨r0_3, half (View.ld x0 r0_3) (View.ld x1 r0_4) (View.ld x2 r0_4) (View.ld x3 r0_31) (View.ld x4 r0_2) (View.ld x5 r0_2)
          (View.ld x6 r0_5) x7 x8 x9 (View.ld x10 r0_5) (View.ld x11 r0_28) (View.ld x12 r0_30)⟩,
        ⟨r0_0, half (View.ld x0 r0_0) (View.ld x1 r0_1) (View.ld x2 r0_1) (View.ld x3 r0_29) (View.ld x4 r0_2) (View.ld x5 r0_2)
          (View.ld x6 r0_5) x7 x8 x9 (View.ld x10 r0_5) (View.ld x11 r0_28) (View.ld x12 r0_30)⟩] := by
  unfold out0_13
  rw [v364_eq, v365_eq]
  rfl

end

end Cert.TailIdeal.Comp
end
-- ==== Proof.Hand.TailSpec.lean ====
/- The layer's tail for one row of activations, over the extended reals: the common form that the kernel and the
   reference are both brought to. -/
module

public import Idealize.ShloMosaic.Lib.Pointwise

@[expose] public section

set_option maxRecDepth 16384

noncomputable section

namespace Cert.TailMath

open Idealize.ShloMosaic

/-- The root-mean-square normalisation of a row. -/
def rms (v g : Fin 1024 → EReal) (e : Fin 1024) : EReal :=
  v e * Ideal.rsqrt (Ideal.div (∑ k, v k * v k) (Ideal.ofBits .f32 0x44800000#32) + Ideal.ofBits .f32 0x358637BD#32) * g e

/-- The first residual sum: the row plus the two attentions' outputs through their halves of the output weights. -/
def res (x : Fin 1024 → EReal) (oa ob : Fin 512 → EReal) (wa wb : Fin 512 → Fin 1024 → EReal) (e : Fin 1024) : EReal :=
  x e + ∑ k, oa k * wa k e + ∑ k, ob k * wb k e

/-- One hidden feature of the gated feed-forward step. -/
def hid (h : Fin 1024 → EReal) (wg wu : Fin 1024 → EReal) : EReal :=
  (∑ j, h j * wg j) * Ideal.logistic (∑ j, h j * wg j) * ∑ j, h j * wu j

/-- The second residual sum: the feed-forward step over 2816 hidden features. -/
def mid (x : Fin 1024 → EReal) (nf : Fin 1024 → EReal) (wg wu : Fin 1024 → Fin 2816 → EReal) (wd : Fin 2816 → Fin 1024 → EReal)
    (e : Fin 1024) : EReal :=
  x e + ∑ f, hid (rms x nf) (fun j => wg j f) (fun j => wu j f) * wd f e

/-- The last residual sum: the gated projection of the per-layer input. -/
def last (x : Fin 1024 → EReal) (np : Fin 1024 → EReal) (wp : Fin 1024 → Fin 1024 → EReal) (p : Fin 256 → EReal)
    (wpp : Fin 256 → Fin 1024 → EReal) (e : Fin 1024) : EReal :=
  x e + (∑ k, p k * wpp k e) * Ideal.logistic (∑ j, rms x np j * wp j e)

/-- The whole tail of one row. -/
def row (x : Fin 1024 → EReal) (oa ob : Fin 512 → EReal) (p : Fin 256 → EReal) (wa wb : Fin 512 → Fin 1024 → EReal) (nf : Fin 1024 → EReal)
    (wg wu : Fin 1024 → Fin 2816 → EReal) (wd : Fin 2816 → Fin 1024 → EReal) (np : Fin 1024 → EReal) (wp : Fin 1024 → Fin 1024 → EReal)
    (wpp : Fin 256 → Fin 1024 → EReal) (e : Fin 1024) : EReal :=
  last (mid (res x oa ob wa wb) nf wg wu wd) np wp p wpp e

theorem row_congr {x x' : Fin 1024 → EReal} {oa oa' ob ob' : Fin 512 → EReal} {p p' : Fin 256 → EReal} {wa wa' wb wb' : Fin 512 → Fin 1024 → EReal}
    {nf nf' : Fin 1024 → EReal} {wg wg' wu wu' : Fin 1024 → Fin 2816 → EReal} {wd wd' : Fin 2816 → Fin 1024 → EReal} {np np' : Fin 1024 → EReal}
    {wp wp' : Fin 1024 → Fin 1024 → EReal} {wpp wpp' : Fin 256 → Fin 1024 → EReal} (h0 : x = x') (h1 : oa = oa') (h2 : ob = ob') (h3 : p = p')
    (h4 : wa = wa') (h5 : wb = wb') (h6 : nf = nf') (h7 : wg = wg') (h8 : wu = wu') (h9 : wd = wd') (h10 : np = np') (h11 : wp = wp') (h12 : wpp = wpp')
    (e : Fin 1024) : row x oa ob p wa wb nf wg wu wd np wp wpp e = row x' oa' ob' p' wa' wb' nf' wg' wu' wd' np' wp' wpp' e := by
  subst h0 h1 h2 h3 h4 h5 h6 h7 h8 h9 h10 h11 h12
  rfl

/-- Features `off … off + 255` of a sum over the hidden features. -/
def blk (f : Fin 2816 → EReal) (off : ℕ) (h : off + 256 ≤ 2816) : EReal := ∑ k : Fin 256, f ⟨off + k, by omega⟩

theorem sum_snoc (f : Fin 2816 → EReal) (n : ℕ) (h : n + 256 ≤ 2816) :
    ∑ k : Fin (n + 256), f ⟨k, by omega⟩ = ∑ k : Fin n, f ⟨k, by omega⟩ + blk f n h := Fin.sum_univ_add _

/-- The sum over the 2816 hidden features is the sum of its eleven blocks of 256, added up in order. -/
theorem sum_blocks (f : Fin 2816 → EReal) :
    blk f 0 (by decide) + blk f 256 (by decide) + blk f 512 (by decide) + blk f 768 (by decide) + blk f 1024 (by decide) + blk f 1280 (by decide)
      + blk f 1536 (by decide) + blk f 1792 (by decide) + blk f 2048 (by decide) + blk f 2304 (by decide) + blk f 2560 (by decide) = ∑ k, f k := by
  have h0 : blk f 0 (by decide) = ∑ k : Fin 256, f ⟨k, by omega⟩ := Finset.sum_congr rfl fun k _ => congrArg f (Fin.ext (Nat.zero_add _))
  rw [h0, ← sum_snoc f 256 (by decide), ← sum_snoc f 512 (by decide), ← sum_snoc f 768 (by decide), ← sum_snoc f 1024 (by decide),
    ← sum_snoc f 1280 (by decide), ← sum_snoc f 1536 (by decide), ← sum_snoc f 1792 (by decide), ← sum_snoc f 2048 (by decide),
    ← sum_snoc f 2304 (by decide), ← sum_snoc f 2560 (by decide)]

/-- The two halves of the output weights make up one sum over 1024 features. -/
theorem sum_halves (f : Fin 1024 → EReal) :
    ∑ k, f k = ∑ k : Fin 512, f ⟨k, by omega⟩ + ∑ k : Fin 512, f ⟨512 + k, by omega⟩ :=
  Fin.sum_univ_add (a := 512) (b := 512) f

end Cert.TailMath
end
-- ==== Proof.Hand.TailRead.lean ====
/- The layer's tail over the extended reals: what a grid point leaves in its output block, row by row. -/
module

public import proofs.«01_k».proof.Proof.Hand.TailComp
public import proofs.«01_k».proof.Proof.Hand.TailSpec
public import Idealize.ShloMosaic.Lib.Pointwise
public import Idealize.ShloMosaic.Lib.Claim
public import Idealize.ShloMosaic.Lib.Pipeline.ValueKit

@[expose] public section

set_option maxRecDepth 16384

noncomputable section

namespace Cert.TailIdeal.Comp

open Cert.TailIdeal Cert.TailIdeal.Gen Idealize.ShloMosaic Idealize.ShloMosaic.TcCoe Idealize.SL.Sem
open Cert

theorem res_at (x : Vec Ideal S512x1024 .f32) (oa : Vec Ideal S512x512 .bf16) (woa : Vec Ideal S512x1024 .bf16) (ob : Vec Ideal S512x512 .bf16)
    (wob : Vec Ideal S512x1024 .bf16) (r : Fin 512) (e : Fin 1024) : res x oa woa ob wob (ix2 r e)
      = TailMath.res (fun e => x (ix2 r e)) (fun k => oa (ix2 r k)) (fun k => ob (ix2 r k)) (fun k e => woa (ix2 k e)) (fun k e => wob (ix2 k e)) e := by
  unfold res
  pointwise [k0_pay3]
  rfl

theorem nrm_at (x : FVec Ideal S512x1024 .f32) (w : Vec Ideal S1x1024 .f32) (r : Fin 512) (e : Fin 1024) :
    nrm x w (ix2 r e) = TailMath.rms (fun e => x (ix2 r e)) (fun e => w (ix2 (0 : Fin 1) e)) e := by
  unfold nrm
  pointwise [k0_pay8]
  rfl

theorem part_at (h : FVec Ideal S512x1024 .bf16) (wg wu : Vec Ideal S1024x256 .bf16) (wd : Vec Ideal S256x1024 .bf16) (r : Fin 512) (e : Fin 1024) :
    part h wg wu wd (ix2 r e) = ∑ f : Fin 256, TailMath.hid (fun j => h (ix2 r j)) (fun j => wg (ix2 j f)) (fun j => wu (ix2 j f)) * wd (ix2 f e) := by
  pointwise [part]
  rfl

theorem ldG (w : Vec Ideal S1024x2816 .bf16) (off : ℕ) (ho : off + 256 ≤ 2816) (j : Fin 1024) (k : Fin 256) :
    View.ld w (Rect.unit ![0, off] S1024x256.size (inbG off ho)) (ix2 j k) = w (ix2 j (⟨off + k, by omega⟩ : Fin 2816)) := by
  refine View.ld_unit_apply_of _ _ _ _ _ _ fun a => ?_
  fin_cases a
  · exact (Nat.zero_add _).symm
  · rfl

theorem ldD (w : Vec Ideal S2816x1024 .bf16) (off : ℕ) (ho : off + 256 ≤ 2816) (k : Fin 256) (e : Fin 1024) :
    View.ld w (Rect.unit ![off, 0] S256x1024.size (inbD off ho)) (ix2 k e) = w (ix2 (⟨off + k, by omega⟩ : Fin 2816) e) := by
  refine View.ld_unit_apply_of _ _ _ _ _ _ fun a => ?_
  fin_cases a
  · rfl
  · exact (Nat.zero_add _).symm

theorem partAt_at (h : FVec Ideal S512x1024 .bf16) (wg wu : Vec Ideal S1024x2816 .bf16) (wd : Vec Ideal S2816x1024 .bf16) (off : ℕ)
    (ho : off + 256 ≤ 2816) (r : Fin 512) (e : Fin 1024) : partAt h wg wu wd off ho (ix2 r e)
      = TailMath.blk (fun f => TailMath.hid (fun j => h (ix2 r j)) (fun j => wg (ix2 j f)) (fun j => wu (ix2 j f)) * wd (ix2 f e)) off ho := by
  unfold partAt
  rw [part_at]
  refine Finset.sum_congr rfl fun k _ => ?_
  exact congrArg₂ (· * ·) (congrArg₂ (TailMath.hid _) (funext fun j => ldG wg off ho j k) (funext fun j => ldG wu off ho j k)) (ldD wd off ho k e)

theorem ffn_at (h : FVec Ideal S512x1024 .bf16) (wg wu : Vec Ideal S1024x2816 .bf16) (wd : Vec Ideal S2816x1024 .bf16) (r : Fin 512) (e : Fin 1024) :
    ffn h wg wu wd (ix2 r e)
      = ∑ f : Fin 2816, TailMath.hid (fun j => h (ix2 r j)) (fun j => wg (ix2 j f)) (fun j => wu (ix2 j f)) * wd (ix2 f e) := by
  rw [← TailMath.sum_blocks]
  simp only [← partAt_at]
  rfl

theorem mid_at (x : FVec Ideal S512x1024 .f32) (w : Vec Ideal S1x1024 .f32) (wg wu : Vec Ideal S1024x2816 .bf16) (wd : Vec Ideal S2816x1024 .bf16)
    (r : Fin 512) (e : Fin 1024) : mid x w wg wu wd (ix2 r e)
      = TailMath.mid (fun e => x (ix2 r e)) (fun e => w (ix2 (0 : Fin 1) e)) (fun j f => wg (ix2 j f)) (fun j f => wu (ix2 j f)) (fun f e => wd (ix2 f e)) e := by
  show x (ix2 r e) + ffn (nrm x w) wg wu wd (ix2 r e) = _
  rw [ffn_at]
  simp only [nrm_at]
  rfl

theorem gate_at (x : FVec Ideal S512x1024 .f32) (w : Vec Ideal S1x1024 .f32) (wp : Vec Ideal S1024x1024 .bf16) (r : Fin 512) (e : Fin 1024) :
    gate x w wp (ix2 r e) = Ideal.logistic (∑ j, TailMath.rms (fun e => x (ix2 r e)) (fun e => w (ix2 (0 : Fin 1) e)) j * wp (ix2 j e)) := by
  unfold gate
  pointwise [k0_pay37]
  rfl

theorem fin_at (x : FVec Ideal S512x1024 .f32) (w : Vec Ideal S1x1024 .f32) (wp : Vec Ideal S1024x1024 .bf16) (p : Vec Ideal S512x256 .f32)
    (wpp : Vec Ideal S256x1024 .bf16) (r : Fin 512) (e : Fin 1024) : fin x w wp p wpp (ix2 r e)
      = TailMath.last (fun e => x (ix2 r e)) (fun e => w (ix2 (0 : Fin 1) e)) (fun j e => wp (ix2 j e)) (fun k => p (ix2 r k)) (fun k e => wpp (ix2 k e)) e := by
  unfold fin
  have h : ∀ g : FVec Ideal S512x1024 .f32, k0_pay2 x g p wpp (ix2 r e) = x (ix2 r e) + (∑ k, p (ix2 r k) * wpp (ix2 k e)) * g (ix2 r e) := by
    intro g
    pointwise [k0_pay2]
  rw [h, gate_at]
  rfl

theorem half_at (x : Vec Ideal S512x1024 .f32) (oa ob : Vec Ideal S512x512 .bf16) (p : Vec Ideal S512x256 .f32) (woa wob : Vec Ideal S512x1024 .bf16)
    (wf : Vec Ideal S1x1024 .f32) (wg wu : Vec Ideal S1024x2816 .bf16) (wd : Vec Ideal S2816x1024 .bf16) (wn : Vec Ideal S1x1024 .f32)
    (wp : Vec Ideal S1024x1024 .bf16) (wpp : Vec Ideal S256x1024 .bf16) (r : Fin 512) (e : Fin 1024) :
    half x oa ob p woa wob wf wg wu wd wn wp wpp (ix2 r e)
      = TailMath.row (fun e => x (ix2 r e)) (fun k => oa (ix2 r k)) (fun k => ob (ix2 r k)) (fun k => p (ix2 r k)) (fun k e => woa (ix2 k e))
          (fun k e => wob (ix2 k e)) (fun e => wf (ix2 (0 : Fin 1) e)) (fun j f => wg (ix2 j f)) (fun j f => wu (ix2 j f)) (fun f e => wd (ix2 f e))
          (fun e => wn (ix2 (0 : Fin 1) e)) (fun j e => wp (ix2 j e)) (fun k e => wpp (ix2 k e)) e := by
  unfold half
  rw [fin_at]
  simp only [mid_at, res_at]
  rfl

theorem lo_emb (s : Fin 512) (hs : s.val < 1024) (e : Fin 1024) : (ix2 (⟨s.val, hs⟩ : Fin 1024) e : S1024x1024.Idx) = r0_0.emb (ix2 s e) := by
  funext k
  refine Fin.ext ?_
  rw [Rect.emb_apply]
  fin_cases k
  · show s.val = 0 + 1 * s.val
    rw [Nat.one_mul, Nat.zero_add]
  · show e.val = 0 + 1 * e.val
    rw [Nat.one_mul, Nat.zero_add]

theorem lo_not_mem (s : Fin 512) (hs : s.val < 1024) (e : Fin 1024) : (ix2 (⟨s.val, hs⟩ : Fin 1024) e : S1024x1024.Idx) ∉ r0_3.set := by
  intro hm
  have h := (Rect.mem_set_unit (s := S1024x1024)).1 hm (0 : Fin 2)
  have h0 : 512 ≤ s.val := h.1
  exact absurd s.isLt (Nat.not_lt.2 h0)

theorem canon_first (P Q : FVec Ideal S512x1024 .f32) (y : S1024x1024.Idx) (hn : y ∉ r0_3.set) (x : r0_0.shape.Idx) (hx : y = r0_0.emb x) :
    View.canon (Val := Elt Ideal) (e := .f32) [⟨r0_3, P⟩, ⟨r0_0, Q⟩] y = Q x := by
  refine (View.canon_cons_of_not_mem (Val := Elt Ideal) (e := .f32) (⟨r0_3, P⟩ : View.Piece (Elt Ideal) S1024x1024 .f32) [⟨r0_0, Q⟩] hn).trans ?_
  rw [hx]
  exact View.canon_cons_emb (Val := Elt Ideal) (e := .f32) r0_0 Q [] x

/-- The lower half of the output block is the first store's. -/
theorem canon_lo (P Q : FVec Ideal S512x1024 .f32) (s : Fin 512) (hs : s.val < 1024) (e : Fin 1024) :
    View.canon (Val := Elt Ideal) (e := .f32) [⟨r0_3, P⟩, ⟨r0_0, Q⟩] (ix2 (⟨s.val, hs⟩ : Fin 1024) e) = Q (ix2 s e) :=
  canon_first P Q (ix2 (⟨s.val, hs⟩ : Fin 1024) e) (lo_not_mem s hs e) (ix2 s e) (lo_emb s hs e)

/-- The upper half of the output block is the second store's. -/
theorem canon_hi (P Q : FVec Ideal S512x1024 .f32) (s : Fin 512) (hs : 512 + s.val < 1024) (e : Fin 1024) :
    View.canon (Val := Elt Ideal) (e := .f32) [⟨r0_3, P⟩, ⟨r0_0, Q⟩] (ix2 (⟨512 + s.val, hs⟩ : Fin 1024) e) = P (ix2 s e) := by
  have hi : (ix2 (⟨512 + s.val, hs⟩ : Fin 1024) e : S1024x1024.Idx) = r0_3.emb (ix2 s e) := by
    funext k
    fin_cases k <;> exact Fin.ext (by simp [Rect.emb_apply])
  exact (congrArg _ hi).trans (View.canon_cons_emb _ _ _ _)

section
variable (x0 : Vec Ideal S1024x1024 .f32) (x1 x2 : Vec Ideal S1024x512 .bf16) (x3 : Vec Ideal S1024x256 .f32) (x4 x5 : Vec Ideal S512x1024 .bf16)
  (x6 : Vec Ideal S1x1024 .f32) (x7 x8 : Vec Ideal S1024x2816 .bf16) (x9 : Vec Ideal S2816x1024 .bf16) (x10 : Vec Ideal S1x1024 .f32)
  (x11 : Vec Ideal S1024x1024 .bf16) (x12 : Vec Ideal S256x1024 .bf16)

/-- What a grid point leaves in its output block, row by row. -/
theorem out_at (r : Fin 1024) (e : Fin 1024) : out0_13 x0 x1 x2 x3 x4 x5 x6 x7 x8 x9 x10 x11 x12 (ix2 r e)
    = TailMath.row (fun e => x0 (ix2 r e)) (fun k => x1 (ix2 r k)) (fun k => x2 (ix2 r k)) (fun k => x3 (ix2 r k)) (fun k e => x4 (ix2 k e))
        (fun k e => x5 (ix2 k e)) (fun e => x6 (ix2 (0 : Fin 1) e)) (fun j f => x7 (ix2 j f)) (fun j f => x8 (ix2 j f)) (fun f e => x9 (ix2 f e))
        (fun e => x10 (ix2 (0 : Fin 1) e)) (fun j e => x11 (ix2 j e)) (fun k e => x12 (ix2 k e)) e := by
  rw [out_eq]
  have a4 : ∀ (w : Vec Ideal S512x1024 .bf16) (k : Fin 512) (e : Fin 1024), View.ld w r0_2 (ix2 k e) = w (ix2 k e) := fun w k e => by
      refine View.ld_unit_apply_of _ _ _ _ _ _ fun a => ?_; fin_cases a <;> exact (Nat.zero_add _).symm
  have a6 : ∀ (w : Vec Ideal S1x1024 .f32) (e : Fin 1024), View.ld w r0_5 (ix2 (0 : Fin 1) e) = w (ix2 (0 : Fin 1) e) := fun w e => by
      refine View.ld_unit_apply_of _ _ _ _ _ _ fun a => ?_; fin_cases a <;> exact (Nat.zero_add _).symm
  have a11 : ∀ (w : Vec Ideal S1024x1024 .bf16) (j : Fin 1024) (e : Fin 1024), View.ld w r0_28 (ix2 j e) = w (ix2 j e) := fun w j e => by
      refine View.ld_unit_apply_of _ _ _ _ _ _ fun a => ?_; fin_cases a <;> exact (Nat.zero_add _).symm
  have a12 : ∀ (w : Vec Ideal S256x1024 .bf16) (j : Fin 256) (e : Fin 1024), View.ld w r0_30 (ix2 j e) = w (ix2 j e) := fun w j e => by
      refine View.ld_unit_apply_of _ _ _ _ _ _ fun a => ?_; fin_cases a <;> exact (Nat.zero_add _).symm
  by_cases hr : r.val < 512
  · obtain ⟨s, hs⟩ : ∃ s : Fin 512, r.val = s.val := ⟨⟨r.val, hr⟩, rfl⟩
    have hlt : s.val < 1024 := by have := s.isLt; omega
    obtain rfl : r = ⟨s.val, hlt⟩ := Fin.ext hs
    refine (canon_lo _ _ s hlt e).trans ((half_at _ _ _ _ _ _ _ _ _ _ _ _ _ s e).trans ?_)
    have b0 : ∀ e : Fin 1024, View.ld x0 r0_0 (ix2 s e) = x0 (ix2 (⟨s.val, by omega⟩ : Fin 1024) e) := fun e => by
      refine View.ld_unit_apply_of _ _ _ _ _ _ fun a => ?_; fin_cases a <;> exact (Nat.zero_add _).symm
    have b1 : ∀ (w : Vec Ideal S1024x512 .bf16) (k : Fin 512), View.ld w r0_1 (ix2 s k) = w (ix2 (⟨s.val, by omega⟩ : Fin 1024) k) := fun w k => by
      refine View.ld_unit_apply_of _ _ _ _ _ _ fun a => ?_; fin_cases a <;> exact (Nat.zero_add _).symm
    have b3 : ∀ k : Fin 256, View.ld x3 r0_29 (ix2 s k) = x3 (ix2 (⟨s.val, by omega⟩ : Fin 1024) k) := fun k => by
      refine View.ld_unit_apply_of _ _ _ _ _ _ fun a => ?_; fin_cases a <;> exact (Nat.zero_add _).symm
    simp only [a4 x4, a4 x5, a6 x6, a6 x10, a11 x11, a12 x12, b0, b1 x1, b1 x2, b3]
  · obtain ⟨s, hs⟩ : ∃ s : Fin 512, r.val = 512 + s.val := ⟨⟨r.val - 512, by omega⟩, by show r.val = 512 + (r.val - 512); omega⟩
    have hlt : 512 + s.val < 1024 := by have := s.isLt; omega
    obtain rfl : r = ⟨512 + s.val, hlt⟩ := Fin.ext hs
    refine (canon_hi _ _ s hlt e).trans ((half_at _ _ _ _ _ _ _ _ _ _ _ _ _ s e).trans ?_)
    have b0 : ∀ e : Fin 1024, View.ld x0 r0_3 (ix2 s e) = x0 (ix2 (⟨512 + s.val, by omega⟩ : Fin 1024) e) := fun e => by
      refine View.ld_unit_apply_of _ _ _ _ _ _ fun a => ?_; fin_cases a
      · rfl
      · exact (Nat.zero_add _).symm
    have b1 : ∀ (w : Vec Ideal S1024x512 .bf16) (k : Fin 512), View.ld w r0_4 (ix2 s k) = w (ix2 (⟨512 + s.val, by omega⟩ : Fin 1024) k) := fun w k => by
      refine View.ld_unit_apply_of _ _ _ _ _ _ fun a => ?_; fin_cases a
      · rfl
      · exact (Nat.zero_add _).symm
    have b3 : ∀ k : Fin 256, View.ld x3 r0_31 (ix2 s k) = x3 (ix2 (⟨512 + s.val, by omega⟩ : Fin 1024) k) := fun k => by
      refine View.ld_unit_apply_of _ _ _ _ _ _ fun a => ?_; fin_cases a
      · rfl
      · exact (Nat.zero_add _).symm
    simp only [a4 x4, a4 x5, a6 x6, a6 x10, a11 x11, a12 x12, b0, b1 x1, b1 x2, b3]

end

end Cert.TailIdeal.Comp
end
-- ==== Proof.Hand.TailHost.lean ====
/- The layer's tail over the extended reals: the blocks that a grid point reads, as elements of the arguments. -/
module

public import proofs.«01_k».proof.Proof.Gen.TailIdeal.Value
public import Idealize.ShloMosaic.Lib.Pointwise
public import Idealize.ShloMosaic.Lib.Claim
public import Idealize.ShloMosaic.Lib.StableHlo.ReadAt
public import Idealize.ShloMosaic.Lib.Pipeline.ValueKit

@[expose] public section

set_option maxRecDepth 16384

noncomputable section

namespace Cert.TailIdeal.Comp

open Cert.TailIdeal Cert.TailIdeal.Gen Idealize.ShloMosaic Idealize.ShloMosaic.TcCoe Idealize.SL.Sem

variable (m : (ℓ : Loc nD τ sig) → Buf (Elt Ideal) ℓ) (c : Dev nD)

theorem N_eq : cfg0.N = 64 := by decide +kernel

theorem idx : ∀ t : Fin grid0.N, win0_0.index t = ![t.val, 0] ∧ win0_1.index t = ![t.val, 0] ∧ win0_2.index t = ![t.val, 0] ∧ win0_3.index t = ![t.val, 0] ∧ win0_13.index t = ![t.val, 0]
    ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] := by decide +kernel

theorem v20_at (R : Fin 65536) (e : Fin 1024) : V m c main_v20 (ix2 R e) = m (c.tc.loc main_arg0) (ix3 (⟨(R.val) / 2048, by omega⟩ : Fin 32) (⟨(R.val) % 2048, by omega⟩ : Fin 2048) e) := by
  unfold V
  after_reads_at
  blk_ext

theorem v21_at (R : Fin 65536) (e : Fin 512) : V m c main_v21 (ix2 R e) = m (c.tc.loc main_arg1) (ix3 (⟨(R.val) / 2048, by omega⟩ : Fin 32) (⟨(R.val) % 2048, by omega⟩ : Fin 2048) e) := by
  unfold V
  after_reads_at
  blk_ext

theorem v22_at (R : Fin 65536) (e : Fin 512) : V m c main_v22 (ix2 R e) = m (c.tc.loc main_arg2) (ix3 (⟨(R.val) / 2048, by omega⟩ : Fin 32) (⟨(R.val) % 2048, by omega⟩ : Fin 2048) e) := by
  unfold V
  after_reads_at
  blk_ext

theorem v24_at (R : Fin 65536) (e : Fin 256) : V m c main_v24 (ix2 R e) = m (c.tc.loc main_arg3) (ix4 (0 : Fin 1) (⟨(R.val) / 2048, by omega⟩ : Fin 32) (⟨(R.val) % 2048, by omega⟩ : Fin 2048) e) := by
  unfold V
  after_reads_at
  blk_ext

theorem v2_at (j : Fin 512) (e : Fin 1024) : V m c main_v2 (ix2 j e) = m (c.tc.loc main_arg4) (ix3 (0 : Fin 1) (⟨j, by omega⟩ : Fin 1024) e) := by
  unfold V
  after_reads_at
  blk_ext

theorem v5_at (j : Fin 512) (e : Fin 1024) : V m c main_v5 (ix2 j e) = m (c.tc.loc main_arg4) (ix3 (0 : Fin 1) (⟨512 + j, by omega⟩ : Fin 1024) e) := by
  unfold V
  after_reads_at
  blk_ext

theorem v9_at (j : Fin 1024) (e : Fin 2816) : V m c main_v9 (ix2 j e) = m (c.tc.loc main_arg6) (ix3 (0 : Fin 1) j e) := by
  unfold V
  after_reads_at
  blk_ext

theorem v11_at (j : Fin 1024) (e : Fin 2816) : V m c main_v11 (ix2 j e) = m (c.tc.loc main_arg7) (ix3 (0 : Fin 1) j e) := by
  unfold V
  after_reads_at
  blk_ext

theorem v13_at (j : Fin 2816) (e : Fin 1024) : V m c main_v13 (ix2 j e) = m (c.tc.loc main_arg8) (ix3 (0 : Fin 1) j e) := by
  unfold V
  after_reads_at
  blk_ext

theorem v17_at (j : Fin 1024) (e : Fin 1024) : V m c main_v17 (ix2 j e) = m (c.tc.loc main_arg10) (ix3 (0 : Fin 1) j e) := by
  unfold V
  after_reads_at
  blk_ext

theorem v19_at (j : Fin 256) (e : Fin 1024) : V m c main_v19 (ix2 j e) = m (c.tc.loc main_arg11) (ix3 (0 : Fin 1) j e) := by
  unfold V
  after_reads_at
  blk_ext

theorem v7_at (e : Fin 1024) : V m c main_v7 (ix2 (0 : Fin 1) e) = m (c.tc.loc main_arg5) (ix2 (0 : Fin 1) e) := by
  unfold V
  after_reads_at
  blk_ext

theorem v15_at (e : Fin 1024) : V m c main_v15 (ix2 (0 : Fin 1) e) = m (c.tc.loc main_arg9) (ix2 (0 : Fin 1) e) := by
  unfold V
  after_reads_at
  blk_ext

section
variable (t : Fin cfg0.N) (i : Fin 64) (ht : t.val = i.val)
include ht

theorem x0_at (r : Fin 1024) (e : Fin 1024) : iblk m c 0 t (ix2 r e) = m (c.tc.loc main_arg0) (ix3 (⟨(1024 * i.val + r.val) / 2048, by omega⟩ : Fin 32) (⟨(1024 * i.val + r.val) % 2048, by omega⟩ : Fin 2048) e) := by
  refine Eq.trans ?_ (v20_at m c (⟨1024 * i.val + r.val, by omega⟩ : Fin 65536) e)
  blk_ext [iblk, idx t]

theorem x1_at (r : Fin 1024) (e : Fin 512) : iblk m c 1 t (ix2 r e) = m (c.tc.loc main_arg1) (ix3 (⟨(1024 * i.val + r.val) / 2048, by omega⟩ : Fin 32) (⟨(1024 * i.val + r.val) % 2048, by omega⟩ : Fin 2048) e) := by
  refine Eq.trans ?_ (v21_at m c (⟨1024 * i.val + r.val, by omega⟩ : Fin 65536) e)
  blk_ext [iblk, idx t]

theorem x2_at (r : Fin 1024) (e : Fin 512) : iblk m c 2 t (ix2 r e) = m (c.tc.loc main_arg2) (ix3 (⟨(1024 * i.val + r.val) / 2048, by omega⟩ : Fin 32) (⟨(1024 * i.val + r.val) % 2048, by omega⟩ : Fin 2048) e) := by
  refine Eq.trans ?_ (v22_at m c (⟨1024 * i.val + r.val, by omega⟩ : Fin 65536) e)
  blk_ext [iblk, idx t]

theorem x3_at (r : Fin 1024) (e : Fin 256) : iblk m c 3 t (ix2 r e) = m (c.tc.loc main_arg3) (ix4 (0 : Fin 1) (⟨(1024 * i.val + r.val) / 2048, by omega⟩ : Fin 32) (⟨(1024 * i.val + r.val) % 2048, by omega⟩ : Fin 2048) e) := by
  refine Eq.trans ?_ (v24_at m c (⟨1024 * i.val + r.val, by omega⟩ : Fin 65536) e)
  blk_ext [iblk, idx t]

omit ht in
theorem x4_at (j : Fin 512) (e : Fin 1024) : iblk m c 4 t (ix2 j e) = m (c.tc.loc main_arg4) (ix3 (0 : Fin 1) (⟨j, by omega⟩ : Fin 1024) e) := by
  refine Eq.trans ?_ (v2_at m c j e)
  blk_ext [iblk, idx t]

omit ht in
theorem x5_at (j : Fin 512) (e : Fin 1024) : iblk m c 5 t (ix2 j e) = m (c.tc.loc main_arg4) (ix3 (0 : Fin 1) (⟨512 + j, by omega⟩ : Fin 1024) e) := by
  refine Eq.trans ?_ (v5_at m c j e)
  blk_ext [iblk, idx t]

omit ht in
theorem x7_at (j : Fin 1024) (e : Fin 2816) : iblk m c 7 t (ix2 j e) = m (c.tc.loc main_arg6) (ix3 (0 : Fin 1) j e) := by
  refine Eq.trans ?_ (v9_at m c j e)
  blk_ext [iblk, idx t]

omit ht in
theorem x8_at (j : Fin 1024) (e : Fin 2816) : iblk m c 8 t (ix2 j e) = m (c.tc.loc main_arg7) (ix3 (0 : Fin 1) j e) := by
  refine Eq.trans ?_ (v11_at m c j e)
  blk_ext [iblk, idx t]

omit ht in
theorem x9_at (j : Fin 2816) (e : Fin 1024) : iblk m c 9 t (ix2 j e) = m (c.tc.loc main_arg8) (ix3 (0 : Fin 1) j e) := by
  refine Eq.trans ?_ (v13_at m c j e)
  blk_ext [iblk, idx t]

omit ht in
theorem x11_at (j : Fin 1024) (e : Fin 1024) : iblk m c 11 t (ix2 j e) = m (c.tc.loc main_arg10) (ix3 (0 : Fin 1) j e) := by
  refine Eq.trans ?_ (v17_at m c j e)
  blk_ext [iblk, idx t]

omit ht in
theorem x12_at (j : Fin 256) (e : Fin 1024) : iblk m c 12 t (ix2 j e) = m (c.tc.loc main_arg11) (ix3 (0 : Fin 1) j e) := by
  refine Eq.trans ?_ (v19_at m c j e)
  blk_ext [iblk, idx t]

omit ht in
theorem x6_at (e : Fin 1024) : iblk m c 6 t (ix2 (0 : Fin 1) e) = m (c.tc.loc main_arg5) (ix2 (0 : Fin 1) e) := by
  refine Eq.trans ?_ (v7_at m c e)
  blk_ext [iblk, idx t]

omit ht in
theorem x10_at (e : Fin 1024) : iblk m c 10 t (ix2 (0 : Fin 1) e) = m (c.tc.loc main_arg9) (ix2 (0 : Fin 1) e) := by
  refine Eq.trans ?_ (v15_at m c e)
  blk_ext [iblk, idx t]

/-- The result array at one index, as the grid point that writes it leaves it. -/
theorem arr_at (r : Fin 1024) (e : Fin 1024) :
    (dats m 0 c).arrAt 13 cfg0.N (ix2 (⟨1024 * i.val + r.val, by omega⟩ : Fin 65536) e)
      = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e) := by
  have hf : ∀ t : Fin cfg0.N, (cfg0.win 13).flush t = true := by decide +kernel
  have h := congrFun (Value.blocks13 m c t (hf t)) (ix2 r e)
  rw [Value.flushed13] at h
  refine Eq.trans ?_ (h.trans ?_)
  · blk_ext [idx t]
  · rfl

end

end Cert.TailIdeal.Comp
end
-- ==== Proof.Hand.TailRef.lean ====
/- The layer's tail over the extended reals: the reference's result, row by row. -/
module

public import proofs.«01_k».proof.Proof.Hand.TailSpec
public import proofs.«01_k».proof.Proof.Gen.TailRefIdeal.Read
public import Idealize.ShloMosaic.Lib.Pointwise
public import Idealize.ShloMosaic.Lib.Claim

@[expose] public section

set_option maxRecDepth 16384

noncomputable section

namespace Cert.TailRefIdeal.Comp

open Cert.TailRefIdeal Cert.TailRefIdeal.Gen Cert.TailRefIdeal.Read Idealize.ShloMosaic Idealize.ShloMosaic.TcCoe Idealize.SL.Sem
open Cert

variable (x0 : (⟨S32x2048x1024, .f32⟩ : BufTy).Contents (Elt Ideal)) (x1 x2 : (⟨S32x2048x512, .bf16⟩ : BufTy).Contents (Elt Ideal))
  (x3 : (⟨S1x32x2048x256, .f32⟩ : BufTy).Contents (Elt Ideal)) (x4 : (⟨S1x1024x1024, .f32⟩ : BufTy).Contents (Elt Ideal))
  (x5 : (⟨S1x1024, .f32⟩ : BufTy).Contents (Elt Ideal)) (x6 x7 : (⟨S1x1024x2816, .f32⟩ : BufTy).Contents (Elt Ideal))
  (x8 : (⟨S1x2816x1024, .f32⟩ : BufTy).Contents (Elt Ideal)) (x9 : (⟨S1x1024, .f32⟩ : BufTy).Contents (Elt Ideal))
  (x10 : (⟨S1x1024x1024, .f32⟩ : BufTy).Contents (Elt Ideal)) (x11 : (⟨S1x256x1024, .f32⟩ : BufTy).Contents (Elt Ideal))
  (b : Fin 32) (s : Fin 2048)

theorem v9_lo (k : Fin 512) : val_main_v9 (F := Ideal) x1 x2 (ix3 b s (⟨k.val, by omega⟩ : Fin 1024)) = x1 (ix3 b s k) := by
  pointwise [val_main_v9]

theorem v9_hi (k : Fin 512) : val_main_v9 (F := Ideal) x1 x2 (ix3 b s (⟨512 + k.val, by omega⟩ : Fin 1024)) = x2 (ix3 b s k) := by
  pointwise [val_main_v9]

theorem v10_at (e : Fin 1024) : val_main_v10 (F := Ideal) x1 x2 x4 (ix3 b s e)
    = ∑ k : Fin 1024, val_main_v9 (F := Ideal) x1 x2 (ix3 b s k) * x4 (ix3 (0 : Fin 1) k e) := by
  pointwise [val_main_v10, val_main_v1]

theorem v11_at (e : Fin 1024) : val_main_v11 (F := Ideal) x0 x1 x2 x4 (ix3 b s e)
    = TailMath.res (fun e => x0 (ix3 b s e)) (fun k => x1 (ix3 b s k)) (fun k => x2 (ix3 b s k))
        (fun k e => x4 (ix3 (0 : Fin 1) (⟨k.val, by omega⟩ : Fin 1024) e)) (fun k e => x4 (ix3 (0 : Fin 1) (⟨512 + k.val, by omega⟩ : Fin 1024) e)) e := by
  show x0 (ix3 b s e) + val_main_v10 (F := Ideal) x1 x2 x4 (ix3 b s e) = _
  rw [v10_at, TailMath.sum_halves, ← add_assoc]
  simp only [v9_lo, v9_hi]
  rfl

theorem v24_at (e : Fin 1024) : val_main_v24 (F := Ideal) x0 x1 x2 x4 x5 (ix3 b s e)
    = TailMath.rms (fun e => val_main_v11 (F := Ideal) x0 x1 x2 x4 (ix3 b s e)) (fun e => x5 (ix2 (0 : Fin 1) e)) e := by
  pointwise [val_main_v24, val_main_v23, val_main_v22, val_main_v2, val_main_v21, val_main_v20, val_main_v19, val_main_v18, val_main_v17,
    val_main_v16, val_main_v15, val_main_v14, val_main_v13, val_main_v12, val_main_cst, val_main_cst_0, val_main_cst_1]
  rfl

theorem one_val : Ideal.ofBits .f32 0x3F800000#32 = (1 : EReal) := by
  simp [Ideal.ofBits, Ideal.ieee]
  rw [← EReal.coe_mul]
  norm_num

theorem v28_at (f : Fin 2816) : val_main_v28 (F := Ideal) x0 x1 x2 x4 x5 x6 x7 (ix3 b s f)
    = TailMath.hid (fun j => val_main_v24 (F := Ideal) x0 x1 x2 x4 x5 (ix3 b s j)) (fun j => x6 (ix3 (0 : Fin 1) j f)) (fun j => x7 (ix3 (0 : Fin 1) j f)) := by
  pointwise [val_main_v28, val_main_v27, val_main_v26, val_main_v25, val_main_v4, val_main_v3, val_main_call0_v5, val_main_call0_v4,
    val_main_call0_v3, val_main_call0_v2, val_main_call0_v1, val_main_call0_v0, val_main_call0_cst, val_main_call0_cst_0, one_val]
  rfl

theorem v30_at (e : Fin 1024) : val_main_v30 (F := Ideal) x0 x1 x2 x4 x5 x6 x7 x8 (ix3 b s e)
    = TailMath.mid (fun e => val_main_v11 (F := Ideal) x0 x1 x2 x4 (ix3 b s e)) (fun e => x5 (ix2 (0 : Fin 1) e)) (fun j f => x6 (ix3 (0 : Fin 1) j f))
        (fun j f => x7 (ix3 (0 : Fin 1) j f)) (fun f e => x8 (ix3 (0 : Fin 1) f e)) e := by
  pointwise [val_main_v30, val_main_v29, val_main_v5, v28_at, v24_at]
  rfl

theorem v43_at (e : Fin 1024) : val_main_v43 (F := Ideal) x0 x1 x2 x4 x5 x6 x7 x8 x9 (ix3 b s e)
    = TailMath.rms (fun e => val_main_v30 (F := Ideal) x0 x1 x2 x4 x5 x6 x7 x8 (ix3 b s e)) (fun e => x9 (ix2 (0 : Fin 1) e)) e := by
  pointwise [val_main_v43, val_main_v42, val_main_v41, val_main_v6, val_main_v40, val_main_v39, val_main_v38, val_main_v37, val_main_v36,
    val_main_v35, val_main_v34, val_main_v33, val_main_v32, val_main_v31, val_main_cst_2, val_main_cst_3, val_main_cst_4]
  rfl

theorem v53_at (e : Fin 1024) : val_main_v53 (F := Ideal) x0 x1 x2 x3 x4 x5 x6 x7 x8 x9 x10 x11 (ix3 b s e)
    = TailMath.last (fun e => val_main_v30 (F := Ideal) x0 x1 x2 x4 x5 x6 x7 x8 (ix3 b s e)) (fun e => x9 (ix2 (0 : Fin 1) e))
        (fun j e => x10 (ix3 (0 : Fin 1) j e)) (fun k => x3 (ix4 (0 : Fin 1) b s k)) (fun k e => x11 (ix3 (0 : Fin 1) k e)) e := by
  pointwise [val_main_v53, val_main_v52, val_main_v51, val_main_v8, val_main_v0, val_main_v50, val_main_v49, val_main_v48, val_main_v47,
    val_main_v46, val_main_v45, val_main_v44, val_main_v7, val_main_cst_5, val_main_cst_6, one_val, v43_at]
  rfl

/-- The reference's result, row by row. -/
theorem out_at (R : Fin 65536) (e : Fin 1024) (hb : b.val = R.val / 2048) (hs : s.val = R.val % 2048) :
    val_main_v54 (F := Ideal) x0 x1 x2 x3 x4 x5 x6 x7 x8 x9 x10 x11 (ix2 R e)
      = TailMath.row (fun e => x0 (ix3 b s e)) (fun k => x1 (ix3 b s k)) (fun k => x2 (ix3 b s k)) (fun k => x3 (ix4 (0 : Fin 1) b s k))
          (fun k e => x4 (ix3 (0 : Fin 1) (⟨k.val, by omega⟩ : Fin 1024) e)) (fun k e => x4 (ix3 (0 : Fin 1) (⟨512 + k.val, by omega⟩ : Fin 1024) e))
          (fun e => x5 (ix2 (0 : Fin 1) e)) (fun j f => x6 (ix3 (0 : Fin 1) j f)) (fun j f => x7 (ix3 (0 : Fin 1) j f)) (fun f e => x8 (ix3 (0 : Fin 1) f e))
          (fun e => x9 (ix2 (0 : Fin 1) e)) (fun j e => x10 (ix3 (0 : Fin 1) j e)) (fun k e => x11 (ix3 (0 : Fin 1) k e)) e := by
  have h : val_main_v54 (F := Ideal) x0 x1 x2 x3 x4 x5 x6 x7 x8 x9 x10 x11 (ix2 R e)
      = val_main_v53 (F := Ideal) x0 x1 x2 x3 x4 x5 x6 x7 x8 x9 x10 x11 (ix3 b s e) := by
    rw [val_main_v54_apply]
    refine congrArg _ (funext fun a => ?_)
    have he := e.isLt
    have hr := R.isLt
    fin_cases a
    · refine Fin.ext ?_
      show (R.val * 1024 + e.val) / 2097152 = b.val
      omega
    · refine Fin.ext ?_
      show (R.val * 1024 + e.val) / 1024 % 2048 = s.val
      omega
    · refine Fin.ext ?_
      show (R.val * 1024 + e.val) % 1024 = e.val
      omega
  rw [h, v53_at]
  simp only [v30_at, v11_at]
  rfl

end Cert.TailRefIdeal.Comp
end
-- ==== Proof.Hand.TailEq.lean ====
/- The layer's tail over the extended reals: the kernel's result array is the reference's. -/
module

public import proofs.«01_k».proof.Proof.Hand.TailRead
public import proofs.«01_k».proof.Proof.Hand.TailHost
public import proofs.«01_k».proof.Proof.Hand.TailRef

@[expose] public section

set_option maxRecDepth 16384

noncomputable section

namespace Cert.TailIdeal.Comp

open Cert.TailIdeal Cert.TailIdeal.Gen Idealize.ShloMosaic Idealize.ShloMosaic.TcCoe Idealize.SL.Sem
open Cert

variable (m : (ℓ : Loc nD τ sig) → Buf (Elt Ideal) ℓ) (c : Dev nD)

theorem kernel_eq :
    (dats m 0 c).arrAt 13 cfg0.N
      = Cert.TailRefIdeal.Read.val_main_v54 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) := by
  have key : ∀ (i : Fin 64) (r e : Fin 1024), (dats m 0 c).arrAt 13 cfg0.N (ix2 (⟨1024 * i.val + r.val, by omega⟩ : Fin 65536) e)
      = Cert.TailRefIdeal.Read.val_main_v54 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (ix2 (⟨1024 * i.val + r.val, by omega⟩ : Fin 65536) e) := by
    intro i r e
    have ht : (⟨i.val, by rw [N_eq]; exact i.isLt⟩ : Fin cfg0.N).val = i.val := rfl
    refine (arr_at m c _ i ht r e).trans ((out_at _ _ _ _ _ _ _ _ _ _ _ _ _ r e).trans ?_)
    refine Eq.trans ?_ (Cert.TailRefIdeal.Comp.out_at _ _ _ _ _ _ _ _ _ _ _ _ (⟨(1024 * i.val + r.val) / 2048, by omega⟩ : Fin 32)
      (⟨(1024 * i.val + r.val) % 2048, by omega⟩ : Fin 2048) (⟨1024 * i.val + r.val, by omega⟩ : Fin 65536) e rfl rfl).symm
    have e0 := funext fun e => x0_at m c _ i ht r e
    have e1 := funext fun e => x1_at m c _ i ht r e
    have e2 := funext fun e => x2_at m c _ i ht r e
    have e3 := funext fun e => x3_at m c _ i ht r e
    have e4 := funext fun k => funext fun e => x4_at m c (⟨i.val, by rw [N_eq]; exact i.isLt⟩ : Fin cfg0.N) i k e
    have e5 := funext fun k => funext fun e => x5_at m c (⟨i.val, by rw [N_eq]; exact i.isLt⟩ : Fin cfg0.N) i k e
    have e6 := funext fun e => x6_at m c (⟨i.val, by rw [N_eq]; exact i.isLt⟩ : Fin cfg0.N) e
    have e7 := funext fun k => funext fun e => x7_at m c (⟨i.val, by rw [N_eq]; exact i.isLt⟩ : Fin cfg0.N) k e
    have e8 := funext fun k => funext fun e => x8_at m c (⟨i.val, by rw [N_eq]; exact i.isLt⟩ : Fin cfg0.N) k e
    have e9 := funext fun k => funext fun e => x9_at m c (⟨i.val, by rw [N_eq]; exact i.isLt⟩ : Fin cfg0.N) k e
    have e10 := funext fun e => x10_at m c (⟨i.val, by rw [N_eq]; exact i.isLt⟩ : Fin cfg0.N) e
    have e11 := funext fun k => funext fun e => x11_at m c (⟨i.val, by rw [N_eq]; exact i.isLt⟩ : Fin cfg0.N) k e
    have e12 := funext fun k => funext fun e => x12_at m c (⟨i.val, by rw [N_eq]; exact i.isLt⟩ : Fin cfg0.N) k e
    exact TailMath.row_congr e0 e1 e2 e3 e4 e5 e6 e7 e8 e9 e10 e11 e12 e
  funext y
  obtain ⟨R, e, rfl⟩ : ∃ (R : Fin 65536) (e : Fin 1024), y = ix2 R e := ⟨y 0, y 1, by funext k; fin_cases k <;> rfl⟩
  have hR : R = (⟨1024 * (⟨R.val / 1024, by omega⟩ : Fin 64).val + (⟨R.val % 1024, by omega⟩ : Fin 1024).val, by simp only []; omega⟩ : Fin 65536) :=
    Fin.ext (by simp only []; omega)
  rw [hR]
  exact key _ _ e

end Cert.TailIdeal.Comp
end
-- ==== Proof.Hand.ProjComp.lean ====
/- The projections: what one grid point's body leaves in its output blocks, as a composition of a few functions of
   its input blocks (the normalised rows, one segment of the projection, the normalised heads), for the two halves of a block. -/
module

public import proofs.«01_k».proof.Proof.Gen.ProjIdeal.Value

@[expose] public section

set_option maxRecDepth 16384

noncomputable section
namespace Cert.ProjIdeal.Comp

open Cert.ProjIdeal Cert.ProjIdeal.Gen Idealize.ShloMosaic Idealize.ShloMosaic.TcCoe Idealize.SL.Sem

variable {F : FTy → Type} [FloatOps F]

/-- The rows of half a block, normalised. -/
def hs (x : Vec F S1x512x1024 .f32) (g : Vec F S1x1024 .f32) : FVec F S512x1024 .bf16 := k0_pay2 x g

/-- 512 features of the projection, features first. -/
def seg (h : FVec F S512x1024 .bf16) (w : Vec F S512x1024 .bf16) : FVec F S512x512 .f32 :=
  matmul dot_S512x1024_S512x1024_S512x512_1_1_0_0_n_n none (shapeCast S512x1024 w shapeCasts_S512x1024_S512x1024 : FVec F S512x1024 .bf16) h
    (constant S512x512 .f32 0x00000000#32)

/-- The last 520 features of the projection. -/
def seg8 (h : FVec F S512x1024 .bf16) (w : Vec F S520x1024 .bf16) : FVec F S520x512 .f32 :=
  matmul dot_S520x1024_S512x1024_S520x512_1_1_0_0_n_n none (shapeCast S520x1024 w shapeCasts_S520x1024_S520x1024 : FVec F S520x1024 .bf16) h
    (constant S520x512 .f32 0x00000000#32)

/-- One head normalised. -/
def head1 (y : FVec F S64x512 .f32) (g : Vec F S1x64x512 .f32) : FVec F S64x512 .f32 :=
  mulf (mulf y (broadcastTo S64x512 (rsqrt (addf
    (mulf (shapeCast S1x512 (multiReduction .add [0] S512 (mulf y y) 0x00000000#32 reduces_S64x512_S512 (.inl rfl) rfl : FVec F S512 .f32)
      shapeCasts_S512_S1x512 : FVec F S1x512 .f32) (broadcast S1x512 (Scalar.ofBits .f32 0x3C800000#32 : F .f32)))
    (broadcast S1x512 (Scalar.ofBits .f32 0x358637BD#32 : F .f32)))) broadcasts_S1x512_S64x512 : FVec F S64x512 .f32))
    (shapeCast S64x512 g shapeCasts_S1x64x512_S64x512 : FVec F S64x512 .f32)

/-- The eight heads normalised. -/
def heads (y : FVec F S512x512 .f32) (g : Vec F S1x64x512 .f32) : FVec F S512x512 .f32 :=
  concatenate S512x512 0 [⟨S64x512, head1 (extractStridedSlice S64x512 ![0, 0] y slices_S512x512_o0_0_S64x512 : FVec F S64x512 .f32) g⟩,
    ⟨S64x512, head1 (extractStridedSlice S64x512 ![64, 0] y slices_S512x512_o64_0_S64x512 : FVec F S64x512 .f32) g⟩,
    ⟨S64x512, head1 (extractStridedSlice S64x512 ![128, 0] y slices_S512x512_o128_0_S64x512 : FVec F S64x512 .f32) g⟩,
    ⟨S64x512, head1 (extractStridedSlice S64x512 ![192, 0] y slices_S512x512_o192_0_S64x512 : FVec F S64x512 .f32) g⟩,
    ⟨S64x512, head1 (extractStridedSlice S64x512 ![256, 0] y slices_S512x512_o256_0_S64x512 : FVec F S64x512 .f32) g⟩,
    ⟨S64x512, head1 (extractStridedSlice S64x512 ![320, 0] y slices_S512x512_o320_0_S64x512 : FVec F S64x512 .f32) g⟩,
    ⟨S64x512, head1 (extractStridedSlice S64x512 ![384, 0] y slices_S512x512_o384_0_S64x512 : FVec F S64x512 .f32) g⟩,
    ⟨S64x512, head1 (extractStridedSlice S64x512 ![448, 0] y slices_S512x512_o448_0_S64x512 : FVec F S64x512 .f32) g⟩]
    concatenates_S64x512_S64x512_S64x512_S64x512_S64x512_S64x512_S64x512_S64x512_S512x512_d0

/-- A tile of the result: the rows first. -/
def tile (y : FVec F S512x512 .f32) : FVec F S1x512x512 .f32 :=
  shapeCast S1x512x512 (transpose S512x512 [1, 0] y transposes_S512x512_p1_0_S512x512 : FVec F S512x512 .f32) shapeCasts_S512x512_S1x512x512

/-- A tile of the result in the narrower format. -/
def tile16 (y : FVec F S512x512 .f32) : FVec F S1x512x512 .bf16 :=
  shapeCast S1x512x512 (truncf .bf16 (transpose S512x512 [1, 0] y transposes_S512x512_p1_0_S512x512 : FVec F S512x512 .f32) bitsLt_bf16_f32
    : FVec F S512x512 .bf16) shapeCasts_S512x512_S1x512x512

/-- The values of the forgetting attention out of the last 520 features. -/
def vals8 (y : FVec F S520x512 .f32) : FVec F S512x512 .f32 := extractStridedSlice S512x512 ![0, 0] y slices_S520x512_o0_0_S512x512

/-- The forget logits of the eight heads. -/
def logits (y : FVec F S520x512 .f32) (b : Vec F S8x512 .f32) : FVec F S8x512 .f32 :=
  addf (extractStridedSlice S8x512 ![512, 0] y slices_S520x512_o512_0_S8x512 : FVec F S8x512 .f32) (shapeCast S8x512 b shapeCasts_S8x512_S8x512)

/-- The log forget values of the eight heads, the rows first. -/
def forgets (z : FVec F S8x512 .f32) : FVec F S1x512x8 .f32 :=
  shapeCast S1x512x8 (transpose S512x8 [1, 0] (subf (minimumf z (broadcast S8x512 (Scalar.ofBits .f32 0x00000000#32 : F .f32)))
    (log1p (exp (subf (broadcast S8x512 (Scalar.ofBits .f32 0x00000000#32 : F .f32)) (absf z))))) transposes_S8x512_p1_0_S512x8 : FVec F S512x8 .f32)
    shapeCasts_S512x8_S1x512x8

section
variable (x0 : Vec F S1x1024x1024 .f32) (x1 : Vec F S1x1024 .f32) (x2 : Vec F S3080x1024 .bf16) (x3 : Vec F S8x512 .f32) (x4 : Vec F S4x64x512 .f32)

theorem out7_eq : out0_7 x0 x1 x2 x3 x4 = View.canon [⟨r0_16, tile16 (heads (seg (hs (View.ld x0 r0_2) (View.ld x1 r0_1)) (View.ld x2 r0_13)) (View.ld x4 r0_14))⟩, ⟨r0_15, tile16 (heads (seg (hs (View.ld x0 r0_0) (View.ld x1 r0_1)) (View.ld x2 r0_13)) (View.ld x4 r0_14))⟩] := by
  unfold_out out0_7
  rfl

theorem out11_eq : out0_11 x0 x1 x2 x3 x4 = View.canon [⟨r0_17, tile (heads (seg (hs (View.ld x0 r0_2) (View.ld x1 r0_1)) (View.ld x2 r0_13)) (View.ld x4 r0_14))⟩] := by
  unfold_out out0_11
  rfl

theorem out12_eq : out0_12 x0 x1 x2 x3 x4 = View.canon [⟨r0_17, tile (seg (hs (View.ld x0 r0_2) (View.ld x1 r0_1)) (View.ld x2 r0_18))⟩] := by
  unfold_out out0_12
  rfl

theorem out13_eq : out0_13 x0 x1 x2 x3 x4 = View.canon [⟨r0_16, tile (heads (seg (hs (View.ld x0 r0_2) (View.ld x1 r0_1)) (View.ld x2 r0_21)) (View.ld x4 r0_22))⟩, ⟨r0_15, tile (heads (seg (hs (View.ld x0 r0_0) (View.ld x1 r0_1)) (View.ld x2 r0_21)) (View.ld x4 r0_22))⟩] := by
  unfold_out out0_13
  rfl

theorem out14_eq : out0_14 x0 x1 x2 x3 x4 = View.canon [⟨r0_16, tile (vals8 (seg8 (hs (View.ld x0 r0_2) (View.ld x1 r0_1)) (View.ld x2 r0_23)))⟩, ⟨r0_15, tile (vals8 (seg8 (hs (View.ld x0 r0_0) (View.ld x1 r0_1)) (View.ld x2 r0_23)))⟩] := by
  unfold_out out0_14
  rfl

theorem out15_eq : out0_15 x0 x1 x2 x3 x4 = View.canon [⟨r0_26, forgets (logits (seg8 (hs (View.ld x0 r0_2) (View.ld x1 r0_1)) (View.ld x2 r0_23)) (View.ld x3 r0_24))⟩, ⟨r0_25, forgets (logits (seg8 (hs (View.ld x0 r0_0) (View.ld x1 r0_1)) (View.ld x2 r0_23)) (View.ld x3 r0_24))⟩] := by
  unfold_out out0_15
  rfl

end

end Cert.ProjIdeal.Comp
end
-- ==== Proof.Hand.ProjSpec.lean ====
/- The projections of one row of activations, over the extended reals: the common form that the kernel and the
   reference are both brought to. -/
module

public import proofs.«01_k».proof.Proof.Hand.TailSpec
public import Idealize.ShloMosaic.Lib.Pointwise

@[expose] public section

set_option maxRecDepth 16384

noncomputable section
namespace Cert.ProjMath

open Idealize.ShloMosaic

/-- One feature of the input projection. -/
def lin (h : Fin 1024 → EReal) (w : Fin 1024 → Fin 3080 → EReal) (f : Fin 3080) : EReal := ∑ j, h j * w j f

/-- The root-mean-square normalisation of one head of 64 features. -/
def head (y g : Fin 64 → EReal) (d : Fin 64) : EReal :=
  y d * Ideal.rsqrt (Ideal.div (∑ k, y k * y k) (Ideal.ofBits .f32 0x42800000#32) + Ideal.ofBits .f32 0x358637BD#32) * g d

theorem sixty_four : Ideal.ofBits .f32 0x42800000#32 = ((64 : ℝ) : EReal) := by
  simp [Ideal.ofBits, Ideal.ieee]
  rw [← EReal.coe_mul]
  norm_num

theorem inv_sixty_four : Ideal.ofBits .f32 0x3C800000#32 = ((64⁻¹ : ℝ) : EReal) := by
  simp [Ideal.ofBits, Ideal.ieee]
  rw [← EReal.coe_mul]
  norm_num

/-- The product with the word of 1/64 is the quotient by the word of 64. -/
theorem mul_inv_eq (s : EReal) : s * Ideal.ofBits .f32 0x3C800000#32 = Ideal.div s (Ideal.ofBits .f32 0x42800000#32) := by
  rw [sixty_four, inv_sixty_four, Ideal.div, if_neg (by norm_num), EReal.coe_inv]

theorem zero_val : Ideal.ofBits .f32 0x00000000#32 = (0 : EReal) := by simp [Ideal.ofBits, Ideal.ieee]

/-- The logarithm of the logistic function. -/
def logsig (z : EReal) : EReal := min z 0 - Ideal.log1p (Ideal.exp (0 - max z (-z)))

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

theorem log1p_coe (a : ℝ) (h : 0 < 1 + a) : Ideal.log1p (a : EReal) = (Real.log (1 + a) : EReal) := by
  show Ideal.log (((1 : ℝ) : EReal) + (a : EReal)) = _
  rw [← EReal.coe_add]
  exact if_neg (not_le.2 h)

theorem log1p_zero : Ideal.log1p 0 = 0 := by
  refine (log1p_coe 0 (by norm_num)).trans ?_
  norm_num

/-- The reference's form of it, over the extended reals. -/
theorem logsig_eq (z : EReal) :
    -(max (-z) 0 + Ideal.log1p (Ideal.exp (-max (-z - 0) (-(-z - 0))))) = logsig z := by
  rw [sub_zero, neg_neg, max_comm (-z) z, logsig, zero_sub]
  induction z using EReal.rec with
  | bot => simp [log1p_zero]
  | top => simp [log1p_zero]
  | coe a =>
    have hm : max (a : EReal) (-(a : EReal)) = ((max a (-a) : ℝ) : EReal) := by rw [← EReal.coe_neg, coe_max]
    have h0 : max (-(a : EReal)) 0 = ((max (-a) 0 : ℝ) : EReal) := by rw [← EReal.coe_neg, ← EReal.coe_zero, coe_max]
    have h1 : min (a : EReal) 0 = ((min a 0 : ℝ) : EReal) := by rw [← EReal.coe_zero, coe_min]
    obtain ⟨L, hL⟩ : ∃ L : ℝ, Ideal.log1p (Ideal.exp (-((max a (-a) : ℝ) : EReal))) = (L : EReal) := by
      refine ⟨Real.log (1 + Real.exp (-(max a (-a)))), ?_⟩
      rw [← EReal.coe_neg]
      exact log1p_coe _ (by positivity)
    rw [hm, h0, h1, hL, ← EReal.coe_add, ← EReal.coe_neg, ← EReal.coe_sub]
    congr 1
    rcases le_total a 0 with h | h
    · rw [max_eq_left (by linarith), min_eq_left h]; ring
    · rw [max_eq_right (by linarith), min_eq_right h]; ring

/-- A normalised key feature of the segment of the projection that begins at `off`. -/
def key (x g : Fin 1024 → EReal) (w : Fin 1024 → Fin 3080 → EReal) (off : ℕ) (ho : off + 512 ≤ 3080) (gain : Fin 64 → EReal) (e : Fin 512) : EReal :=
  head (fun d => lin (TailMath.rms x g) w ⟨off + (64 * (e.val / 64) + d.val), by omega⟩) gain ⟨e.val % 64, by omega⟩

/-- A value feature of the segment of the projection that begins at `off`. -/
def value (x g : Fin 1024 → EReal) (w : Fin 1024 → Fin 3080 → EReal) (off : ℕ) (ho : off + 512 ≤ 3080) (e : Fin 512) : EReal :=
  lin (TailMath.rms x g) w ⟨off + e.val, by omega⟩

/-- The log forget value of one head. -/
def forget (x g : Fin 1024 → EReal) (w : Fin 1024 → Fin 3080 → EReal) (b : Fin 8 → EReal) (n : Fin 8) : EReal :=
  logsig (lin (TailMath.rms x g) w ⟨3072 + n.val, by omega⟩ + b n)

theorem key_congr {x x' g g' : Fin 1024 → EReal} {w w' : Fin 1024 → Fin 3080 → EReal} {gain gain' : Fin 64 → EReal} (h0 : x = x') (h1 : g = g')
    (h2 : w = w') (h3 : gain = gain') (off : ℕ) (ho : off + 512 ≤ 3080) (e : Fin 512) : key x g w off ho gain e = key x' g' w' off ho gain' e := by
  subst h0 h1 h2 h3
  rfl

theorem value_congr {x x' g g' : Fin 1024 → EReal} {w w' : Fin 1024 → Fin 3080 → EReal} (h0 : x = x') (h1 : g = g') (h2 : w = w') (off : ℕ)
    (ho : off + 512 ≤ 3080) (e : Fin 512) : value x g w off ho e = value x' g' w' off ho e := by
  subst h0 h1 h2
  rfl

theorem forget_congr {x x' g g' : Fin 1024 → EReal} {w w' : Fin 1024 → Fin 3080 → EReal} {b b' : Fin 8 → EReal} (h0 : x = x') (h1 : g = g')
    (h2 : w = w') (h3 : b = b') (n : Fin 8) : forget x g w b n = forget x' g' w' b' n := by
  subst h0 h1 h2 h3
  rfl

end Cert.ProjMath
end
-- ==== Proof.Hand.ProjRead.lean ====
/- The projections over the extended reals: what a grid point leaves in its output blocks, row by row. -/
module

public import proofs.«01_k».proof.Proof.Hand.ProjComp
public import proofs.«01_k».proof.Proof.Hand.ProjSpec
public import Idealize.ShloMosaic.Lib.Pointwise
public import Idealize.ShloMosaic.Lib.Claim
public import Idealize.ShloMosaic.Lib.Pipeline.ValueKit

@[expose] public section

set_option maxRecDepth 16384

noncomputable section
namespace Cert.ProjIdeal.Comp

open Cert.ProjIdeal Cert.ProjIdeal.Gen Idealize.ShloMosaic Idealize.ShloMosaic.TcCoe Idealize.SL.Sem
open Cert

theorem hs_at (x : Vec Ideal S1x512x1024 .f32) (g : Vec Ideal S1x1024 .f32) (r : Fin 512) (e : Fin 1024) :
    hs x g (ix2 r e) = TailMath.rms (fun e => x (ix3 (0 : Fin 1) r e)) (fun e => g (ix2 (0 : Fin 1) e)) e := by
  unfold hs
  pointwise [k0_pay2]
  rfl

theorem seg_at (h : FVec Ideal S512x1024 .bf16) (w : Vec Ideal S512x1024 .bf16) (f r : Fin 512) :
    seg h w (ix2 f r) = ∑ j, w (ix2 f j) * h (ix2 r j) := by
  pointwise [seg]

theorem seg8_at (h : FVec Ideal S512x1024 .bf16) (w : Vec Ideal S520x1024 .bf16) (f : Fin 520) (r : Fin 512) :
    seg8 h w (ix2 f r) = ∑ j, w (ix2 f j) * h (ix2 r j) := by
  pointwise [seg8]

theorem head1_at (y : FVec Ideal S64x512 .f32) (g : Vec Ideal S1x64x512 .f32) (d : Fin 64) (r : Fin 512) :
    head1 y g (ix2 d r) = ProjMath.head (fun d => y (ix2 d r)) (fun d => g (ix3 (0 : Fin 1) d r)) d := by
  pointwise [head1, ProjMath.mul_inv_eq]
  rfl

theorem heads_0 (y : FVec Ideal S512x512 .f32) (g : Vec Ideal S1x64x512 .f32) (d : Fin 64) (r : Fin 512) : heads y g (ix2 (⟨0 + d.val, by omega⟩ : Fin 512) r)
    = ProjMath.head (fun k => y (ix2 (⟨0 + k.val, by omega⟩ : Fin 512) r)) (fun d => g (ix3 (0 : Fin 1) d r)) d := by
  pointwise [heads, head1_at]

theorem heads_1 (y : FVec Ideal S512x512 .f32) (g : Vec Ideal S1x64x512 .f32) (d : Fin 64) (r : Fin 512) : heads y g (ix2 (⟨64 + d.val, by omega⟩ : Fin 512) r)
    = ProjMath.head (fun k => y (ix2 (⟨64 + k.val, by omega⟩ : Fin 512) r)) (fun d => g (ix3 (0 : Fin 1) d r)) d := by
  pointwise [heads, head1_at]

theorem heads_2 (y : FVec Ideal S512x512 .f32) (g : Vec Ideal S1x64x512 .f32) (d : Fin 64) (r : Fin 512) : heads y g (ix2 (⟨128 + d.val, by omega⟩ : Fin 512) r)
    = ProjMath.head (fun k => y (ix2 (⟨128 + k.val, by omega⟩ : Fin 512) r)) (fun d => g (ix3 (0 : Fin 1) d r)) d := by
  pointwise [heads, head1_at]
  rw [dif_neg (by omega), dif_neg (by omega)]
  rw [dif_pos (by omega)]
  exact congrArg (ProjMath.head _ _) (Fin.ext (by simp only []; omega))

theorem heads_3 (y : FVec Ideal S512x512 .f32) (g : Vec Ideal S1x64x512 .f32) (d : Fin 64) (r : Fin 512) : heads y g (ix2 (⟨192 + d.val, by omega⟩ : Fin 512) r)
    = ProjMath.head (fun k => y (ix2 (⟨192 + k.val, by omega⟩ : Fin 512) r)) (fun d => g (ix3 (0 : Fin 1) d r)) d := by
  pointwise [heads, head1_at]
  rw [dif_neg (by omega), dif_neg (by omega), dif_neg (by omega)]
  rw [dif_pos (by omega)]
  exact congrArg (ProjMath.head _ _) (Fin.ext (by simp only []; omega))

theorem heads_4 (y : FVec Ideal S512x512 .f32) (g : Vec Ideal S1x64x512 .f32) (d : Fin 64) (r : Fin 512) : heads y g (ix2 (⟨256 + d.val, by omega⟩ : Fin 512) r)
    = ProjMath.head (fun k => y (ix2 (⟨256 + k.val, by omega⟩ : Fin 512) r)) (fun d => g (ix3 (0 : Fin 1) d r)) d := by
  pointwise [heads, head1_at]
  rw [dif_neg (by omega), dif_neg (by omega), dif_neg (by omega), dif_neg (by omega)]
  rw [dif_pos (by omega)]
  exact congrArg (ProjMath.head _ _) (Fin.ext (by simp only []; omega))

theorem heads_5 (y : FVec Ideal S512x512 .f32) (g : Vec Ideal S1x64x512 .f32) (d : Fin 64) (r : Fin 512) : heads y g (ix2 (⟨320 + d.val, by omega⟩ : Fin 512) r)
    = ProjMath.head (fun k => y (ix2 (⟨320 + k.val, by omega⟩ : Fin 512) r)) (fun d => g (ix3 (0 : Fin 1) d r)) d := by
  pointwise [heads, head1_at]
  rw [dif_neg (by omega), dif_neg (by omega), dif_neg (by omega), dif_neg (by omega), dif_neg (by omega)]
  rw [dif_pos (by omega)]
  exact congrArg (ProjMath.head _ _) (Fin.ext (by simp only []; omega))

theorem heads_6 (y : FVec Ideal S512x512 .f32) (g : Vec Ideal S1x64x512 .f32) (d : Fin 64) (r : Fin 512) : heads y g (ix2 (⟨384 + d.val, by omega⟩ : Fin 512) r)
    = ProjMath.head (fun k => y (ix2 (⟨384 + k.val, by omega⟩ : Fin 512) r)) (fun d => g (ix3 (0 : Fin 1) d r)) d := by
  pointwise [heads, head1_at]
  rw [dif_neg (by omega), dif_neg (by omega), dif_neg (by omega), dif_neg (by omega), dif_neg (by omega), dif_neg (by omega)]
  rw [dif_pos (by omega)]
  exact congrArg (ProjMath.head _ _) (Fin.ext (by simp only []; omega))

theorem heads_7 (y : FVec Ideal S512x512 .f32) (g : Vec Ideal S1x64x512 .f32) (d : Fin 64) (r : Fin 512) : heads y g (ix2 (⟨448 + d.val, by omega⟩ : Fin 512) r)
    = ProjMath.head (fun k => y (ix2 (⟨448 + k.val, by omega⟩ : Fin 512) r)) (fun d => g (ix3 (0 : Fin 1) d r)) d := by
  pointwise [heads, head1_at]
  rw [dif_neg (by omega), dif_neg (by omega), dif_neg (by omega), dif_neg (by omega), dif_neg (by omega), dif_neg (by omega), dif_neg (by omega)]
  exact congrArg (ProjMath.head _ _) (Fin.ext (by simp only []; omega))

theorem heads_hd (y : FVec Ideal S512x512 .f32) (g : Vec Ideal S1x64x512 .f32) (d : Fin 64) (r : Fin 512) : ∀ h : Fin 8,
    heads y g (ix2 (⟨64 * h.val + d.val, by omega⟩ : Fin 512) r)
      = ProjMath.head (fun k => y (ix2 (⟨64 * h.val + k.val, by omega⟩ : Fin 512) r)) (fun d => g (ix3 (0 : Fin 1) d r)) d
  | ⟨0, _⟩ => heads_0 y g d r
  | ⟨1, _⟩ => heads_1 y g d r
  | ⟨2, _⟩ => heads_2 y g d r
  | ⟨3, _⟩ => heads_3 y g d r
  | ⟨4, _⟩ => heads_4 y g d r
  | ⟨5, _⟩ => heads_5 y g d r
  | ⟨6, _⟩ => heads_6 y g d r
  | ⟨7, _⟩ => heads_7 y g d r

theorem heads_at (y : FVec Ideal S512x512 .f32) (g : Vec Ideal S1x64x512 .f32) (e r : Fin 512) : heads y g (ix2 e r)
    = ProjMath.head (fun k => y (ix2 (⟨64 * (e.val / 64) + k.val, by omega⟩ : Fin 512) r)) (fun d => g (ix3 (0 : Fin 1) d r)) ⟨e.val % 64, by omega⟩ := by
  have he : e = (⟨64 * (⟨e.val / 64, by omega⟩ : Fin 8).val + (⟨e.val % 64, by omega⟩ : Fin 64).val, by simp only []; omega⟩ : Fin 512) :=
    Fin.ext (by simp only []; omega)
  exact (congrArg (fun q => heads y g (ix2 q r)) he).trans (heads_hd y g ⟨e.val % 64, by omega⟩ r ⟨e.val / 64, by omega⟩)

theorem tile_at (y : FVec Ideal S512x512 .f32) (r e : Fin 512) : tile y (ix3 (0 : Fin 1) r e) = y (ix2 e r) := by
  pointwise [tile]

theorem tile16_at (y : FVec Ideal S512x512 .f32) (r e : Fin 512) : tile16 y (ix3 (0 : Fin 1) r e) = y (ix2 e r) := by
  pointwise [tile16]

theorem vals8_at (y : FVec Ideal S520x512 .f32) (e r : Fin 512) : vals8 y (ix2 e r) = y (ix2 (⟨e.val, by omega⟩ : Fin 520) r) := by
  pointwise [vals8]

theorem logits_at (y : FVec Ideal S520x512 .f32) (z : Vec Ideal S8x512 .f32) (n : Fin 8) (r : Fin 512) :
    logits y z (ix2 n r) = y (ix2 (⟨512 + n.val, by omega⟩ : Fin 520) r) + z (ix2 n r) := by
  pointwise [logits]

theorem forgets_at (z : FVec Ideal S8x512 .f32) (r : Fin 512) (n : Fin 8) : forgets z (ix3 (0 : Fin 1) r n) = ProjMath.logsig (z (ix2 n r)) := by
  pointwise [forgets, ProjMath.zero_val]
  rfl

theorem ldX (x : Vec Ideal S1x1024x1024 .f32) (off : ℕ) (h : ∀ a, (![0, off, 0] : Fin 3 → ℕ) a + S1x512x1024.size a ≤ S1x1024x1024.size a)
    (ho : off + 512 ≤ 1024) (r : Fin 512) (e : Fin 1024) :
    View.ld x (Rect.unit ![0, off, 0] S1x512x1024.size h) (ix3 (0 : Fin 1) r e) = x (ix3 (0 : Fin 1) (⟨off + r.val, by omega⟩ : Fin 1024) e) := by
  refine View.ld_unit_apply_of _ _ _ _ _ _ fun a => ?_
  fin_cases a
  · rfl
  · rfl
  · exact (Nat.zero_add _).symm

theorem ldG (g : Vec Ideal S1x1024 .f32) (e : Fin 1024) : View.ld g r0_1 (ix2 (0 : Fin 1) e) = g (ix2 (0 : Fin 1) e) := by
  refine View.ld_unit_apply_of _ _ _ _ _ _ fun a => ?_
  fin_cases a
  · rfl
  · exact (Nat.zero_add _).symm

theorem ldW (w : Vec Ideal S3080x1024 .bf16) (off : ℕ) (h : ∀ a, (![off, 0] : Fin 2 → ℕ) a + S512x1024.size a ≤ S3080x1024.size a)
    (ho : off + 512 ≤ 3080) (f : Fin 512) (j : Fin 1024) :
    View.ld w (Rect.unit ![off, 0] S512x1024.size h) (ix2 f j) = w (ix2 (⟨off + f.val, by omega⟩ : Fin 3080) j) := by
  refine View.ld_unit_apply_of _ _ _ _ _ _ fun a => ?_
  fin_cases a
  · rfl
  · exact (Nat.zero_add _).symm

theorem ldW8 (w : Vec Ideal S3080x1024 .bf16) (f : Fin 520) (j : Fin 1024) :
    View.ld w r0_23 (ix2 f j) = w (ix2 (⟨2560 + f.val, by omega⟩ : Fin 3080) j) := by
  refine View.ld_unit_apply_of _ _ _ _ _ _ fun a => ?_
  fin_cases a
  · rfl
  · exact (Nat.zero_add _).symm

theorem ldB (z : Vec Ideal S8x512 .f32) (n : Fin 8) (r : Fin 512) : View.ld z r0_24 (ix2 n r) = z (ix2 n r) := by
  refine View.ld_unit_apply_of _ _ _ _ _ _ fun a => ?_
  fin_cases a <;> exact (Nat.zero_add _).symm

theorem ldN (g : Vec Ideal S4x64x512 .f32) (i : ℕ) (h : ∀ a, (![i, 0, 0] : Fin 3 → ℕ) a + S1x64x512.size a ≤ S4x64x512.size a)
    (hi : i < 4) (d : Fin 64) (r : Fin 512) :
    View.ld g (Rect.unit ![i, 0, 0] S1x64x512.size h) (ix3 (0 : Fin 1) d r) = g (ix3 (⟨i, hi⟩ : Fin 4) d r) := by
  refine View.ld_unit_apply_of _ _ _ _ _ _ fun a => ?_
  fin_cases a
  · rfl
  · exact (Nat.zero_add _).symm
  · exact (Nat.zero_add _).symm

section
variable (x0 : Vec Ideal S1x1024x1024 .f32) (x1 : Vec Ideal S1x1024 .f32) (x2 : Vec Ideal S3080x1024 .bf16) (x3 : Vec Ideal S8x512 .f32)
  (x4 : Vec Ideal S4x64x512 .f32) (u : ℕ) (hu : ∀ a, (![0, u, 0] : Fin 3 → ℕ) a + S1x512x1024.size a ≤ S1x1024x1024.size a) (ho : u + 512 ≤ 1024)

theorem h_at (r : Fin 512) : (fun j => hs (View.ld x0 (Rect.unit ![0, u, 0] S1x512x1024.size hu)) (View.ld x1 r0_1) (ix2 r j))
    = TailMath.rms (fun e => x0 (ix3 (0 : Fin 1) (⟨u + r.val, by omega⟩ : Fin 1024) e)) (fun e => x1 (ix2 (0 : Fin 1) e)) := by
  funext j
  rw [hs_at]
  exact congrArg₂ (fun a b => TailMath.rms a b j) (funext fun e => ldX x0 u hu ho r e) (funext fun e => ldG x1 e)

theorem key_at (off : ℕ) (hw : ∀ a, (![off, 0] : Fin 2 → ℕ) a + S512x1024.size a ≤ S3080x1024.size a) (hf : off + 512 ≤ 3080)
    (i : ℕ) (hg : ∀ a, (![i, 0, 0] : Fin 3 → ℕ) a + S1x64x512.size a ≤ S4x64x512.size a) (hi : i < 4) (r e : Fin 512) :
    heads (seg (hs (View.ld x0 (Rect.unit ![0, u, 0] S1x512x1024.size hu)) (View.ld x1 r0_1)) (View.ld x2 (Rect.unit ![off, 0] S512x1024.size hw)))
        (View.ld x4 (Rect.unit ![i, 0, 0] S1x64x512.size hg)) (ix2 e r)
      = ProjMath.key (fun e => x0 (ix3 (0 : Fin 1) (⟨u + r.val, by omega⟩ : Fin 1024) e)) (fun e => x1 (ix2 (0 : Fin 1) e)) (fun j f => x2 (ix2 f j)) off hf
          (fun d => x4 (ix3 (⟨i, hi⟩ : Fin 4) d r)) e := by
  rw [heads_at]
  unfold ProjMath.key ProjMath.lin
  refine congrArg₂ (fun a b => ProjMath.head a b _) (funext fun d => ?_) (funext fun d => ldN x4 i hg hi d r)
  refine (seg_at _ _ _ _).trans (Finset.sum_congr rfl fun j _ => ?_)
  rw [ldW x2 off hw hf, mul_comm]
  exact congrArg (· * _) (congrFun (h_at x0 x1 u hu ho r) j)

theorem value_at (off : ℕ) (hw : ∀ a, (![off, 0] : Fin 2 → ℕ) a + S512x1024.size a ≤ S3080x1024.size a) (hf : off + 512 ≤ 3080) (r e : Fin 512) :
    seg (hs (View.ld x0 (Rect.unit ![0, u, 0] S1x512x1024.size hu)) (View.ld x1 r0_1)) (View.ld x2 (Rect.unit ![off, 0] S512x1024.size hw)) (ix2 e r)
      = ProjMath.value (fun e => x0 (ix3 (0 : Fin 1) (⟨u + r.val, by omega⟩ : Fin 1024) e)) (fun e => x1 (ix2 (0 : Fin 1) e)) (fun j f => x2 (ix2 f j)) off hf e := by
  unfold ProjMath.value ProjMath.lin
  refine (seg_at _ _ _ _).trans (Finset.sum_congr rfl fun j _ => ?_)
  rw [ldW x2 off hw hf, mul_comm]
  exact congrArg (· * _) (congrFun (h_at x0 x1 u hu ho r) j)

theorem last_at (f : Fin 520) (r : Fin 512) :
    seg8 (hs (View.ld x0 (Rect.unit ![0, u, 0] S1x512x1024.size hu)) (View.ld x1 r0_1)) (View.ld x2 r0_23) (ix2 f r)
      = ProjMath.lin (TailMath.rms (fun e => x0 (ix3 (0 : Fin 1) (⟨u + r.val, by omega⟩ : Fin 1024) e)) (fun e => x1 (ix2 (0 : Fin 1) e)))
          (fun j f => x2 (ix2 f j)) (⟨2560 + f.val, by omega⟩ : Fin 3080) := by
  unfold ProjMath.lin
  refine (seg8_at _ _ _ _).trans (Finset.sum_congr rfl fun j _ => ?_)
  rw [ldW8, mul_comm]
  exact congrArg (· * _) (congrFun (h_at x0 x1 u hu ho r) j)

theorem value8_at (r e : Fin 512) :
    vals8 (seg8 (hs (View.ld x0 (Rect.unit ![0, u, 0] S1x512x1024.size hu)) (View.ld x1 r0_1)) (View.ld x2 r0_23)) (ix2 e r)
      = ProjMath.value (fun e => x0 (ix3 (0 : Fin 1) (⟨u + r.val, by omega⟩ : Fin 1024) e)) (fun e => x1 (ix2 (0 : Fin 1) e)) (fun j f => x2 (ix2 f j)) 2560
          (by decide) e := by
  rw [vals8_at, last_at x0 x1 x2 u hu ho]
  rfl

theorem forget_at (r : Fin 512) (n : Fin 8) :
    forgets (logits (seg8 (hs (View.ld x0 (Rect.unit ![0, u, 0] S1x512x1024.size hu)) (View.ld x1 r0_1)) (View.ld x2 r0_23)) (View.ld x3 r0_24)) (ix3 (0 : Fin 1) r n)
      = ProjMath.forget (fun e => x0 (ix3 (0 : Fin 1) (⟨u + r.val, by omega⟩ : Fin 1024) e)) (fun e => x1 (ix2 (0 : Fin 1) e)) (fun j f => x2 (ix2 f j))
          (fun n => x3 (ix2 n r)) n := by
  rw [forgets_at, logits_at, last_at x0 x1 x2 u hu ho, ldB]
  refine congrArg (fun k => ProjMath.logsig (ProjMath.lin _ _ k + _)) (Fin.ext ?_)
  show 2560 + (512 + n.val) = 3072 + n.val
  omega

end

theorem c16_lo_emb (s : Fin 512) (hs : s.val < 1024) (e : Fin 512) : (ix3 (0 : Fin 1) (⟨s.val, hs⟩ : Fin 1024) e : S1x1024x512.Idx) = r0_15.emb (ix3 (0 : Fin 1) s e) := by
  funext k
  refine Fin.ext ?_
  rw [Rect.emb_apply]
  fin_cases k
  · rfl
  · show s.val = 0 + 1 * s.val
    rw [Nat.one_mul, Nat.zero_add]
  · show e.val = 0 + 1 * e.val
    rw [Nat.one_mul, Nat.zero_add]

theorem c16_lo_not_mem (s : Fin 512) (hs : s.val < 1024) (e : Fin 512) : (ix3 (0 : Fin 1) (⟨s.val, hs⟩ : Fin 1024) e : S1x1024x512.Idx) ∉ r0_16.set := by
  intro hm
  have h := (Rect.mem_set_unit (s := S1x1024x512)).1 hm (1 : Fin 3)
  have h0 : 512 ≤ s.val := h.1
  exact absurd s.isLt (Nat.not_lt.2 h0)

theorem c16_first (P Q : FVec Ideal S1x512x512 .bf16) (y : S1x1024x512.Idx) (hn : y ∉ r0_16.set) (x : r0_15.shape.Idx) (hx : y = r0_15.emb x) :
    View.canon (Val := Elt Ideal) (e := .bf16) [⟨r0_16, P⟩, ⟨r0_15, Q⟩] y = Q x := by
  refine (View.canon_cons_of_not_mem (Val := Elt Ideal) (e := .bf16) (⟨r0_16, P⟩ : View.Piece (Elt Ideal) S1x1024x512 .bf16) [⟨r0_15, Q⟩] hn).trans ?_
  rw [hx]
  exact View.canon_cons_emb (Val := Elt Ideal) (e := .bf16) r0_15 Q [] x

theorem c16_lo (P Q : FVec Ideal S1x512x512 .bf16) (s : Fin 512) (hs : s.val < 1024) (e : Fin 512) :
    View.canon (Val := Elt Ideal) (e := .bf16) [⟨r0_16, P⟩, ⟨r0_15, Q⟩] (ix3 (0 : Fin 1) (⟨s.val, hs⟩ : Fin 1024) e) = Q (ix3 (0 : Fin 1) s e) :=
  c16_first P Q (ix3 (0 : Fin 1) (⟨s.val, hs⟩ : Fin 1024) e) (c16_lo_not_mem s hs e) (ix3 (0 : Fin 1) s e) (c16_lo_emb s hs e)

theorem c16_hi (P Q : FVec Ideal S1x512x512 .bf16) (s : Fin 512) (hs : 512 + s.val < 1024) (e : Fin 512) :
    View.canon (Val := Elt Ideal) (e := .bf16) [⟨r0_16, P⟩, ⟨r0_15, Q⟩] (ix3 (0 : Fin 1) (⟨512 + s.val, hs⟩ : Fin 1024) e) = P (ix3 (0 : Fin 1) s e) := by
  have hi : (ix3 (0 : Fin 1) (⟨512 + s.val, hs⟩ : Fin 1024) e : S1x1024x512.Idx) = r0_16.emb (ix3 (0 : Fin 1) s e) := by
    funext k
    fin_cases k <;> exact Fin.ext (by simp [Rect.emb_apply])
  exact (congrArg _ hi).trans (View.canon_cons_emb _ _ _ _)

theorem c32_lo_emb (s : Fin 512) (hs : s.val < 1024) (e : Fin 512) : (ix3 (0 : Fin 1) (⟨s.val, hs⟩ : Fin 1024) e : S1x1024x512.Idx) = r0_15.emb (ix3 (0 : Fin 1) s e) := by
  funext k
  refine Fin.ext ?_
  rw [Rect.emb_apply]
  fin_cases k
  · rfl
  · show s.val = 0 + 1 * s.val
    rw [Nat.one_mul, Nat.zero_add]
  · show e.val = 0 + 1 * e.val
    rw [Nat.one_mul, Nat.zero_add]

theorem c32_lo_not_mem (s : Fin 512) (hs : s.val < 1024) (e : Fin 512) : (ix3 (0 : Fin 1) (⟨s.val, hs⟩ : Fin 1024) e : S1x1024x512.Idx) ∉ r0_16.set := by
  intro hm
  have h := (Rect.mem_set_unit (s := S1x1024x512)).1 hm (1 : Fin 3)
  have h0 : 512 ≤ s.val := h.1
  exact absurd s.isLt (Nat.not_lt.2 h0)

theorem c32_first (P Q : FVec Ideal S1x512x512 .f32) (y : S1x1024x512.Idx) (hn : y ∉ r0_16.set) (x : r0_15.shape.Idx) (hx : y = r0_15.emb x) :
    View.canon (Val := Elt Ideal) (e := .f32) [⟨r0_16, P⟩, ⟨r0_15, Q⟩] y = Q x := by
  refine (View.canon_cons_of_not_mem (Val := Elt Ideal) (e := .f32) (⟨r0_16, P⟩ : View.Piece (Elt Ideal) S1x1024x512 .f32) [⟨r0_15, Q⟩] hn).trans ?_
  rw [hx]
  exact View.canon_cons_emb (Val := Elt Ideal) (e := .f32) r0_15 Q [] x

theorem c32_lo (P Q : FVec Ideal S1x512x512 .f32) (s : Fin 512) (hs : s.val < 1024) (e : Fin 512) :
    View.canon (Val := Elt Ideal) (e := .f32) [⟨r0_16, P⟩, ⟨r0_15, Q⟩] (ix3 (0 : Fin 1) (⟨s.val, hs⟩ : Fin 1024) e) = Q (ix3 (0 : Fin 1) s e) :=
  c32_first P Q (ix3 (0 : Fin 1) (⟨s.val, hs⟩ : Fin 1024) e) (c32_lo_not_mem s hs e) (ix3 (0 : Fin 1) s e) (c32_lo_emb s hs e)

theorem c32_hi (P Q : FVec Ideal S1x512x512 .f32) (s : Fin 512) (hs : 512 + s.val < 1024) (e : Fin 512) :
    View.canon (Val := Elt Ideal) (e := .f32) [⟨r0_16, P⟩, ⟨r0_15, Q⟩] (ix3 (0 : Fin 1) (⟨512 + s.val, hs⟩ : Fin 1024) e) = P (ix3 (0 : Fin 1) s e) := by
  have hi : (ix3 (0 : Fin 1) (⟨512 + s.val, hs⟩ : Fin 1024) e : S1x1024x512.Idx) = r0_16.emb (ix3 (0 : Fin 1) s e) := by
    funext k
    fin_cases k <;> exact Fin.ext (by simp [Rect.emb_apply])
  exact (congrArg _ hi).trans (View.canon_cons_emb _ _ _ _)

theorem c8_lo_emb (s : Fin 512) (hs : s.val < 1024) (e : Fin 8) : (ix3 (0 : Fin 1) (⟨s.val, hs⟩ : Fin 1024) e : S1x1024x8.Idx) = r0_25.emb (ix3 (0 : Fin 1) s e) := by
  funext k
  refine Fin.ext ?_
  rw [Rect.emb_apply]
  fin_cases k
  · rfl
  · show s.val = 0 + 1 * s.val
    rw [Nat.one_mul, Nat.zero_add]
  · show e.val = 0 + 1 * e.val
    rw [Nat.one_mul, Nat.zero_add]

theorem c8_lo_not_mem (s : Fin 512) (hs : s.val < 1024) (e : Fin 8) : (ix3 (0 : Fin 1) (⟨s.val, hs⟩ : Fin 1024) e : S1x1024x8.Idx) ∉ r0_26.set := by
  intro hm
  have h := (Rect.mem_set_unit (s := S1x1024x8)).1 hm (1 : Fin 3)
  have h0 : 512 ≤ s.val := h.1
  exact absurd s.isLt (Nat.not_lt.2 h0)

theorem c8_first (P Q : FVec Ideal S1x512x8 .f32) (y : S1x1024x8.Idx) (hn : y ∉ r0_26.set) (x : r0_25.shape.Idx) (hx : y = r0_25.emb x) :
    View.canon (Val := Elt Ideal) (e := .f32) [⟨r0_26, P⟩, ⟨r0_25, Q⟩] y = Q x := by
  refine (View.canon_cons_of_not_mem (Val := Elt Ideal) (e := .f32) (⟨r0_26, P⟩ : View.Piece (Elt Ideal) S1x1024x8 .f32) [⟨r0_25, Q⟩] hn).trans ?_
  rw [hx]
  exact View.canon_cons_emb (Val := Elt Ideal) (e := .f32) r0_25 Q [] x

theorem c8_lo (P Q : FVec Ideal S1x512x8 .f32) (s : Fin 512) (hs : s.val < 1024) (e : Fin 8) :
    View.canon (Val := Elt Ideal) (e := .f32) [⟨r0_26, P⟩, ⟨r0_25, Q⟩] (ix3 (0 : Fin 1) (⟨s.val, hs⟩ : Fin 1024) e) = Q (ix3 (0 : Fin 1) s e) :=
  c8_first P Q (ix3 (0 : Fin 1) (⟨s.val, hs⟩ : Fin 1024) e) (c8_lo_not_mem s hs e) (ix3 (0 : Fin 1) s e) (c8_lo_emb s hs e)

theorem c8_hi (P Q : FVec Ideal S1x512x8 .f32) (s : Fin 512) (hs : 512 + s.val < 1024) (e : Fin 8) :
    View.canon (Val := Elt Ideal) (e := .f32) [⟨r0_26, P⟩, ⟨r0_25, Q⟩] (ix3 (0 : Fin 1) (⟨512 + s.val, hs⟩ : Fin 1024) e) = P (ix3 (0 : Fin 1) s e) := by
  have hi : (ix3 (0 : Fin 1) (⟨512 + s.val, hs⟩ : Fin 1024) e : S1x1024x8.Idx) = r0_26.emb (ix3 (0 : Fin 1) s e) := by
    funext k
    fin_cases k <;> exact Fin.ext (by simp [Rect.emb_apply])
  exact (congrArg _ hi).trans (View.canon_cons_emb _ _ _ _)

theorem c1 (P : FVec Ideal S1x512x512 .f32) (s e : Fin 512) :
    View.canon (Val := Elt Ideal) (e := .f32) [⟨r0_17, P⟩] (ix3 (0 : Fin 1) s e) = P (ix3 (0 : Fin 1) s e) := by
  have hi : (ix3 (0 : Fin 1) s e : S1x512x512.Idx) = r0_17.emb (ix3 (0 : Fin 1) s e) := by
    funext k
    refine Fin.ext ?_
    rw [Rect.emb_apply]
    fin_cases k
    · rfl
    · show s.val = 0 + 1 * s.val
      rw [Nat.one_mul, Nat.zero_add]
    · show e.val = 0 + 1 * e.val
      rw [Nat.one_mul, Nat.zero_add]
  exact (congrArg _ hi).trans (View.canon_cons_emb _ _ _ _)

/-- A row of a block of 1024 lies in its lower or in its upper half. -/
theorem half_cases (r : Fin 1024) : (∃ s : Fin 512, r.val = s.val) ∨ ∃ s : Fin 512, r.val = 512 + s.val := by
  rcases Nat.lt_or_ge r.val 512 with h | h
  · exact .inl ⟨⟨r.val, h⟩, rfl⟩
  · exact .inr ⟨⟨r.val - 512, by omega⟩, by show r.val = 512 + (r.val - 512); omega⟩

section
variable (x0 : Vec Ideal S1x1024x1024 .f32) (x1 : Vec Ideal S1x1024 .f32) (x2 : Vec Ideal S3080x1024 .bf16) (x3 : Vec Ideal S8x512 .f32)
  (x4 : Vec Ideal S4x64x512 .f32) (gain : Fin 64 → EReal)

theorem out7_at (hgain : ∀ (d : Fin 64) (r : Fin 512), x4 (ix3 (1 : Fin 4) d r) = gain d) (r : Fin 1024) (e : Fin 512) : out0_7 x0 x1 x2 x3 x4 (ix3 (0 : Fin 1) r e) = ProjMath.key (fun e => x0 (ix3 (0 : Fin 1) r e)) (fun e => x1 (ix2 (0 : Fin 1) e)) (fun j f => x2 (ix2 f j)) 512 (by decide) gain e := by
  rw [out7_eq]
  rcases half_cases r with ⟨s, hs⟩ | ⟨s, hs⟩
  · have hlt : s.val < 1024 := hs ▸ r.isLt
    obtain rfl : r = ⟨s.val, hlt⟩ := Fin.ext hs
    refine (c16_lo _ _ s hlt e).trans ((tile16_at _ s e).trans ((key_at x0 x1 x2 x4 0 _ (by decide) 512 _ (by decide) 1 _ (by decide) s e).trans (ProjMath.key_congr (funext fun e => congrArg (fun q : Fin 1024 => x0 (ix3 (0 : Fin 1) q e)) (Fin.ext (Nat.zero_add _))) rfl rfl (funext fun d => hgain d s) 512 (by decide) e)))
  · have hlt : 512 + s.val < 1024 := hs ▸ r.isLt
    obtain rfl : r = ⟨512 + s.val, hlt⟩ := Fin.ext hs
    refine (c16_hi _ _ s hlt e).trans ((tile16_at _ s e).trans ((key_at x0 x1 x2 x4 512 _ (by decide) 512 _ (by decide) 1 _ (by decide) s e).trans (ProjMath.key_congr rfl rfl rfl (funext fun d => hgain d s) 512 (by decide) e)))

theorem out11_at (hgain : ∀ (d : Fin 64) (r : Fin 512), x4 (ix3 (1 : Fin 4) d r) = gain d) (s e : Fin 512) : out0_11 x0 x1 x2 x3 x4 (ix3 (0 : Fin 1) s e) = ProjMath.key (fun e => x0 (ix3 (0 : Fin 1) (⟨512 + s.val, by omega⟩ : Fin 1024) e)) (fun e => x1 (ix2 (0 : Fin 1) e)) (fun j f => x2 (ix2 f j)) 512 (by decide) gain e := by
  rw [out11_eq]
  exact (c1 _ s e).trans ((tile_at _ s e).trans ((key_at x0 x1 x2 x4 512 _ (by decide) 512 _ (by decide) 1 _ (by decide) s e).trans (ProjMath.key_congr rfl rfl rfl (funext fun d => hgain d s) 512 (by decide) e)))

theorem out12_at (s e : Fin 512) : out0_12 x0 x1 x2 x3 x4 (ix3 (0 : Fin 1) s e) = ProjMath.value (fun e => x0 (ix3 (0 : Fin 1) (⟨512 + s.val, by omega⟩ : Fin 1024) e)) (fun e => x1 (ix2 (0 : Fin 1) e)) (fun j f => x2 (ix2 f j)) 1024 (by decide) e := by
  rw [out12_eq]
  exact (c1 _ s e).trans ((tile_at _ s e).trans ((value_at x0 x1 x2 512 _ (by decide) 1024 _ (by decide) s e).trans (ProjMath.value_congr rfl rfl rfl 1024 (by decide) e)))

theorem out13_at (hgain : ∀ (d : Fin 64) (r : Fin 512), x4 (ix3 (3 : Fin 4) d r) = gain d) (r : Fin 1024) (e : Fin 512) : out0_13 x0 x1 x2 x3 x4 (ix3 (0 : Fin 1) r e) = ProjMath.key (fun e => x0 (ix3 (0 : Fin 1) r e)) (fun e => x1 (ix2 (0 : Fin 1) e)) (fun j f => x2 (ix2 f j)) 2048 (by decide) gain e := by
  rw [out13_eq]
  rcases half_cases r with ⟨s, hs⟩ | ⟨s, hs⟩
  · have hlt : s.val < 1024 := hs ▸ r.isLt
    obtain rfl : r = ⟨s.val, hlt⟩ := Fin.ext hs
    refine (c32_lo _ _ s hlt e).trans ((tile_at _ s e).trans ((key_at x0 x1 x2 x4 0 _ (by decide) 2048 _ (by decide) 3 _ (by decide) s e).trans (ProjMath.key_congr (funext fun e => congrArg (fun q : Fin 1024 => x0 (ix3 (0 : Fin 1) q e)) (Fin.ext (Nat.zero_add _))) rfl rfl (funext fun d => hgain d s) 2048 (by decide) e)))
  · have hlt : 512 + s.val < 1024 := hs ▸ r.isLt
    obtain rfl : r = ⟨512 + s.val, hlt⟩ := Fin.ext hs
    refine (c32_hi _ _ s hlt e).trans ((tile_at _ s e).trans ((key_at x0 x1 x2 x4 512 _ (by decide) 2048 _ (by decide) 3 _ (by decide) s e).trans (ProjMath.key_congr rfl rfl rfl (funext fun d => hgain d s) 2048 (by decide) e)))

theorem out14_at (r : Fin 1024) (e : Fin 512) : out0_14 x0 x1 x2 x3 x4 (ix3 (0 : Fin 1) r e) = ProjMath.value (fun e => x0 (ix3 (0 : Fin 1) r e)) (fun e => x1 (ix2 (0 : Fin 1) e)) (fun j f => x2 (ix2 f j)) 2560 (by decide) e := by
  rw [out14_eq]
  rcases half_cases r with ⟨s, hs⟩ | ⟨s, hs⟩
  · have hlt : s.val < 1024 := hs ▸ r.isLt
    obtain rfl : r = ⟨s.val, hlt⟩ := Fin.ext hs
    refine (c32_lo _ _ s hlt e).trans ((tile_at _ s e).trans ((value8_at x0 x1 x2 0 _ (by decide) s e).trans (ProjMath.value_congr (funext fun e => congrArg (fun q : Fin 1024 => x0 (ix3 (0 : Fin 1) q e)) (Fin.ext (Nat.zero_add _))) rfl rfl 2560 (by decide) e)))
  · have hlt : 512 + s.val < 1024 := hs ▸ r.isLt
    obtain rfl : r = ⟨512 + s.val, hlt⟩ := Fin.ext hs
    refine (c32_hi _ _ s hlt e).trans ((tile_at _ s e).trans ((value8_at x0 x1 x2 512 _ (by decide) s e).trans (ProjMath.value_congr rfl rfl rfl 2560 (by decide) e)))

theorem out15_at (bias : Fin 8 → EReal) (hbias : ∀ (n : Fin 8) (r : Fin 512), x3 (ix2 n r) = bias n) (r : Fin 1024) (e : Fin 8) : out0_15 x0 x1 x2 x3 x4 (ix3 (0 : Fin 1) r e) = ProjMath.forget (fun e => x0 (ix3 (0 : Fin 1) r e)) (fun e => x1 (ix2 (0 : Fin 1) e)) (fun j f => x2 (ix2 f j)) bias e := by
  rw [out15_eq]
  rcases half_cases r with ⟨s, hs⟩ | ⟨s, hs⟩
  · have hlt : s.val < 1024 := hs ▸ r.isLt
    obtain rfl : r = ⟨s.val, hlt⟩ := Fin.ext hs
    refine (c8_lo _ _ s hlt e).trans ((forget_at x0 x1 x2 x3 0 _ (by decide) s e).trans (ProjMath.forget_congr (funext fun e => congrArg (fun q : Fin 1024 => x0 (ix3 (0 : Fin 1) q e)) (Fin.ext (Nat.zero_add _))) rfl rfl (funext fun n => hbias n s) e))
  · have hlt : 512 + s.val < 1024 := hs ▸ r.isLt
    obtain rfl : r = ⟨512 + s.val, hlt⟩ := Fin.ext hs
    refine (c8_hi _ _ s hlt e).trans ((forget_at x0 x1 x2 x3 512 _ (by decide) s e).trans (ProjMath.forget_congr rfl rfl rfl (funext fun n => hbias n s) e))

end

end Cert.ProjIdeal.Comp
end
-- ==== Proof.Hand.ProjHost.lean ====
/- The projections over the extended reals: the blocks that a grid point reads, as elements of the arguments. -/
module

public import proofs.«01_k».proof.Proof.Gen.ProjIdeal.Value
public import Idealize.ShloMosaic.Lib.Pointwise
public import Idealize.ShloMosaic.Lib.Claim
public import Idealize.ShloMosaic.Lib.StableHlo.ReadAt
public import Idealize.ShloMosaic.Lib.Pipeline.ValueKit

@[expose] public section

set_option maxRecDepth 16384

noncomputable section
namespace Cert.ProjIdeal.Comp

open Cert.ProjIdeal Cert.ProjIdeal.Gen Idealize.ShloMosaic Idealize.ShloMosaic.TcCoe Idealize.SL.Sem

variable (m : (ℓ : Loc nD τ sig) → Buf (Elt Ideal) ℓ) (c : Dev nD)

theorem N_eq : cfg0.N = 64 := by decide +kernel

theorem idx : ∀ t : Fin grid0.N, win0_0.index t = ![t.val / 2, t.val % 2, 0] ∧ win0_1.index t = ![0, 0] ∧ win0_2.index t = ![0, 0] ∧ win0_3.index t = ![0, 0] ∧ win0_4.index t = ![0, 0, 0]
    ∧ win0_7.index t = ![t.val / 2, t.val % 2, 0] ∧ win0_11.index t = ![t.val / 2, 0, 0] ∧ win0_12.index t = ![t.val / 2, 0, 0] ∧ win0_13.index t = ![t.val / 2, t.val % 2, 0] ∧ win0_14.index t = ![t.val / 2, t.val % 2, 0] ∧ win0_15.index t = ![t.val / 2, t.val % 2, 0] := by decide +kernel

theorem v4_at (e : Fin 1024) : V m c main_v4 (ix2 (0 : Fin 1) e) = m (c.tc.loc main_arg1) (ix2 (0 : Fin 1) e) := by
  unfold V
  after_reads_at
  blk_ext

theorem v2_at (f : Fin 3080) (j : Fin 1024) : V m c main_v2 (ix2 f j) = m (c.tc.loc main_arg2) (ix3 (0 : Fin 1) j f) := by
  unfold V
  after_reads_at
  blk_ext

theorem v7_at (n : Fin 8) (r : Fin 512) : V m c main_v7 (ix2 n r) = m (c.tc.loc main_arg3) (ix2 (0 : Fin 1) n) := by
  unfold V
  after_reads_at
  blk_ext

theorem v24_at1 (d : Fin 64) (r : Fin 512) : V m c main_v24 (ix3 (1 : Fin 4) d r) = m (c.tc.loc main_arg5) (ix2 (0 : Fin 1) d) := by
  unfold V
  after_reads_at
  after_reads_at

theorem v24_at3 (d : Fin 64) (r : Fin 512) : V m c main_v24 (ix3 (3 : Fin 4) d r) = m (c.tc.loc main_arg7) (ix2 (0 : Fin 1) d) := by
  unfold V
  after_reads_at
  after_reads_at

section
variable (t : Fin cfg0.N)

theorem x1_at (e : Fin 1024) : iblk m c 1 t (ix2 (0 : Fin 1) e) = m (c.tc.loc main_arg1) (ix2 (0 : Fin 1) e) := by
  refine Eq.trans ?_ (v4_at m c e)
  blk_ext [iblk, idx t]

theorem x2_at (j : Fin 1024) (f : Fin 3080) : iblk m c 2 t (ix2 f j) = m (c.tc.loc main_arg2) (ix3 (0 : Fin 1) j f) := by
  refine Eq.trans ?_ (v2_at m c f j)
  blk_ext [iblk, idx t]

theorem x3_at (n : Fin 8) (r : Fin 512) : iblk m c 3 t (ix2 n r) = m (c.tc.loc main_arg3) (ix2 (0 : Fin 1) n) := by
  refine Eq.trans ?_ (v7_at m c n r)
  blk_ext [iblk, idx t]

theorem x4_at1 (d : Fin 64) (r : Fin 512) : iblk m c 4 t (ix3 (1 : Fin 4) d r) = m (c.tc.loc main_arg5) (ix2 (0 : Fin 1) d) := by
  refine Eq.trans ?_ (v24_at1 m c d r)
  blk_ext [iblk, idx t]

theorem x4_at3 (d : Fin 64) (r : Fin 512) : iblk m c 4 t (ix3 (3 : Fin 4) d r) = m (c.tc.loc main_arg7) (ix2 (0 : Fin 1) d) := by
  refine Eq.trans ?_ (v24_at3 m c d r)
  blk_ext [iblk, idx t]

theorem x0_at (i : Fin 32) (j : Fin 2) (ht : t.val = 2 * i.val + j.val) (r : Fin 1024) (e : Fin 1024) :
    iblk m c 0 t (ix3 (0 : Fin 1) r e) = m (c.tc.loc main_arg0) (ix3 i (⟨1024 * j.val + r.val, by omega⟩ : Fin 2048) e) := by
  refine Eq.trans ?_ (congrFun (V_main_arg0 m c) (ix3 i (⟨1024 * j.val + r.val, by omega⟩ : Fin 2048) e))
  blk_ext [iblk, idx t]

theorem arr7_at (i : Fin 32) (j : Fin 2) (ht : t.val = 2 * i.val + j.val) (r : Fin 1024) (e : Fin 512) :
    (dats m 0 c).arrAt 7 cfg0.N (ix3 i (⟨1024 * j.val + r.val, by omega⟩ : Fin 2048) e) = out0_7 (iblk m c 0 t) (iblk m c 1 t) (iblk m c 2 t) (iblk m c 3 t) (iblk m c 4 t) (ix3 (0 : Fin 1) r e) := by
  have hf : ∀ t : Fin cfg0.N, (cfg0.win 7).flush t = true := by decide +kernel
  have h := congrFun (Value.blocks7 m c t (hf t)) (ix3 (0 : Fin 1) r e)
  rw [Value.flushed7] at h
  refine Eq.trans ?_ (h.trans ?_)
  · blk_ext [idx t]
  · rfl

omit t in
theorem inj11 : ∀ t t' : Fin grid0.N, win0_11.flush t = true → win0_11.flush t' = true → win0_11.index t = win0_11.index t' → t = t' := by
  decide +kernel

/-- Each batch's block is written back once, after the second of its two tiles. -/
theorem arr11_at (i : Fin 32) (ht : t.val = 2 * i.val + 1) (r e : Fin 512) :
    (dats m 0 c).arrAt 11 cfg0.N (ix3 i r e) = out0_11 (iblk m c 0 t) (iblk m c 1 t) (iblk m c 2 t) (iblk m c 3 t) (iblk m c 4 t) (ix3 (0 : Fin 1) r e) := by
  have hf : ∀ t : Fin cfg0.N, t.val % 2 = 1 → (cfg0.win 11).flush t = true := by decide +kernel
  have hd : ∀ t t' : Fin cfg0.N, (cfg0.win 11).flush t = true → (cfg0.win 11).flush t' = true → t ≠ t' →
      Disjoint ((cfg0.win 11).blk t).view.set ((cfg0.win 11).blk t').view.set :=
    fun t t' h h' hne => (cfg0.win 11).disjoint_blk fun q => hne (inj11 t t' h h' q)
  have h := congrFun ((dats m 0 c).read_blk_arrAt_eq_flushed 11 hd cfg0.N t t.isLt (hf t (by omega))) (ix3 (0 : Fin 1) r e)
  rw [Value.flushed11] at h
  refine Eq.trans ?_ (h.trans ?_)
  · blk_ext [idx t]
  · rfl

omit t in
theorem inj12 : ∀ t t' : Fin grid0.N, win0_12.flush t = true → win0_12.flush t' = true → win0_12.index t = win0_12.index t' → t = t' := by
  decide +kernel

/-- Each batch's block is written back once, after the second of its two tiles. -/
theorem arr12_at (i : Fin 32) (ht : t.val = 2 * i.val + 1) (r e : Fin 512) :
    (dats m 0 c).arrAt 12 cfg0.N (ix3 i r e) = out0_12 (iblk m c 0 t) (iblk m c 1 t) (iblk m c 2 t) (iblk m c 3 t) (iblk m c 4 t) (ix3 (0 : Fin 1) r e) := by
  have hf : ∀ t : Fin cfg0.N, t.val % 2 = 1 → (cfg0.win 12).flush t = true := by decide +kernel
  have hd : ∀ t t' : Fin cfg0.N, (cfg0.win 12).flush t = true → (cfg0.win 12).flush t' = true → t ≠ t' →
      Disjoint ((cfg0.win 12).blk t).view.set ((cfg0.win 12).blk t').view.set :=
    fun t t' h h' hne => (cfg0.win 12).disjoint_blk fun q => hne (inj12 t t' h h' q)
  have h := congrFun ((dats m 0 c).read_blk_arrAt_eq_flushed 12 hd cfg0.N t t.isLt (hf t (by omega))) (ix3 (0 : Fin 1) r e)
  rw [Value.flushed12] at h
  refine Eq.trans ?_ (h.trans ?_)
  · blk_ext [idx t]
  · rfl

theorem arr13_at (i : Fin 32) (j : Fin 2) (ht : t.val = 2 * i.val + j.val) (r : Fin 1024) (e : Fin 512) :
    (dats m 0 c).arrAt 13 cfg0.N (ix3 i (⟨1024 * j.val + r.val, by omega⟩ : Fin 2048) e) = out0_13 (iblk m c 0 t) (iblk m c 1 t) (iblk m c 2 t) (iblk m c 3 t) (iblk m c 4 t) (ix3 (0 : Fin 1) r e) := by
  have hf : ∀ t : Fin cfg0.N, (cfg0.win 13).flush t = true := by decide +kernel
  have h := congrFun (Value.blocks13 m c t (hf t)) (ix3 (0 : Fin 1) r e)
  rw [Value.flushed13] at h
  refine Eq.trans ?_ (h.trans ?_)
  · blk_ext [idx t]
  · rfl

theorem arr14_at (i : Fin 32) (j : Fin 2) (ht : t.val = 2 * i.val + j.val) (r : Fin 1024) (e : Fin 512) :
    (dats m 0 c).arrAt 14 cfg0.N (ix3 i (⟨1024 * j.val + r.val, by omega⟩ : Fin 2048) e) = out0_14 (iblk m c 0 t) (iblk m c 1 t) (iblk m c 2 t) (iblk m c 3 t) (iblk m c 4 t) (ix3 (0 : Fin 1) r e) := by
  have hf : ∀ t : Fin cfg0.N, (cfg0.win 14).flush t = true := by decide +kernel
  have h := congrFun (Value.blocks14 m c t (hf t)) (ix3 (0 : Fin 1) r e)
  rw [Value.flushed14] at h
  refine Eq.trans ?_ (h.trans ?_)
  · blk_ext [idx t]
  · rfl

theorem arr15_at (i : Fin 32) (j : Fin 2) (ht : t.val = 2 * i.val + j.val) (r : Fin 1024) (e : Fin 8) :
    (dats m 0 c).arrAt 15 cfg0.N (ix3 i (⟨1024 * j.val + r.val, by omega⟩ : Fin 2048) e) = out0_15 (iblk m c 0 t) (iblk m c 1 t) (iblk m c 2 t) (iblk m c 3 t) (iblk m c 4 t) (ix3 (0 : Fin 1) r e) := by
  have hf : ∀ t : Fin cfg0.N, (cfg0.win 15).flush t = true := by decide +kernel
  have h := congrFun (Value.blocks15 m c t (hf t)) (ix3 (0 : Fin 1) r e)
  rw [Value.flushed15] at h
  refine Eq.trans ?_ (h.trans ?_)
  · blk_ext [idx t]
  · rfl

end

end Cert.ProjIdeal.Comp
end
-- ==== Proof.Hand.ProjRef.lean ====
/- The projections over the extended reals: the reference's results, row by row. -/
module

public import proofs.«01_k».proof.Proof.Hand.ProjSpec
public import proofs.«01_k».proof.Proof.Gen.ProjRefIdeal.Read
public import Idealize.ShloMosaic.Lib.Pointwise
public import Idealize.ShloMosaic.Lib.Claim

@[expose] public section

set_option maxRecDepth 16384

noncomputable section
namespace Cert.ProjRefIdeal.Comp

open Cert.ProjRefIdeal Cert.ProjRefIdeal.Gen Cert.ProjRefIdeal.Read Idealize.ShloMosaic Idealize.ShloMosaic.TcCoe Idealize.SL.Sem
open Cert

variable (x0 : (⟨S32x2048x1024, .f32⟩ : BufTy).Contents (Elt Ideal)) (x1 : (⟨S1x1024, .f32⟩ : BufTy).Contents (Elt Ideal))
  (x2 : (⟨S1x1024x3080, .f32⟩ : BufTy).Contents (Elt Ideal)) (x3 : (⟨S1x8, .f32⟩ : BufTy).Contents (Elt Ideal))
  (x5 x7 : (⟨S1x64, .f32⟩ : BufTy).Contents (Elt Ideal)) (b : Fin 32) (s : Fin 2048)

theorem v17_at (e : Fin 1024) : val_main_v17 (F := Ideal) x0 x1 (ix3 b s e)
    = TailMath.rms (fun e => x0 (ix3 b s e)) (fun e => x1 (ix2 (0 : Fin 1) e)) e := by
  pointwise [val_main_v17, val_main_v16, val_main_v15, val_main_v14, val_main_v13, val_main_v12, val_main_v11, val_main_v10, val_main_v9, val_main_v8, val_main_v7, val_main_v6, val_main_v5, val_main_v0, val_main_cst, val_main_cst_0, val_main_cst_1]
  rfl

theorem v18_at (f : Fin 3080) : val_main_v18 (F := Ideal) x0 x1 x2 (ix3 b s f)
    = ProjMath.lin (TailMath.rms (fun e => x0 (ix3 b s e)) (fun e => x1 (ix2 (0 : Fin 1) e))) (fun j f => x2 (ix3 (0 : Fin 1) j f)) f := by
  pointwise [val_main_v18, val_main_v1, v17_at]
  rfl

theorem v26_at (h : Fin 8) (d : Fin 64) : val_main_v26 (F := Ideal) x0 x1 x2 (ix4 b s h d)
    = ProjMath.lin (TailMath.rms (fun e => x0 (ix3 b s e)) (fun e => x1 (ix2 (0 : Fin 1) e))) (fun j f => x2 (ix3 (0 : Fin 1) j f))
        (⟨512 + (64 * h.val + d.val), by omega⟩ : Fin 3080) := by
  refine Eq.trans ?_ (v18_at x0 x1 x2 b s _)
  pointwise [val_main_v26, val_main_v20]
  exact congrArg (fun q : Fin 3080 => val_main_v18 (F := Ideal) x0 x1 x2 (ix3 b s q)) (Fin.ext (by simp only []; omega))

theorem v40_at (h : Fin 8) (d : Fin 64) : val_main_v40 (F := Ideal) x0 x1 x2 (ix4 b s h d)
    = ProjMath.lin (TailMath.rms (fun e => x0 (ix3 b s e)) (fun e => x1 (ix2 (0 : Fin 1) e))) (fun j f => x2 (ix3 (0 : Fin 1) j f))
        (⟨1024 + (64 * h.val + d.val), by omega⟩ : Fin 3080) := by
  refine Eq.trans ?_ (v18_at x0 x1 x2 b s _)
  pointwise [val_main_v40, val_main_v21]
  exact congrArg (fun q : Fin 3080 => val_main_v18 (F := Ideal) x0 x1 x2 (ix3 b s q)) (Fin.ext (by simp only []; omega))

theorem v41_at (h : Fin 8) (d : Fin 64) : val_main_v41 (F := Ideal) x0 x1 x2 (ix4 b s h d)
    = ProjMath.lin (TailMath.rms (fun e => x0 (ix3 b s e)) (fun e => x1 (ix2 (0 : Fin 1) e))) (fun j f => x2 (ix3 (0 : Fin 1) j f))
        (⟨2048 + (64 * h.val + d.val), by omega⟩ : Fin 3080) := by
  refine Eq.trans ?_ (v18_at x0 x1 x2 b s _)
  pointwise [val_main_v41, val_main_v23]
  exact congrArg (fun q : Fin 3080 => val_main_v18 (F := Ideal) x0 x1 x2 (ix3 b s q)) (Fin.ext (by simp only []; omega))

theorem v55_at (h : Fin 8) (d : Fin 64) : val_main_v55 (F := Ideal) x0 x1 x2 (ix4 b s h d)
    = ProjMath.lin (TailMath.rms (fun e => x0 (ix3 b s e)) (fun e => x1 (ix2 (0 : Fin 1) e))) (fun j f => x2 (ix3 (0 : Fin 1) j f))
        (⟨2560 + (64 * h.val + d.val), by omega⟩ : Fin 3080) := by
  refine Eq.trans ?_ (v18_at x0 x1 x2 b s _)
  pointwise [val_main_v55, val_main_v24]
  exact congrArg (fun q : Fin 3080 => val_main_v18 (F := Ideal) x0 x1 x2 (ix3 b s q)) (Fin.ext (by simp only []; omega))

theorem v39_at (h : Fin 8) (d : Fin 64) : val_main_v39 (F := Ideal) x0 x1 x2 x5 (ix4 b s h d)
    = ProjMath.head (fun d => val_main_v26 (F := Ideal) x0 x1 x2 (ix4 b s h d)) (fun d => x5 (ix2 (0 : Fin 1) d)) d := by
  pointwise [val_main_v39, val_main_v38, val_main_v37, val_main_v36, val_main_v35, val_main_v34, val_main_v33, val_main_v32, val_main_v31, val_main_v30, val_main_v29, val_main_v28, val_main_v27, val_main_v3, val_main_cst_2, val_main_cst_3, val_main_cst_4]
  rfl

theorem v54_at (h : Fin 8) (d : Fin 64) : val_main_v54 (F := Ideal) x0 x1 x2 x7 (ix4 b s h d)
    = ProjMath.head (fun d => val_main_v41 (F := Ideal) x0 x1 x2 (ix4 b s h d)) (fun d => x7 (ix2 (0 : Fin 1) d)) d := by
  pointwise [val_main_v54, val_main_v53, val_main_v52, val_main_v51, val_main_v50, val_main_v49, val_main_v48, val_main_v47, val_main_v46, val_main_v45, val_main_v44, val_main_v43, val_main_v42, val_main_v4, val_main_cst_5, val_main_cst_6, val_main_cst_7]
  rfl

theorem keyA (e : Fin 512) : val_main_v39 (F := Ideal) x0 x1 x2 x5 (ix4 b s (⟨e.val / 64, by omega⟩ : Fin 8) (⟨e.val % 64, by omega⟩ : Fin 64))
    = ProjMath.key (fun e => x0 (ix3 b s e)) (fun e => x1 (ix2 (0 : Fin 1) e)) (fun j f => x2 (ix3 (0 : Fin 1) j f)) 512 (by decide) (fun d => x5 (ix2 (0 : Fin 1) d)) e := by
  rw [v39_at]
  simp only [v26_at]
  rfl

theorem keyB (e : Fin 512) : val_main_v54 (F := Ideal) x0 x1 x2 x7 (ix4 b s (⟨e.val / 64, by omega⟩ : Fin 8) (⟨e.val % 64, by omega⟩ : Fin 64))
    = ProjMath.key (fun e => x0 (ix3 b s e)) (fun e => x1 (ix2 (0 : Fin 1) e)) (fun j f => x2 (ix3 (0 : Fin 1) j f)) 2048 (by decide) (fun d => x7 (ix2 (0 : Fin 1) d)) e := by
  rw [v54_at]
  simp only [v41_at]
  rfl

theorem valA (e : Fin 512) : val_main_v40 (F := Ideal) x0 x1 x2 (ix4 b s (⟨e.val / 64, by omega⟩ : Fin 8) (⟨e.val % 64, by omega⟩ : Fin 64))
    = ProjMath.value (fun e => x0 (ix3 b s e)) (fun e => x1 (ix2 (0 : Fin 1) e)) (fun j f => x2 (ix3 (0 : Fin 1) j f)) 1024 (by decide) e := by
  rw [v40_at]
  exact congrArg (ProjMath.lin _ _) (Fin.ext (by simp only []; omega))

theorem valB (e : Fin 512) : val_main_v55 (F := Ideal) x0 x1 x2 (ix4 b s (⟨e.val / 64, by omega⟩ : Fin 8) (⟨e.val % 64, by omega⟩ : Fin 64))
    = ProjMath.value (fun e => x0 (ix3 b s e)) (fun e => x1 (ix2 (0 : Fin 1) e)) (fun j f => x2 (ix3 (0 : Fin 1) j f)) 2560 (by decide) e := by
  rw [v55_at]
  exact congrArg (ProjMath.lin _ _) (Fin.ext (by simp only []; omega))

theorem v58_at (n : Fin 8) : val_main_v58 (F := Ideal) x0 x1 x2 x3 (ix3 b s n)
    = ProjMath.lin (TailMath.rms (fun e => x0 (ix3 b s e)) (fun e => x1 (ix2 (0 : Fin 1) e))) (fun j f => x2 (ix3 (0 : Fin 1) j f))
        (⟨3072 + n.val, by omega⟩ : Fin 3080) + x3 (ix2 (0 : Fin 1) n) := by
  rw [← v18_at x0 x1 x2 b s]
  pointwise [val_main_v58, val_main_v57, val_main_v56, val_main_v25, val_main_v2]

theorem v59_at (n : Fin 8) : val_main_v59 (F := Ideal) x0 x1 x2 x3 (ix3 b s n)
    = ProjMath.forget (fun e => x0 (ix3 b s e)) (fun e => x1 (ix2 (0 : Fin 1) e)) (fun j f => x2 (ix3 (0 : Fin 1) j f)) (fun n => x3 (ix2 (0 : Fin 1) n)) n := by
  have hc : val_main_call0_call0_v4 (F := Ideal) x0 x1 x2 x3 (ix3 b s n) = 0#1 := by
    show BitVec.ofBool (decide (_ ≠ _)) = _
    simp
  have hs : val_main_call0_v1 (F := Ideal) x0 x1 x2 x3 (ix3 b s n) = val_main_call0_call0_v11 (F := Ideal) x0 x1 x2 x3 (ix3 b s n) := by
    unfold val_main_call0_v1
    show (if val_main_call0_call0_v4 (F := Ideal) x0 x1 x2 x3 (ix3 b s n) = 1#1 then _ else _) = _
    rw [hc]
    rfl
  show -(val_main_call0_v1 (F := Ideal) x0 x1 x2 x3 (ix3 b s n)) = _
  rw [hs]
  show -(max (-(val_main_v58 (F := Ideal) x0 x1 x2 x3 (ix3 b s n))) (Ideal.ofBits .f32 0x00000000#32)
    + Ideal.log1p (Ideal.exp (-(max (-(val_main_v58 (F := Ideal) x0 x1 x2 x3 (ix3 b s n)) - Ideal.ofBits .f32 0x00000000#32)
        (-(-(val_main_v58 (F := Ideal) x0 x1 x2 x3 (ix3 b s n)) - Ideal.ofBits .f32 0x00000000#32)))))) = _
  rw [ProjMath.zero_val, ProjMath.logsig_eq, v58_at]
  rfl

theorem v61_at (e : Fin 512) : val_main_v61 (F := Ideal) x0 x1 x2 x5 (ix3 b s e) = ProjMath.key (fun e => x0 (ix3 b s e)) (fun e => x1 (ix2 (0 : Fin 1) e)) (fun j f => x2 (ix3 (0 : Fin 1) j f)) 512 (by decide) (fun d => x5 (ix2 (0 : Fin 1) d)) e := by
  refine Eq.trans ?_ (keyA x0 x1 x2 x5 b s e)
  pointwise [val_main_v61, val_main_v60]

theorem v66_at (e : Fin 512) : val_main_v66 (F := Ideal) x0 x1 x2 x7 (ix3 b s e) = ProjMath.key (fun e => x0 (ix3 b s e)) (fun e => x1 (ix2 (0 : Fin 1) e)) (fun j f => x2 (ix3 (0 : Fin 1) j f)) 2048 (by decide) (fun d => x7 (ix2 (0 : Fin 1) d)) e := by
  refine Eq.trans ?_ (keyB x0 x1 x2 x7 b s e)
  pointwise [val_main_v66]

theorem v67_at (e : Fin 512) : val_main_v67 (F := Ideal) x0 x1 x2 (ix3 b s e) = ProjMath.value (fun e => x0 (ix3 b s e)) (fun e => x1 (ix2 (0 : Fin 1) e)) (fun j f => x2 (ix3 (0 : Fin 1) j f)) 2560 (by decide) e := by
  refine Eq.trans ?_ (valB x0 x1 x2 b s e)
  pointwise [val_main_v67]

theorem v63_at (r : Fin 512) (hs : s.val = 1536 + r.val) (e : Fin 512) : val_main_v63 (F := Ideal) x0 x1 x2 x5 (ix3 b r e) = ProjMath.key (fun e => x0 (ix3 b s e)) (fun e => x1 (ix2 (0 : Fin 1) e)) (fun j f => x2 (ix3 (0 : Fin 1) j f)) 512 (by decide) (fun d => x5 (ix2 (0 : Fin 1) d)) e := by
  have hs' : (⟨1536 + r.val, by omega⟩ : Fin 2048) = s := Fin.ext hs.symm
  refine Eq.trans ?_ (keyA x0 x1 x2 x5 b s e)
  pointwise [val_main_v63, val_main_v62]
  rw [hs']

theorem v65_at (r : Fin 512) (hs : s.val = 1536 + r.val) (e : Fin 512) : val_main_v65 (F := Ideal) x0 x1 x2 (ix3 b r e) = ProjMath.value (fun e => x0 (ix3 b s e)) (fun e => x1 (ix2 (0 : Fin 1) e)) (fun j f => x2 (ix3 (0 : Fin 1) j f)) 1024 (by decide) e := by
  have hs' : (⟨1536 + r.val, by omega⟩ : Fin 2048) = s := Fin.ext hs.symm
  refine Eq.trans ?_ (valA x0 x1 x2 b s e)
  pointwise [val_main_v65, val_main_v64]
  rw [hs']

end Cert.ProjRefIdeal.Comp
end
-- ==== Proof.Hand.ProjEq.lean ====
/- The projections over the extended reals: the kernel's result arrays are the reference's. -/
module

public import proofs.«01_k».proof.Proof.Hand.ProjRead
public import proofs.«01_k».proof.Proof.Hand.ProjHost
public import proofs.«01_k».proof.Proof.Hand.ProjRef

@[expose] public section

set_option maxRecDepth 16384

noncomputable section
namespace Cert.ProjIdeal.Comp

open Cert.ProjIdeal Cert.ProjIdeal.Gen Idealize.ShloMosaic Idealize.ShloMosaic.TcCoe Idealize.SL.Sem
open Cert

variable (m : (ℓ : Loc nD τ sig) → Buf (Elt Ideal) ℓ) (c : Dev nD)

theorem row7 (i : Fin 32) (j : Fin 2) (r : Fin 1024) (e : Fin 512) : (dats m 0 c).arrAt 7 cfg0.N (ix3 i (⟨1024 * j.val + r.val, by omega⟩ : Fin 2048) e) = Cert.ProjRefIdeal.Read.val_main_v61 (F := Ideal) (m (c.tc.loc main_arg0)) (m (c.tc.loc main_arg1)) (m (c.tc.loc main_arg2)) (m (c.tc.loc main_arg5)) (ix3 i (⟨1024 * j.val + r.val, by omega⟩ : Fin 2048) e) := by
  let t := (⟨2 * i.val + j.val, by rw [N_eq]; omega⟩ : Fin cfg0.N)
  refine (arr7_at m c t i j rfl r e).trans ((out7_at _ _ _ _ _ (fun d => (m (c.tc.loc main_arg5)) (ix2 (0 : Fin 1) d)) (fun d q => x4_at1 m c _ d q) r e).trans ?_)
  refine Eq.trans ?_ (Cert.ProjRefIdeal.Comp.v61_at _ _ _ _ i (⟨1024 * j.val + r.val, by omega⟩ : Fin 2048) e).symm
  exact ProjMath.key_congr (funext fun e => x0_at m c t i j rfl r e) (funext fun e => x1_at m c t e)
    (funext fun j => funext fun f => x2_at m c t j f) rfl _ (by decide) e

theorem eq7 : (dats m 0 c).arrAt 7 cfg0.N = Cert.ProjRefIdeal.Read.val_main_v61 (F := Ideal) (m (c.tc.loc main_arg0)) (m (c.tc.loc main_arg1)) (m (c.tc.loc main_arg2)) (m (c.tc.loc main_arg5)) := by
  funext y
  obtain ⟨i, q, e, rfl⟩ : ∃ (i : Fin 32) (q : Fin 2048) (e : Fin 512), y = ix3 i q e := ⟨y 0, y 1, y 2, by funext k; fin_cases k <;> rfl⟩
  have hq : q = (⟨1024 * (⟨q.val / 1024, by omega⟩ : Fin 2).val + (⟨q.val % 1024, by omega⟩ : Fin 1024).val, by simp only []; omega⟩ : Fin 2048) :=
    Fin.ext (by simp only []; omega)
  rw [hq]
  exact row7 m c i _ _ e

theorem row11 (i : Fin 32) (r e : Fin 512) : (dats m 0 c).arrAt 11 cfg0.N (ix3 i r e) = Cert.ProjRefIdeal.Read.val_main_v63 (F := Ideal) (m (c.tc.loc main_arg0)) (m (c.tc.loc main_arg1)) (m (c.tc.loc main_arg2)) (m (c.tc.loc main_arg5)) (ix3 i r e) := by
  let t := (⟨2 * i.val + 1, by rw [N_eq]; omega⟩ : Fin cfg0.N)
  refine (arr11_at m c t i rfl r e).trans ((out11_at _ _ _ _ _ (fun d => (m (c.tc.loc main_arg5)) (ix2 (0 : Fin 1) d)) (fun d q => x4_at1 m c _ d q) r e).trans ?_)
  refine Eq.trans ?_ (Cert.ProjRefIdeal.Comp.v63_at _ _ _ _ i (⟨1536 + r.val, by omega⟩ : Fin 2048) r rfl e).symm
  exact ProjMath.key_congr (funext fun e => (x0_at m c t i (1 : Fin 2) rfl (⟨512 + r.val, by omega⟩ : Fin 1024) e).trans
    (congrArg (fun q : Fin 2048 => m (c.tc.loc main_arg0) (ix3 i q e)) (Fin.ext (by simp only [Fin.val_one]; omega)))) (funext fun e => x1_at m c t e)
    (funext fun j => funext fun f => x2_at m c t j f) rfl _ (by decide) e

theorem eq11 : (dats m 0 c).arrAt 11 cfg0.N = Cert.ProjRefIdeal.Read.val_main_v63 (F := Ideal) (m (c.tc.loc main_arg0)) (m (c.tc.loc main_arg1)) (m (c.tc.loc main_arg2)) (m (c.tc.loc main_arg5)) := by
  funext y
  obtain ⟨i, r, e, rfl⟩ : ∃ (i : Fin 32) (r e : Fin 512), y = ix3 i r e := ⟨y 0, y 1, y 2, by funext k; fin_cases k <;> rfl⟩
  exact row11 m c i r e

theorem row12 (i : Fin 32) (r e : Fin 512) : (dats m 0 c).arrAt 12 cfg0.N (ix3 i r e) = Cert.ProjRefIdeal.Read.val_main_v65 (F := Ideal) (m (c.tc.loc main_arg0)) (m (c.tc.loc main_arg1)) (m (c.tc.loc main_arg2)) (ix3 i r e) := by
  let t := (⟨2 * i.val + 1, by rw [N_eq]; omega⟩ : Fin cfg0.N)
  refine (arr12_at m c t i rfl r e).trans ((out12_at _ _ _ _ _ r e).trans ?_)
  refine Eq.trans ?_ (Cert.ProjRefIdeal.Comp.v65_at _ _ _ i (⟨1536 + r.val, by omega⟩ : Fin 2048) r rfl e).symm
  exact ProjMath.value_congr (funext fun e => (x0_at m c t i (1 : Fin 2) rfl (⟨512 + r.val, by omega⟩ : Fin 1024) e).trans
    (congrArg (fun q : Fin 2048 => m (c.tc.loc main_arg0) (ix3 i q e)) (Fin.ext (by simp only [Fin.val_one]; omega)))) (funext fun e => x1_at m c t e)
    (funext fun j => funext fun f => x2_at m c t j f) _ (by decide) e

theorem eq12 : (dats m 0 c).arrAt 12 cfg0.N = Cert.ProjRefIdeal.Read.val_main_v65 (F := Ideal) (m (c.tc.loc main_arg0)) (m (c.tc.loc main_arg1)) (m (c.tc.loc main_arg2)) := by
  funext y
  obtain ⟨i, r, e, rfl⟩ : ∃ (i : Fin 32) (r e : Fin 512), y = ix3 i r e := ⟨y 0, y 1, y 2, by funext k; fin_cases k <;> rfl⟩
  exact row12 m c i r e

theorem row13 (i : Fin 32) (j : Fin 2) (r : Fin 1024) (e : Fin 512) : (dats m 0 c).arrAt 13 cfg0.N (ix3 i (⟨1024 * j.val + r.val, by omega⟩ : Fin 2048) e) = Cert.ProjRefIdeal.Read.val_main_v66 (F := Ideal) (m (c.tc.loc main_arg0)) (m (c.tc.loc main_arg1)) (m (c.tc.loc main_arg2)) (m (c.tc.loc main_arg7)) (ix3 i (⟨1024 * j.val + r.val, by omega⟩ : Fin 2048) e) := by
  let t := (⟨2 * i.val + j.val, by rw [N_eq]; omega⟩ : Fin cfg0.N)
  refine (arr13_at m c t i j rfl r e).trans ((out13_at _ _ _ _ _ (fun d => (m (c.tc.loc main_arg7)) (ix2 (0 : Fin 1) d)) (fun d q => x4_at3 m c _ d q) r e).trans ?_)
  refine Eq.trans ?_ (Cert.ProjRefIdeal.Comp.v66_at _ _ _ _ i (⟨1024 * j.val + r.val, by omega⟩ : Fin 2048) e).symm
  exact ProjMath.key_congr (funext fun e => x0_at m c t i j rfl r e) (funext fun e => x1_at m c t e)
    (funext fun j => funext fun f => x2_at m c t j f) rfl _ (by decide) e

theorem eq13 : (dats m 0 c).arrAt 13 cfg0.N = Cert.ProjRefIdeal.Read.val_main_v66 (F := Ideal) (m (c.tc.loc main_arg0)) (m (c.tc.loc main_arg1)) (m (c.tc.loc main_arg2)) (m (c.tc.loc main_arg7)) := by
  funext y
  obtain ⟨i, q, e, rfl⟩ : ∃ (i : Fin 32) (q : Fin 2048) (e : Fin 512), y = ix3 i q e := ⟨y 0, y 1, y 2, by funext k; fin_cases k <;> rfl⟩
  have hq : q = (⟨1024 * (⟨q.val / 1024, by omega⟩ : Fin 2).val + (⟨q.val % 1024, by omega⟩ : Fin 1024).val, by simp only []; omega⟩ : Fin 2048) :=
    Fin.ext (by simp only []; omega)
  rw [hq]
  exact row13 m c i _ _ e

theorem row14 (i : Fin 32) (j : Fin 2) (r : Fin 1024) (e : Fin 512) : (dats m 0 c).arrAt 14 cfg0.N (ix3 i (⟨1024 * j.val + r.val, by omega⟩ : Fin 2048) e) = Cert.ProjRefIdeal.Read.val_main_v67 (F := Ideal) (m (c.tc.loc main_arg0)) (m (c.tc.loc main_arg1)) (m (c.tc.loc main_arg2)) (ix3 i (⟨1024 * j.val + r.val, by omega⟩ : Fin 2048) e) := by
  let t := (⟨2 * i.val + j.val, by rw [N_eq]; omega⟩ : Fin cfg0.N)
  refine (arr14_at m c t i j rfl r e).trans ((out14_at _ _ _ _ _ r e).trans ?_)
  refine Eq.trans ?_ (Cert.ProjRefIdeal.Comp.v67_at _ _ _ i (⟨1024 * j.val + r.val, by omega⟩ : Fin 2048) e).symm
  exact ProjMath.value_congr (funext fun e => x0_at m c t i j rfl r e) (funext fun e => x1_at m c t e)
    (funext fun j => funext fun f => x2_at m c t j f) _ (by decide) e

theorem eq14 : (dats m 0 c).arrAt 14 cfg0.N = Cert.ProjRefIdeal.Read.val_main_v67 (F := Ideal) (m (c.tc.loc main_arg0)) (m (c.tc.loc main_arg1)) (m (c.tc.loc main_arg2)) := by
  funext y
  obtain ⟨i, q, e, rfl⟩ : ∃ (i : Fin 32) (q : Fin 2048) (e : Fin 512), y = ix3 i q e := ⟨y 0, y 1, y 2, by funext k; fin_cases k <;> rfl⟩
  have hq : q = (⟨1024 * (⟨q.val / 1024, by omega⟩ : Fin 2).val + (⟨q.val % 1024, by omega⟩ : Fin 1024).val, by simp only []; omega⟩ : Fin 2048) :=
    Fin.ext (by simp only []; omega)
  rw [hq]
  exact row14 m c i _ _ e

theorem row15 (i : Fin 32) (j : Fin 2) (r : Fin 1024) (e : Fin 8) : (dats m 0 c).arrAt 15 cfg0.N (ix3 i (⟨1024 * j.val + r.val, by omega⟩ : Fin 2048) e) = Cert.ProjRefIdeal.Read.val_main_v59 (F := Ideal) (m (c.tc.loc main_arg0)) (m (c.tc.loc main_arg1)) (m (c.tc.loc main_arg2)) (m (c.tc.loc main_arg3)) (ix3 i (⟨1024 * j.val + r.val, by omega⟩ : Fin 2048) e) := by
  let t := (⟨2 * i.val + j.val, by rw [N_eq]; omega⟩ : Fin cfg0.N)
  refine (arr15_at m c t i j rfl r e).trans ((out15_at _ _ _ _ _ (fun n => (m (c.tc.loc main_arg3)) (ix2 (0 : Fin 1) n)) (fun n q => x3_at m c _ n q) r e).trans ?_)
  refine Eq.trans ?_ (Cert.ProjRefIdeal.Comp.v59_at _ _ _ _ i (⟨1024 * j.val + r.val, by omega⟩ : Fin 2048) e).symm
  exact ProjMath.forget_congr (funext fun e => x0_at m c t i j rfl r e) (funext fun e => x1_at m c t e)
    (funext fun j => funext fun f => x2_at m c t j f) rfl e

theorem eq15 : (dats m 0 c).arrAt 15 cfg0.N = Cert.ProjRefIdeal.Read.val_main_v59 (F := Ideal) (m (c.tc.loc main_arg0)) (m (c.tc.loc main_arg1)) (m (c.tc.loc main_arg2)) (m (c.tc.loc main_arg3)) := by
  funext y
  obtain ⟨i, q, e, rfl⟩ : ∃ (i : Fin 32) (q : Fin 2048) (e : Fin 8), y = ix3 i q e := ⟨y 0, y 1, y 2, by funext k; fin_cases k <;> rfl⟩
  have hq : q = (⟨1024 * (⟨q.val / 1024, by omega⟩ : Fin 2).val + (⟨q.val % 1024, by omega⟩ : Fin 1024).val, by simp only []; omega⟩ : Fin 2048) :=
    Fin.ext (by simp only []; omega)
  rw [hq]
  exact row15 m c i _ _ e

end Cert.ProjIdeal.Comp
end
-- ==== Proof.Hand.ProjSComp.lean ====
/- The projections of the sample step: what one grid point's body leaves in its output blocks, as a composition of a few functions of
   its input blocks (the normalised rows, one segment of the projection, the normalised heads), for the two halves of a block. -/
module

public import proofs.«01_k».proof.Proof.Gen.ProjSIdeal.Value

@[expose] public section

set_option maxRecDepth 16384

noncomputable section
namespace Cert.ProjSIdeal.Comp

open Cert.ProjSIdeal Cert.ProjSIdeal.Gen Idealize.ShloMosaic Idealize.ShloMosaic.TcCoe Idealize.SL.Sem

variable {F : FTy → Type} [FloatOps F]

/-- The rows of half a block, normalised. -/
def hs (x : Vec F S1x512x1024 .f32) (g : Vec F S1x1024 .f32) : FVec F S512x1024 .bf16 := k0_pay2 x g

/-- 512 features of the projection, features first. -/
def seg (h : FVec F S512x1024 .bf16) (w : Vec F S512x1024 .bf16) : FVec F S512x512 .f32 :=
  matmul dot_S512x1024_S512x1024_S512x512_1_1_0_0_n_n none (shapeCast S512x1024 w shapeCasts_S512x1024_S512x1024 : FVec F S512x1024 .bf16) h
    (constant S512x512 .f32 0x00000000#32)

/-- The last 520 features of the projection. -/
def seg8 (h : FVec F S512x1024 .bf16) (w : Vec F S520x1024 .bf16) : FVec F S520x512 .f32 :=
  matmul dot_S520x1024_S512x1024_S520x512_1_1_0_0_n_n none (shapeCast S520x1024 w shapeCasts_S520x1024_S520x1024 : FVec F S520x1024 .bf16) h
    (constant S520x512 .f32 0x00000000#32)

/-- One head normalised. -/
def head1 (y : FVec F S64x512 .f32) (g : Vec F S1x64x512 .f32) : FVec F S64x512 .f32 :=
  mulf (mulf y (broadcastTo S64x512 (rsqrt (addf
    (mulf (shapeCast S1x512 (multiReduction .add [0] S512 (mulf y y) 0x00000000#32 reduces_S64x512_S512 (.inl rfl) rfl : FVec F S512 .f32)
      shapeCasts_S512_S1x512 : FVec F S1x512 .f32) (broadcast S1x512 (Scalar.ofBits .f32 0x3C800000#32 : F .f32)))
    (broadcast S1x512 (Scalar.ofBits .f32 0x358637BD#32 : F .f32)))) broadcasts_S1x512_S64x512 : FVec F S64x512 .f32))
    (shapeCast S64x512 g shapeCasts_S1x64x512_S64x512 : FVec F S64x512 .f32)

/-- The eight heads normalised. -/
def heads (y : FVec F S512x512 .f32) (g : Vec F S1x64x512 .f32) : FVec F S512x512 .f32 :=
  concatenate S512x512 0 [⟨S64x512, head1 (extractStridedSlice S64x512 ![0, 0] y slices_S512x512_o0_0_S64x512 : FVec F S64x512 .f32) g⟩,
    ⟨S64x512, head1 (extractStridedSlice S64x512 ![64, 0] y slices_S512x512_o64_0_S64x512 : FVec F S64x512 .f32) g⟩,
    ⟨S64x512, head1 (extractStridedSlice S64x512 ![128, 0] y slices_S512x512_o128_0_S64x512 : FVec F S64x512 .f32) g⟩,
    ⟨S64x512, head1 (extractStridedSlice S64x512 ![192, 0] y slices_S512x512_o192_0_S64x512 : FVec F S64x512 .f32) g⟩,
    ⟨S64x512, head1 (extractStridedSlice S64x512 ![256, 0] y slices_S512x512_o256_0_S64x512 : FVec F S64x512 .f32) g⟩,
    ⟨S64x512, head1 (extractStridedSlice S64x512 ![320, 0] y slices_S512x512_o320_0_S64x512 : FVec F S64x512 .f32) g⟩,
    ⟨S64x512, head1 (extractStridedSlice S64x512 ![384, 0] y slices_S512x512_o384_0_S64x512 : FVec F S64x512 .f32) g⟩,
    ⟨S64x512, head1 (extractStridedSlice S64x512 ![448, 0] y slices_S512x512_o448_0_S64x512 : FVec F S64x512 .f32) g⟩]
    concatenates_S64x512_S64x512_S64x512_S64x512_S64x512_S64x512_S64x512_S64x512_S512x512_d0

/-- A tile of the result: the rows first. -/
def tile (y : FVec F S512x512 .f32) : FVec F S1x512x512 .f32 :=
  shapeCast S1x512x512 (transpose S512x512 [1, 0] y transposes_S512x512_p1_0_S512x512 : FVec F S512x512 .f32) shapeCasts_S512x512_S1x512x512

/-- A tile of the result in the narrower format. -/
def tile16 (y : FVec F S512x512 .f32) : FVec F S1x512x512 .bf16 :=
  shapeCast S1x512x512 (truncf .bf16 (transpose S512x512 [1, 0] y transposes_S512x512_p1_0_S512x512 : FVec F S512x512 .f32) bitsLt_bf16_f32
    : FVec F S512x512 .bf16) shapeCasts_S512x512_S1x512x512

/-- The values of the forgetting attention out of the last 520 features. -/
def vals8 (y : FVec F S520x512 .f32) : FVec F S512x512 .f32 := extractStridedSlice S512x512 ![0, 0] y slices_S520x512_o0_0_S512x512

/-- The forget logits of the eight heads. -/
def logits (y : FVec F S520x512 .f32) (b : Vec F S8x512 .f32) : FVec F S8x512 .f32 :=
  addf (extractStridedSlice S8x512 ![512, 0] y slices_S520x512_o512_0_S8x512 : FVec F S8x512 .f32) (shapeCast S8x512 b shapeCasts_S8x512_S8x512)

/-- The log forget values of the eight heads, the rows first. -/
def forgets (z : FVec F S8x512 .f32) : FVec F S1x512x8 .f32 :=
  shapeCast S1x512x8 (transpose S512x8 [1, 0] (subf (minimumf z (broadcast S8x512 (Scalar.ofBits .f32 0x00000000#32 : F .f32)))
    (log1p (exp (subf (broadcast S8x512 (Scalar.ofBits .f32 0x00000000#32 : F .f32)) (absf z))))) transposes_S8x512_p1_0_S512x8 : FVec F S512x8 .f32)
    shapeCasts_S512x8_S1x512x8

section
variable (x0 : Vec F S1x1024x1024 .f32) (x1 : Vec F S1x1024 .f32) (x2 : Vec F S3080x1024 .bf16) (x3 : Vec F S8x512 .f32) (x4 : Vec F S4x64x512 .f32)

theorem out11_eq : out0_11 x0 x1 x2 x3 x4 = View.canon [⟨r0_16, tile (heads (seg (hs (View.ld x0 r0_2) (View.ld x1 r0_1)) (View.ld x2 r0_13)) (View.ld x4 r0_14))⟩, ⟨r0_15, tile (heads (seg (hs (View.ld x0 r0_0) (View.ld x1 r0_1)) (View.ld x2 r0_13)) (View.ld x4 r0_14))⟩] := by
  unfold_out out0_11
  rfl

theorem out12_eq : out0_12 x0 x1 x2 x3 x4 = View.canon [⟨r0_16, tile (seg (hs (View.ld x0 r0_2) (View.ld x1 r0_1)) (View.ld x2 r0_17))⟩, ⟨r0_15, tile (seg (hs (View.ld x0 r0_0) (View.ld x1 r0_1)) (View.ld x2 r0_17))⟩] := by
  unfold_out out0_12
  rfl

theorem out13_eq : out0_13 x0 x1 x2 x3 x4 = View.canon [⟨r0_16, tile (heads (seg (hs (View.ld x0 r0_2) (View.ld x1 r0_1)) (View.ld x2 r0_20)) (View.ld x4 r0_21))⟩, ⟨r0_15, tile (heads (seg (hs (View.ld x0 r0_0) (View.ld x1 r0_1)) (View.ld x2 r0_20)) (View.ld x4 r0_21))⟩] := by
  unfold_out out0_13
  rfl

theorem out14_eq : out0_14 x0 x1 x2 x3 x4 = View.canon [⟨r0_16, tile (vals8 (seg8 (hs (View.ld x0 r0_2) (View.ld x1 r0_1)) (View.ld x2 r0_22)))⟩, ⟨r0_15, tile (vals8 (seg8 (hs (View.ld x0 r0_0) (View.ld x1 r0_1)) (View.ld x2 r0_22)))⟩] := by
  unfold_out out0_14
  rfl

theorem out15_eq : out0_15 x0 x1 x2 x3 x4 = View.canon [⟨r0_25, forgets (logits (seg8 (hs (View.ld x0 r0_2) (View.ld x1 r0_1)) (View.ld x2 r0_22)) (View.ld x3 r0_23))⟩, ⟨r0_24, forgets (logits (seg8 (hs (View.ld x0 r0_0) (View.ld x1 r0_1)) (View.ld x2 r0_22)) (View.ld x3 r0_23))⟩] := by
  unfold_out out0_15
  rfl

end

end Cert.ProjSIdeal.Comp
end
-- ==== Proof.Hand.ProjSRead.lean ====
/- The projections of the sample step over the extended reals: what a grid point leaves in its output blocks, row by row. -/
module

public import proofs.«01_k».proof.Proof.Hand.ProjSComp
public import proofs.«01_k».proof.Proof.Hand.ProjSpec
public import Idealize.ShloMosaic.Lib.Pointwise
public import Idealize.ShloMosaic.Lib.Claim
public import Idealize.ShloMosaic.Lib.Pipeline.ValueKit

@[expose] public section

set_option maxRecDepth 16384

noncomputable section
namespace Cert.ProjSIdeal.Comp

open Cert.ProjSIdeal Cert.ProjSIdeal.Gen Idealize.ShloMosaic Idealize.ShloMosaic.TcCoe Idealize.SL.Sem
open Cert

theorem hs_at (x : Vec Ideal S1x512x1024 .f32) (g : Vec Ideal S1x1024 .f32) (r : Fin 512) (e : Fin 1024) :
    hs x g (ix2 r e) = TailMath.rms (fun e => x (ix3 (0 : Fin 1) r e)) (fun e => g (ix2 (0 : Fin 1) e)) e := by
  unfold hs
  pointwise [k0_pay2]
  rfl

theorem seg_at (h : FVec Ideal S512x1024 .bf16) (w : Vec Ideal S512x1024 .bf16) (f r : Fin 512) :
    seg h w (ix2 f r) = ∑ j, w (ix2 f j) * h (ix2 r j) := by
  pointwise [seg]

theorem seg8_at (h : FVec Ideal S512x1024 .bf16) (w : Vec Ideal S520x1024 .bf16) (f : Fin 520) (r : Fin 512) :
    seg8 h w (ix2 f r) = ∑ j, w (ix2 f j) * h (ix2 r j) := by
  pointwise [seg8]

theorem head1_at (y : FVec Ideal S64x512 .f32) (g : Vec Ideal S1x64x512 .f32) (d : Fin 64) (r : Fin 512) :
    head1 y g (ix2 d r) = ProjMath.head (fun d => y (ix2 d r)) (fun d => g (ix3 (0 : Fin 1) d r)) d := by
  pointwise [head1, ProjMath.mul_inv_eq]
  rfl

theorem heads_0 (y : FVec Ideal S512x512 .f32) (g : Vec Ideal S1x64x512 .f32) (d : Fin 64) (r : Fin 512) : heads y g (ix2 (⟨0 + d.val, by omega⟩ : Fin 512) r)
    = ProjMath.head (fun k => y (ix2 (⟨0 + k.val, by omega⟩ : Fin 512) r)) (fun d => g (ix3 (0 : Fin 1) d r)) d := by
  pointwise [heads, head1_at]

theorem heads_1 (y : FVec Ideal S512x512 .f32) (g : Vec Ideal S1x64x512 .f32) (d : Fin 64) (r : Fin 512) : heads y g (ix2 (⟨64 + d.val, by omega⟩ : Fin 512) r)
    = ProjMath.head (fun k => y (ix2 (⟨64 + k.val, by omega⟩ : Fin 512) r)) (fun d => g (ix3 (0 : Fin 1) d r)) d := by
  pointwise [heads, head1_at]

theorem heads_2 (y : FVec Ideal S512x512 .f32) (g : Vec Ideal S1x64x512 .f32) (d : Fin 64) (r : Fin 512) : heads y g (ix2 (⟨128 + d.val, by omega⟩ : Fin 512) r)
    = ProjMath.head (fun k => y (ix2 (⟨128 + k.val, by omega⟩ : Fin 512) r)) (fun d => g (ix3 (0 : Fin 1) d r)) d := by
  pointwise [heads, head1_at]
  rw [dif_neg (by omega), dif_neg (by omega)]
  rw [dif_pos (by omega)]
  exact congrArg (ProjMath.head _ _) (Fin.ext (by simp only []; omega))

theorem heads_3 (y : FVec Ideal S512x512 .f32) (g : Vec Ideal S1x64x512 .f32) (d : Fin 64) (r : Fin 512) : heads y g (ix2 (⟨192 + d.val, by omega⟩ : Fin 512) r)
    = ProjMath.head (fun k => y (ix2 (⟨192 + k.val, by omega⟩ : Fin 512) r)) (fun d => g (ix3 (0 : Fin 1) d r)) d := by
  pointwise [heads, head1_at]
  rw [dif_neg (by omega), dif_neg (by omega), dif_neg (by omega)]
  rw [dif_pos (by omega)]
  exact congrArg (ProjMath.head _ _) (Fin.ext (by simp only []; omega))

theorem heads_4 (y : FVec Ideal S512x512 .f32) (g : Vec Ideal S1x64x512 .f32) (d : Fin 64) (r : Fin 512) : heads y g (ix2 (⟨256 + d.val, by omega⟩ : Fin 512) r)
    = ProjMath.head (fun k => y (ix2 (⟨256 + k.val, by omega⟩ : Fin 512) r)) (fun d => g (ix3 (0 : Fin 1) d r)) d := by
  pointwise [heads, head1_at]
  rw [dif_neg (by omega), dif_neg (by omega), dif_neg (by omega), dif_neg (by omega)]
  rw [dif_pos (by omega)]
  exact congrArg (ProjMath.head _ _) (Fin.ext (by simp only []; omega))

theorem heads_5 (y : FVec Ideal S512x512 .f32) (g : Vec Ideal S1x64x512 .f32) (d : Fin 64) (r : Fin 512) : heads y g (ix2 (⟨320 + d.val, by omega⟩ : Fin 512) r)
    = ProjMath.head (fun k => y (ix2 (⟨320 + k.val, by omega⟩ : Fin 512) r)) (fun d => g (ix3 (0 : Fin 1) d r)) d := by
  pointwise [heads, head1_at]
  rw [dif_neg (by omega), dif_neg (by omega), dif_neg (by omega), dif_neg (by omega), dif_neg (by omega)]
  rw [dif_pos (by omega)]
  exact congrArg (ProjMath.head _ _) (Fin.ext (by simp only []; omega))

theorem heads_6 (y : FVec Ideal S512x512 .f32) (g : Vec Ideal S1x64x512 .f32) (d : Fin 64) (r : Fin 512) : heads y g (ix2 (⟨384 + d.val, by omega⟩ : Fin 512) r)
    = ProjMath.head (fun k => y (ix2 (⟨384 + k.val, by omega⟩ : Fin 512) r)) (fun d => g (ix3 (0 : Fin 1) d r)) d := by
  pointwise [heads, head1_at]
  rw [dif_neg (by omega), dif_neg (by omega), dif_neg (by omega), dif_neg (by omega), dif_neg (by omega), dif_neg (by omega)]
  rw [dif_pos (by omega)]
  exact congrArg (ProjMath.head _ _) (Fin.ext (by simp only []; omega))

theorem heads_7 (y : FVec Ideal S512x512 .f32) (g : Vec Ideal S1x64x512 .f32) (d : Fin 64) (r : Fin 512) : heads y g (ix2 (⟨448 + d.val, by omega⟩ : Fin 512) r)
    = ProjMath.head (fun k => y (ix2 (⟨448 + k.val, by omega⟩ : Fin 512) r)) (fun d => g (ix3 (0 : Fin 1) d r)) d := by
  pointwise [heads, head1_at]
  rw [dif_neg (by omega), dif_neg (by omega), dif_neg (by omega), dif_neg (by omega), dif_neg (by omega), dif_neg (by omega), dif_neg (by omega)]
  exact congrArg (ProjMath.head _ _) (Fin.ext (by simp only []; omega))

theorem heads_hd (y : FVec Ideal S512x512 .f32) (g : Vec Ideal S1x64x512 .f32) (d : Fin 64) (r : Fin 512) : ∀ h : Fin 8,
    heads y g (ix2 (⟨64 * h.val + d.val, by omega⟩ : Fin 512) r)
      = ProjMath.head (fun k => y (ix2 (⟨64 * h.val + k.val, by omega⟩ : Fin 512) r)) (fun d => g (ix3 (0 : Fin 1) d r)) d
  | ⟨0, _⟩ => heads_0 y g d r
  | ⟨1, _⟩ => heads_1 y g d r
  | ⟨2, _⟩ => heads_2 y g d r
  | ⟨3, _⟩ => heads_3 y g d r
  | ⟨4, _⟩ => heads_4 y g d r
  | ⟨5, _⟩ => heads_5 y g d r
  | ⟨6, _⟩ => heads_6 y g d r
  | ⟨7, _⟩ => heads_7 y g d r

theorem heads_at (y : FVec Ideal S512x512 .f32) (g : Vec Ideal S1x64x512 .f32) (e r : Fin 512) : heads y g (ix2 e r)
    = ProjMath.head (fun k => y (ix2 (⟨64 * (e.val / 64) + k.val, by omega⟩ : Fin 512) r)) (fun d => g (ix3 (0 : Fin 1) d r)) ⟨e.val % 64, by omega⟩ := by
  have he : e = (⟨64 * (⟨e.val / 64, by omega⟩ : Fin 8).val + (⟨e.val % 64, by omega⟩ : Fin 64).val, by simp only []; omega⟩ : Fin 512) :=
    Fin.ext (by simp only []; omega)
  exact (congrArg (fun q => heads y g (ix2 q r)) he).trans (heads_hd y g ⟨e.val % 64, by omega⟩ r ⟨e.val / 64, by omega⟩)

theorem tile_at (y : FVec Ideal S512x512 .f32) (r e : Fin 512) : tile y (ix3 (0 : Fin 1) r e) = y (ix2 e r) := by
  pointwise [tile]

theorem tile16_at (y : FVec Ideal S512x512 .f32) (r e : Fin 512) : tile16 y (ix3 (0 : Fin 1) r e) = y (ix2 e r) := by
  pointwise [tile16]

theorem vals8_at (y : FVec Ideal S520x512 .f32) (e r : Fin 512) : vals8 y (ix2 e r) = y (ix2 (⟨e.val, by omega⟩ : Fin 520) r) := by
  pointwise [vals8]

theorem logits_at (y : FVec Ideal S520x512 .f32) (z : Vec Ideal S8x512 .f32) (n : Fin 8) (r : Fin 512) :
    logits y z (ix2 n r) = y (ix2 (⟨512 + n.val, by omega⟩ : Fin 520) r) + z (ix2 n r) := by
  pointwise [logits]

theorem forgets_at (z : FVec Ideal S8x512 .f32) (r : Fin 512) (n : Fin 8) : forgets z (ix3 (0 : Fin 1) r n) = ProjMath.logsig (z (ix2 n r)) := by
  pointwise [forgets, ProjMath.zero_val]
  rfl

theorem ldX (x : Vec Ideal S1x1024x1024 .f32) (off : ℕ) (h : ∀ a, (![0, off, 0] : Fin 3 → ℕ) a + S1x512x1024.size a ≤ S1x1024x1024.size a)
    (ho : off + 512 ≤ 1024) (r : Fin 512) (e : Fin 1024) :
    View.ld x (Rect.unit ![0, off, 0] S1x512x1024.size h) (ix3 (0 : Fin 1) r e) = x (ix3 (0 : Fin 1) (⟨off + r.val, by omega⟩ : Fin 1024) e) := by
  refine View.ld_unit_apply_of _ _ _ _ _ _ fun a => ?_
  fin_cases a
  · rfl
  · rfl
  · exact (Nat.zero_add _).symm

theorem ldG (g : Vec Ideal S1x1024 .f32) (e : Fin 1024) : View.ld g r0_1 (ix2 (0 : Fin 1) e) = g (ix2 (0 : Fin 1) e) := by
  refine View.ld_unit_apply_of _ _ _ _ _ _ fun a => ?_
  fin_cases a
  · rfl
  · exact (Nat.zero_add _).symm

theorem ldW (w : Vec Ideal S3080x1024 .bf16) (off : ℕ) (h : ∀ a, (![off, 0] : Fin 2 → ℕ) a + S512x1024.size a ≤ S3080x1024.size a)
    (ho : off + 512 ≤ 3080) (f : Fin 512) (j : Fin 1024) :
    View.ld w (Rect.unit ![off, 0] S512x1024.size h) (ix2 f j) = w (ix2 (⟨off + f.val, by omega⟩ : Fin 3080) j) := by
  refine View.ld_unit_apply_of _ _ _ _ _ _ fun a => ?_
  fin_cases a
  · rfl
  · exact (Nat.zero_add _).symm

theorem ldW8 (w : Vec Ideal S3080x1024 .bf16) (f : Fin 520) (j : Fin 1024) :
    View.ld w r0_22 (ix2 f j) = w (ix2 (⟨2560 + f.val, by omega⟩ : Fin 3080) j) := by
  refine View.ld_unit_apply_of _ _ _ _ _ _ fun a => ?_
  fin_cases a
  · rfl
  · exact (Nat.zero_add _).symm

theorem ldB (z : Vec Ideal S8x512 .f32) (n : Fin 8) (r : Fin 512) : View.ld z r0_23 (ix2 n r) = z (ix2 n r) := by
  refine View.ld_unit_apply_of _ _ _ _ _ _ fun a => ?_
  fin_cases a <;> exact (Nat.zero_add _).symm

theorem ldN (g : Vec Ideal S4x64x512 .f32) (i : ℕ) (h : ∀ a, (![i, 0, 0] : Fin 3 → ℕ) a + S1x64x512.size a ≤ S4x64x512.size a)
    (hi : i < 4) (d : Fin 64) (r : Fin 512) :
    View.ld g (Rect.unit ![i, 0, 0] S1x64x512.size h) (ix3 (0 : Fin 1) d r) = g (ix3 (⟨i, hi⟩ : Fin 4) d r) := by
  refine View.ld_unit_apply_of _ _ _ _ _ _ fun a => ?_
  fin_cases a
  · rfl
  · exact (Nat.zero_add _).symm
  · exact (Nat.zero_add _).symm

section
variable (x0 : Vec Ideal S1x1024x1024 .f32) (x1 : Vec Ideal S1x1024 .f32) (x2 : Vec Ideal S3080x1024 .bf16) (x3 : Vec Ideal S8x512 .f32)
  (x4 : Vec Ideal S4x64x512 .f32) (u : ℕ) (hu : ∀ a, (![0, u, 0] : Fin 3 → ℕ) a + S1x512x1024.size a ≤ S1x1024x1024.size a) (ho : u + 512 ≤ 1024)

theorem h_at (r : Fin 512) : (fun j => hs (View.ld x0 (Rect.unit ![0, u, 0] S1x512x1024.size hu)) (View.ld x1 r0_1) (ix2 r j))
    = TailMath.rms (fun e => x0 (ix3 (0 : Fin 1) (⟨u + r.val, by omega⟩ : Fin 1024) e)) (fun e => x1 (ix2 (0 : Fin 1) e)) := by
  funext j
  rw [hs_at]
  exact congrArg₂ (fun a b => TailMath.rms a b j) (funext fun e => ldX x0 u hu ho r e) (funext fun e => ldG x1 e)

theorem key_at (off : ℕ) (hw : ∀ a, (![off, 0] : Fin 2 → ℕ) a + S512x1024.size a ≤ S3080x1024.size a) (hf : off + 512 ≤ 3080)
    (i : ℕ) (hg : ∀ a, (![i, 0, 0] : Fin 3 → ℕ) a + S1x64x512.size a ≤ S4x64x512.size a) (hi : i < 4) (r e : Fin 512) :
    heads (seg (hs (View.ld x0 (Rect.unit ![0, u, 0] S1x512x1024.size hu)) (View.ld x1 r0_1)) (View.ld x2 (Rect.unit ![off, 0] S512x1024.size hw)))
        (View.ld x4 (Rect.unit ![i, 0, 0] S1x64x512.size hg)) (ix2 e r)
      = ProjMath.key (fun e => x0 (ix3 (0 : Fin 1) (⟨u + r.val, by omega⟩ : Fin 1024) e)) (fun e => x1 (ix2 (0 : Fin 1) e)) (fun j f => x2 (ix2 f j)) off hf
          (fun d => x4 (ix3 (⟨i, hi⟩ : Fin 4) d r)) e := by
  rw [heads_at]
  unfold ProjMath.key ProjMath.lin
  refine congrArg₂ (fun a b => ProjMath.head a b _) (funext fun d => ?_) (funext fun d => ldN x4 i hg hi d r)
  refine (seg_at _ _ _ _).trans (Finset.sum_congr rfl fun j _ => ?_)
  rw [ldW x2 off hw hf, mul_comm]
  exact congrArg (· * _) (congrFun (h_at x0 x1 u hu ho r) j)

theorem value_at (off : ℕ) (hw : ∀ a, (![off, 0] : Fin 2 → ℕ) a + S512x1024.size a ≤ S3080x1024.size a) (hf : off + 512 ≤ 3080) (r e : Fin 512) :
    seg (hs (View.ld x0 (Rect.unit ![0, u, 0] S1x512x1024.size hu)) (View.ld x1 r0_1)) (View.ld x2 (Rect.unit ![off, 0] S512x1024.size hw)) (ix2 e r)
      = ProjMath.value (fun e => x0 (ix3 (0 : Fin 1) (⟨u + r.val, by omega⟩ : Fin 1024) e)) (fun e => x1 (ix2 (0 : Fin 1) e)) (fun j f => x2 (ix2 f j)) off hf e := by
  unfold ProjMath.value ProjMath.lin
  refine (seg_at _ _ _ _).trans (Finset.sum_congr rfl fun j _ => ?_)
  rw [ldW x2 off hw hf, mul_comm]
  exact congrArg (· * _) (congrFun (h_at x0 x1 u hu ho r) j)

theorem last_at (f : Fin 520) (r : Fin 512) :
    seg8 (hs (View.ld x0 (Rect.unit ![0, u, 0] S1x512x1024.size hu)) (View.ld x1 r0_1)) (View.ld x2 r0_22) (ix2 f r)
      = ProjMath.lin (TailMath.rms (fun e => x0 (ix3 (0 : Fin 1) (⟨u + r.val, by omega⟩ : Fin 1024) e)) (fun e => x1 (ix2 (0 : Fin 1) e)))
          (fun j f => x2 (ix2 f j)) (⟨2560 + f.val, by omega⟩ : Fin 3080) := by
  unfold ProjMath.lin
  refine (seg8_at _ _ _ _).trans (Finset.sum_congr rfl fun j _ => ?_)
  rw [ldW8, mul_comm]
  exact congrArg (· * _) (congrFun (h_at x0 x1 u hu ho r) j)

theorem value8_at (r e : Fin 512) :
    vals8 (seg8 (hs (View.ld x0 (Rect.unit ![0, u, 0] S1x512x1024.size hu)) (View.ld x1 r0_1)) (View.ld x2 r0_22)) (ix2 e r)
      = ProjMath.value (fun e => x0 (ix3 (0 : Fin 1) (⟨u + r.val, by omega⟩ : Fin 1024) e)) (fun e => x1 (ix2 (0 : Fin 1) e)) (fun j f => x2 (ix2 f j)) 2560
          (by decide) e := by
  rw [vals8_at, last_at x0 x1 x2 u hu ho]
  rfl

theorem forget_at (r : Fin 512) (n : Fin 8) :
    forgets (logits (seg8 (hs (View.ld x0 (Rect.unit ![0, u, 0] S1x512x1024.size hu)) (View.ld x1 r0_1)) (View.ld x2 r0_22)) (View.ld x3 r0_23)) (ix3 (0 : Fin 1) r n)
      = ProjMath.forget (fun e => x0 (ix3 (0 : Fin 1) (⟨u + r.val, by omega⟩ : Fin 1024) e)) (fun e => x1 (ix2 (0 : Fin 1) e)) (fun j f => x2 (ix2 f j))
          (fun n => x3 (ix2 n r)) n := by
  rw [forgets_at, logits_at, last_at x0 x1 x2 u hu ho, ldB]
  refine congrArg (fun k => ProjMath.logsig (ProjMath.lin _ _ k + _)) (Fin.ext ?_)
  show 2560 + (512 + n.val) = 3072 + n.val
  omega

end

theorem c32_lo_emb (s : Fin 512) (hs : s.val < 1024) (e : Fin 512) : (ix3 (0 : Fin 1) (⟨s.val, hs⟩ : Fin 1024) e : S1x1024x512.Idx) = r0_15.emb (ix3 (0 : Fin 1) s e) := by
  funext k
  refine Fin.ext ?_
  rw [Rect.emb_apply]
  fin_cases k
  · rfl
  · show s.val = 0 + 1 * s.val
    rw [Nat.one_mul, Nat.zero_add]
  · show e.val = 0 + 1 * e.val
    rw [Nat.one_mul, Nat.zero_add]

theorem c32_lo_not_mem (s : Fin 512) (hs : s.val < 1024) (e : Fin 512) : (ix3 (0 : Fin 1) (⟨s.val, hs⟩ : Fin 1024) e : S1x1024x512.Idx) ∉ r0_16.set := by
  intro hm
  have h := (Rect.mem_set_unit (s := S1x1024x512)).1 hm (1 : Fin 3)
  have h0 : 512 ≤ s.val := h.1
  exact absurd s.isLt (Nat.not_lt.2 h0)

theorem c32_first (P Q : FVec Ideal S1x512x512 .f32) (y : S1x1024x512.Idx) (hn : y ∉ r0_16.set) (x : r0_15.shape.Idx) (hx : y = r0_15.emb x) :
    View.canon (Val := Elt Ideal) (e := .f32) [⟨r0_16, P⟩, ⟨r0_15, Q⟩] y = Q x := by
  refine (View.canon_cons_of_not_mem (Val := Elt Ideal) (e := .f32) (⟨r0_16, P⟩ : View.Piece (Elt Ideal) S1x1024x512 .f32) [⟨r0_15, Q⟩] hn).trans ?_
  rw [hx]
  exact View.canon_cons_emb (Val := Elt Ideal) (e := .f32) r0_15 Q [] x

theorem c32_lo (P Q : FVec Ideal S1x512x512 .f32) (s : Fin 512) (hs : s.val < 1024) (e : Fin 512) :
    View.canon (Val := Elt Ideal) (e := .f32) [⟨r0_16, P⟩, ⟨r0_15, Q⟩] (ix3 (0 : Fin 1) (⟨s.val, hs⟩ : Fin 1024) e) = Q (ix3 (0 : Fin 1) s e) :=
  c32_first P Q (ix3 (0 : Fin 1) (⟨s.val, hs⟩ : Fin 1024) e) (c32_lo_not_mem s hs e) (ix3 (0 : Fin 1) s e) (c32_lo_emb s hs e)

theorem c32_hi (P Q : FVec Ideal S1x512x512 .f32) (s : Fin 512) (hs : 512 + s.val < 1024) (e : Fin 512) :
    View.canon (Val := Elt Ideal) (e := .f32) [⟨r0_16, P⟩, ⟨r0_15, Q⟩] (ix3 (0 : Fin 1) (⟨512 + s.val, hs⟩ : Fin 1024) e) = P (ix3 (0 : Fin 1) s e) := by
  have hi : (ix3 (0 : Fin 1) (⟨512 + s.val, hs⟩ : Fin 1024) e : S1x1024x512.Idx) = r0_16.emb (ix3 (0 : Fin 1) s e) := by
    funext k
    fin_cases k <;> exact Fin.ext (by simp [Rect.emb_apply])
  exact (congrArg _ hi).trans (View.canon_cons_emb _ _ _ _)

theorem c8_lo_emb (s : Fin 512) (hs : s.val < 1024) (e : Fin 8) : (ix3 (0 : Fin 1) (⟨s.val, hs⟩ : Fin 1024) e : S1x1024x8.Idx) = r0_24.emb (ix3 (0 : Fin 1) s e) := by
  funext k
  refine Fin.ext ?_
  rw [Rect.emb_apply]
  fin_cases k
  · rfl
  · show s.val = 0 + 1 * s.val
    rw [Nat.one_mul, Nat.zero_add]
  · show e.val = 0 + 1 * e.val
    rw [Nat.one_mul, Nat.zero_add]

theorem c8_lo_not_mem (s : Fin 512) (hs : s.val < 1024) (e : Fin 8) : (ix3 (0 : Fin 1) (⟨s.val, hs⟩ : Fin 1024) e : S1x1024x8.Idx) ∉ r0_25.set := by
  intro hm
  have h := (Rect.mem_set_unit (s := S1x1024x8)).1 hm (1 : Fin 3)
  have h0 : 512 ≤ s.val := h.1
  exact absurd s.isLt (Nat.not_lt.2 h0)

theorem c8_first (P Q : FVec Ideal S1x512x8 .f32) (y : S1x1024x8.Idx) (hn : y ∉ r0_25.set) (x : r0_24.shape.Idx) (hx : y = r0_24.emb x) :
    View.canon (Val := Elt Ideal) (e := .f32) [⟨r0_25, P⟩, ⟨r0_24, Q⟩] y = Q x := by
  refine (View.canon_cons_of_not_mem (Val := Elt Ideal) (e := .f32) (⟨r0_25, P⟩ : View.Piece (Elt Ideal) S1x1024x8 .f32) [⟨r0_24, Q⟩] hn).trans ?_
  rw [hx]
  exact View.canon_cons_emb (Val := Elt Ideal) (e := .f32) r0_24 Q [] x

theorem c8_lo (P Q : FVec Ideal S1x512x8 .f32) (s : Fin 512) (hs : s.val < 1024) (e : Fin 8) :
    View.canon (Val := Elt Ideal) (e := .f32) [⟨r0_25, P⟩, ⟨r0_24, Q⟩] (ix3 (0 : Fin 1) (⟨s.val, hs⟩ : Fin 1024) e) = Q (ix3 (0 : Fin 1) s e) :=
  c8_first P Q (ix3 (0 : Fin 1) (⟨s.val, hs⟩ : Fin 1024) e) (c8_lo_not_mem s hs e) (ix3 (0 : Fin 1) s e) (c8_lo_emb s hs e)

theorem c8_hi (P Q : FVec Ideal S1x512x8 .f32) (s : Fin 512) (hs : 512 + s.val < 1024) (e : Fin 8) :
    View.canon (Val := Elt Ideal) (e := .f32) [⟨r0_25, P⟩, ⟨r0_24, Q⟩] (ix3 (0 : Fin 1) (⟨512 + s.val, hs⟩ : Fin 1024) e) = P (ix3 (0 : Fin 1) s e) := by
  have hi : (ix3 (0 : Fin 1) (⟨512 + s.val, hs⟩ : Fin 1024) e : S1x1024x8.Idx) = r0_25.emb (ix3 (0 : Fin 1) s e) := by
    funext k
    fin_cases k <;> exact Fin.ext (by simp [Rect.emb_apply])
  exact (congrArg _ hi).trans (View.canon_cons_emb _ _ _ _)

/-- A row of a block of 1024 lies in its lower or in its upper half. -/
theorem half_cases (r : Fin 1024) : (∃ s : Fin 512, r.val = s.val) ∨ ∃ s : Fin 512, r.val = 512 + s.val := by
  rcases Nat.lt_or_ge r.val 512 with h | h
  · exact .inl ⟨⟨r.val, h⟩, rfl⟩
  · exact .inr ⟨⟨r.val - 512, by omega⟩, by show r.val = 512 + (r.val - 512); omega⟩

section
variable (x0 : Vec Ideal S1x1024x1024 .f32) (x1 : Vec Ideal S1x1024 .f32) (x2 : Vec Ideal S3080x1024 .bf16) (x3 : Vec Ideal S8x512 .f32)
  (x4 : Vec Ideal S4x64x512 .f32) (gain : Fin 64 → EReal)

theorem out11_at (hgain : ∀ (d : Fin 64) (r : Fin 512), x4 (ix3 (1 : Fin 4) d r) = gain d) (r : Fin 1024) (e : Fin 512) : out0_11 x0 x1 x2 x3 x4 (ix3 (0 : Fin 1) r e) = ProjMath.key (fun e => x0 (ix3 (0 : Fin 1) r e)) (fun e => x1 (ix2 (0 : Fin 1) e)) (fun j f => x2 (ix2 f j)) 512 (by decide) gain e := by
  rw [out11_eq]
  rcases half_cases r with ⟨s, hs⟩ | ⟨s, hs⟩
  · have hlt : s.val < 1024 := hs ▸ r.isLt
    obtain rfl : r = ⟨s.val, hlt⟩ := Fin.ext hs
    refine (c32_lo _ _ s hlt e).trans ((tile_at _ s e).trans ((key_at x0 x1 x2 x4 0 _ (by decide) 512 _ (by decide) 1 _ (by decide) s e).trans (ProjMath.key_congr (funext fun e => congrArg (fun q : Fin 1024 => x0 (ix3 (0 : Fin 1) q e)) (Fin.ext (Nat.zero_add _))) rfl rfl (funext fun d => hgain d s) 512 (by decide) e)))
  · have hlt : 512 + s.val < 1024 := hs ▸ r.isLt
    obtain rfl : r = ⟨512 + s.val, hlt⟩ := Fin.ext hs
    refine (c32_hi _ _ s hlt e).trans ((tile_at _ s e).trans ((key_at x0 x1 x2 x4 512 _ (by decide) 512 _ (by decide) 1 _ (by decide) s e).trans (ProjMath.key_congr rfl rfl rfl (funext fun d => hgain d s) 512 (by decide) e)))

theorem out12_at (r : Fin 1024) (e : Fin 512) : out0_12 x0 x1 x2 x3 x4 (ix3 (0 : Fin 1) r e) = ProjMath.value (fun e => x0 (ix3 (0 : Fin 1) r e)) (fun e => x1 (ix2 (0 : Fin 1) e)) (fun j f => x2 (ix2 f j)) 1024 (by decide) e := by
  rw [out12_eq]
  rcases half_cases r with ⟨s, hs⟩ | ⟨s, hs⟩
  · have hlt : s.val < 1024 := hs ▸ r.isLt
    obtain rfl : r = ⟨s.val, hlt⟩ := Fin.ext hs
    refine (c32_lo _ _ s hlt e).trans ((tile_at _ s e).trans ((value_at x0 x1 x2 0 _ (by decide) 1024 _ (by decide) s e).trans (ProjMath.value_congr (funext fun e => congrArg (fun q : Fin 1024 => x0 (ix3 (0 : Fin 1) q e)) (Fin.ext (Nat.zero_add _))) rfl rfl 1024 (by decide) e)))
  · have hlt : 512 + s.val < 1024 := hs ▸ r.isLt
    obtain rfl : r = ⟨512 + s.val, hlt⟩ := Fin.ext hs
    refine (c32_hi _ _ s hlt e).trans ((tile_at _ s e).trans ((value_at x0 x1 x2 512 _ (by decide) 1024 _ (by decide) s e).trans (ProjMath.value_congr rfl rfl rfl 1024 (by decide) e)))

theorem out13_at (hgain : ∀ (d : Fin 64) (r : Fin 512), x4 (ix3 (3 : Fin 4) d r) = gain d) (r : Fin 1024) (e : Fin 512) : out0_13 x0 x1 x2 x3 x4 (ix3 (0 : Fin 1) r e) = ProjMath.key (fun e => x0 (ix3 (0 : Fin 1) r e)) (fun e => x1 (ix2 (0 : Fin 1) e)) (fun j f => x2 (ix2 f j)) 2048 (by decide) gain e := by
  rw [out13_eq]
  rcases half_cases r with ⟨s, hs⟩ | ⟨s, hs⟩
  · have hlt : s.val < 1024 := hs ▸ r.isLt
    obtain rfl : r = ⟨s.val, hlt⟩ := Fin.ext hs
    refine (c32_lo _ _ s hlt e).trans ((tile_at _ s e).trans ((key_at x0 x1 x2 x4 0 _ (by decide) 2048 _ (by decide) 3 _ (by decide) s e).trans (ProjMath.key_congr (funext fun e => congrArg (fun q : Fin 1024 => x0 (ix3 (0 : Fin 1) q e)) (Fin.ext (Nat.zero_add _))) rfl rfl (funext fun d => hgain d s) 2048 (by decide) e)))
  · have hlt : 512 + s.val < 1024 := hs ▸ r.isLt
    obtain rfl : r = ⟨512 + s.val, hlt⟩ := Fin.ext hs
    refine (c32_hi _ _ s hlt e).trans ((tile_at _ s e).trans ((key_at x0 x1 x2 x4 512 _ (by decide) 2048 _ (by decide) 3 _ (by decide) s e).trans (ProjMath.key_congr rfl rfl rfl (funext fun d => hgain d s) 2048 (by decide) e)))

theorem out14_at (r : Fin 1024) (e : Fin 512) : out0_14 x0 x1 x2 x3 x4 (ix3 (0 : Fin 1) r e) = ProjMath.value (fun e => x0 (ix3 (0 : Fin 1) r e)) (fun e => x1 (ix2 (0 : Fin 1) e)) (fun j f => x2 (ix2 f j)) 2560 (by decide) e := by
  rw [out14_eq]
  rcases half_cases r with ⟨s, hs⟩ | ⟨s, hs⟩
  · have hlt : s.val < 1024 := hs ▸ r.isLt
    obtain rfl : r = ⟨s.val, hlt⟩ := Fin.ext hs
    refine (c32_lo _ _ s hlt e).trans ((tile_at _ s e).trans ((value8_at x0 x1 x2 0 _ (by decide) s e).trans (ProjMath.value_congr (funext fun e => congrArg (fun q : Fin 1024 => x0 (ix3 (0 : Fin 1) q e)) (Fin.ext (Nat.zero_add _))) rfl rfl 2560 (by decide) e)))
  · have hlt : 512 + s.val < 1024 := hs ▸ r.isLt
    obtain rfl : r = ⟨512 + s.val, hlt⟩ := Fin.ext hs
    refine (c32_hi _ _ s hlt e).trans ((tile_at _ s e).trans ((value8_at x0 x1 x2 512 _ (by decide) s e).trans (ProjMath.value_congr rfl rfl rfl 2560 (by decide) e)))

theorem out15_at (bias : Fin 8 → EReal) (hbias : ∀ (n : Fin 8) (r : Fin 512), x3 (ix2 n r) = bias n) (r : Fin 1024) (e : Fin 8) : out0_15 x0 x1 x2 x3 x4 (ix3 (0 : Fin 1) r e) = ProjMath.forget (fun e => x0 (ix3 (0 : Fin 1) r e)) (fun e => x1 (ix2 (0 : Fin 1) e)) (fun j f => x2 (ix2 f j)) bias e := by
  rw [out15_eq]
  rcases half_cases r with ⟨s, hs⟩ | ⟨s, hs⟩
  · have hlt : s.val < 1024 := hs ▸ r.isLt
    obtain rfl : r = ⟨s.val, hlt⟩ := Fin.ext hs
    refine (c8_lo _ _ s hlt e).trans ((forget_at x0 x1 x2 x3 0 _ (by decide) s e).trans (ProjMath.forget_congr (funext fun e => congrArg (fun q : Fin 1024 => x0 (ix3 (0 : Fin 1) q e)) (Fin.ext (Nat.zero_add _))) rfl rfl (funext fun n => hbias n s) e))
  · have hlt : 512 + s.val < 1024 := hs ▸ r.isLt
    obtain rfl : r = ⟨512 + s.val, hlt⟩ := Fin.ext hs
    refine (c8_hi _ _ s hlt e).trans ((forget_at x0 x1 x2 x3 512 _ (by decide) s e).trans (ProjMath.forget_congr rfl rfl rfl (funext fun n => hbias n s) e))

end

end Cert.ProjSIdeal.Comp
end
-- ==== Proof.Hand.ProjSHost.lean ====
/- The projections of the sample step over the extended reals: the blocks that a grid point reads, as elements of the arguments. -/
module

public import proofs.«01_k».proof.Proof.Gen.ProjSIdeal.Value
public import Idealize.ShloMosaic.Lib.Pointwise
public import Idealize.ShloMosaic.Lib.Claim
public import Idealize.ShloMosaic.Lib.StableHlo.ReadAt
public import Idealize.ShloMosaic.Lib.Pipeline.ValueKit

@[expose] public section

set_option maxRecDepth 16384

noncomputable section
namespace Cert.ProjSIdeal.Comp

open Cert.ProjSIdeal Cert.ProjSIdeal.Gen Idealize.ShloMosaic Idealize.ShloMosaic.TcCoe Idealize.SL.Sem

variable (m : (ℓ : Loc nD τ sig) → Buf (Elt Ideal) ℓ) (c : Dev nD)

theorem N_eq : cfg0.N = 1 := by decide +kernel

theorem idx : ∀ t : Fin grid0.N, win0_0.index t = ![0, 0, 0] ∧ win0_1.index t = ![0, 0] ∧ win0_2.index t = ![0, 0] ∧ win0_3.index t = ![0, 0] ∧ win0_4.index t = ![0, 0, 0]
    ∧ win0_11.index t = ![0, 0, 0] ∧ win0_12.index t = ![0, 0, 0] ∧ win0_13.index t = ![0, 0, 0] ∧ win0_14.index t = ![0, 0, 0] ∧ win0_15.index t = ![0, 0, 0] := by decide +kernel

theorem v4_at (e : Fin 1024) : V m c main_v4 (ix2 (0 : Fin 1) e) = m (c.tc.loc main_arg1) (ix2 (0 : Fin 1) e) := by
  unfold V
  after_reads_at
  blk_ext

theorem v2_at (f : Fin 3080) (j : Fin 1024) : V m c main_v2 (ix2 f j) = m (c.tc.loc main_arg2) (ix3 (0 : Fin 1) j f) := by
  unfold V
  after_reads_at
  blk_ext

theorem v7_at (n : Fin 8) (r : Fin 512) : V m c main_v7 (ix2 n r) = m (c.tc.loc main_arg3) (ix2 (0 : Fin 1) n) := by
  unfold V
  after_reads_at
  blk_ext

theorem v24_at1 (d : Fin 64) (r : Fin 512) : V m c main_v24 (ix3 (1 : Fin 4) d r) = m (c.tc.loc main_arg5) (ix2 (0 : Fin 1) d) := by
  unfold V
  after_reads_at
  after_reads_at

theorem v24_at3 (d : Fin 64) (r : Fin 512) : V m c main_v24 (ix3 (3 : Fin 4) d r) = m (c.tc.loc main_arg7) (ix2 (0 : Fin 1) d) := by
  unfold V
  after_reads_at
  after_reads_at

theorem v25_at (r : Fin 1024) (e : Fin 1024) : V m c main_v25 (ix3 (0 : Fin 1) r e) = m (c.tc.loc main_arg0) (ix3 (⟨r.val / 32, by omega⟩ : Fin 32) (⟨r.val % 32, by omega⟩ : Fin 32) e) := by
  unfold V
  after_reads_at
  blk_ext

section
variable (t : Fin cfg0.N)

theorem x1_at (e : Fin 1024) : iblk m c 1 t (ix2 (0 : Fin 1) e) = m (c.tc.loc main_arg1) (ix2 (0 : Fin 1) e) := by
  refine Eq.trans ?_ (v4_at m c e)
  blk_ext [iblk, idx t]

theorem x2_at (j : Fin 1024) (f : Fin 3080) : iblk m c 2 t (ix2 f j) = m (c.tc.loc main_arg2) (ix3 (0 : Fin 1) j f) := by
  refine Eq.trans ?_ (v2_at m c f j)
  blk_ext [iblk, idx t]

theorem x3_at (n : Fin 8) (r : Fin 512) : iblk m c 3 t (ix2 n r) = m (c.tc.loc main_arg3) (ix2 (0 : Fin 1) n) := by
  refine Eq.trans ?_ (v7_at m c n r)
  blk_ext [iblk, idx t]

theorem x4_at1 (d : Fin 64) (r : Fin 512) : iblk m c 4 t (ix3 (1 : Fin 4) d r) = m (c.tc.loc main_arg5) (ix2 (0 : Fin 1) d) := by
  refine Eq.trans ?_ (v24_at1 m c d r)
  blk_ext [iblk, idx t]

theorem x4_at3 (d : Fin 64) (r : Fin 512) : iblk m c 4 t (ix3 (3 : Fin 4) d r) = m (c.tc.loc main_arg7) (ix2 (0 : Fin 1) d) := by
  refine Eq.trans ?_ (v24_at3 m c d r)
  blk_ext [iblk, idx t]

theorem x0_at (r : Fin 1024) (e : Fin 1024) : iblk m c 0 t (ix3 (0 : Fin 1) r e) = m (c.tc.loc main_arg0) (ix3 (⟨r.val / 32, by omega⟩ : Fin 32) (⟨r.val % 32, by omega⟩ : Fin 32) e) := by
  refine Eq.trans ?_ (v25_at m c r e)
  blk_ext [iblk, idx t]

theorem arr11_at (r : Fin 1024) (e : Fin 512) :
    (dats m 0 c).arrAt 11 cfg0.N (ix3 (0 : Fin 1) r e) = out0_11 (iblk m c 0 t) (iblk m c 1 t) (iblk m c 2 t) (iblk m c 3 t) (iblk m c 4 t) (ix3 (0 : Fin 1) r e) := by
  have hf : ∀ t : Fin cfg0.N, (cfg0.win 11).flush t = true := by decide +kernel
  have h := congrFun (Value.blocks11 m c t (hf t)) (ix3 (0 : Fin 1) r e)
  rw [Value.flushed11] at h
  refine Eq.trans ?_ (h.trans ?_)
  · blk_ext [idx t]
  · rfl

theorem arr12_at (r : Fin 1024) (e : Fin 512) :
    (dats m 0 c).arrAt 12 cfg0.N (ix3 (0 : Fin 1) r e) = out0_12 (iblk m c 0 t) (iblk m c 1 t) (iblk m c 2 t) (iblk m c 3 t) (iblk m c 4 t) (ix3 (0 : Fin 1) r e) := by
  have hf : ∀ t : Fin cfg0.N, (cfg0.win 12).flush t = true := by decide +kernel
  have h := congrFun (Value.blocks12 m c t (hf t)) (ix3 (0 : Fin 1) r e)
  rw [Value.flushed12] at h
  refine Eq.trans ?_ (h.trans ?_)
  · blk_ext [idx t]
  · rfl

theorem arr13_at (r : Fin 1024) (e : Fin 512) :
    (dats m 0 c).arrAt 13 cfg0.N (ix3 (0 : Fin 1) r e) = out0_13 (iblk m c 0 t) (iblk m c 1 t) (iblk m c 2 t) (iblk m c 3 t) (iblk m c 4 t) (ix3 (0 : Fin 1) r e) := by
  have hf : ∀ t : Fin cfg0.N, (cfg0.win 13).flush t = true := by decide +kernel
  have h := congrFun (Value.blocks13 m c t (hf t)) (ix3 (0 : Fin 1) r e)
  rw [Value.flushed13] at h
  refine Eq.trans ?_ (h.trans ?_)
  · blk_ext [idx t]
  · rfl

theorem arr14_at (r : Fin 1024) (e : Fin 512) :
    (dats m 0 c).arrAt 14 cfg0.N (ix3 (0 : Fin 1) r e) = out0_14 (iblk m c 0 t) (iblk m c 1 t) (iblk m c 2 t) (iblk m c 3 t) (iblk m c 4 t) (ix3 (0 : Fin 1) r e) := by
  have hf : ∀ t : Fin cfg0.N, (cfg0.win 14).flush t = true := by decide +kernel
  have h := congrFun (Value.blocks14 m c t (hf t)) (ix3 (0 : Fin 1) r e)
  rw [Value.flushed14] at h
  refine Eq.trans ?_ (h.trans ?_)
  · blk_ext [idx t]
  · rfl

theorem arr15_at (r : Fin 1024) (e : Fin 8) :
    (dats m 0 c).arrAt 15 cfg0.N (ix3 (0 : Fin 1) r e) = out0_15 (iblk m c 0 t) (iblk m c 1 t) (iblk m c 2 t) (iblk m c 3 t) (iblk m c 4 t) (ix3 (0 : Fin 1) r e) := by
  have hf : ∀ t : Fin cfg0.N, (cfg0.win 15).flush t = true := by decide +kernel
  have h := congrFun (Value.blocks15 m c t (hf t)) (ix3 (0 : Fin 1) r e)
  rw [Value.flushed15] at h
  refine Eq.trans ?_ (h.trans ?_)
  · blk_ext [idx t]
  · rfl

end

end Cert.ProjSIdeal.Comp
end
-- ==== Proof.Hand.ProjSRef.lean ====
/- The projections of the sample step over the extended reals: the reference's results, row by row. -/
module

public import proofs.«01_k».proof.Proof.Hand.ProjSpec
public import proofs.«01_k».proof.Proof.Gen.ProjSRefIdeal.Read
public import Idealize.ShloMosaic.Lib.Pointwise
public import Idealize.ShloMosaic.Lib.Claim

@[expose] public section

set_option maxRecDepth 16384

noncomputable section
namespace Cert.ProjSRefIdeal.Comp

open Cert.ProjSRefIdeal Cert.ProjSRefIdeal.Gen Cert.ProjSRefIdeal.Read Idealize.ShloMosaic Idealize.ShloMosaic.TcCoe Idealize.SL.Sem
open Cert

variable (x0 : (⟨S32x32x1024, .f32⟩ : BufTy).Contents (Elt Ideal)) (x1 : (⟨S1x1024, .f32⟩ : BufTy).Contents (Elt Ideal))
  (x2 : (⟨S1x1024x3080, .f32⟩ : BufTy).Contents (Elt Ideal)) (x3 : (⟨S1x8, .f32⟩ : BufTy).Contents (Elt Ideal))
  (x5 x7 : (⟨S1x64, .f32⟩ : BufTy).Contents (Elt Ideal)) (b : Fin 32) (s : Fin 32)

theorem v17_at (e : Fin 1024) : val_main_v17 (F := Ideal) x0 x1 (ix3 b s e)
    = TailMath.rms (fun e => x0 (ix3 b s e)) (fun e => x1 (ix2 (0 : Fin 1) e)) e := by
  pointwise [val_main_v17, val_main_v16, val_main_v15, val_main_v14, val_main_v13, val_main_v12, val_main_v11, val_main_v10, val_main_v9, val_main_v8, val_main_v7, val_main_v6, val_main_v5, val_main_v0, val_main_cst, val_main_cst_0, val_main_cst_1]
  rfl

theorem v18_at (f : Fin 3080) : val_main_v18 (F := Ideal) x0 x1 x2 (ix3 b s f)
    = ProjMath.lin (TailMath.rms (fun e => x0 (ix3 b s e)) (fun e => x1 (ix2 (0 : Fin 1) e))) (fun j f => x2 (ix3 (0 : Fin 1) j f)) f := by
  pointwise [val_main_v18, val_main_v1, v17_at]
  rfl

theorem v26_at (h : Fin 8) (d : Fin 64) : val_main_v26 (F := Ideal) x0 x1 x2 (ix4 b s h d)
    = ProjMath.lin (TailMath.rms (fun e => x0 (ix3 b s e)) (fun e => x1 (ix2 (0 : Fin 1) e))) (fun j f => x2 (ix3 (0 : Fin 1) j f))
        (⟨512 + (64 * h.val + d.val), by omega⟩ : Fin 3080) := by
  refine Eq.trans ?_ (v18_at x0 x1 x2 b s _)
  pointwise [val_main_v26, val_main_v20]
  exact congrArg (fun q : Fin 3080 => val_main_v18 (F := Ideal) x0 x1 x2 (ix3 b s q)) (Fin.ext (by simp only []; omega))

theorem v40_at (h : Fin 8) (d : Fin 64) : val_main_v40 (F := Ideal) x0 x1 x2 (ix4 b s h d)
    = ProjMath.lin (TailMath.rms (fun e => x0 (ix3 b s e)) (fun e => x1 (ix2 (0 : Fin 1) e))) (fun j f => x2 (ix3 (0 : Fin 1) j f))
        (⟨1024 + (64 * h.val + d.val), by omega⟩ : Fin 3080) := by
  refine Eq.trans ?_ (v18_at x0 x1 x2 b s _)
  pointwise [val_main_v40, val_main_v21]
  exact congrArg (fun q : Fin 3080 => val_main_v18 (F := Ideal) x0 x1 x2 (ix3 b s q)) (Fin.ext (by simp only []; omega))

theorem v41_at (h : Fin 8) (d : Fin 64) : val_main_v41 (F := Ideal) x0 x1 x2 (ix4 b s h d)
    = ProjMath.lin (TailMath.rms (fun e => x0 (ix3 b s e)) (fun e => x1 (ix2 (0 : Fin 1) e))) (fun j f => x2 (ix3 (0 : Fin 1) j f))
        (⟨2048 + (64 * h.val + d.val), by omega⟩ : Fin 3080) := by
  refine Eq.trans ?_ (v18_at x0 x1 x2 b s _)
  pointwise [val_main_v41, val_main_v23]
  exact congrArg (fun q : Fin 3080 => val_main_v18 (F := Ideal) x0 x1 x2 (ix3 b s q)) (Fin.ext (by simp only []; omega))

theorem v55_at (h : Fin 8) (d : Fin 64) : val_main_v55 (F := Ideal) x0 x1 x2 (ix4 b s h d)
    = ProjMath.lin (TailMath.rms (fun e => x0 (ix3 b s e)) (fun e => x1 (ix2 (0 : Fin 1) e))) (fun j f => x2 (ix3 (0 : Fin 1) j f))
        (⟨2560 + (64 * h.val + d.val), by omega⟩ : Fin 3080) := by
  refine Eq.trans ?_ (v18_at x0 x1 x2 b s _)
  pointwise [val_main_v55, val_main_v24]
  exact congrArg (fun q : Fin 3080 => val_main_v18 (F := Ideal) x0 x1 x2 (ix3 b s q)) (Fin.ext (by simp only []; omega))

theorem v39_at (h : Fin 8) (d : Fin 64) : val_main_v39 (F := Ideal) x0 x1 x2 x5 (ix4 b s h d)
    = ProjMath.head (fun d => val_main_v26 (F := Ideal) x0 x1 x2 (ix4 b s h d)) (fun d => x5 (ix2 (0 : Fin 1) d)) d := by
  pointwise [val_main_v39, val_main_v38, val_main_v37, val_main_v36, val_main_v35, val_main_v34, val_main_v33, val_main_v32, val_main_v31, val_main_v30, val_main_v29, val_main_v28, val_main_v27, val_main_v3, val_main_cst_2, val_main_cst_3, val_main_cst_4]
  rfl

theorem v54_at (h : Fin 8) (d : Fin 64) : val_main_v54 (F := Ideal) x0 x1 x2 x7 (ix4 b s h d)
    = ProjMath.head (fun d => val_main_v41 (F := Ideal) x0 x1 x2 (ix4 b s h d)) (fun d => x7 (ix2 (0 : Fin 1) d)) d := by
  pointwise [val_main_v54, val_main_v53, val_main_v52, val_main_v51, val_main_v50, val_main_v49, val_main_v48, val_main_v47, val_main_v46, val_main_v45, val_main_v44, val_main_v43, val_main_v42, val_main_v4, val_main_cst_5, val_main_cst_6, val_main_cst_7]
  rfl

theorem keyA (e : Fin 512) : val_main_v39 (F := Ideal) x0 x1 x2 x5 (ix4 b s (⟨e.val / 64, by omega⟩ : Fin 8) (⟨e.val % 64, by omega⟩ : Fin 64))
    = ProjMath.key (fun e => x0 (ix3 b s e)) (fun e => x1 (ix2 (0 : Fin 1) e)) (fun j f => x2 (ix3 (0 : Fin 1) j f)) 512 (by decide) (fun d => x5 (ix2 (0 : Fin 1) d)) e := by
  rw [v39_at]
  simp only [v26_at]
  rfl

theorem keyB (e : Fin 512) : val_main_v54 (F := Ideal) x0 x1 x2 x7 (ix4 b s (⟨e.val / 64, by omega⟩ : Fin 8) (⟨e.val % 64, by omega⟩ : Fin 64))
    = ProjMath.key (fun e => x0 (ix3 b s e)) (fun e => x1 (ix2 (0 : Fin 1) e)) (fun j f => x2 (ix3 (0 : Fin 1) j f)) 2048 (by decide) (fun d => x7 (ix2 (0 : Fin 1) d)) e := by
  rw [v54_at]
  simp only [v41_at]
  rfl

theorem valA (e : Fin 512) : val_main_v40 (F := Ideal) x0 x1 x2 (ix4 b s (⟨e.val / 64, by omega⟩ : Fin 8) (⟨e.val % 64, by omega⟩ : Fin 64))
    = ProjMath.value (fun e => x0 (ix3 b s e)) (fun e => x1 (ix2 (0 : Fin 1) e)) (fun j f => x2 (ix3 (0 : Fin 1) j f)) 1024 (by decide) e := by
  rw [v40_at]
  exact congrArg (ProjMath.lin _ _) (Fin.ext (by simp only []; omega))

theorem valB (e : Fin 512) : val_main_v55 (F := Ideal) x0 x1 x2 (ix4 b s (⟨e.val / 64, by omega⟩ : Fin 8) (⟨e.val % 64, by omega⟩ : Fin 64))
    = ProjMath.value (fun e => x0 (ix3 b s e)) (fun e => x1 (ix2 (0 : Fin 1) e)) (fun j f => x2 (ix3 (0 : Fin 1) j f)) 2560 (by decide) e := by
  rw [v55_at]
  exact congrArg (ProjMath.lin _ _) (Fin.ext (by simp only []; omega))

theorem v58_at (n : Fin 8) : val_main_v58 (F := Ideal) x0 x1 x2 x3 (ix3 b s n)
    = ProjMath.lin (TailMath.rms (fun e => x0 (ix3 b s e)) (fun e => x1 (ix2 (0 : Fin 1) e))) (fun j f => x2 (ix3 (0 : Fin 1) j f))
        (⟨3072 + n.val, by omega⟩ : Fin 3080) + x3 (ix2 (0 : Fin 1) n) := by
  rw [← v18_at x0 x1 x2 b s]
  pointwise [val_main_v58, val_main_v57, val_main_v56, val_main_v25, val_main_v2]

theorem v59_at (n : Fin 8) : val_main_v59 (F := Ideal) x0 x1 x2 x3 (ix3 b s n)
    = ProjMath.forget (fun e => x0 (ix3 b s e)) (fun e => x1 (ix2 (0 : Fin 1) e)) (fun j f => x2 (ix3 (0 : Fin 1) j f)) (fun n => x3 (ix2 (0 : Fin 1) n)) n := by
  have hc : val_main_call0_call0_v4 (F := Ideal) x0 x1 x2 x3 (ix3 b s n) = 0#1 := by
    show BitVec.ofBool (decide (_ ≠ _)) = _
    simp
  have hs : val_main_call0_v1 (F := Ideal) x0 x1 x2 x3 (ix3 b s n) = val_main_call0_call0_v11 (F := Ideal) x0 x1 x2 x3 (ix3 b s n) := by
    unfold val_main_call0_v1
    show (if val_main_call0_call0_v4 (F := Ideal) x0 x1 x2 x3 (ix3 b s n) = 1#1 then _ else _) = _
    rw [hc]
    rfl
  show -(val_main_call0_v1 (F := Ideal) x0 x1 x2 x3 (ix3 b s n)) = _
  rw [hs]
  show -(max (-(val_main_v58 (F := Ideal) x0 x1 x2 x3 (ix3 b s n))) (Ideal.ofBits .f32 0x00000000#32)
    + Ideal.log1p (Ideal.exp (-(max (-(val_main_v58 (F := Ideal) x0 x1 x2 x3 (ix3 b s n)) - Ideal.ofBits .f32 0x00000000#32)
        (-(-(val_main_v58 (F := Ideal) x0 x1 x2 x3 (ix3 b s n)) - Ideal.ofBits .f32 0x00000000#32)))))) = _
  rw [ProjMath.zero_val, ProjMath.logsig_eq, v58_at]
  rfl

theorem v60_at (r : Fin 1024) (hb : b.val = r.val / 32) (hs : s.val = r.val % 32) (e : Fin 512) : val_main_v60 (F := Ideal) x0 x1 x2 x5 (ix3 (0 : Fin 1) r e) = ProjMath.key (fun e => x0 (ix3 b s e)) (fun e => x1 (ix2 (0 : Fin 1) e)) (fun j f => x2 (ix3 (0 : Fin 1) j f)) 512 (by decide) (fun d => x5 (ix2 (0 : Fin 1) d)) e := by
  have hb' : (⟨r.val / 32, by omega⟩ : Fin 32) = b := Fin.ext hb.symm
  have hs' : (⟨r.val % 32, by omega⟩ : Fin 32) = s := Fin.ext hs.symm
  refine Eq.trans ?_ (keyA x0 x1 x2 x5 b s e)
  pointwise [val_main_v60]
  rw [hb', hs']

theorem v61_at (r : Fin 1024) (hb : b.val = r.val / 32) (hs : s.val = r.val % 32) (e : Fin 512) : val_main_v61 (F := Ideal) x0 x1 x2 (ix3 (0 : Fin 1) r e) = ProjMath.value (fun e => x0 (ix3 b s e)) (fun e => x1 (ix2 (0 : Fin 1) e)) (fun j f => x2 (ix3 (0 : Fin 1) j f)) 1024 (by decide) e := by
  have hb' : (⟨r.val / 32, by omega⟩ : Fin 32) = b := Fin.ext hb.symm
  have hs' : (⟨r.val % 32, by omega⟩ : Fin 32) = s := Fin.ext hs.symm
  refine Eq.trans ?_ (valA x0 x1 x2 b s e)
  pointwise [val_main_v61]
  rw [hb', hs']

theorem v62_at (r : Fin 1024) (hb : b.val = r.val / 32) (hs : s.val = r.val % 32) (e : Fin 512) : val_main_v62 (F := Ideal) x0 x1 x2 x7 (ix3 (0 : Fin 1) r e) = ProjMath.key (fun e => x0 (ix3 b s e)) (fun e => x1 (ix2 (0 : Fin 1) e)) (fun j f => x2 (ix3 (0 : Fin 1) j f)) 2048 (by decide) (fun d => x7 (ix2 (0 : Fin 1) d)) e := by
  have hb' : (⟨r.val / 32, by omega⟩ : Fin 32) = b := Fin.ext hb.symm
  have hs' : (⟨r.val % 32, by omega⟩ : Fin 32) = s := Fin.ext hs.symm
  refine Eq.trans ?_ (keyB x0 x1 x2 x7 b s e)
  pointwise [val_main_v62]
  rw [hb', hs']

theorem v63_at (r : Fin 1024) (hb : b.val = r.val / 32) (hs : s.val = r.val % 32) (e : Fin 512) : val_main_v63 (F := Ideal) x0 x1 x2 (ix3 (0 : Fin 1) r e) = ProjMath.value (fun e => x0 (ix3 b s e)) (fun e => x1 (ix2 (0 : Fin 1) e)) (fun j f => x2 (ix3 (0 : Fin 1) j f)) 2560 (by decide) e := by
  have hb' : (⟨r.val / 32, by omega⟩ : Fin 32) = b := Fin.ext hb.symm
  have hs' : (⟨r.val % 32, by omega⟩ : Fin 32) = s := Fin.ext hs.symm
  refine Eq.trans ?_ (valB x0 x1 x2 b s e)
  pointwise [val_main_v63]
  rw [hb', hs']

theorem v64_at (r : Fin 1024) (hb : b.val = r.val / 32) (hs : s.val = r.val % 32) (n : Fin 8) : val_main_v64 (F := Ideal) x0 x1 x2 x3 (ix3 (0 : Fin 1) r n)
    = ProjMath.forget (fun e => x0 (ix3 b s e)) (fun e => x1 (ix2 (0 : Fin 1) e)) (fun j f => x2 (ix3 (0 : Fin 1) j f)) (fun n => x3 (ix2 (0 : Fin 1) n)) n := by
  have hb' : (⟨r.val / 32, by omega⟩ : Fin 32) = b := Fin.ext hb.symm
  have hs' : (⟨r.val % 32, by omega⟩ : Fin 32) = s := Fin.ext hs.symm
  refine Eq.trans ?_ (v59_at x0 x1 x2 x3 b s n)
  pointwise [val_main_v64]
  rw [hb', hs']

end Cert.ProjSRefIdeal.Comp
end
-- ==== Proof.Hand.ProjSEq.lean ====
/- The projections of the sample step over the extended reals: the kernel's result arrays are the reference's. -/
module

public import proofs.«01_k».proof.Proof.Hand.ProjSRead
public import proofs.«01_k».proof.Proof.Hand.ProjSHost
public import proofs.«01_k».proof.Proof.Hand.ProjSRef

@[expose] public section

set_option maxRecDepth 16384

noncomputable section
namespace Cert.ProjSIdeal.Comp

open Cert.ProjSIdeal Cert.ProjSIdeal.Gen Idealize.ShloMosaic Idealize.ShloMosaic.TcCoe Idealize.SL.Sem
open Cert

variable (m : (ℓ : Loc nD τ sig) → Buf (Elt Ideal) ℓ) (c : Dev nD)

theorem row11 (r : Fin 1024) (e : Fin 512) : (dats m 0 c).arrAt 11 cfg0.N (ix3 (0 : Fin 1) r e) = Cert.ProjSRefIdeal.Read.val_main_v60 (F := Ideal) (m (c.tc.loc main_arg0)) (m (c.tc.loc main_arg1)) (m (c.tc.loc main_arg2)) (m (c.tc.loc main_arg5)) (ix3 (0 : Fin 1) r e) := by
  let t := (⟨0, by rw [N_eq]; omega⟩ : Fin cfg0.N)
  refine (arr11_at m c t r e).trans ((out11_at _ _ _ _ _ (fun d => (m (c.tc.loc main_arg5)) (ix2 (0 : Fin 1) d)) (fun d q => x4_at1 m c _ d q) r e).trans ?_)
  refine Eq.trans ?_ (Cert.ProjSRefIdeal.Comp.v60_at _ _ _ _ (⟨r.val / 32, by omega⟩ : Fin 32) (⟨r.val % 32, by omega⟩ : Fin 32) r rfl rfl e).symm
  exact ProjMath.key_congr (funext fun e => x0_at m c t r e) (funext fun e => x1_at m c t e)
    (funext fun j => funext fun f => x2_at m c t j f) rfl _ (by decide) e

theorem eq11 : (dats m 0 c).arrAt 11 cfg0.N = Cert.ProjSRefIdeal.Read.val_main_v60 (F := Ideal) (m (c.tc.loc main_arg0)) (m (c.tc.loc main_arg1)) (m (c.tc.loc main_arg2)) (m (c.tc.loc main_arg5)) := by
  funext y
  obtain ⟨r, e, rfl⟩ : ∃ (r : Fin 1024) (e : Fin 512), y = ix3 (0 : Fin 1) r e :=
    ⟨y 1, y 2, by funext k; fin_cases k; exacts [Subsingleton.elim (α := Fin 1) _ _, rfl, rfl]⟩
  exact row11 m c r e

theorem row12 (r : Fin 1024) (e : Fin 512) : (dats m 0 c).arrAt 12 cfg0.N (ix3 (0 : Fin 1) r e) = Cert.ProjSRefIdeal.Read.val_main_v61 (F := Ideal) (m (c.tc.loc main_arg0)) (m (c.tc.loc main_arg1)) (m (c.tc.loc main_arg2)) (ix3 (0 : Fin 1) r e) := by
  let t := (⟨0, by rw [N_eq]; omega⟩ : Fin cfg0.N)
  refine (arr12_at m c t r e).trans ((out12_at _ _ _ _ _ r e).trans ?_)
  refine Eq.trans ?_ (Cert.ProjSRefIdeal.Comp.v61_at _ _ _ (⟨r.val / 32, by omega⟩ : Fin 32) (⟨r.val % 32, by omega⟩ : Fin 32) r rfl rfl e).symm
  exact ProjMath.value_congr (funext fun e => x0_at m c t r e) (funext fun e => x1_at m c t e)
    (funext fun j => funext fun f => x2_at m c t j f) _ (by decide) e

theorem eq12 : (dats m 0 c).arrAt 12 cfg0.N = Cert.ProjSRefIdeal.Read.val_main_v61 (F := Ideal) (m (c.tc.loc main_arg0)) (m (c.tc.loc main_arg1)) (m (c.tc.loc main_arg2)) := by
  funext y
  obtain ⟨r, e, rfl⟩ : ∃ (r : Fin 1024) (e : Fin 512), y = ix3 (0 : Fin 1) r e :=
    ⟨y 1, y 2, by funext k; fin_cases k; exacts [Subsingleton.elim (α := Fin 1) _ _, rfl, rfl]⟩
  exact row12 m c r e

theorem row13 (r : Fin 1024) (e : Fin 512) : (dats m 0 c).arrAt 13 cfg0.N (ix3 (0 : Fin 1) r e) = Cert.ProjSRefIdeal.Read.val_main_v62 (F := Ideal) (m (c.tc.loc main_arg0)) (m (c.tc.loc main_arg1)) (m (c.tc.loc main_arg2)) (m (c.tc.loc main_arg7)) (ix3 (0 : Fin 1) r e) := by
  let t := (⟨0, by rw [N_eq]; omega⟩ : Fin cfg0.N)
  refine (arr13_at m c t r e).trans ((out13_at _ _ _ _ _ (fun d => (m (c.tc.loc main_arg7)) (ix2 (0 : Fin 1) d)) (fun d q => x4_at3 m c _ d q) r e).trans ?_)
  refine Eq.trans ?_ (Cert.ProjSRefIdeal.Comp.v62_at _ _ _ _ (⟨r.val / 32, by omega⟩ : Fin 32) (⟨r.val % 32, by omega⟩ : Fin 32) r rfl rfl e).symm
  exact ProjMath.key_congr (funext fun e => x0_at m c t r e) (funext fun e => x1_at m c t e)
    (funext fun j => funext fun f => x2_at m c t j f) rfl _ (by decide) e

theorem eq13 : (dats m 0 c).arrAt 13 cfg0.N = Cert.ProjSRefIdeal.Read.val_main_v62 (F := Ideal) (m (c.tc.loc main_arg0)) (m (c.tc.loc main_arg1)) (m (c.tc.loc main_arg2)) (m (c.tc.loc main_arg7)) := by
  funext y
  obtain ⟨r, e, rfl⟩ : ∃ (r : Fin 1024) (e : Fin 512), y = ix3 (0 : Fin 1) r e :=
    ⟨y 1, y 2, by funext k; fin_cases k; exacts [Subsingleton.elim (α := Fin 1) _ _, rfl, rfl]⟩
  exact row13 m c r e

theorem row14 (r : Fin 1024) (e : Fin 512) : (dats m 0 c).arrAt 14 cfg0.N (ix3 (0 : Fin 1) r e) = Cert.ProjSRefIdeal.Read.val_main_v63 (F := Ideal) (m (c.tc.loc main_arg0)) (m (c.tc.loc main_arg1)) (m (c.tc.loc main_arg2)) (ix3 (0 : Fin 1) r e) := by
  let t := (⟨0, by rw [N_eq]; omega⟩ : Fin cfg0.N)
  refine (arr14_at m c t r e).trans ((out14_at _ _ _ _ _ r e).trans ?_)
  refine Eq.trans ?_ (Cert.ProjSRefIdeal.Comp.v63_at _ _ _ (⟨r.val / 32, by omega⟩ : Fin 32) (⟨r.val % 32, by omega⟩ : Fin 32) r rfl rfl e).symm
  exact ProjMath.value_congr (funext fun e => x0_at m c t r e) (funext fun e => x1_at m c t e)
    (funext fun j => funext fun f => x2_at m c t j f) _ (by decide) e

theorem eq14 : (dats m 0 c).arrAt 14 cfg0.N = Cert.ProjSRefIdeal.Read.val_main_v63 (F := Ideal) (m (c.tc.loc main_arg0)) (m (c.tc.loc main_arg1)) (m (c.tc.loc main_arg2)) := by
  funext y
  obtain ⟨r, e, rfl⟩ : ∃ (r : Fin 1024) (e : Fin 512), y = ix3 (0 : Fin 1) r e :=
    ⟨y 1, y 2, by funext k; fin_cases k; exacts [Subsingleton.elim (α := Fin 1) _ _, rfl, rfl]⟩
  exact row14 m c r e

theorem row15 (r : Fin 1024) (e : Fin 8) : (dats m 0 c).arrAt 15 cfg0.N (ix3 (0 : Fin 1) r e) = Cert.ProjSRefIdeal.Read.val_main_v64 (F := Ideal) (m (c.tc.loc main_arg0)) (m (c.tc.loc main_arg1)) (m (c.tc.loc main_arg2)) (m (c.tc.loc main_arg3)) (ix3 (0 : Fin 1) r e) := by
  let t := (⟨0, by rw [N_eq]; omega⟩ : Fin cfg0.N)
  refine (arr15_at m c t r e).trans ((out15_at _ _ _ _ _ (fun n => (m (c.tc.loc main_arg3)) (ix2 (0 : Fin 1) n)) (fun n q => x3_at m c _ n q) r e).trans ?_)
  refine Eq.trans ?_ (Cert.ProjSRefIdeal.Comp.v64_at _ _ _ _ (⟨r.val / 32, by omega⟩ : Fin 32) (⟨r.val % 32, by omega⟩ : Fin 32) r rfl rfl e).symm
  exact ProjMath.forget_congr (funext fun e => x0_at m c t r e) (funext fun e => x1_at m c t e)
    (funext fun j => funext fun f => x2_at m c t j f) rfl e

theorem eq15 : (dats m 0 c).arrAt 15 cfg0.N = Cert.ProjSRefIdeal.Read.val_main_v64 (F := Ideal) (m (c.tc.loc main_arg0)) (m (c.tc.loc main_arg1)) (m (c.tc.loc main_arg2)) (m (c.tc.loc main_arg3)) := by
  funext y
  obtain ⟨r, e, rfl⟩ : ∃ (r : Fin 1024) (e : Fin 8), y = ix3 (0 : Fin 1) r e :=
    ⟨y 1, y 2, by funext k; fin_cases k; exacts [Subsingleton.elim (α := Fin 1) _ _, rfl, rfl]⟩
  exact row15 m c r e

end Cert.ProjSIdeal.Comp
end
-- ==== Proof.Hand.TailSComp.lean ====
/- The sample step's tail: what one grid point's body leaves in its output block, as a composition of a few functions of its
   input blocks (the first residual sum, the normalised rows, one block of 256 features of the feed-forward step, the
   gate and the gated projection), the same for the two halves of the block. -/
module

public import proofs.«01_k».proof.Proof.Gen.TailSIdeal.Value

@[expose] public section

set_option maxRecDepth 16384

noncomputable section

namespace Cert.TailSIdeal.Comp

open Cert.TailSIdeal Cert.TailSIdeal.Gen Idealize.ShloMosaic Idealize.ShloMosaic.TcCoe Idealize.SL.Sem

variable {F : FTy → Type} [FloatOps F]

/-- One block of 256 features of the feed-forward step. -/
def part (h : FVec F S512x1024 .bf16) (wg wu : Vec F S1024x256 .bf16) (wd : Vec F S256x1024 .bf16) : FVec F S512x1024 .f32 :=
  have g : FVec F S512x256 .f32 := matmul dot_S512x1024_S1024x256_S512x256_1_0_0_1_n_n none h
    (shapeCast S1024x256 wg shapeCasts_S1024x256_S1024x256 : FVec F S1024x256 .bf16) (constant S512x256 .f32 0x00000000#32)
  have u : FVec F S512x256 .f32 := matmul dot_S512x1024_S1024x256_S512x256_1_0_0_1_n_n none h
    (shapeCast S1024x256 wu shapeCasts_S1024x256_S1024x256 : FVec F S1024x256 .bf16) (constant S512x256 .f32 0x00000000#32)
  matmul dot_S512x256_S256x1024_S512x1024_1_0_0_1_n_n none
    (truncf .bf16 (mulf (mulf g (logistic g)) u) bitsLt_bf16_f32 : FVec F S512x256 .bf16)
    (shapeCast S256x1024 wd shapeCasts_S256x1024_S256x1024 : FVec F S256x1024 .bf16) (constant S512x1024 .f32 0x00000000#32)

/-- The first residual sum. -/
def res (x : Vec F S512x1024 .f32) (oa : Vec F S512x512 .bf16) (woa : Vec F S512x1024 .bf16) (ob : Vec F S512x512 .bf16)
    (wob : Vec F S512x1024 .bf16) : FVec F S512x1024 .f32 := k0_pay3 x oa woa ob wob

/-- The rows normalised. -/
def nrm (x : FVec F S512x1024 .f32) (w : Vec F S1x1024 .f32) : FVec F S512x1024 .bf16 := k0_pay8 x w

theorem inbG (off : ℕ) (h : off + 256 ≤ 2816) : ∀ a, (![0, off] : Fin 2 → ℕ) a + S1024x256.size a ≤ S1024x2816.size a
  | ⟨0, _⟩ => le_refl 1024
  | ⟨1, _⟩ => h

theorem inbD (off : ℕ) (h : off + 256 ≤ 2816) : ∀ a, (![off, 0] : Fin 2 → ℕ) a + S256x1024.size a ≤ S2816x1024.size a
  | ⟨0, _⟩ => h
  | ⟨1, _⟩ => le_refl 1024

/-- The block of 256 features at an offset, from the whole weights. -/
def partAt (h : FVec F S512x1024 .bf16) (wg wu : Vec F S1024x2816 .bf16) (wd : Vec F S2816x1024 .bf16) (off : ℕ)
    (ho : off + 256 ≤ 2816) : FVec F S512x1024 .f32 :=
  part h (View.ld wg (Rect.unit ![0, off] S1024x256.size (inbG off ho))) (View.ld wu (Rect.unit ![0, off] S1024x256.size (inbG off ho)))
    (View.ld wd (Rect.unit ![off, 0] S256x1024.size (inbD off ho)))

/-- The feed-forward step, its eleven blocks added up in order. -/
def ffn (h : FVec F S512x1024 .bf16) (wg wu : Vec F S1024x2816 .bf16) (wd : Vec F S2816x1024 .bf16) : FVec F S512x1024 .f32 :=
  addf (addf (addf (addf (addf (addf (addf (addf (addf (addf
    (partAt h wg wu wd 0 (by decide))
    (partAt h wg wu wd 256 (by decide)))
    (partAt h wg wu wd 512 (by decide)))
    (partAt h wg wu wd 768 (by decide)))
    (partAt h wg wu wd 1024 (by decide)))
    (partAt h wg wu wd 1280 (by decide)))
    (partAt h wg wu wd 1536 (by decide)))
    (partAt h wg wu wd 1792 (by decide)))
    (partAt h wg wu wd 2048 (by decide)))
    (partAt h wg wu wd 2304 (by decide)))
    (partAt h wg wu wd 2560 (by decide))

/-- The second residual sum. -/
def mid (x : FVec F S512x1024 .f32) (w : Vec F S1x1024 .f32) (wg wu : Vec F S1024x2816 .bf16) (wd : Vec F S2816x1024 .bf16) :
    FVec F S512x1024 .f32 := addf x (ffn (nrm x w) wg wu wd)

/-- The gate of the last step. -/
def gate (x : FVec F S512x1024 .f32) (w : Vec F S1x1024 .f32) (wp : Vec F S1024x1024 .bf16) : FVec F S512x1024 .f32 := k0_pay37 x w wp

/-- The last residual sum. -/
def fin (x : FVec F S512x1024 .f32) (w : Vec F S1x1024 .f32) (wp : Vec F S1024x1024 .bf16) (p : Vec F S512x256 .f32)
    (wpp : Vec F S256x1024 .bf16) : FVec F S512x1024 .f32 := k0_pay2 x (gate x w wp) p wpp

/-- A half of the output block. -/
def half (x : Vec F S512x1024 .f32) (oa ob : Vec F S512x512 .bf16) (p : Vec F S512x256 .f32) (woa wob : Vec F S512x1024 .bf16)
    (wf : Vec F S1x1024 .f32) (wg wu : Vec F S1024x2816 .bf16) (wd : Vec F S2816x1024 .bf16) (wn : Vec F S1x1024 .f32)
    (wp : Vec F S1024x1024 .bf16) (wpp : Vec F S256x1024 .bf16) : FVec F S512x1024 .f32 :=
  fin (mid (res x oa woa ob wob) wf wg wu wd) wn wp p wpp

section
variable (x0 : Vec F S1024x1024 .f32) (x1 x2 : Vec F S1024x512 .bf16) (x3 : Vec F S1024x256 .f32) (x4 x5 : Vec F S512x1024 .bf16)
  (x6 : Vec F S1x1024 .f32) (x7 x8 : Vec F S1024x2816 .bf16) (x9 : Vec F S2816x1024 .bf16) (x10 : Vec F S1x1024 .f32)
  (x11 : Vec F S1024x1024 .bf16) (x12 : Vec F S256x1024 .bf16)

theorem v364_eq : k0_pay46 x0 x1 x2 x3 x4 x5 x6 x7 x8 x9 x10 x11 x12
    = mid (res (View.ld x0 r0_0) (View.ld x1 r0_1) (View.ld x4 r0_2) (View.ld x2 r0_1) (View.ld x5 r0_2)) (View.ld x6 r0_5) x7 x8 x9 := rfl

theorem v365_eq : k0_pay47 x0 x1 x2 x3 x4 x5 x6 x7 x8 x9 x10 x11 x12
    = mid (res (View.ld x0 r0_3) (View.ld x1 r0_4) (View.ld x4 r0_2) (View.ld x2 r0_4) (View.ld x5 r0_2)) (View.ld x6 r0_5) x7 x8 x9 := rfl

theorem out_eq : out0_13 x0 x1 x2 x3 x4 x5 x6 x7 x8 x9 x10 x11 x12
    = View.canon [⟨r0_3, half (View.ld x0 r0_3) (View.ld x1 r0_4) (View.ld x2 r0_4) (View.ld x3 r0_31) (View.ld x4 r0_2) (View.ld x5 r0_2)
          (View.ld x6 r0_5) x7 x8 x9 (View.ld x10 r0_5) (View.ld x11 r0_28) (View.ld x12 r0_30)⟩,
        ⟨r0_0, half (View.ld x0 r0_0) (View.ld x1 r0_1) (View.ld x2 r0_1) (View.ld x3 r0_29) (View.ld x4 r0_2) (View.ld x5 r0_2)
          (View.ld x6 r0_5) x7 x8 x9 (View.ld x10 r0_5) (View.ld x11 r0_28) (View.ld x12 r0_30)⟩] := by
  unfold out0_13
  rw [v364_eq, v365_eq]
  rfl

end

end Cert.TailSIdeal.Comp
end
-- ==== Proof.Hand.TailSRead.lean ====
/- The sample step's tail over the extended reals: what a grid point leaves in its output block, row by row. -/
module

public import proofs.«01_k».proof.Proof.Hand.TailSComp
public import proofs.«01_k».proof.Proof.Hand.TailSpec
public import Idealize.ShloMosaic.Lib.Pointwise
public import Idealize.ShloMosaic.Lib.Claim
public import Idealize.ShloMosaic.Lib.Pipeline.ValueKit

@[expose] public section

set_option maxRecDepth 16384

noncomputable section

namespace Cert.TailSIdeal.Comp

open Cert.TailSIdeal Cert.TailSIdeal.Gen Idealize.ShloMosaic Idealize.ShloMosaic.TcCoe Idealize.SL.Sem
open Cert

theorem res_at (x : Vec Ideal S512x1024 .f32) (oa : Vec Ideal S512x512 .bf16) (woa : Vec Ideal S512x1024 .bf16) (ob : Vec Ideal S512x512 .bf16)
    (wob : Vec Ideal S512x1024 .bf16) (r : Fin 512) (e : Fin 1024) : res x oa woa ob wob (ix2 r e)
      = TailMath.res (fun e => x (ix2 r e)) (fun k => oa (ix2 r k)) (fun k => ob (ix2 r k)) (fun k e => woa (ix2 k e)) (fun k e => wob (ix2 k e)) e := by
  unfold res
  pointwise [k0_pay3]
  rfl

theorem nrm_at (x : FVec Ideal S512x1024 .f32) (w : Vec Ideal S1x1024 .f32) (r : Fin 512) (e : Fin 1024) :
    nrm x w (ix2 r e) = TailMath.rms (fun e => x (ix2 r e)) (fun e => w (ix2 (0 : Fin 1) e)) e := by
  unfold nrm
  pointwise [k0_pay8]
  rfl

theorem part_at (h : FVec Ideal S512x1024 .bf16) (wg wu : Vec Ideal S1024x256 .bf16) (wd : Vec Ideal S256x1024 .bf16) (r : Fin 512) (e : Fin 1024) :
    part h wg wu wd (ix2 r e) = ∑ f : Fin 256, TailMath.hid (fun j => h (ix2 r j)) (fun j => wg (ix2 j f)) (fun j => wu (ix2 j f)) * wd (ix2 f e) := by
  pointwise [part]
  rfl

theorem ldG (w : Vec Ideal S1024x2816 .bf16) (off : ℕ) (ho : off + 256 ≤ 2816) (j : Fin 1024) (k : Fin 256) :
    View.ld w (Rect.unit ![0, off] S1024x256.size (inbG off ho)) (ix2 j k) = w (ix2 j (⟨off + k, by omega⟩ : Fin 2816)) := by
  refine View.ld_unit_apply_of _ _ _ _ _ _ fun a => ?_
  fin_cases a
  · exact (Nat.zero_add _).symm
  · rfl

theorem ldD (w : Vec Ideal S2816x1024 .bf16) (off : ℕ) (ho : off + 256 ≤ 2816) (k : Fin 256) (e : Fin 1024) :
    View.ld w (Rect.unit ![off, 0] S256x1024.size (inbD off ho)) (ix2 k e) = w (ix2 (⟨off + k, by omega⟩ : Fin 2816) e) := by
  refine View.ld_unit_apply_of _ _ _ _ _ _ fun a => ?_
  fin_cases a
  · rfl
  · exact (Nat.zero_add _).symm

theorem partAt_at (h : FVec Ideal S512x1024 .bf16) (wg wu : Vec Ideal S1024x2816 .bf16) (wd : Vec Ideal S2816x1024 .bf16) (off : ℕ)
    (ho : off + 256 ≤ 2816) (r : Fin 512) (e : Fin 1024) : partAt h wg wu wd off ho (ix2 r e)
      = TailMath.blk (fun f => TailMath.hid (fun j => h (ix2 r j)) (fun j => wg (ix2 j f)) (fun j => wu (ix2 j f)) * wd (ix2 f e)) off ho := by
  unfold partAt
  rw [part_at]
  refine Finset.sum_congr rfl fun k _ => ?_
  exact congrArg₂ (· * ·) (congrArg₂ (TailMath.hid _) (funext fun j => ldG wg off ho j k) (funext fun j => ldG wu off ho j k)) (ldD wd off ho k e)

theorem ffn_at (h : FVec Ideal S512x1024 .bf16) (wg wu : Vec Ideal S1024x2816 .bf16) (wd : Vec Ideal S2816x1024 .bf16) (r : Fin 512) (e : Fin 1024) :
    ffn h wg wu wd (ix2 r e)
      = ∑ f : Fin 2816, TailMath.hid (fun j => h (ix2 r j)) (fun j => wg (ix2 j f)) (fun j => wu (ix2 j f)) * wd (ix2 f e) := by
  rw [← TailMath.sum_blocks]
  simp only [← partAt_at]
  rfl

theorem mid_at (x : FVec Ideal S512x1024 .f32) (w : Vec Ideal S1x1024 .f32) (wg wu : Vec Ideal S1024x2816 .bf16) (wd : Vec Ideal S2816x1024 .bf16)
    (r : Fin 512) (e : Fin 1024) : mid x w wg wu wd (ix2 r e)
      = TailMath.mid (fun e => x (ix2 r e)) (fun e => w (ix2 (0 : Fin 1) e)) (fun j f => wg (ix2 j f)) (fun j f => wu (ix2 j f)) (fun f e => wd (ix2 f e)) e := by
  show x (ix2 r e) + ffn (nrm x w) wg wu wd (ix2 r e) = _
  rw [ffn_at]
  simp only [nrm_at]
  rfl

theorem gate_at (x : FVec Ideal S512x1024 .f32) (w : Vec Ideal S1x1024 .f32) (wp : Vec Ideal S1024x1024 .bf16) (r : Fin 512) (e : Fin 1024) :
    gate x w wp (ix2 r e) = Ideal.logistic (∑ j, TailMath.rms (fun e => x (ix2 r e)) (fun e => w (ix2 (0 : Fin 1) e)) j * wp (ix2 j e)) := by
  unfold gate
  pointwise [k0_pay37]
  rfl

theorem fin_at (x : FVec Ideal S512x1024 .f32) (w : Vec Ideal S1x1024 .f32) (wp : Vec Ideal S1024x1024 .bf16) (p : Vec Ideal S512x256 .f32)
    (wpp : Vec Ideal S256x1024 .bf16) (r : Fin 512) (e : Fin 1024) : fin x w wp p wpp (ix2 r e)
      = TailMath.last (fun e => x (ix2 r e)) (fun e => w (ix2 (0 : Fin 1) e)) (fun j e => wp (ix2 j e)) (fun k => p (ix2 r k)) (fun k e => wpp (ix2 k e)) e := by
  unfold fin
  have h : ∀ g : FVec Ideal S512x1024 .f32, k0_pay2 x g p wpp (ix2 r e) = x (ix2 r e) + (∑ k, p (ix2 r k) * wpp (ix2 k e)) * g (ix2 r e) := by
    intro g
    pointwise [k0_pay2]
  rw [h, gate_at]
  rfl

theorem half_at (x : Vec Ideal S512x1024 .f32) (oa ob : Vec Ideal S512x512 .bf16) (p : Vec Ideal S512x256 .f32) (woa wob : Vec Ideal S512x1024 .bf16)
    (wf : Vec Ideal S1x1024 .f32) (wg wu : Vec Ideal S1024x2816 .bf16) (wd : Vec Ideal S2816x1024 .bf16) (wn : Vec Ideal S1x1024 .f32)
    (wp : Vec Ideal S1024x1024 .bf16) (wpp : Vec Ideal S256x1024 .bf16) (r : Fin 512) (e : Fin 1024) :
    half x oa ob p woa wob wf wg wu wd wn wp wpp (ix2 r e)
      = TailMath.row (fun e => x (ix2 r e)) (fun k => oa (ix2 r k)) (fun k => ob (ix2 r k)) (fun k => p (ix2 r k)) (fun k e => woa (ix2 k e))
          (fun k e => wob (ix2 k e)) (fun e => wf (ix2 (0 : Fin 1) e)) (fun j f => wg (ix2 j f)) (fun j f => wu (ix2 j f)) (fun f e => wd (ix2 f e))
          (fun e => wn (ix2 (0 : Fin 1) e)) (fun j e => wp (ix2 j e)) (fun k e => wpp (ix2 k e)) e := by
  unfold half
  rw [fin_at]
  simp only [mid_at, res_at]
  rfl

theorem lo_emb (s : Fin 512) (hs : s.val < 1024) (e : Fin 1024) : (ix2 (⟨s.val, hs⟩ : Fin 1024) e : S1024x1024.Idx) = r0_0.emb (ix2 s e) := by
  funext k
  refine Fin.ext ?_
  rw [Rect.emb_apply]
  fin_cases k
  · show s.val = 0 + 1 * s.val
    rw [Nat.one_mul, Nat.zero_add]
  · show e.val = 0 + 1 * e.val
    rw [Nat.one_mul, Nat.zero_add]

theorem lo_not_mem (s : Fin 512) (hs : s.val < 1024) (e : Fin 1024) : (ix2 (⟨s.val, hs⟩ : Fin 1024) e : S1024x1024.Idx) ∉ r0_3.set := by
  intro hm
  have h := (Rect.mem_set_unit (s := S1024x1024)).1 hm (0 : Fin 2)
  have h0 : 512 ≤ s.val := h.1
  exact absurd s.isLt (Nat.not_lt.2 h0)

theorem canon_first (P Q : FVec Ideal S512x1024 .f32) (y : S1024x1024.Idx) (hn : y ∉ r0_3.set) (x : r0_0.shape.Idx) (hx : y = r0_0.emb x) :
    View.canon (Val := Elt Ideal) (e := .f32) [⟨r0_3, P⟩, ⟨r0_0, Q⟩] y = Q x := by
  refine (View.canon_cons_of_not_mem (Val := Elt Ideal) (e := .f32) (⟨r0_3, P⟩ : View.Piece (Elt Ideal) S1024x1024 .f32) [⟨r0_0, Q⟩] hn).trans ?_
  rw [hx]
  exact View.canon_cons_emb (Val := Elt Ideal) (e := .f32) r0_0 Q [] x

/-- The lower half of the output block is the first store's. -/
theorem canon_lo (P Q : FVec Ideal S512x1024 .f32) (s : Fin 512) (hs : s.val < 1024) (e : Fin 1024) :
    View.canon (Val := Elt Ideal) (e := .f32) [⟨r0_3, P⟩, ⟨r0_0, Q⟩] (ix2 (⟨s.val, hs⟩ : Fin 1024) e) = Q (ix2 s e) :=
  canon_first P Q (ix2 (⟨s.val, hs⟩ : Fin 1024) e) (lo_not_mem s hs e) (ix2 s e) (lo_emb s hs e)

/-- The upper half of the output block is the second store's. -/
theorem canon_hi (P Q : FVec Ideal S512x1024 .f32) (s : Fin 512) (hs : 512 + s.val < 1024) (e : Fin 1024) :
    View.canon (Val := Elt Ideal) (e := .f32) [⟨r0_3, P⟩, ⟨r0_0, Q⟩] (ix2 (⟨512 + s.val, hs⟩ : Fin 1024) e) = P (ix2 s e) := by
  have hi : (ix2 (⟨512 + s.val, hs⟩ : Fin 1024) e : S1024x1024.Idx) = r0_3.emb (ix2 s e) := by
    funext k
    fin_cases k <;> exact Fin.ext (by simp [Rect.emb_apply])
  exact (congrArg _ hi).trans (View.canon_cons_emb _ _ _ _)

section
variable (x0 : Vec Ideal S1024x1024 .f32) (x1 x2 : Vec Ideal S1024x512 .bf16) (x3 : Vec Ideal S1024x256 .f32) (x4 x5 : Vec Ideal S512x1024 .bf16)
  (x6 : Vec Ideal S1x1024 .f32) (x7 x8 : Vec Ideal S1024x2816 .bf16) (x9 : Vec Ideal S2816x1024 .bf16) (x10 : Vec Ideal S1x1024 .f32)
  (x11 : Vec Ideal S1024x1024 .bf16) (x12 : Vec Ideal S256x1024 .bf16)

/-- What a grid point leaves in its output block, row by row. -/
theorem out_at (r : Fin 1024) (e : Fin 1024) : out0_13 x0 x1 x2 x3 x4 x5 x6 x7 x8 x9 x10 x11 x12 (ix2 r e)
    = TailMath.row (fun e => x0 (ix2 r e)) (fun k => x1 (ix2 r k)) (fun k => x2 (ix2 r k)) (fun k => x3 (ix2 r k)) (fun k e => x4 (ix2 k e))
        (fun k e => x5 (ix2 k e)) (fun e => x6 (ix2 (0 : Fin 1) e)) (fun j f => x7 (ix2 j f)) (fun j f => x8 (ix2 j f)) (fun f e => x9 (ix2 f e))
        (fun e => x10 (ix2 (0 : Fin 1) e)) (fun j e => x11 (ix2 j e)) (fun k e => x12 (ix2 k e)) e := by
  rw [out_eq]
  have a4 : ∀ (w : Vec Ideal S512x1024 .bf16) (k : Fin 512) (e : Fin 1024), View.ld w r0_2 (ix2 k e) = w (ix2 k e) := fun w k e => by
      refine View.ld_unit_apply_of _ _ _ _ _ _ fun a => ?_; fin_cases a <;> exact (Nat.zero_add _).symm
  have a6 : ∀ (w : Vec Ideal S1x1024 .f32) (e : Fin 1024), View.ld w r0_5 (ix2 (0 : Fin 1) e) = w (ix2 (0 : Fin 1) e) := fun w e => by
      refine View.ld_unit_apply_of _ _ _ _ _ _ fun a => ?_; fin_cases a <;> exact (Nat.zero_add _).symm
  have a11 : ∀ (w : Vec Ideal S1024x1024 .bf16) (j : Fin 1024) (e : Fin 1024), View.ld w r0_28 (ix2 j e) = w (ix2 j e) := fun w j e => by
      refine View.ld_unit_apply_of _ _ _ _ _ _ fun a => ?_; fin_cases a <;> exact (Nat.zero_add _).symm
  have a12 : ∀ (w : Vec Ideal S256x1024 .bf16) (j : Fin 256) (e : Fin 1024), View.ld w r0_30 (ix2 j e) = w (ix2 j e) := fun w j e => by
      refine View.ld_unit_apply_of _ _ _ _ _ _ fun a => ?_; fin_cases a <;> exact (Nat.zero_add _).symm
  by_cases hr : r.val < 512
  · obtain ⟨s, hs⟩ : ∃ s : Fin 512, r.val = s.val := ⟨⟨r.val, hr⟩, rfl⟩
    have hlt : s.val < 1024 := by have := s.isLt; omega
    obtain rfl : r = ⟨s.val, hlt⟩ := Fin.ext hs
    refine (canon_lo _ _ s hlt e).trans ((half_at _ _ _ _ _ _ _ _ _ _ _ _ _ s e).trans ?_)
    have b0 : ∀ e : Fin 1024, View.ld x0 r0_0 (ix2 s e) = x0 (ix2 (⟨s.val, by omega⟩ : Fin 1024) e) := fun e => by
      refine View.ld_unit_apply_of _ _ _ _ _ _ fun a => ?_; fin_cases a <;> exact (Nat.zero_add _).symm
    have b1 : ∀ (w : Vec Ideal S1024x512 .bf16) (k : Fin 512), View.ld w r0_1 (ix2 s k) = w (ix2 (⟨s.val, by omega⟩ : Fin 1024) k) := fun w k => by
      refine View.ld_unit_apply_of _ _ _ _ _ _ fun a => ?_; fin_cases a <;> exact (Nat.zero_add _).symm
    have b3 : ∀ k : Fin 256, View.ld x3 r0_29 (ix2 s k) = x3 (ix2 (⟨s.val, by omega⟩ : Fin 1024) k) := fun k => by
      refine View.ld_unit_apply_of _ _ _ _ _ _ fun a => ?_; fin_cases a <;> exact (Nat.zero_add _).symm
    simp only [a4 x4, a4 x5, a6 x6, a6 x10, a11 x11, a12 x12, b0, b1 x1, b1 x2, b3]
  · obtain ⟨s, hs⟩ : ∃ s : Fin 512, r.val = 512 + s.val := ⟨⟨r.val - 512, by omega⟩, by show r.val = 512 + (r.val - 512); omega⟩
    have hlt : 512 + s.val < 1024 := by have := s.isLt; omega
    obtain rfl : r = ⟨512 + s.val, hlt⟩ := Fin.ext hs
    refine (canon_hi _ _ s hlt e).trans ((half_at _ _ _ _ _ _ _ _ _ _ _ _ _ s e).trans ?_)
    have b0 : ∀ e : Fin 1024, View.ld x0 r0_3 (ix2 s e) = x0 (ix2 (⟨512 + s.val, by omega⟩ : Fin 1024) e) := fun e => by
      refine View.ld_unit_apply_of _ _ _ _ _ _ fun a => ?_; fin_cases a
      · rfl
      · exact (Nat.zero_add _).symm
    have b1 : ∀ (w : Vec Ideal S1024x512 .bf16) (k : Fin 512), View.ld w r0_4 (ix2 s k) = w (ix2 (⟨512 + s.val, by omega⟩ : Fin 1024) k) := fun w k => by
      refine View.ld_unit_apply_of _ _ _ _ _ _ fun a => ?_; fin_cases a
      · rfl
      · exact (Nat.zero_add _).symm
    have b3 : ∀ k : Fin 256, View.ld x3 r0_31 (ix2 s k) = x3 (ix2 (⟨512 + s.val, by omega⟩ : Fin 1024) k) := fun k => by
      refine View.ld_unit_apply_of _ _ _ _ _ _ fun a => ?_; fin_cases a
      · rfl
      · exact (Nat.zero_add _).symm
    simp only [a4 x4, a4 x5, a6 x6, a6 x10, a11 x11, a12 x12, b0, b1 x1, b1 x2, b3]

end

end Cert.TailSIdeal.Comp
end
-- ==== Proof.Hand.TailSHost.lean ====
/- The sample step's tail over the extended reals: the blocks that a grid point reads, as elements of the arguments. -/
module

public import proofs.«01_k».proof.Proof.Gen.TailSIdeal.Value
public import Idealize.ShloMosaic.Lib.Pointwise
public import Idealize.ShloMosaic.Lib.Claim
public import Idealize.ShloMosaic.Lib.StableHlo.ReadAt
public import Idealize.ShloMosaic.Lib.Pipeline.ValueKit

@[expose] public section

set_option maxRecDepth 16384

noncomputable section

namespace Cert.TailSIdeal.Comp

open Cert.TailSIdeal Cert.TailSIdeal.Gen Idealize.ShloMosaic Idealize.ShloMosaic.TcCoe Idealize.SL.Sem

variable (m : (ℓ : Loc nD τ sig) → Buf (Elt Ideal) ℓ) (c : Dev nD)

theorem N_eq : cfg0.N = 1 := by decide +kernel

theorem idx : ∀ t : Fin grid0.N, win0_0.index t = ![t.val, 0] ∧ win0_1.index t = ![t.val, 0] ∧ win0_2.index t = ![t.val, 0] ∧ win0_3.index t = ![t.val, 0] ∧ win0_13.index t = ![t.val, 0]
    ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] := by decide +kernel

theorem v20_at (R : Fin 1024) (e : Fin 1024) : V m c main_v20 (ix2 R e) = m (c.tc.loc main_arg0) (ix3 (⟨(R.val) / 32, by omega⟩ : Fin 32) (⟨(R.val) % 32, by omega⟩ : Fin 32) e) := by
  unfold V
  after_reads_at
  blk_ext

theorem v21_at (R : Fin 1024) (e : Fin 512) : V m c main_v21 (ix2 R e) = m (c.tc.loc main_arg1) (ix3 (⟨(R.val) / 32, by omega⟩ : Fin 32) (⟨(R.val) % 32, by omega⟩ : Fin 32) e) := by
  unfold V
  after_reads_at
  blk_ext

theorem v22_at (R : Fin 1024) (e : Fin 512) : V m c main_v22 (ix2 R e) = m (c.tc.loc main_arg2) (ix3 (⟨(R.val) / 32, by omega⟩ : Fin 32) (⟨(R.val) % 32, by omega⟩ : Fin 32) e) := by
  unfold V
  after_reads_at
  blk_ext

theorem v24_at (R : Fin 1024) (e : Fin 256) : V m c main_v24 (ix2 R e) = m (c.tc.loc main_arg3) (ix4 (0 : Fin 1) (⟨(R.val) / 32, by omega⟩ : Fin 32) (⟨(R.val) % 32, by omega⟩ : Fin 32) e) := by
  unfold V
  after_reads_at
  blk_ext

theorem v2_at (j : Fin 512) (e : Fin 1024) : V m c main_v2 (ix2 j e) = m (c.tc.loc main_arg4) (ix3 (0 : Fin 1) (⟨j, by omega⟩ : Fin 1024) e) := by
  unfold V
  after_reads_at
  blk_ext

theorem v5_at (j : Fin 512) (e : Fin 1024) : V m c main_v5 (ix2 j e) = m (c.tc.loc main_arg4) (ix3 (0 : Fin 1) (⟨512 + j, by omega⟩ : Fin 1024) e) := by
  unfold V
  after_reads_at
  blk_ext

theorem v9_at (j : Fin 1024) (e : Fin 2816) : V m c main_v9 (ix2 j e) = m (c.tc.loc main_arg6) (ix3 (0 : Fin 1) j e) := by
  unfold V
  after_reads_at
  blk_ext

theorem v11_at (j : Fin 1024) (e : Fin 2816) : V m c main_v11 (ix2 j e) = m (c.tc.loc main_arg7) (ix3 (0 : Fin 1) j e) := by
  unfold V
  after_reads_at
  blk_ext

theorem v13_at (j : Fin 2816) (e : Fin 1024) : V m c main_v13 (ix2 j e) = m (c.tc.loc main_arg8) (ix3 (0 : Fin 1) j e) := by
  unfold V
  after_reads_at
  blk_ext

theorem v17_at (j : Fin 1024) (e : Fin 1024) : V m c main_v17 (ix2 j e) = m (c.tc.loc main_arg10) (ix3 (0 : Fin 1) j e) := by
  unfold V
  after_reads_at
  blk_ext

theorem v19_at (j : Fin 256) (e : Fin 1024) : V m c main_v19 (ix2 j e) = m (c.tc.loc main_arg11) (ix3 (0 : Fin 1) j e) := by
  unfold V
  after_reads_at
  blk_ext

theorem v7_at (e : Fin 1024) : V m c main_v7 (ix2 (0 : Fin 1) e) = m (c.tc.loc main_arg5) (ix2 (0 : Fin 1) e) := by
  unfold V
  after_reads_at
  blk_ext

theorem v15_at (e : Fin 1024) : V m c main_v15 (ix2 (0 : Fin 1) e) = m (c.tc.loc main_arg9) (ix2 (0 : Fin 1) e) := by
  unfold V
  after_reads_at
  blk_ext

section
variable (t : Fin cfg0.N) (i : Fin 1) (ht : t.val = i.val)
include ht

theorem x0_at (r : Fin 1024) (e : Fin 1024) : iblk m c 0 t (ix2 r e) = m (c.tc.loc main_arg0) (ix3 (⟨(1024 * i.val + r.val) / 32, by omega⟩ : Fin 32) (⟨(1024 * i.val + r.val) % 32, by omega⟩ : Fin 32) e) := by
  refine Eq.trans ?_ (v20_at m c (⟨1024 * i.val + r.val, by omega⟩ : Fin 1024) e)
  blk_ext [iblk, idx t]

theorem x1_at (r : Fin 1024) (e : Fin 512) : iblk m c 1 t (ix2 r e) = m (c.tc.loc main_arg1) (ix3 (⟨(1024 * i.val + r.val) / 32, by omega⟩ : Fin 32) (⟨(1024 * i.val + r.val) % 32, by omega⟩ : Fin 32) e) := by
  refine Eq.trans ?_ (v21_at m c (⟨1024 * i.val + r.val, by omega⟩ : Fin 1024) e)
  blk_ext [iblk, idx t]

theorem x2_at (r : Fin 1024) (e : Fin 512) : iblk m c 2 t (ix2 r e) = m (c.tc.loc main_arg2) (ix3 (⟨(1024 * i.val + r.val) / 32, by omega⟩ : Fin 32) (⟨(1024 * i.val + r.val) % 32, by omega⟩ : Fin 32) e) := by
  refine Eq.trans ?_ (v22_at m c (⟨1024 * i.val + r.val, by omega⟩ : Fin 1024) e)
  blk_ext [iblk, idx t]

theorem x3_at (r : Fin 1024) (e : Fin 256) : iblk m c 3 t (ix2 r e) = m (c.tc.loc main_arg3) (ix4 (0 : Fin 1) (⟨(1024 * i.val + r.val) / 32, by omega⟩ : Fin 32) (⟨(1024 * i.val + r.val) % 32, by omega⟩ : Fin 32) e) := by
  refine Eq.trans ?_ (v24_at m c (⟨1024 * i.val + r.val, by omega⟩ : Fin 1024) e)
  blk_ext [iblk, idx t]

omit ht in
theorem x4_at (j : Fin 512) (e : Fin 1024) : iblk m c 4 t (ix2 j e) = m (c.tc.loc main_arg4) (ix3 (0 : Fin 1) (⟨j, by omega⟩ : Fin 1024) e) := by
  refine Eq.trans ?_ (v2_at m c j e)
  blk_ext [iblk, idx t]

omit ht in
theorem x5_at (j : Fin 512) (e : Fin 1024) : iblk m c 5 t (ix2 j e) = m (c.tc.loc main_arg4) (ix3 (0 : Fin 1) (⟨512 + j, by omega⟩ : Fin 1024) e) := by
  refine Eq.trans ?_ (v5_at m c j e)
  blk_ext [iblk, idx t]

omit ht in
theorem x7_at (j : Fin 1024) (e : Fin 2816) : iblk m c 7 t (ix2 j e) = m (c.tc.loc main_arg6) (ix3 (0 : Fin 1) j e) := by
  refine Eq.trans ?_ (v9_at m c j e)
  blk_ext [iblk, idx t]

omit ht in
theorem x8_at (j : Fin 1024) (e : Fin 2816) : iblk m c 8 t (ix2 j e) = m (c.tc.loc main_arg7) (ix3 (0 : Fin 1) j e) := by
  refine Eq.trans ?_ (v11_at m c j e)
  blk_ext [iblk, idx t]

omit ht in
theorem x9_at (j : Fin 2816) (e : Fin 1024) : iblk m c 9 t (ix2 j e) = m (c.tc.loc main_arg8) (ix3 (0 : Fin 1) j e) := by
  refine Eq.trans ?_ (v13_at m c j e)
  blk_ext [iblk, idx t]

omit ht in
theorem x11_at (j : Fin 1024) (e : Fin 1024) : iblk m c 11 t (ix2 j e) = m (c.tc.loc main_arg10) (ix3 (0 : Fin 1) j e) := by
  refine Eq.trans ?_ (v17_at m c j e)
  blk_ext [iblk, idx t]

omit ht in
theorem x12_at (j : Fin 256) (e : Fin 1024) : iblk m c 12 t (ix2 j e) = m (c.tc.loc main_arg11) (ix3 (0 : Fin 1) j e) := by
  refine Eq.trans ?_ (v19_at m c j e)
  blk_ext [iblk, idx t]

omit ht in
theorem x6_at (e : Fin 1024) : iblk m c 6 t (ix2 (0 : Fin 1) e) = m (c.tc.loc main_arg5) (ix2 (0 : Fin 1) e) := by
  refine Eq.trans ?_ (v7_at m c e)
  blk_ext [iblk, idx t]

omit ht in
theorem x10_at (e : Fin 1024) : iblk m c 10 t (ix2 (0 : Fin 1) e) = m (c.tc.loc main_arg9) (ix2 (0 : Fin 1) e) := by
  refine Eq.trans ?_ (v15_at m c e)
  blk_ext [iblk, idx t]

/-- The result array at one index, as the grid point that writes it leaves it. -/
theorem arr_at (r : Fin 1024) (e : Fin 1024) :
    (dats m 0 c).arrAt 13 cfg0.N (ix2 (⟨1024 * i.val + r.val, by omega⟩ : Fin 1024) e)
      = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e) := by
  have hf : ∀ t : Fin cfg0.N, (cfg0.win 13).flush t = true := by decide +kernel
  have h := congrFun (Value.blocks13 m c t (hf t)) (ix2 r e)
  rw [Value.flushed13] at h
  refine Eq.trans ?_ (h.trans ?_)
  · blk_ext [idx t]
  · rfl

end

end Cert.TailSIdeal.Comp
end
-- ==== Proof.Hand.TailSRef.lean ====
/- The sample step's tail over the extended reals: the reference's result, row by row. -/
module

public import proofs.«01_k».proof.Proof.Hand.TailSpec
public import proofs.«01_k».proof.Proof.Gen.TailSRefIdeal.Read
public import Idealize.ShloMosaic.Lib.Pointwise
public import Idealize.ShloMosaic.Lib.Claim

@[expose] public section

set_option maxRecDepth 16384

noncomputable section

namespace Cert.TailSRefIdeal.Comp

open Cert.TailSRefIdeal Cert.TailSRefIdeal.Gen Cert.TailSRefIdeal.Read Idealize.ShloMosaic Idealize.ShloMosaic.TcCoe Idealize.SL.Sem
open Cert

variable (x0 : (⟨S32x32x1024, .f32⟩ : BufTy).Contents (Elt Ideal)) (x1 x2 : (⟨S32x32x512, .bf16⟩ : BufTy).Contents (Elt Ideal))
  (x3 : (⟨S1x32x32x256, .f32⟩ : BufTy).Contents (Elt Ideal)) (x4 : (⟨S1x1024x1024, .f32⟩ : BufTy).Contents (Elt Ideal))
  (x5 : (⟨S1x1024, .f32⟩ : BufTy).Contents (Elt Ideal)) (x6 x7 : (⟨S1x1024x2816, .f32⟩ : BufTy).Contents (Elt Ideal))
  (x8 : (⟨S1x2816x1024, .f32⟩ : BufTy).Contents (Elt Ideal)) (x9 : (⟨S1x1024, .f32⟩ : BufTy).Contents (Elt Ideal))
  (x10 : (⟨S1x1024x1024, .f32⟩ : BufTy).Contents (Elt Ideal)) (x11 : (⟨S1x256x1024, .f32⟩ : BufTy).Contents (Elt Ideal))
  (b : Fin 32) (s : Fin 32)

theorem v9_lo (k : Fin 512) : val_main_v9 (F := Ideal) x1 x2 (ix3 b s (⟨k.val, by omega⟩ : Fin 1024)) = x1 (ix3 b s k) := by
  pointwise [val_main_v9]

theorem v9_hi (k : Fin 512) : val_main_v9 (F := Ideal) x1 x2 (ix3 b s (⟨512 + k.val, by omega⟩ : Fin 1024)) = x2 (ix3 b s k) := by
  pointwise [val_main_v9]

theorem v10_at (e : Fin 1024) : val_main_v10 (F := Ideal) x1 x2 x4 (ix3 b s e)
    = ∑ k : Fin 1024, val_main_v9 (F := Ideal) x1 x2 (ix3 b s k) * x4 (ix3 (0 : Fin 1) k e) := by
  pointwise [val_main_v10, val_main_v1]

theorem v11_at (e : Fin 1024) : val_main_v11 (F := Ideal) x0 x1 x2 x4 (ix3 b s e)
    = TailMath.res (fun e => x0 (ix3 b s e)) (fun k => x1 (ix3 b s k)) (fun k => x2 (ix3 b s k))
        (fun k e => x4 (ix3 (0 : Fin 1) (⟨k.val, by omega⟩ : Fin 1024) e)) (fun k e => x4 (ix3 (0 : Fin 1) (⟨512 + k.val, by omega⟩ : Fin 1024) e)) e := by
  show x0 (ix3 b s e) + val_main_v10 (F := Ideal) x1 x2 x4 (ix3 b s e) = _
  rw [v10_at, TailMath.sum_halves, ← add_assoc]
  simp only [v9_lo, v9_hi]
  rfl

theorem v24_at (e : Fin 1024) : val_main_v24 (F := Ideal) x0 x1 x2 x4 x5 (ix3 b s e)
    = TailMath.rms (fun e => val_main_v11 (F := Ideal) x0 x1 x2 x4 (ix3 b s e)) (fun e => x5 (ix2 (0 : Fin 1) e)) e := by
  pointwise [val_main_v24, val_main_v23, val_main_v22, val_main_v2, val_main_v21, val_main_v20, val_main_v19, val_main_v18, val_main_v17,
    val_main_v16, val_main_v15, val_main_v14, val_main_v13, val_main_v12, val_main_cst, val_main_cst_0, val_main_cst_1]
  rfl

theorem one_val : Ideal.ofBits .f32 0x3F800000#32 = (1 : EReal) := by
  simp [Ideal.ofBits, Ideal.ieee]
  rw [← EReal.coe_mul]
  norm_num

theorem v28_at (f : Fin 2816) : val_main_v28 (F := Ideal) x0 x1 x2 x4 x5 x6 x7 (ix3 b s f)
    = TailMath.hid (fun j => val_main_v24 (F := Ideal) x0 x1 x2 x4 x5 (ix3 b s j)) (fun j => x6 (ix3 (0 : Fin 1) j f)) (fun j => x7 (ix3 (0 : Fin 1) j f)) := by
  pointwise [val_main_v28, val_main_v27, val_main_v26, val_main_v25, val_main_v4, val_main_v3, val_main_call0_v5, val_main_call0_v4,
    val_main_call0_v3, val_main_call0_v2, val_main_call0_v1, val_main_call0_v0, val_main_call0_cst, val_main_call0_cst_0, one_val]
  rfl

theorem v30_at (e : Fin 1024) : val_main_v30 (F := Ideal) x0 x1 x2 x4 x5 x6 x7 x8 (ix3 b s e)
    = TailMath.mid (fun e => val_main_v11 (F := Ideal) x0 x1 x2 x4 (ix3 b s e)) (fun e => x5 (ix2 (0 : Fin 1) e)) (fun j f => x6 (ix3 (0 : Fin 1) j f))
        (fun j f => x7 (ix3 (0 : Fin 1) j f)) (fun f e => x8 (ix3 (0 : Fin 1) f e)) e := by
  pointwise [val_main_v30, val_main_v29, val_main_v5, v28_at, v24_at]
  rfl

theorem v43_at (e : Fin 1024) : val_main_v43 (F := Ideal) x0 x1 x2 x4 x5 x6 x7 x8 x9 (ix3 b s e)
    = TailMath.rms (fun e => val_main_v30 (F := Ideal) x0 x1 x2 x4 x5 x6 x7 x8 (ix3 b s e)) (fun e => x9 (ix2 (0 : Fin 1) e)) e := by
  pointwise [val_main_v43, val_main_v42, val_main_v41, val_main_v6, val_main_v40, val_main_v39, val_main_v38, val_main_v37, val_main_v36,
    val_main_v35, val_main_v34, val_main_v33, val_main_v32, val_main_v31, val_main_cst_2, val_main_cst_3, val_main_cst_4]
  rfl

theorem v53_at (e : Fin 1024) : val_main_v53 (F := Ideal) x0 x1 x2 x3 x4 x5 x6 x7 x8 x9 x10 x11 (ix3 b s e)
    = TailMath.last (fun e => val_main_v30 (F := Ideal) x0 x1 x2 x4 x5 x6 x7 x8 (ix3 b s e)) (fun e => x9 (ix2 (0 : Fin 1) e))
        (fun j e => x10 (ix3 (0 : Fin 1) j e)) (fun k => x3 (ix4 (0 : Fin 1) b s k)) (fun k e => x11 (ix3 (0 : Fin 1) k e)) e := by
  pointwise [val_main_v53, val_main_v52, val_main_v51, val_main_v8, val_main_v0, val_main_v50, val_main_v49, val_main_v48, val_main_v47,
    val_main_v46, val_main_v45, val_main_v44, val_main_v7, val_main_cst_5, val_main_cst_6, one_val, v43_at]
  rfl

/-- The reference's result, row by row. -/
theorem out_at (R : Fin 1024) (e : Fin 1024) (hb : b.val = R.val / 32) (hs : s.val = R.val % 32) :
    val_main_v54 (F := Ideal) x0 x1 x2 x3 x4 x5 x6 x7 x8 x9 x10 x11 (ix2 R e)
      = TailMath.row (fun e => x0 (ix3 b s e)) (fun k => x1 (ix3 b s k)) (fun k => x2 (ix3 b s k)) (fun k => x3 (ix4 (0 : Fin 1) b s k))
          (fun k e => x4 (ix3 (0 : Fin 1) (⟨k.val, by omega⟩ : Fin 1024) e)) (fun k e => x4 (ix3 (0 : Fin 1) (⟨512 + k.val, by omega⟩ : Fin 1024) e))
          (fun e => x5 (ix2 (0 : Fin 1) e)) (fun j f => x6 (ix3 (0 : Fin 1) j f)) (fun j f => x7 (ix3 (0 : Fin 1) j f)) (fun f e => x8 (ix3 (0 : Fin 1) f e))
          (fun e => x9 (ix2 (0 : Fin 1) e)) (fun j e => x10 (ix3 (0 : Fin 1) j e)) (fun k e => x11 (ix3 (0 : Fin 1) k e)) e := by
  have h : val_main_v54 (F := Ideal) x0 x1 x2 x3 x4 x5 x6 x7 x8 x9 x10 x11 (ix2 R e)
      = val_main_v53 (F := Ideal) x0 x1 x2 x3 x4 x5 x6 x7 x8 x9 x10 x11 (ix3 b s e) := by
    rw [val_main_v54_apply]
    refine congrArg _ (funext fun a => ?_)
    have he := e.isLt
    have hr := R.isLt
    fin_cases a
    · refine Fin.ext ?_
      show (R.val * 1024 + e.val) / 32768 = b.val
      omega
    · refine Fin.ext ?_
      show (R.val * 1024 + e.val) / 1024 % 32 = s.val
      omega
    · refine Fin.ext ?_
      show (R.val * 1024 + e.val) % 1024 = e.val
      omega
  rw [h, v53_at]
  simp only [v30_at, v11_at]
  rfl

end Cert.TailSRefIdeal.Comp
end
-- ==== Proof.Hand.TailSEq.lean ====
/- The sample step's tail over the extended reals: the kernel's result array is the reference's. -/
module

public import proofs.«01_k».proof.Proof.Hand.TailSRead
public import proofs.«01_k».proof.Proof.Hand.TailSHost
public import proofs.«01_k».proof.Proof.Hand.TailSRef

@[expose] public section

set_option maxRecDepth 16384

noncomputable section

namespace Cert.TailSIdeal.Comp

open Cert.TailSIdeal Cert.TailSIdeal.Gen Idealize.ShloMosaic Idealize.ShloMosaic.TcCoe Idealize.SL.Sem
open Cert

variable (m : (ℓ : Loc nD τ sig) → Buf (Elt Ideal) ℓ) (c : Dev nD)

theorem kernel_eq :
    (dats m 0 c).arrAt 13 cfg0.N
      = Cert.TailSRefIdeal.Read.val_main_v54 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) := by
  have key : ∀ (i : Fin 1) (r e : Fin 1024), (dats m 0 c).arrAt 13 cfg0.N (ix2 (⟨1024 * i.val + r.val, by omega⟩ : Fin 1024) e)
      = Cert.TailSRefIdeal.Read.val_main_v54 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (ix2 (⟨1024 * i.val + r.val, by omega⟩ : Fin 1024) e) := by
    intro i r e
    have ht : (⟨i.val, by rw [N_eq]; exact i.isLt⟩ : Fin cfg0.N).val = i.val := rfl
    refine (arr_at m c _ i ht r e).trans ((out_at _ _ _ _ _ _ _ _ _ _ _ _ _ r e).trans ?_)
    refine Eq.trans ?_ (Cert.TailSRefIdeal.Comp.out_at _ _ _ _ _ _ _ _ _ _ _ _ (⟨(1024 * i.val + r.val) / 32, by omega⟩ : Fin 32)
      (⟨(1024 * i.val + r.val) % 32, by omega⟩ : Fin 32) (⟨1024 * i.val + r.val, by omega⟩ : Fin 1024) e rfl rfl).symm
    have e0 := funext fun e => x0_at m c _ i ht r e
    have e1 := funext fun e => x1_at m c _ i ht r e
    have e2 := funext fun e => x2_at m c _ i ht r e
    have e3 := funext fun e => x3_at m c _ i ht r e
    have e4 := funext fun k => funext fun e => x4_at m c (⟨i.val, by rw [N_eq]; exact i.isLt⟩ : Fin cfg0.N) i k e
    have e5 := funext fun k => funext fun e => x5_at m c (⟨i.val, by rw [N_eq]; exact i.isLt⟩ : Fin cfg0.N) i k e
    have e6 := funext fun e => x6_at m c (⟨i.val, by rw [N_eq]; exact i.isLt⟩ : Fin cfg0.N) e
    have e7 := funext fun k => funext fun e => x7_at m c (⟨i.val, by rw [N_eq]; exact i.isLt⟩ : Fin cfg0.N) k e
    have e8 := funext fun k => funext fun e => x8_at m c (⟨i.val, by rw [N_eq]; exact i.isLt⟩ : Fin cfg0.N) k e
    have e9 := funext fun k => funext fun e => x9_at m c (⟨i.val, by rw [N_eq]; exact i.isLt⟩ : Fin cfg0.N) k e
    have e10 := funext fun e => x10_at m c (⟨i.val, by rw [N_eq]; exact i.isLt⟩ : Fin cfg0.N) e
    have e11 := funext fun k => funext fun e => x11_at m c (⟨i.val, by rw [N_eq]; exact i.isLt⟩ : Fin cfg0.N) k e
    have e12 := funext fun k => funext fun e => x12_at m c (⟨i.val, by rw [N_eq]; exact i.isLt⟩ : Fin cfg0.N) k e
    exact TailMath.row_congr e0 e1 e2 e3 e4 e5 e6 e7 e8 e9 e10 e11 e12 e
  funext y
  obtain ⟨R, e, rfl⟩ : ∃ (R : Fin 1024) (e : Fin 1024), y = ix2 R e := ⟨y 0, y 1, by funext k; fin_cases k <;> rfl⟩
  have hR : R = (⟨1024 * (⟨R.val / 1024, by omega⟩ : Fin 1).val + (⟨R.val % 1024, by omega⟩ : Fin 1024).val, by simp only []; omega⟩ : Fin 1024) :=
    Fin.ext (by simp only []; omega)
  rw [hR]
  exact key _ _ e

end Cert.TailSIdeal.Comp
end
-- ==== Proof.lean ====
module

public import proofs.«01_k».proof.Defs
public import proofs.«01_k».proof.Proof.Gen.FoxS
public import proofs.«01_k».proof.Proof.Gen.FoxS.Skeleton
public import proofs.«01_k».proof.Proof.Gen.FoxS.Launch
public import proofs.«01_k».proof.Proof.Gen.FoxS.Points
public import proofs.«01_k».proof.Proof.Gen.FoxS.Frame
public import proofs.«01_k».proof.Proof.Gen.FoxSIdeal
public import proofs.«01_k».proof.Proof.Gen.FoxSIdeal.Skeleton
public import proofs.«01_k».proof.Proof.Gen.FoxSIdeal.Launch
public import proofs.«01_k».proof.Proof.Gen.FoxSIdeal.Points
public import proofs.«01_k».proof.Proof.Gen.FoxSIdeal.Frame
public import proofs.«01_k».proof.Proof.Gen.FoxSRefIdeal
public import proofs.«01_k».proof.Proof.Gen.FoxSRef
public import proofs.«01_k».proof.Proof.Gen.Pre_finite_scores
public import proofs.«01_k».proof.Proof.Gen.FoxSIdeal.Value
public import proofs.«01_k».proof.Proof.Gen.FoxSRefIdeal.Run
public import proofs.«01_k».proof.Proof.Gen.FoxSRefIdeal.Read
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.TailRef
public import proofs.«01_k».proof.Proof.Gen.TailIdeal.Value
public import proofs.«01_k».proof.Proof.Gen.TailRefIdeal.Run
public import proofs.«01_k».proof.Proof.Gen.TailRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRef
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.ProjS
public import proofs.«01_k».proof.Proof.Gen.ProjS.Skeleton
public import proofs.«01_k».proof.Proof.Gen.ProjS.Launch
public import proofs.«01_k».proof.Proof.Gen.ProjS.Points
public import proofs.«01_k».proof.Proof.Gen.ProjS.Frame
public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSRefIdeal
public import proofs.«01_k».proof.Proof.Gen.ProjSRef
public import proofs.«01_k».proof.Proof.Gen.ProjSIdeal.Value
public import proofs.«01_k».proof.Proof.Gen.ProjSRefIdeal.Run
public import proofs.«01_k».proof.Proof.Gen.ProjSRefIdeal.Read
public import proofs.«01_k».proof.Proof.Gen.TailS
public import proofs.«01_k».proof.Proof.Gen.TailS.Skeleton
public import proofs.«01_k».proof.Proof.Gen.TailS.Launch
public import proofs.«01_k».proof.Proof.Gen.TailS.Points
public import proofs.«01_k».proof.Proof.Gen.TailS.Frame
public import proofs.«01_k».proof.Proof.Gen.TailSIdeal
public import proofs.«01_k».proof.Proof.Gen.TailSIdeal.Skeleton
public import proofs.«01_k».proof.Proof.Gen.TailSIdeal.Launch
public import proofs.«01_k».proof.Proof.Gen.TailSIdeal.Points
public import proofs.«01_k».proof.Proof.Gen.TailSIdeal.Frame
public import proofs.«01_k».proof.Proof.Gen.TailSRefIdeal
public import proofs.«01_k».proof.Proof.Gen.TailSRef
public import proofs.«01_k».proof.Proof.Gen.TailSIdeal.Value
public import proofs.«01_k».proof.Proof.Gen.TailSRefIdeal.Run
public import proofs.«01_k».proof.Proof.Gen.TailSRefIdeal.Read
public import proofs.«01_k».proof.Proof.Hand.FoxEq
public import proofs.«01_k».proof.Proof.Hand.TailEq
public import proofs.«01_k».proof.Proof.Hand.ProjEq
public import proofs.«01_k».proof.Proof.Hand.ProjSEq
public import proofs.«01_k».proof.Proof.Hand.TailSEq
public import Idealize.ShloMosaic.Lib.Claim
public import Idealize.ShloMosaic.Adequacy
public import Idealize.ShloMosaic.Init

@[expose] public section

noncomputable section

namespace Cert.Proof

open Idealize.ShloMosaic Idealize.SL.Sem Cert.FoxS

instance : Cert.FoxS.Facts := Cert.FoxS.Gen.facts
instance : Cert.FoxSIdeal.Facts := Cert.FoxSIdeal.Gen.facts
instance : Cert.FoxSRefIdeal.Facts := Cert.FoxSRefIdeal.Gen.facts
instance : Cert.FoxSRef.Facts := Cert.FoxSRef.Gen.facts
instance : Cert.Tail.Facts := Cert.Tail.Gen.facts
instance : Cert.TailIdeal.Facts := Cert.TailIdeal.Gen.facts
instance : Cert.TailRefIdeal.Facts := Cert.TailRefIdeal.Gen.facts
instance : Cert.TailRef.Facts := Cert.TailRef.Gen.facts
instance : Cert.Proj.Facts := Cert.Proj.Gen.facts
instance : Cert.ProjIdeal.Facts := Cert.ProjIdeal.Gen.facts
instance : Cert.ProjRefIdeal.Facts := Cert.ProjRefIdeal.Gen.facts
instance : Cert.ProjRef.Facts := Cert.ProjRef.Gen.facts
instance : Cert.ProjS.Facts := Cert.ProjS.Gen.facts
instance : Cert.ProjSIdeal.Facts := Cert.ProjSIdeal.Gen.facts
instance : Cert.ProjSRefIdeal.Facts := Cert.ProjSRefIdeal.Gen.facts
instance : Cert.ProjSRef.Facts := Cert.ProjSRef.Gen.facts
instance : Cert.TailS.Facts := Cert.TailS.Gen.facts
instance : Cert.TailSIdeal.Facts := Cert.TailSIdeal.Gen.facts
instance : Cert.TailSRefIdeal.Facts := Cert.TailSRefIdeal.Gen.facts
instance : Cert.TailSRef.Facts := Cert.TailSRef.Gen.facts
instance : Cert.Pre_finite_scores.Facts := Cert.Pre_finite_scores.Gen.facts

/-- The three constants that the idealized sample attention names, each at the word it stands for. -/
theorem fox_preserves : Cert.preserves_FoxS_FoxSIdeal :=
  ⟨IdealRules.named_const.statement Cert.FoxSIdeal.κ "q_scale" .f32 0x3E38AA3B#32 _ rfl,
    IdealRules.named_const.statement Cert.FoxSIdeal.κ "neg_inf" .f32 0xF149F2CA#32 _ rfl,
    IdealRules.named_const.statement Cert.FoxSIdeal.κ "log2e" .f32 0x3FB8AA3B#32 _ rfl⟩

/-- The sample attention and its reference end with one array, where the scores are finite. -/
theorem fox_algebraic : Cert.algebraic_FoxSIdeal_FoxSRefIdeal_pre_finite_scores := by
  pair_intro
  · run_from Cert.FoxSIdeal.Value.run_blocks m g
  · run_from Cert.FoxSRefIdeal.Value.run m' g'
    obtain ⟨f0, f1, f3, f4⟩ := Cert.FoxSIdeal.Comp.real_of_pre _ _ _ _ _ _ (hpre c)
    rw [Cert.FoxSRefIdeal.Read.val_main_v39_eq]
    obtain ⟨a0, a1, a2, a3, a4, a5⟩ := hagree c
    rw [a0, a1, a2, a3, a4, a5]
    exact (Cert.FoxSIdeal.Comp.kernel_eq m c f0 f1 f3 f4).symm

theorem fox_ref_ideal_runs : Cert.quiescent_FoxSRefIdeal := fun m g _ =>
  θ_run_mono (Cert.FoxSRefIdeal.Value.run m g) fun r h => ⟨fun c => (h c).2, sem_eq_zero_of_no_sems rfl _⟩

/-- The reference and its reading at the extended reals are one program text. -/
theorem fox_ref_runs : Cert.quiescent_FoxSRef := fun m g _ =>
  θ_run_mono (Cert.FoxSRefIdeal.Value.run (F := Bits) m g) fun r h => ⟨fun c => (h c).2, sem_eq_zero_of_no_sems rfl _⟩

/-- The layer's tail and its reference end with one array. -/
theorem tail_algebraic : Cert.algebraic_TailIdeal_TailRefIdeal := by
  pair_intro
  · run_from Cert.TailIdeal.Value.run_blocks m g
  · run_from Cert.TailRefIdeal.Value.run m' g'
    rw [Cert.TailRefIdeal.Read.val_main_v54_eq]
    obtain ⟨a0, a1, a2, a3, a4, a5, a6, a7, a8, a9, a10, a11⟩ := hagree c
    rw [a0, a1, a2, a3, a4, a5, a6, a7, a8, a9, a10, a11]
    exact (Cert.TailIdeal.Comp.kernel_eq m c).symm

theorem tail_ref_ideal_runs : Cert.quiescent_TailRefIdeal := fun m g _ =>
  θ_run_mono (Cert.TailRefIdeal.Value.run m g) fun r h => ⟨fun c => (h c).2, sem_eq_zero_of_no_sems rfl _⟩

/-- The reference and its reading at the extended reals are one program text. -/
theorem tail_ref_runs : Cert.quiescent_TailRef := fun m g _ =>
  θ_run_mono (Cert.TailRefIdeal.Value.run (F := Bits) m g) fun r h => ⟨fun c => (h c).2, sem_eq_zero_of_no_sems rfl _⟩

set_option maxHeartbeats 1000000 in
/-- The projections of the prompt and their reference end with the same six arrays. -/
theorem proj_algebraic : Cert.algebraic_ProjIdeal_ProjRefIdeal := by
  pair_intro
  · run_from Cert.ProjIdeal.Value.run_blocks m g
  · run_from Cert.ProjRefIdeal.Value.run m' g'
    · obtain ⟨a0, a1, a2, a3, a4, a5, a6, a7⟩ := hagree c
      rw [Cert.ProjRefIdeal.Read.val_main_v61_eq, a0, a1, a2, a5]
      exact (Cert.ProjIdeal.Comp.eq7 m c).symm
    · obtain ⟨a0, a1, a2, a3, a4, a5, a6, a7⟩ := hagree c
      rw [Cert.ProjRefIdeal.Read.val_main_v63_eq, a0, a1, a2, a5]
      exact (Cert.ProjIdeal.Comp.eq11 m c).symm
    · exact (Cert.ProjRefIdeal.Read.val_main_v65_eq _ _ _).trans (Cert.ProjIdeal.Comp.eq12 m c).symm
    · obtain ⟨a0, a1, a2, a3, a4, a5, a6, a7⟩ := hagree c
      rw [Cert.ProjRefIdeal.Read.val_main_v66_eq, a0, a1, a2, a7]
      exact (Cert.ProjIdeal.Comp.eq13 m c).symm
    · exact (Cert.ProjRefIdeal.Read.val_main_v67_eq _ _ _).trans (Cert.ProjIdeal.Comp.eq14 m c).symm
    · obtain ⟨a0, a1, a2, a3, a4, a5, a6, a7⟩ := hagree c
      rw [Cert.ProjRefIdeal.Read.val_main_v59_eq, a0, a1, a2, a3]
      exact (Cert.ProjIdeal.Comp.eq15 m c).symm

theorem proj_ref_ideal_runs : Cert.quiescent_ProjRefIdeal := fun m g _ =>
  θ_run_mono (Cert.ProjRefIdeal.Value.run m g) fun r h => ⟨fun c => (h c).2.2.2.2.2.2, sem_eq_zero_of_no_sems rfl _⟩

/-- The reference and its reading at the extended reals are one program text. -/
theorem proj_ref_runs : Cert.quiescent_ProjRef := fun m g _ =>
  θ_run_mono (Cert.ProjRefIdeal.Value.run (F := Bits) m g) fun r h => ⟨fun c => (h c).2.2.2.2.2.2, sem_eq_zero_of_no_sems rfl _⟩

set_option maxHeartbeats 1000000 in
/-- The projections of the sample step and their reference end with the same five arrays. -/
theorem projs_algebraic : Cert.algebraic_ProjSIdeal_ProjSRefIdeal := by
  pair_intro
  · run_from Cert.ProjSIdeal.Value.run_blocks m g
  · run_from Cert.ProjSRefIdeal.Value.run m' g'
    · exact (Cert.ProjSRefIdeal.Read.val_main_v60_eq _ _ _ _).trans (Cert.ProjSIdeal.Comp.eq11 m c).symm
    · exact (Cert.ProjSRefIdeal.Read.val_main_v61_eq _ _ _).trans (Cert.ProjSIdeal.Comp.eq12 m c).symm
    · exact (Cert.ProjSRefIdeal.Read.val_main_v62_eq _ _ _ _).trans (Cert.ProjSIdeal.Comp.eq13 m c).symm
    · exact (Cert.ProjSRefIdeal.Read.val_main_v63_eq _ _ _).trans (Cert.ProjSIdeal.Comp.eq14 m c).symm
    · obtain ⟨a0, a1, a2, a3, a4, a5, a6, a7⟩ := hagree c
      rw [Cert.ProjSRefIdeal.Read.val_main_v64_eq, a0, a1, a2, a3]
      exact (Cert.ProjSIdeal.Comp.eq15 m c).symm

theorem projs_ref_ideal_runs : Cert.quiescent_ProjSRefIdeal := fun m g _ =>
  θ_run_mono (Cert.ProjSRefIdeal.Value.run m g) fun r h => ⟨fun c => (h c).2.2.2.2.2, sem_eq_zero_of_no_sems rfl _⟩

/-- The reference and its reading at the extended reals are one program text. -/
theorem projs_ref_runs : Cert.quiescent_ProjSRef := fun m g _ =>
  θ_run_mono (Cert.ProjSRefIdeal.Value.run (F := Bits) m g) fun r h => ⟨fun c => (h c).2.2.2.2.2, sem_eq_zero_of_no_sems rfl _⟩

/-- The sample step's tail and its reference end with one array. -/
theorem tails_algebraic : Cert.algebraic_TailSIdeal_TailSRefIdeal := by
  pair_intro
  · run_from Cert.TailSIdeal.Value.run_blocks m g
  · run_from Cert.TailSRefIdeal.Value.run m' g'
    rw [Cert.TailSRefIdeal.Read.val_main_v54_eq]
    obtain ⟨a0, a1, a2, a3, a4, a5, a6, a7, a8, a9, a10, a11⟩ := hagree c
    rw [a0, a1, a2, a3, a4, a5, a6, a7, a8, a9, a10, a11]
    exact (Cert.TailSIdeal.Comp.kernel_eq m c).symm

theorem tails_ref_ideal_runs : Cert.quiescent_TailSRefIdeal := fun m g _ =>
  θ_run_mono (Cert.TailSRefIdeal.Value.run m g) fun r h => ⟨fun c => (h c).2, sem_eq_zero_of_no_sems rfl _⟩

/-- The reference and its reading at the extended reals are one program text. -/
theorem tails_ref_runs : Cert.quiescent_TailSRef := fun m g _ =>
  θ_run_mono (Cert.TailSRefIdeal.Value.run (F := Bits) m g) fun r h => ⟨fun c => (h c).2, sem_eq_zero_of_no_sems rfl _⟩

theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    fun m ρ _ => Cert.FoxS.Gen.frame m ρ, fun m ρ _ => Cert.FoxSIdeal.Gen.frame m ρ, fun m ρ _ => Cert.FoxSIdeal.Gen.frame m ρ,
    fox_ref_ideal_runs, fun m g _ => fox_ref_ideal_runs m g trivial, fox_ref_runs,
    fun m ρ _ => Cert.Tail.Gen.frame m ρ, fun m ρ _ => Cert.TailIdeal.Gen.frame m ρ, tail_ref_ideal_runs, tail_ref_runs,
    fun m ρ _ => Cert.Proj.Gen.frame m ρ, fun m ρ _ => Cert.ProjIdeal.Gen.frame m ρ, proj_ref_ideal_runs, proj_ref_runs,
    fun m ρ _ => Cert.ProjS.Gen.frame m ρ, fun m ρ _ => Cert.ProjSIdeal.Gen.frame m ρ, projs_ref_ideal_runs, projs_ref_runs,
    fun m ρ _ => Cert.TailS.Gen.frame m ρ, fun m ρ _ => Cert.TailSIdeal.Gen.frame m ρ, tails_ref_ideal_runs, tails_ref_runs,
    fox_preserves, trivial, fox_algebraic, trivial, trivial, tail_algebraic,
    trivial, trivial, proj_algebraic, trivial, trivial, projs_algebraic,
    trivial, trivial, tails_algebraic⟩

end Cert.Proof

end
